-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_finite_decays_nonpositive [hPre_steps_finite_decays_nonpositive : Cert.Pre_steps_finite_decays_nonpositive.Facts] (m : (ℓ : Loc Cert.KernelIdeal.nD Cert.KernelIdeal.τ Cert.KernelIdeal.sig) → Buf (Elt Ideal) ℓ) : Prop :=
  ∀ c : Dev Cert.KernelIdeal.nD,
    (Cert.Pre_steps_finite_decays_nonpositive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_finite_decays_nonpositive [hPre_steps_finite_decays_nonpositive : Cert.Pre_steps_finite_decays_nonpositive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_finite_decays_nonpositive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_steps_finite_decays_nonpositive [hKernelIdeal : Cert.KernelIdeal.Facts] [hPre_steps_finite_decays_nonpositive : Cert.Pre_steps_finite_decays_nonpositive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_finite_decays_nonpositive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_steps_finite_decays_nonpositive [hReferenceIdeal : Cert.ReferenceIdeal.Facts] [hPre_steps_finite_decays_nonpositive : Cert.Pre_steps_finite_decays_nonpositive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_finite_decays_nonpositive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_steps_finite_decays_nonpositive [hKernelIdeal : Cert.KernelIdeal.Facts] [hReferenceIdeal : Cert.ReferenceIdeal.Facts] [hPre_steps_finite_decays_nonpositive : Cert.Pre_steps_finite_decays_nonpositive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_finite_decays_nonpositive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "cube" .bf16 0x3D37#16 ((12003091 / 268435456 : ℝ) : EReal)
  ∧ IdealRules.named_const.Statement Cert.Kernel2Ideal.κ "root" .bf16 0x3F4C#16 ((6693141 / 8388608 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v117) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v67) = v2 c
          ∧ r.2.mem ((c.tc : Thread Cert.Reference4Ideal.nD Cert.Reference4Ideal.τ).loc Cert.Reference4Ideal.main_v69) = v3 c
          ∧ r.2.mem ((c.tc : Thread Cert.Reference4Ideal.nD Cert.Reference4Ideal.τ).loc Cert.Reference4Ideal.main_v71) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_steps_finite_decays_nonpositive : Cert.Pre_steps_finite_decays_nonpositive.Facts),
    quiescent_Kernel (hKernel := hKernel)
    ∧ quiescent_KernelIdeal (hKernelIdeal := hKernelIdeal)
    ∧ quiescent_KernelIdeal_pre_steps_finite_decays_nonpositive (hKernelIdeal := hKernelIdeal) (hPre_steps_finite_decays_nonpositive := hPre_steps_finite_decays_nonpositive)
    ∧ quiescent_ReferenceIdeal (hReferenceIdeal := hReferenceIdeal)
    ∧ quiescent_ReferenceIdeal_pre_steps_finite_decays_nonpositive (hReferenceIdeal := hReferenceIdeal) (hPre_steps_finite_decays_nonpositive := hPre_steps_finite_decays_nonpositive)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_steps_finite_decays_nonpositive (hKernelIdeal := hKernelIdeal) (hReferenceIdeal := hReferenceIdeal) (hPre_steps_finite_decays_nonpositive := hPre_steps_finite_decays_nonpositive)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_steps_finite_decays_nonpositive.lean ====
abbrev S4x8192x512 : Shape := ⟨3, ![4, 8192, 512]⟩
abbrev S4x8192x256 : Shape := ⟨3, ![4, 8192, 256]⟩
abbrev S4x8192x2x8 : Shape := ⟨4, ![4, 8192, 2, 8]⟩
abbrev S4x8x64x128 : Shape := ⟨4, ![4, 8, 64, 128]⟩
abbrev S_ : Shape := ⟨0, ![]⟩

class Facts : Prop where
  bcast_S_S4x8192x2x8 : S_.BroadcastsInDim S4x8192x2x8 (![] : Fin 0 → Fin S4x8192x2x8.rank)

variable [Facts]

def fn {F : FTy → Type} [FloatOps F] (main_arg0 : FVec F S4x8192x512 .bf16) (main_arg1 : FVec F S4x8192x256 .bf16) (main_arg2 : FVec F S4x8192x256 .bf16) (main_arg3 : FVec F S4x8192x2x8 .f32) (main_arg4 : FVec F S4x8192x2x8 .f32) (main_arg5 : FVec F S4x8x64x128 .f32) (main_arg6 : FVec F S4x8x64x128 .f32) : IVec S4x8192x2x8 1 :=
  let main_cst : FVec F S_ .f32 := constant S_ .f32 0xFF800000#32
  let main_v0 : FVec F S4x8192x2x8 .f32 := broadcastInDim S4x8192x2x8 ![] bcast_S_S4x8192x2x8 main_cst
  let main_v1 : IVec S4x8192x2x8 1 := cmpf .ogt main_arg3 main_v0
  let main_cst_0 : FVec F S_ .f32 := constant S_ .f32 0x7F800000#32
  let main_v2 : FVec F S4x8192x2x8 .f32 := broadcastInDim S4x8192x2x8 ![] bcast_S_S4x8192x2x8 main_cst_0
  let main_v3 : IVec S4x8192x2x8 1 := cmpf .olt main_arg3 main_v2
  let main_v4 : IVec S4x8192x2x8 1 := andi main_v1 main_v3
  let main_cst_1 : FVec F S_ .f32 := constant S_ .f32 0xFF800000#32
  let main_v5 : FVec F S4x8192x2x8 .f32 := broadcastInDim S4x8192x2x8 ![] bcast_S_S4x8192x2x8 main_cst_1
  let main_v6 : IVec S4x8192x2x8 1 := cmpf .ogt main_arg4 main_v5
  let main_v7 : IVec S4x8192x2x8 1 := andi main_v4 main_v6
  let main_cst_2 : FVec F S_ .f32 := constant S_ .f32 0x00000000#32
  let main_v8 : FVec F S4x8192x2x8 .f32 := broadcastInDim S4x8192x2x8 ![] bcast_S_S4x8192x2x8 main_cst_2
  let main_v9 : IVec S4x8192x2x8 1 := cmpf .ole main_arg4 main_v8
  let main_v10 : IVec S4x8192x2x8 1 := andi main_v7 main_v9
  main_v10
-- ==== Kernel.lean ====
abbrev S4x8192x512 : Shape := ⟨3, ![4, 8192, 512]⟩
abbrev S4x8192x256 : Shape := ⟨3, ![4, 8192, 256]⟩
abbrev S4x8192x2x8 : Shape := ⟨4, ![4, 8192, 2, 8]⟩
abbrev S4x8x64x128 : Shape := ⟨4, ![4, 8, 64, 128]⟩
abbrev S2x128x128 : Shape := ⟨3, ![2, 128, 128]⟩
abbrev S128x512 : Shape := ⟨2, ![128, 512]⟩
abbrev S4x2x4x64x128 : Shape := ⟨5, ![4, 2, 4, 64, 128]⟩
abbrev S4x2x128x4x64 : Shape := ⟨5, ![4, 2, 128, 4, 64]⟩
abbrev S4x2x128x256 : Shape := ⟨4, ![4, 2, 128, 256]⟩
abbrev S4x1x2x128x256 : Shape := ⟨5, ![4, 1, 2, 128, 256]⟩
abbrev S4x2x2x128x256 : Shape := ⟨5, ![4, 2, 2, 128, 256]⟩
abbrev S4x2x8192x8 : Shape := ⟨4, ![4, 2, 8192, 8]⟩
abbrev S_ : Shape := ⟨0, ![]⟩
abbrev S4x2x8192x128 : Shape := ⟨4, ![4, 2, 8192, 128]⟩
abbrev S1x1024x512 : Shape := ⟨3, ![1, 1024, 512]⟩
abbrev S1x1x1024x128 : Shape := ⟨4, ![1, 1, 1024, 128]⟩
abbrev S1x2x2x128x256 : Shape := ⟨5, ![1, 2, 2, 128, 256]⟩
abbrev S2x2x128x256 : Shape := ⟨4, ![2, 2, 128, 256]⟩
abbrev S1x128 : Shape := ⟨2, ![1, 128]⟩
abbrev S128x128 : Shape := ⟨2, ![128, 128]⟩
abbrev S1x128x128 : Shape := ⟨3, ![1, 128, 128]⟩
abbrev S1x1x128x128 : Shape := ⟨4, ![1, 1, 128, 128]⟩
abbrev S128x384 : Shape := ⟨2, ![128, 384]⟩
abbrev S512x128 : Shape := ⟨2, ![512, 128]⟩
abbrev S512x512 : Shape := ⟨2, ![512, 512]⟩
abbrev S1x512 : Shape := ⟨2, ![1, 512]⟩
abbrev S1x128x512 : Shape := ⟨3, ![1, 128, 512]⟩
abbrev S128x1 : Shape := ⟨2, ![128, 1]⟩
abbrev S128x256 : Shape := ⟨2, ![128, 256]⟩
abbrev S256x128 : Shape := ⟨2, ![256, 128]⟩
abbrev S1x1x128x256 : Shape := ⟨4, ![1, 1, 128, 256]⟩
abbrev S1x128x256 : Shape := ⟨3, ![1, 128, 256]⟩
abbrev S1x256 : Shape := ⟨2, ![1, 256]⟩

abbrev nBuf : Space → Nat
  | .hbm => 30
  | .vmem => 27
  | .smem => 0
  | _ => 0

abbrev bufTy : (tb : Table) → Fin (tcTables nBuf tb) → BufTy
  | .hbm, ⟨0, _⟩ => ⟨S4x8192x512, .bf16⟩
  | .hbm, ⟨1, _⟩ => ⟨S4x8192x256, .bf16⟩
  | .hbm, ⟨2, _⟩ => ⟨S4x8192x256, .bf16⟩
  | .hbm, ⟨3, _⟩ => ⟨S4x8192x2x8, .f32⟩
  | .hbm, ⟨4, _⟩ => ⟨S4x8192x2x8, .f32⟩
  | .hbm, ⟨5, _⟩ => ⟨S4x8x64x128, .f32⟩
  | .hbm, ⟨6, _⟩ => ⟨S4x8x64x128, .f32⟩
  | .hbm, ⟨7, _⟩ => ⟨S2x128x128, .f32⟩
  | .hbm, ⟨8, _⟩ => ⟨S128x512, .bf16⟩
  | .hbm, ⟨9, _⟩ => ⟨S4x8192x512, .bf16⟩
  | .hbm, ⟨10, _⟩ => ⟨S4x2x4x64x128, .f32⟩
  | .hbm, ⟨11, _⟩ => ⟨S4x2x128x4x64, .f32⟩
  | .hbm, ⟨12, _⟩ => ⟨S4x2x128x256, .f32⟩
  | .hbm, ⟨13, _⟩ => ⟨S4x2x4x64x128, .f32⟩
  | .hbm, ⟨14, _⟩ => ⟨S4x2x128x4x64, .f32⟩
  | .hbm, ⟨15, _⟩ => ⟨S4x2x128x256, .f32⟩
  | .hbm, ⟨16, _⟩ => ⟨S4x1x2x128x256, .f32⟩
  | .hbm, ⟨17, _⟩ => ⟨S4x1x2x128x256, .f32⟩
  | .hbm, ⟨18, _⟩ => ⟨S4x2x2x128x256, .f32⟩
  | .hbm, ⟨19, _⟩ => ⟨S4x2x8192x8, .f32⟩
  | .hbm, ⟨20, _⟩ => ⟨S_, .i32⟩
  | .hbm, ⟨21, _⟩ => ⟨S_, .f32⟩
  | .hbm, ⟨22, _⟩ => ⟨S4x2x8192x128, .f32⟩
  | .hbm, ⟨23, _⟩ => ⟨S4x2x8192x8, .f32⟩
  | .hbm, ⟨24, _⟩ => ⟨S_, .i32⟩
  | .hbm, ⟨25, _⟩ => ⟨S_, .f32⟩
  | .hbm, ⟨26, _⟩ => ⟨S4x2x8192x128, .f32⟩
  | .hbm, ⟨27, _⟩ => ⟨S4x8192x512, .bf16⟩
  | .hbm, ⟨28, _⟩ => ⟨S4x8192x512, .bf16⟩
  | .hbm, ⟨29, _⟩ => ⟨S4x2x2x128x256, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1x1024x128, .f32⟩
  | .local _ .vmem, ⟨5, _⟩ => ⟨S1x1x1024x128, .f32⟩
  | .local _ .vmem, ⟨6, _⟩ => ⟨S1x1x1024x128, .f32⟩
  | .local _ .vmem, ⟨7, _⟩ => ⟨S1x1x1024x128, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1x1024x128, .f32⟩
  | .local _ .vmem, ⟨13, _⟩ => ⟨S1x1x1024x128, .f32⟩
  | .local _ .vmem, ⟨14, _⟩ => ⟨S1x1x1024x128, .f32⟩
  | .local _ .vmem, ⟨15, _⟩ => ⟨S1x1x1024x128, .f32⟩
  | .local _ .vmem, ⟨16, _⟩ => ⟨S2x128x128, .f32⟩
  | .local _ .vmem, ⟨17, _⟩ => ⟨S128x512, .bf16⟩
  | .local _ .vmem, ⟨18, _⟩ => ⟨S1x2x2x128x256, .f32⟩
  | .local _ .vmem, ⟨19, _⟩ => ⟨S1x2x2x128x256, .f32⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x2x2x128x256, .f32⟩
  | .local _ .vmem, ⟨25, _⟩ => ⟨S1x2x2x128x256, .f32⟩
  | .local _ .vmem, ⟨26, _⟩ => ⟨S2x2x128x256, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_call1_v0 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v3813 : BitVec 1 := Scalar.cmpi .eq arg1 c7_i32
  let v3814 : BitVec 32 := Scalar.extui v3813
  let c0_i32_1062 : BitVec 32 := 0#32
  let v3815 : BitVec 1 := Scalar.cmpi .ne v3814 c0_i32_1062
  v3815

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  let c0_i32_0 : BitVec 32 := 0#32
  ![arg0.toNat, c1_i32.toNat, v0.toNat, c0_i32.toNat]

def cc0_transform_7 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  let c0_i32_0 : BitVec 32 := 0#32
  ![arg0.toNat, c1_i32.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2x2x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x2x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x8192x512 : Shape := ⟨3, ![4, 8192, 512]⟩
abbrev S4x8192x256 : Shape := ⟨3, ![4, 8192, 256]⟩
abbrev S4x8192x2x8 : Shape := ⟨4, ![4, 8192, 2, 8]⟩
abbrev S4x8x64x128 : Shape := ⟨4, ![4, 8, 64, 128]⟩
abbrev S4x8192x8x64 : Shape := ⟨4, ![4, 8192, 8, 64]⟩
abbrev S4x8192x2x128 : Shape := ⟨4, ![4, 8192, 2, 128]⟩
abbrev S4x8192x2x4x128 : Shape := ⟨5, ![4, 8192, 2, 4, 128]⟩
abbrev S4x8192x8x128 : Shape := ⟨4, ![4, 8192, 8, 128]⟩
abbrev S4x8192x1x8 : Shape := ⟨4, ![4, 8192, 1, 8]⟩
abbrev S4x8192x8 : Shape := ⟨3, ![4, 8192, 8]⟩
abbrev S4x8192x8x1 : Shape := ⟨4, ![4, 8192, 8, 1]⟩
abbrev S4x64x128x8x64 : Shape := ⟨5, ![4, 64, 128, 8, 64]⟩
abbrev S4x64x128x8x128 : Shape := ⟨5, ![4, 64, 128, 8, 128]⟩
abbrev S4x64x128x8 : Shape := ⟨4, ![4, 64, 128, 8]⟩
abbrev S_ : Shape := ⟨0, ![]⟩
abbrev S4x8x64x128x1 : Shape := ⟨5, ![4, 8, 64, 128, 1]⟩
abbrev S4x8x64x1x128 : Shape := ⟨5, ![4, 8, 64, 1, 128]⟩
abbrev S4x8x64x128x128 : Shape := ⟨5, ![4, 8, 64, 128, 128]⟩
abbrev S128x128 : Shape := ⟨2, ![128, 128]⟩
abbrev S4x64x8x64x128 : Shape := ⟨5, ![4, 64, 8, 64, 128]⟩
abbrev S4x8x64x1 : Shape := ⟨4, ![4, 8, 64, 1]⟩
abbrev S4x64x128x8x1 : Shape := ⟨5, ![4, 64, 128, 8, 1]⟩
abbrev S4x1x8x64x128 : Shape := ⟨5, ![4, 1, 8, 64, 128]⟩
abbrev S4x65x8x64x128 : Shape := ⟨5, ![4, 65, 8, 64, 128]⟩
abbrev S4x8x64 : Shape := ⟨3, ![4, 8, 64]⟩
abbrev S4x8x65 : Shape := ⟨3, ![4, 8, 65]⟩
abbrev S4x8x65x1 : Shape := ⟨4, ![4, 8, 65, 1]⟩
abbrev S4x8x1x65 : Shape := ⟨4, ![4, 8, 1, 65]⟩
abbrev S4x8x65x65 : Shape := ⟨4, ![4, 8, 65, 65]⟩
abbrev S65x65 : Shape := ⟨2, ![65, 65]⟩
abbrev S4x8x64x128x65 : Shape := ⟨5, ![4, 8, 64, 128, 65]⟩
abbrev S4x2x8x64x128 : Shape := ⟨5, ![4, 2, 8, 64, 128]⟩
abbrev S4x2x2x4x64x128 : Shape := ⟨6, ![4, 2, 2, 4, 64, 128]⟩
abbrev S4x2x2x128x4x64 : Shape := ⟨6, ![4, 2, 2, 128, 4, 64]⟩
abbrev S4x2x2x128x256 : Shape := ⟨5, ![4, 2, 2, 128, 256]⟩

abbrev nBuf : Space → Nat
  | .hbm => 230
  | .vmem => 0
  | .smem => 0
  | _ => 0

abbrev hbmTy0_0 (i : Nat) : BufTy := match i % 128 with
  | 0 => ⟨S4x8192x512, .bf16⟩
  | 1 => ⟨S4x8192x256, .bf16⟩
  | 2 => ⟨S4x8192x256, .bf16⟩
  | 3 => ⟨S4x8192x2x8, .f32⟩
  | 4 => ⟨S4x8192x2x8, .f32⟩
  | 5 => ⟨S4x8x64x128, .f32⟩
  | 6 => ⟨S4x8x64x128, .f32⟩
  | 7 => ⟨S4x8192x512, .f32⟩
  | 8 => ⟨S4x8192x8x64, .f32⟩
  | 9 => ⟨S4x8192x256, .f32⟩
  | 10 => ⟨S4x8192x2x128, .f32⟩
  | 11 => ⟨S4x8192x2x4x128, .f32⟩
  | 12 => ⟨S4x8192x8x128, .f32⟩
  | 13 => ⟨S4x8192x256, .f32⟩
  | 14 => ⟨S4x8192x2x128, .f32⟩
  | 15 => ⟨S4x8192x2x4x128, .f32⟩
  | 16 => ⟨S4x8192x8x128, .f32⟩
  | 17 => ⟨S4x8192x1x8, .f32⟩
  | 18 => ⟨S4x8192x8, .f32⟩
  | 19 => ⟨S4x8192x8x1, .f32⟩
  | 20 => ⟨S4x8192x8x64, .f32⟩
  | 21 => ⟨S4x8192x8x64, .f32⟩
  | 22 => ⟨S4x8192x1x8, .f32⟩
  | 23 => ⟨S4x8192x8, .f32⟩
  | 24 => ⟨S4x64x128x8x64, .f32⟩
  | 25 => ⟨S4x64x128x8x128, .f32⟩
  | 26 => ⟨S4x64x128x8x128, .f32⟩
  | 27 => ⟨S4x64x128x8, .f32⟩
  | 28 => ⟨S4x8x64x128, .f32⟩
  | 29 => ⟨S_, .f32⟩
  | 30 => ⟨S_, .f32⟩
  | 31 => ⟨S4x8x64x128, .f32⟩
  | 32 => ⟨S_, .f32⟩
  | 33 => ⟨S_, .f32⟩
  | 34 => ⟨S4x8x64x128, .f32⟩
  | 35 => ⟨S4x8x64x128x1, .f32⟩
  | 36 => ⟨S4x8x64x1x128, .f32⟩
  | 37 => ⟨S4x8x64x128x128, .f32⟩
  | 38 => ⟨S4x8x64x128x128, .f32⟩
  | 39 => ⟨S4x8x64x128x128, .f32⟩
  | 40 => ⟨S_, .i1⟩
  | 41 => ⟨S128x128, .i1⟩
  | 42 => ⟨S128x128, .i32⟩
  | 43 => ⟨S_, .i32⟩
  | 44 => ⟨S128x128, .i32⟩
  | 45 => ⟨S128x128, .i32⟩
  | 46 => ⟨S128x128, .i32⟩
  | 47 => ⟨S128x128, .i1⟩
  | 48 => ⟨S_, .i1⟩
  | 49 => ⟨S128x128, .i1⟩
  | 50 => ⟨S128x128, .i1⟩
  | 51 => ⟨S_, .f32⟩
  | 52 => ⟨S_, .f32⟩
  | 53 => ⟨S4x8x64x128x128, .i1⟩
  | 54 => ⟨S4x8x64x128x128, .f32⟩
  | 55 => ⟨S4x8x64x128x128, .f32⟩
  | 56 => ⟨S4x8x64x128x128, .f32⟩
  | 57 => ⟨S4x8x64x128x128, .f32⟩
  | 58 => ⟨S4x8x64x128x128, .f32⟩
  | 59 => ⟨S4x64x8x64x128, .f32⟩
  | 60 => ⟨S4x64x128x8x64, .f32⟩
  | 61 => ⟨S4x8x64x1, .f32⟩
  | 62 => ⟨S4x8x64x128, .f32⟩
  | 63 => ⟨S4x8x64x128, .f32⟩
  | 64 => ⟨S4x8x64x128, .f32⟩
  | 65 => ⟨S4x64x128x8, .f32⟩
  | 66 => ⟨S4x64x128x8x1, .f32⟩
  | 67 => ⟨S4x64x128x8x64, .f32⟩
  | 68 => ⟨S4x64x128x8x64, .f32⟩
  | 69 => ⟨S4x64x8x64x128, .f32⟩
  | 70 => ⟨S4x1x8x64x128, .f32⟩
  | 71 => ⟨S4x65x8x64x128, .f32⟩
  | 72 => ⟨S4x8x64x1, .f32⟩
  | 73 => ⟨S4x8x64, .f32⟩
  | 74 => ⟨S_, .i32⟩
  | 75 => ⟨S_, .f32⟩
  | 76 => ⟨S4x8x65, .f32⟩
  | 77 => ⟨S_, .f32⟩
  | 78 => ⟨S_, .f32⟩
  | 79 => ⟨S4x8x65, .f32⟩
  | 80 => ⟨S4x8x65x1, .f32⟩
  | 81 => ⟨S4x8x1x65, .f32⟩
  | 82 => ⟨S4x8x65x65, .f32⟩
  | 83 => ⟨S4x8x65x65, .f32⟩
  | 84 => ⟨S4x8x65x65, .f32⟩
  | 85 => ⟨S_, .i1⟩
  | 86 => ⟨S65x65, .i1⟩
  | 87 => ⟨S65x65, .i32⟩
  | 88 => ⟨S_, .i32⟩
  | 89 => ⟨S65x65, .i32⟩
  | 90 => ⟨S65x65, .i32⟩
  | 91 => ⟨S65x65, .i32⟩
  | 92 => ⟨S65x65, .i1⟩
  | 93 => ⟨S_, .i1⟩
  | 94 => ⟨S65x65, .i1⟩
  | 95 => ⟨S65x65, .i1⟩
  | 96 => ⟨S_, .f32⟩
  | 97 => ⟨S_, .f32⟩
  | 98 => ⟨S4x8x65x65, .i1⟩
  | 99 => ⟨S4x8x65x65, .f32⟩
  | 100 => ⟨S4x8x65x65, .f32⟩
  | 101 => ⟨S4x8x65x65, .f32⟩
  | 102 => ⟨S4x8x64x128x65, .f32⟩
  | 103 => ⟨S4x65x8x64x128, .f32⟩
  | 104 => ⟨S4x64x8x64x128, .f32⟩
  | 105 => ⟨S4x1x8x64x128, .f32⟩
  | 106 => ⟨S4x8x64x128, .f32⟩
  | 107 => ⟨S4x64x8x64x128, .f32⟩
  | 108 => ⟨S4x64x128x8x64, .f32⟩
  | 109 => ⟨S4x8x64x128, .f32⟩
  | 110 => ⟨S4x64x128x8, .f32⟩
  | 111 => ⟨S4x64x128x8x1, .f32⟩
  | 112 => ⟨S4x64x128x8x64, .f32⟩
  | 113 => ⟨S4x64x128x8x64, .f32⟩
  | 114 => ⟨S4x64x128x8x64, .f32⟩
  | 115 => ⟨S4x8192x8x64, .f32⟩
  | 116 => ⟨S4x8192x1x8, .f32⟩
  | 117 => ⟨S4x8192x8, .f32⟩
  | 118 => ⟨S4x8192x8x1, .f32⟩
  | 119 => ⟨S4x8192x8x64, .f32⟩
  | 120 => ⟨S4x8192x8x64, .f32⟩
  | 121 => ⟨S4x8192x8x64, .f32⟩
  | 122 => ⟨S4x8192x1x8, .f32⟩
  | 123 => ⟨S4x8192x8, .f32⟩
  | 124 => ⟨S4x8192x8, .f32⟩
  | 125 => ⟨S4x8192x8x128, .f32⟩
  | 126 => ⟨S4x8192x8x128, .f32⟩
  | 127 => ⟨S4x64x128x8x64, .f32⟩
  | _ => ⟨S4x8192x512, .bf16⟩

abbrev hbmTy0_1 (i : Nat) : BufTy := match i % 128 with
  | 0 => ⟨S4x64x128x8x128, .f32⟩
  | 1 => ⟨S4x64x128x8x128, .f32⟩
  | 2 => ⟨S4x64x128x8, .f32⟩
  | 3 => ⟨S4x8x64x128, .f32⟩
  | 4 => ⟨S_, .f32⟩
  | 5 => ⟨S_, .f32⟩
  | 6 => ⟨S4x8x64x128, .f32⟩
  | 7 => ⟨S_, .f32⟩
  | 8 => ⟨S_, .f32⟩
  | 9 => ⟨S4x8x64x128, .f32⟩
  | 10 => ⟨S4x8x64x128x1, .f32⟩
  | 11 => ⟨S4x8x64x1x128, .f32⟩
  | 12 => ⟨S4x8x64x128x128, .f32⟩
  | 13 => ⟨S4x8x64x128x128, .f32⟩
  | 14 => ⟨S4x8x64x128x128, .f32⟩
  | 15 => ⟨S_, .i1⟩
  | 16 => ⟨S128x128, .i1⟩
  | 17 => ⟨S128x128, .i32⟩
  | 18 => ⟨S_, .i32⟩
  | 19 => ⟨S128x128, .i32⟩
  | 20 => ⟨S128x128, .i32⟩
  | 21 => ⟨S128x128, .i32⟩
  | 22 => ⟨S128x128, .i1⟩
  | 23 => ⟨S_, .i1⟩
  | 24 => ⟨S128x128, .i1⟩
  | 25 => ⟨S128x128, .i1⟩
  | 26 => ⟨S_, .f32⟩
  | 27 => ⟨S_, .f32⟩
  | 28 => ⟨S4x8x64x128x128, .i1⟩
  | 29 => ⟨S4x8x64x128x128, .f32⟩
  | 30 => ⟨S4x8x64x128x128, .f32⟩
  | 31 => ⟨S4x8x64x128x128, .f32⟩
  | 32 => ⟨S4x8x64x128x128, .f32⟩
  | 33 => ⟨S4x8x64x128x128, .f32⟩
  | 34 => ⟨S4x64x8x64x128, .f32⟩
  | 35 => ⟨S4x64x128x8x64, .f32⟩
  | 36 => ⟨S4x8x64x1, .f32⟩
  | 37 => ⟨S4x8x64x128, .f32⟩
  | 38 => ⟨S4x8x64x128, .f32⟩
  | 39 => ⟨S4x8x64x128, .f32⟩
  | 40 => ⟨S4x64x128x8, .f32⟩
  | 41 => ⟨S4x64x128x8x1, .f32⟩
  | 42 => ⟨S4x64x128x8x64, .f32⟩
  | 43 => ⟨S4x64x128x8x64, .f32⟩
  | 44 => ⟨S4x64x8x64x128, .f32⟩
  | 45 => ⟨S4x1x8x64x128, .f32⟩
  | 46 => ⟨S4x65x8x64x128, .f32⟩
  | 47 => ⟨S4x8x64x1, .f32⟩
  | 48 => ⟨S4x8x64, .f32⟩
  | 49 => ⟨S_, .i32⟩
  | 50 => ⟨S_, .f32⟩
  | 51 => ⟨S4x8x65, .f32⟩
  | 52 => ⟨S_, .f32⟩
  | 53 => ⟨S_, .f32⟩
  | 54 => ⟨S4x8x65, .f32⟩
  | 55 => ⟨S4x8x65x1, .f32⟩
  | 56 => ⟨S4x8x1x65, .f32⟩
  | 57 => ⟨S4x8x65x65, .f32⟩
  | 58 => ⟨S4x8x65x65, .f32⟩
  | 59 => ⟨S4x8x65x65, .f32⟩
  | 60 => ⟨S_, .i1⟩
  | 61 => ⟨S65x65, .i1⟩
  | 62 => ⟨S65x65, .i32⟩
  | 63 => ⟨S_, .i32⟩
  | 64 => ⟨S65x65, .i32⟩
  | 65 => ⟨S65x65, .i32⟩
  | 66 => ⟨S65x65, .i32⟩
  | 67 => ⟨S65x65, .i1⟩
  | 68 => ⟨S_, .i1⟩
  | 69 => ⟨S65x65, .i1⟩
  | 70 => ⟨S65x65, .i1⟩
  | 71 => ⟨S_, .f32⟩
  | 72 => ⟨S_, .f32⟩
  | 73 => ⟨S4x8x65x65, .i1⟩
  | 74 => ⟨S4x8x65x65, .f32⟩
  | 75 => ⟨S4x8x65x65, .f32⟩
  | 76 => ⟨S4x8x65x65, .f32⟩
  | 77 => ⟨S4x8x64x128x65, .f32⟩
  | 78 => ⟨S4x65x8x64x128, .f32⟩
  | 79 => ⟨S4x64x8x64x128, .f32⟩
  | 80 => ⟨S4x1x8x64x128, .f32⟩
  | 81 => ⟨S4x8x64x128, .f32⟩
  | 82 => ⟨S4x64x8x64x128, .f32⟩
  | 83 => ⟨S4x64x128x8x64, .f32⟩
  | 84 => ⟨S4x8x64x128, .f32⟩
  | 85 => ⟨S4x64x128x8, .f32⟩
  | 86 => ⟨S4x64x128x8x1, .f32⟩
  | 87 => ⟨S4x64x128x8x64, .f32⟩
  | 88 => ⟨S4x64x128x8x64, .f32⟩
  | 89 => ⟨S4x64x128x8x64, .f32⟩
  | 90 => ⟨S4x8192x8x64, .f32⟩
  | 91 => ⟨S4x1x8x64x128, .f32⟩
  | 92 => ⟨S4x1x8x64x128, .f32⟩
  | 93 => ⟨S4x2x8x64x128, .f32⟩
  | 94 => ⟨S4x2x2x4x64x128, .f32⟩
  | 95 => ⟨S4x2x2x128x4x64, .f32⟩
  | 96 => ⟨S4x8192x512, .f32⟩
  | 97 => ⟨S4x8192x512, .bf16⟩
  | 98 => ⟨S4x8192x8x64, .f32⟩
  | 99 => ⟨S4x8192x512, .f32⟩
  | 100 => ⟨S4x8192x512, .bf16⟩
  | 101 => ⟨S4x2x2x128x256, .f32⟩
  | _ => ⟨S4x8192x512, .bf16⟩

abbrev hbmTy (i : Nat) : BufTy := match i / 128 with
  | 0 => hbmTy0_0 i
  | 1 => hbmTy0_1 i
  | _ => ⟨S4x8192x512, .bf16⟩

abbrev bufTy : (tb : Table) → Fin (tcTables nBuf tb) → BufTy
  | .hbm, ⟨i, _⟩ => hbmTy i
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_call0_cst : Ref sig .tc := ⟨.hbm, 29, rfl⟩
abbrev main_call0_call0_v0 : Ref sig .tc := ⟨.hbm, 30, rfl⟩
abbrev main_v22 : Ref sig .tc := ⟨.hbm, 31, rfl⟩
abbrev main_call1_call0_cst : Ref sig .tc := ⟨.hbm, 32, rfl⟩
abbrev main_call1_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_call2_v0 : Ref sig .tc := ⟨.hbm, 42, rfl⟩
abbrev main_call2_c : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_c_0 : Ref sig .tc := ⟨.hbm, 48, rfl⟩
abbrev main_call2_v5 : Ref sig .tc := ⟨.hbm, 49, rfl⟩
abbrev main_v30 : Ref sig .tc := ⟨.hbm, 50, rfl⟩
abbrev main_cst : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_0 : Ref sig .tc := ⟨.hbm, 74, rfl⟩
abbrev main_call4_v0 : Ref sig .tc := ⟨.hbm, 75, rfl⟩
abbrev main_v50 : Ref sig .tc := ⟨.hbm, 76, rfl⟩
abbrev main_call5_call0_cst : Ref sig .tc := ⟨.hbm, 77, rfl⟩
abbrev main_call5_call0_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_1 : Ref sig .tc := ⟨.hbm, 85, rfl⟩
abbrev main_v57 : Ref sig .tc := ⟨.hbm, 86, rfl⟩
abbrev main_call6_v0 : Ref sig .tc := ⟨.hbm, 87, rfl⟩
abbrev main_call6_c : Ref sig .tc := ⟨.hbm, 88, rfl⟩
abbrev main_call6_v1 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_c_0 : Ref sig .tc := ⟨.hbm, 93, rfl⟩
abbrev main_call6_v5 : Ref sig .tc := ⟨.hbm, 94, rfl⟩
abbrev main_v58 : Ref sig .tc := ⟨.hbm, 95, rfl⟩
abbrev main_cst_2 : Ref sig .tc := ⟨.hbm, 96, rfl⟩
abbrev main_call7_v0 : Ref sig .tc := ⟨.hbm, 97, rfl⟩
abbrev main_call7_v1 : Ref sig .tc := ⟨.hbm, 98, rfl⟩
abbrev main_call7_v2 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call12_call0_cst : Ref sig .tc := ⟨.hbm, 132, rfl⟩
abbrev main_call12_call0_v0 : Ref sig .tc := ⟨.hbm, 133, rfl⟩
abbrev main_v91 : Ref sig .tc := ⟨.hbm, 134, rfl⟩
abbrev main_call13_call0_cst : Ref sig .tc := ⟨.hbm, 135, rfl⟩
abbrev main_call13_call0_v0 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_3 : Ref sig .tc := ⟨.hbm, 143, rfl⟩
abbrev main_v98 : Ref sig .tc := ⟨.hbm, 144, rfl⟩
abbrev main_call14_v0 : Ref sig .tc := ⟨.hbm, 145, rfl⟩
abbrev main_call14_c : Ref sig .tc := ⟨.hbm, 146, rfl⟩
abbrev main_call14_v1 : Ref sig .tc := ⟨.hbm, 147, rfl⟩
abbrev main_call14_v2 : Ref sig .tc := ⟨.hbm, 148, rfl⟩
abbrev main_call14_v3 : Ref sig .tc := ⟨.hbm, 149, rfl⟩
abbrev main_call14_v4 : Ref sig .tc := ⟨.hbm, 150, rfl⟩
abbrev main_call14_c_0 : Ref sig .tc := ⟨.hbm, 151, rfl⟩
abbrev main_call14_v5 : Ref sig .tc := ⟨.hbm, 152, rfl⟩
abbrev main_v99 : Ref sig .tc := ⟨.hbm, 153, rfl⟩
abbrev main_cst_4 : Ref sig .tc := ⟨.hbm, 154, rfl⟩
abbrev main_call15_v0 : Ref sig .tc := ⟨.hbm, 155, rfl⟩
abbrev main_call15_v1 : Ref sig .tc := ⟨.hbm, 156, rfl⟩
abbrev main_call15_v2 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_c_5 : Ref sig .tc := ⟨.hbm, 177, rfl⟩
abbrev main_call16_v0 : Ref sig .tc := ⟨.hbm, 178, rfl⟩
abbrev main_v119 : Ref sig .tc := ⟨.hbm, 179, rfl⟩
abbrev main_call17_call0_cst : Ref sig .tc := ⟨.hbm, 180, rfl⟩
abbrev main_call17_call0_v0 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_c_6 : Ref sig .tc := ⟨.hbm, 188, rfl⟩
abbrev main_v126 : Ref sig .tc := ⟨.hbm, 189, rfl⟩
abbrev main_call18_v0 : Ref sig .tc := ⟨.hbm, 190, rfl⟩
abbrev main_call18_c : Ref sig .tc := ⟨.hbm, 191, rfl⟩
abbrev main_call18_v1 : Ref sig .tc := ⟨.hbm, 192, rfl⟩
abbrev main_call18_v2 : Ref sig .tc := ⟨.hbm, 193, rfl⟩
abbrev main_call18_v3 : Ref sig .tc := ⟨.hbm, 194, rfl⟩
abbrev main_call18_v4 : Ref sig .tc := ⟨.hbm, 195, rfl⟩
abbrev main_call18_c_0 : Ref sig .tc := ⟨.hbm, 196, rfl⟩
abbrev main_call18_v5 : Ref sig .tc := ⟨.hbm, 197, rfl⟩
abbrev main_v127 : Ref sig .tc := ⟨.hbm, 198, rfl⟩
abbrev main_cst_7 : Ref sig .tc := ⟨.hbm, 199, rfl⟩
abbrev main_call19_v0 : Ref sig .tc := ⟨.hbm, 200, rfl⟩
abbrev main_call19_v1 : Ref sig .tc := ⟨.hbm, 201, rfl⟩
abbrev main_call19_v2 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024x5632 : Shape := ⟨2, ![1024, 5632]⟩
abbrev S3x3x5632 : Shape := ⟨3, ![3, 3, 5632]⟩
abbrev S5632 : Shape := ⟨1, ![5632]⟩
abbrev S2816x1024 : Shape := ⟨2, ![2816, 1024]⟩
abbrev S4x1x1024 : Shape := ⟨3, ![4, 1, 1024]⟩
abbrev S1024 : Shape := ⟨1, ![1024]⟩
abbrev S9x5632 : Shape := ⟨2, ![9, 5632]⟩
abbrev S1x5632 : Shape := ⟨2, ![1, 5632]⟩
abbrev S1x1024 : Shape := ⟨2, ![1, 1024]⟩
abbrev S1x1024x1024 : Shape := ⟨3, ![1, 1024, 1024]⟩
abbrev S1x64x1024 : Shape := ⟨3, ![1, 64, 1024]⟩
abbrev S1x1x1024 : Shape := ⟨3, ![1, 1, 1024]⟩
abbrev S1152x1024 : Shape := ⟨2, ![1152, 1024]⟩
abbrev S1184x512 : Shape := ⟨2, ![1184, 512]⟩
abbrev S1024x1024 : Shape := ⟨2, ![1024, 1024]⟩
abbrev S64x1024 : Shape := ⟨2, ![64, 1024]⟩
abbrev S16x512 : Shape := ⟨2, ![16, 512]⟩
abbrev S1024x256 : Shape := ⟨2, ![1024, 256]⟩
abbrev S1152x256 : Shape := ⟨2, ![1152, 256]⟩
abbrev S9x256 : Shape := ⟨2, ![9, 256]⟩
abbrev S9x512 : Shape := ⟨2, ![9, 512]⟩
abbrev S1056x1 : Shape := ⟨2, ![1056, 1]⟩
abbrev S1056x512 : Shape := ⟨2, ![1056, 512]⟩
abbrev S1x512 : Shape := ⟨2, ![1, 512]⟩
abbrev S2x512 : Shape := ⟨2, ![2, 512]⟩
abbrev S1054x512 : Shape := ⟨2, ![1054, 512]⟩
abbrev S1024x512 : Shape := ⟨2, ![1024, 512]⟩
abbrev S1x256 : Shape := ⟨2, ![1, 256]⟩
abbrev S1024x768 : Shape := ⟨2, ![1024, 768]⟩
abbrev S768x1024 : Shape := ⟨2, ![768, 1024]⟩
abbrev S1024x1 : Shape := ⟨2, ![1024, 1]⟩

abbrev nBuf : Space → Nat
  | .hbm => 16
  | .vmem => 23
  | .smem => 0
  | _ => 0

abbrev bufTy : (tb : Table) → Fin (tcTables nBuf tb) → BufTy
  | .hbm, ⟨0, _⟩ => ⟨S4x8192x1024, .bf16⟩
  | .hbm, ⟨1, _⟩ => ⟨S1024x5632, .f32⟩
  | .hbm, ⟨2, _⟩ => ⟨S3x3x5632, .f32⟩
  | .hbm, ⟨3, _⟩ => ⟨S5632, .f32⟩
  | .hbm, ⟨4, _⟩ => ⟨S2816x1024, .f32⟩
  | .hbm, ⟨5, _⟩ => ⟨S4x8192x1024, .f32⟩
  | .hbm, ⟨6, _⟩ => ⟨S4x1x1024, .f32⟩
  | .hbm, ⟨7, _⟩ => ⟨S1024, .f32⟩
  | .hbm, ⟨8, _⟩ => ⟨S1024, .f32⟩
  | .hbm, ⟨9, _⟩ => ⟨S1024x5632, .bf16⟩
  | .hbm, ⟨10, _⟩ => ⟨S9x5632, .f32⟩
  | .hbm, ⟨11, _⟩ => ⟨S1x5632, .f32⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S4x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1024x5632, .bf16⟩
  | .local _ .vmem, ⟨7, _⟩ => ⟨S9x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1152x1024, .bf16⟩
  | .local _ .vmem, ⟨19, _⟩ => ⟨S1184x512, .bf16⟩
  | .local _ .vmem, ⟨20, _⟩ => ⟨S1184x512, .bf16⟩
  | .local _ .vmem, ⟨21, _⟩ => ⟨S1024x1024, .bf16⟩
  | .local _ .vmem, ⟨22, _⟩ => ⟨S1024x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S9x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2Ideal.lean ====
variable {F : FTy → Type} [FloatOps F] [Named F]
def κ : String → Option EReal := fun
  | "cube" => some ((12003091 / 268435456 : ℝ) : EReal)
  | "root" => some ((6693141 / 8388608 : ℝ) : EReal)
  | _ => none
-- ==== Reference2Ideal.lean ====
abbrev S4x8192x1024 : Shape := ⟨3, ![4, 8192, 1024]⟩
abbrev S1024x5632 : Shape := ⟨2, ![1024, 5632]⟩
abbrev S3x3x5632 : Shape := ⟨3, ![3, 3, 5632]⟩
abbrev S5632 : Shape := ⟨1, ![5632]⟩
abbrev S2816x1024 : Shape := ⟨2, ![2816, 1024]⟩
abbrev S4x1x1024 : Shape := ⟨3, ![4, 1, 1024]⟩
abbrev S1024 : Shape := ⟨1, ![1024]⟩
abbrev S4x8192x5632 : Shape := ⟨3, ![4, 8192, 5632]⟩
abbrev S4x128x64x5632 : Shape := ⟨4, ![4, 128, 64, 5632]⟩
abbrev S_ : Shape := ⟨0, ![]⟩
abbrev S4x130x66x5632 : Shape := ⟨4, ![4, 130, 66, 5632]⟩
abbrev S1x1x5632 : Shape := ⟨3, ![1, 1, 5632]⟩
abbrev S1x1x1x5632 : Shape := ⟨4, ![1, 1, 1, 5632]⟩
abbrev S4x8192x2816 : Shape := ⟨3, ![4, 8192, 2816]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 140
  | .vmem => 0
  | .smem => 0
  | _ => 0

abbrev hbmTy0_0 (i : Nat) : BufTy := match i % 128 with
  | 0 => ⟨S4x8192x1024, .bf16⟩
  | 1 => ⟨S1024x5632, .f32⟩
  | 2 => ⟨S3x3x5632, .f32⟩
  | 3 => ⟨S5632, .f32⟩
  | 4 => ⟨S2816x1024, .f32⟩
  | 5 => ⟨S4x8192x1024, .f32⟩
  | 6 => ⟨S4x1x1024, .f32⟩
  | 7 => ⟨S1024, .f32⟩
  | 8 => ⟨S1024, .f32⟩
  | 9 => ⟨S4x8192x1024, .f32⟩
  | 10 => ⟨S4x8192x5632, .f32⟩
  | 11 => ⟨S4x128x64x5632, .f32⟩
  | 12 => ⟨S_, .i32⟩
  | 13 => ⟨S_, .f32⟩
  | 14 => ⟨S4x130x66x5632, .f32⟩
  | 15 => ⟨S4x128x64x5632, .f32⟩
  | 16 => ⟨S1x1x5632, .f32⟩
  | 17 => ⟨S5632, .f32⟩
  | 18 => ⟨S1x1x1x5632, .f32⟩
  | 19 => ⟨S4x128x64x5632, .f32⟩
  | 20 => ⟨S4x128x64x5632, .f32⟩
  | 21 => ⟨S_, .f32⟩
  | 22 => ⟨S4x128x64x5632, .f32⟩
  | 23 => ⟨S4x128x64x5632, .f32⟩
  | 24 => ⟨S4x128x64x5632, .f32⟩
  | 25 => ⟨S1x1x5632, .f32⟩
  | 26 => ⟨S5632, .f32⟩
  | 27 => ⟨S1x1x1x5632, .f32⟩
  | 28 => ⟨S4x128x64x5632, .f32⟩
  | 29 => ⟨S4x128x64x5632, .f32⟩
  | 30 => ⟨S4x128x64x5632, .f32⟩
  | 31 => ⟨S4x128x64x5632, .f32⟩
  | 32 => ⟨S1x1x5632, .f32⟩
  | 33 => ⟨S5632, .f32⟩
  | 34 => ⟨S1x1x1x5632, .f32⟩
  | 35 => ⟨S4x128x64x5632, .f32⟩
  | 36 => ⟨S4x128x64x5632, .f32⟩
  | 37 => ⟨S4x128x64x5632, .f32⟩
  | 38 => ⟨S4x128x64x5632, .f32⟩
  | 39 => ⟨S1x1x5632, .f32⟩
  | 40 => ⟨S5632, .f32⟩
  | 41 => ⟨S1x1x1x5632, .f32⟩
  | 42 => ⟨S4x128x64x5632, .f32⟩
  | 43 => ⟨S4x128x64x5632, .f32⟩
  | 44 => ⟨S4x128x64x5632, .f32⟩
  | 45 => ⟨S4x128x64x5632, .f32⟩
  | 46 => ⟨S1x1x5632, .f32⟩
  | 47 => ⟨S5632, .f32⟩
  | 48 => ⟨S1x1x1x5632, .f32⟩
  | 49 => ⟨S4x128x64x5632, .f32⟩
  | 50 => ⟨S4x128x64x5632, .f32⟩
  | 51 => ⟨S4x128x64x5632, .f32⟩
  | 52 => ⟨S4x128x64x5632, .f32⟩
  | 53 => ⟨S1x1x5632, .f32⟩
  | 54 => ⟨S5632, .f32⟩
  | 55 => ⟨S1x1x1x5632, .f32⟩
  | 56 => ⟨S4x128x64x5632, .f32⟩
  | 57 => ⟨S4x128x64x5632, .f32⟩
  | 58 => ⟨S4x128x64x5632, .f32⟩
  | 59 => ⟨S4x128x64x5632, .f32⟩
  | 60 => ⟨S1x1x5632, .f32⟩
  | 61 => ⟨S5632, .f32⟩
  | 62 => ⟨S1x1x1x5632, .f32⟩
  | 63 => ⟨S4x128x64x5632, .f32⟩
  | 64 => ⟨S4x128x64x5632, .f32⟩
  | 65 => ⟨S4x128x64x5632, .f32⟩
  | 66 => ⟨S4x128x64x5632, .f32⟩
  | 67 => ⟨S1x1x5632, .f32⟩
  | 68 => ⟨S5632, .f32⟩
  | 69 => ⟨S1x1x1x5632, .f32⟩
  | 70 => ⟨S4x128x64x5632, .f32⟩
  | 71 => ⟨S4x128x64x5632, .f32⟩
  | 72 => ⟨S4x128x64x5632, .f32⟩
  | 73 => ⟨S4x128x64x5632, .f32⟩
  | 74 => ⟨S1x1x5632, .f32⟩
  | 75 => ⟨S5632, .f32⟩
  | 76 => ⟨S1x1x1x5632, .f32⟩
  | 77 => ⟨S4x128x64x5632, .f32⟩
  | 78 => ⟨S4x128x64x5632, .f32⟩
  | 79 => ⟨S4x128x64x5632, .f32⟩
  | 80 => ⟨S4x8192x5632, .f32⟩
  | 81 => ⟨S1x1x5632, .f32⟩
  | 82 => ⟨S4x8192x5632, .f32⟩
  | 83 => ⟨S4x8192x5632, .f32⟩
  | 84 => ⟨S4x8192x2816, .f32⟩
  | 85 => ⟨S4x8192x2816, .f32⟩
  | 86 => ⟨S4x8192x2816, .f32⟩
  | 87 => ⟨S4x8192x2816, .f32⟩
  | 88 => ⟨S_, .f32⟩
  | 89 => ⟨S4x8192x2816, .f32⟩
  | 90 => ⟨S4x8192x2816, .f32⟩
  | 91 => ⟨S4x8192x2816, .f32⟩
  | 92 => ⟨S_, .f32⟩
  | 93 => ⟨S4x8192x2816, .f32⟩
  | 94 => ⟨S4x8192x2816, .f32⟩
  | 95 => ⟨S4x8192x2816, .f32⟩
  | 96 => ⟨S_, .f32⟩
  | 97 => ⟨S4x8192x2816, .f32⟩
  | 98 => ⟨S4x8192x2816, .f32⟩
  | 99 => ⟨S_, .f32⟩
  | 100 => ⟨S4x8192x2816, .f32⟩
  | 101 => ⟨S4x8192x2816, .f32⟩
  | 102 => ⟨S4x8192x2816, .f32⟩
  | 103 => ⟨S4x8192x2816, .f32⟩
  | 104 => ⟨S4x8192x1024, .f32⟩
  | 105 => ⟨S_, .f32⟩
  | 106 => ⟨S4x8192x1024, .f32⟩
  | 107 => ⟨S4x8192x1024, .f32⟩
  | 108 => ⟨S4x8192x1024, .f32⟩
  | 109 => ⟨S4x8192x1024, .f32⟩
  | 110 => ⟨S4x8192x1024, .f32⟩
  | 111 => ⟨S_, .f32⟩
  | 112 => ⟨S4x8192, .f32⟩
  | 113 => ⟨S4x8192x1, .f32⟩
  | 114 => ⟨S_, .f32⟩
  | 115 => ⟨S4x8192x1, .f32⟩
  | 116 => ⟨S4x8192x1, .f32⟩
  | 117 => ⟨S4x8192x1024, .f32⟩
  | 118 => ⟨S4x8192x1024, .f32⟩
  | 119 => ⟨S4x8192x1024, .f32⟩
  | 120 => ⟨S_, .f32⟩
  | 121 => ⟨S4x8192, .f32⟩
  | 122 => ⟨S4x8192x1, .f32⟩
  | 123 => ⟨S_, .f32⟩
  | 124 => ⟨S4x8192x1, .f32⟩
  | 125 => ⟨S4x8192x1, .f32⟩
  | 126 => ⟨S4x8192x1024, .f32⟩
  | 127 => ⟨S4x8192x1024, .f32⟩
  | _ => ⟨S4x8192x1024, .bf16⟩

abbrev hbmTy0_1 (i : Nat) : BufTy := match i % 128 with
  | 0 => ⟨S_, .f32⟩
  | 1 => ⟨S4x8192x1, .f32⟩
  | 2 => ⟨S4x8192x1, .f32⟩
  | 3 => ⟨S4x8192x1, .f32⟩
  | 4 => ⟨S4x8192x1024, .f32⟩
  | 5 => ⟨S4x8192x1024, .f32⟩
  | 6 => ⟨S1x1x1024, .f32⟩
  | 7 => ⟨S4x8192x1024, .f32⟩
  | 8 => ⟨S4x8192x1024, .f32⟩
  | 9 => ⟨S1x1x1024, .f32⟩
  | 10 => ⟨S4x8192x1024, .f32⟩
  | 11 => ⟨S4x8192x1024, .f32⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_0 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_1 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_2 : Ref sig .tc := ⟨.hbm, 96, rfl⟩
abbrev main_v82 : Ref sig .tc := ⟨.hbm, 97, rfl⟩
abbrev main_v83 : Ref sig .tc := ⟨.hbm, 98, rfl⟩
abbrev main_cst_3 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_4 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_5 : Ref sig .tc := ⟨.hbm, 111, rfl⟩
abbrev main_v94 : Ref sig .tc := ⟨.hbm, 112, rfl⟩
abbrev main_v95 : Ref sig .tc := ⟨.hbm, 113, rfl⟩
abbrev main_cst_6 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_7 : Ref sig .tc := ⟨.hbm, 120, rfl⟩
abbrev main_v101 : Ref sig .tc := ⟨.hbm, 121, rfl⟩
abbrev main_v102 : Ref sig .tc := ⟨.hbm, 122, rfl⟩
abbrev main_cst_8 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_9 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩

abbrev nD : Nat := 1
abbrev τ : Topo := Topo.v7x

variable {F : FTy → Type} [FloatOps F]
-- ==== Kernel3.lean ====
abbrev S4x8192x512 : Shape := ⟨3, ![4, 8192, 512]⟩
abbrev S4x8192x256 : Shape := ⟨3, ![4, 8192, 256]⟩
abbrev S4x8192x1024 : Shape := ⟨3, ![4, 8192, 1024]⟩
abbrev S8 : Shape := ⟨1, ![8]⟩
abbrev S512 : Shape := ⟨1, ![512]⟩
abbrev S1024x1024 : Shape := ⟨2, ![1024, 1024]⟩
abbrev S4x1x1024 : Shape := ⟨3, ![4, 1, 1024]⟩
abbrev S1024 : Shape := ⟨1, ![1024]⟩
abbrev S8x64 : Shape := ⟨2, ![8, 64]⟩
abbrev S1x512 : Shape := ⟨2, ![1, 512]⟩
abbrev S1x1024 : Shape := ⟨2, ![1, 1024]⟩
abbrev S1x1024x512 : Shape := ⟨3, ![1, 1024, 512]⟩
abbrev S1x1024x256 : Shape := ⟨3, ![1, 1024, 256]⟩
abbrev S1x1024x1024 : Shape := ⟨3, ![1, 1024, 1024]⟩
abbrev S1x1x1024 : Shape := ⟨3, ![1, 1, 1024]⟩
abbrev S1024x512 : Shape := ⟨2, ![1024, 512]⟩
abbrev S1024x256 : Shape := ⟨2, ![1024, 256]⟩
abbrev S1024x1 : Shape := ⟨2, ![1024, 1]⟩
abbrev S512x1024 : Shape := ⟨2, ![512, 1024]⟩
abbrev S256x1024 : Shape := ⟨2, ![256, 1024]⟩

abbrev nBuf : Space → Nat
  | .hbm => 24
  | .vmem => 29
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S4x8192x256, .bf16⟩
  | .hbm, ⟨5, _⟩ => ⟨S4x8192x256, .bf16⟩
  | .hbm, ⟨6, _⟩ => ⟨S4x8192x1024, .f32⟩
  | .hbm, ⟨7, _⟩ => ⟨S8, .f32⟩
  | .hbm, ⟨8, _⟩ => ⟨S512, .f32⟩
  | .hbm, ⟨9, _⟩ => ⟨S1024x1024, .f32⟩
  | .hbm, ⟨10, _⟩ => ⟨S4x1x1024, .f32⟩
  | .hbm, ⟨11, _⟩ => ⟨S1024, .f32⟩
  | .hbm, ⟨12, _⟩ => ⟨S1024, .f32⟩
  | .hbm, ⟨13, _⟩ => ⟨S4x1x1024, .f32⟩
  | .hbm, ⟨14, _⟩ => ⟨S4x1x1024, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S1x512, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S4x8192x1024, .f32⟩
  | .hbm, ⟨23, _⟩ => ⟨S4x8192x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x1024, .f32⟩
  | .local _ .vmem, ⟨13, _⟩ => ⟨S1x1024x1024, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024x1024, .f32⟩
  | .local _ .vmem, ⟨26, _⟩ => ⟨S1x1024x1024, .f32⟩
  | .local _ .vmem, ⟨27, _⟩ => ⟨S1x1024x1024, .bf16⟩
  | .local _ .vmem, ⟨28, _⟩ => ⟨S1x1024x1024, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S4x8192x512 : Shape := ⟨3, ![4, 8192, 512]⟩
abbrev S4x8192x256 : Shape := ⟨3, ![4, 8192, 256]⟩
abbrev S4x8192x1024 : Shape := ⟨3, ![4, 8192, 1024]⟩
abbrev S8 : Shape := ⟨1, ![8]⟩
abbrev S512 : Shape := ⟨1, ![512]⟩
abbrev S1024x1024 : Shape := ⟨2, ![1024, 1024]⟩
abbrev S4x1x1024 : Shape := ⟨3, ![4, 1, 1024]⟩
abbrev S1024 : Shape := ⟨1, ![1024]⟩
abbrev S4x8192x8x64 : Shape := ⟨4, ![4, 8192, 8, 64]⟩
abbrev S8x1 : Shape := ⟨2, ![8, 1]⟩
abbrev S1x1x8x1 : Shape := ⟨4, ![1, 1, 8, 1]⟩
abbrev S_ : Shape := ⟨0, ![]⟩
abbrev S4x8192x2x256 : Shape := ⟨4, ![4, 8192, 2, 256]⟩
abbrev S4x8192x2 : Shape := ⟨3, ![4, 8192, 2]⟩
abbrev S4x8192x2x1 : Shape := ⟨4, ![4, 8192, 2, 1]⟩
abbrev S1x1x512 : Shape := ⟨3, ![1, 1, 512]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S4x8192x256, .bf16⟩
  | .hbm, ⟨5, _⟩ => ⟨S4x8192x256, .bf16⟩
  | .hbm, ⟨6, _⟩ => ⟨S4x8192x1024, .f32⟩
  | .hbm, ⟨7, _⟩ => ⟨S8, .f32⟩
  | .hbm, ⟨8, _⟩ => ⟨S512, .f32⟩
  | .hbm, ⟨9, _⟩ => ⟨S1024x1024, .f32⟩
  | .hbm, ⟨10, _⟩ => ⟨S4x1x1024, .f32⟩
  | .hbm, ⟨11, _⟩ => ⟨S1024, .f32⟩
  | .hbm, ⟨12, _⟩ => ⟨S1024, .f32⟩
  | .hbm, ⟨13, _⟩ => ⟨S4x1x1024, .f32⟩
  | .hbm, ⟨14, _⟩ => ⟨S4x1x1024, .f32⟩
  | .hbm, ⟨15, _⟩ => ⟨S4x8192x512, .f32⟩
  | .hbm, ⟨16, _⟩ => ⟨S4x8192x8x64, .f32⟩
  | .hbm, ⟨17, _⟩ => ⟨S4x8192x512, .f32⟩
  | .hbm, ⟨18, _⟩ => ⟨S4x8192x8x64, .f32⟩
  | .hbm, ⟨19, _⟩ => ⟨S4x8192x8x64, .f32⟩
  | .hbm, ⟨20, _⟩ => ⟨S4x8192x512, .f32⟩
  | .hbm, ⟨21, _⟩ => ⟨S4x8192x8x64, .f32⟩
  | .hbm, ⟨22, _⟩ => ⟨S4x8192x512, .f32⟩
  | .hbm, ⟨23, _⟩ => ⟨S8x1, .f32⟩
  | .hbm, ⟨24, _⟩ => ⟨S1x1x8x1, .f32⟩
  | .hbm, ⟨25, _⟩ => ⟨S4x8192x8x64, .f32⟩
  | .hbm, ⟨26, _⟩ => ⟨S4x8192x8x64, .f32⟩
  | .hbm, ⟨27, _⟩ => ⟨S4x8192x8x64, .f32⟩
  | .hbm, ⟨28, _⟩ => ⟨S4x8192x512, .f32⟩
  | .hbm, ⟨29, _⟩ => ⟨S4x8192x512, .f32⟩
  | .hbm, ⟨30, _⟩ => ⟨S4x8192x512, .f32⟩
  | .hbm, ⟨31, _⟩ => ⟨S_, .f32⟩
  | .hbm, ⟨32, _⟩ => ⟨S4x8192x512, .f32⟩
  | .hbm, ⟨33, _⟩ => ⟨S4x8192x512, .f32⟩
  | .hbm, ⟨34, _⟩ => ⟨S_, .f32⟩
  | .hbm, ⟨35, _⟩ => ⟨S4x8192x512, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S4x8192x2x256, .f32⟩
  | .hbm, ⟨40, _⟩ => ⟨S4x8192x2x256, .f32⟩
  | .hbm, ⟨41, _⟩ => ⟨S_, .f32⟩
  | .hbm, ⟨42, _⟩ => ⟨S4x8192x2, .f32⟩
  | .hbm, ⟨43, _⟩ => ⟨S4x8192x2x1, .f32⟩
  | .hbm, ⟨44, _⟩ => ⟨S_, .f32⟩
  | .hbm, ⟨45, _⟩ => ⟨S4x8192x2x1, .f32⟩
  | .hbm, ⟨46, _⟩ => ⟨S4x8192x2x1, .f32⟩
  | .hbm, ⟨47, _⟩ => ⟨S_, .f32⟩
  | .hbm, ⟨48, _⟩ => ⟨S4x8192x2x1, .f32⟩
  | .hbm, ⟨49, _⟩ => ⟨S4x8192x2x1, .f32⟩
  | .hbm, ⟨50, _⟩ => ⟨S4x8192x2x1, .f32⟩
  | .hbm, ⟨51, _⟩ => ⟨S4x8192x2x256, .f32⟩
  | .hbm, ⟨52, _⟩ => ⟨S4x8192x2x256, .f32⟩
  | .hbm, ⟨53, _⟩ => ⟨S4x8192x512, .f32⟩
  | .hbm, ⟨54, _⟩ => ⟨S1x1x512, .f32⟩
  | .hbm, ⟨55, _⟩ => ⟨S4x8192x512, .f32⟩
  | .hbm, ⟨56, _⟩ => ⟨S4x8192x512, .f32⟩
  | .hbm, ⟨57, _⟩ => ⟨S4x8192x256, .f32⟩
  | .hbm, ⟨58, _⟩ => ⟨S4x8192x256, .f32⟩
  | .hbm, ⟨59, _⟩ => ⟨S4x8192x1024, .f32⟩
  | .hbm, ⟨60, _⟩ => ⟨S4x8192x1024, .f32⟩
  | .hbm, ⟨61, _⟩ => ⟨S_, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S_, .f32⟩
  | .hbm, ⟨77, _⟩ => ⟨S4x8192, .f32⟩
  | .hbm, ⟨78, _⟩ => ⟨S4x8192x1, .f32⟩
  | .hbm, ⟨79, _⟩ => ⟨S_, .f32⟩
  | .hbm, ⟨80, _⟩ => ⟨S4x8192x1, .f32⟩
  | .hbm, ⟨81, _⟩ => ⟨S4x8192x1, .f32⟩
  | .hbm, ⟨82, _⟩ => ⟨S4x8192x1024, .f32⟩
  | .hbm, ⟨83, _⟩ => ⟨S4x8192x1024, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S4x8192x1, .f32⟩
  | .hbm, ⟨88, _⟩ => ⟨S4x8192x1024, .f32⟩
  | .hbm, ⟨89, _⟩ => ⟨S4x8192x1024, .f32⟩
  | .hbm, ⟨90, _⟩ => ⟨S1x1x1024, .f32⟩
  | .hbm, ⟨91, _⟩ => ⟨S4x8192x1024, .f32⟩
  | .hbm, ⟨92, _⟩ => ⟨S4x8192x1024, .f32⟩
  | .hbm, ⟨93, _⟩ => ⟨S1x1x1024, .f32⟩
  | .hbm, ⟨94, _⟩ => ⟨S4x8192x1024, .f32⟩
  | .hbm, ⟨95, _⟩ => ⟨S4x8192x1024, .f32⟩
  | .hbm, ⟨96, _⟩ => ⟨S_, .f32⟩
  | .hbm, ⟨97, _⟩ => ⟨S4x8192, .f32⟩
  | .hbm, ⟨98, _⟩ => ⟨S4x8192x1, .f32⟩
  | .hbm, ⟨99, _⟩ => ⟨S_, .f32⟩
  | .hbm, ⟨100, _⟩ => ⟨S4x8192x1, .f32⟩
  | .hbm, ⟨101, _⟩ => ⟨S4x8192x1, .f32⟩
  | .hbm, ⟨102, _⟩ => ⟨S4x8192x1024, .f32⟩
  | .hbm, ⟨103, _⟩ => ⟨S4x8192x1024, .f32⟩
  | .hbm, ⟨104, _⟩ => ⟨S4x8192x1024, .f32⟩
  | .hbm, ⟨105, _⟩ => ⟨S_, .f32⟩
  | .hbm, ⟨106, _⟩ => ⟨S4x8192, .f32⟩
  | .hbm, ⟨107, _⟩ => ⟨S4x8192x1, .f32⟩
  | .hbm, ⟨108, _⟩ => ⟨S_, .f32⟩
  | .hbm, ⟨109, _⟩ => ⟨S4x8192x1, .f32⟩
  | .hbm, ⟨110, _⟩ => ⟨S4x8192x1, .f32⟩
  | .hbm, ⟨111, _⟩ => ⟨S4x8192x1024, .f32⟩
  | .hbm, ⟨112, _⟩ => ⟨S4x8192x1024, .f32⟩
  | .hbm, ⟨113, _⟩ => ⟨S_, .f32⟩
  | .hbm, ⟨114, _⟩ => ⟨S4x8192x1, .f32⟩
  | .hbm, ⟨115, _⟩ => ⟨S4x8192x1, .f32⟩
  | .hbm, ⟨116, _⟩ => ⟨S4x8192x1, .f32⟩
  | .hbm, ⟨117, _⟩ => ⟨S4x8192x1024, .f32⟩
  | .hbm, ⟨118, _⟩ => ⟨S4x8192x1024, .f32⟩
  | .hbm, ⟨119, _⟩ => ⟨S_, .f32⟩
  | .hbm, ⟨120, _⟩ => ⟨S4x1x1024, .f32⟩
  | .hbm, ⟨121, _⟩ => ⟨S4x1x1024, .f32⟩
  | .hbm, ⟨122, _⟩ => ⟨S4x8192x1024, .f32⟩
  | .hbm, ⟨123, _⟩ => ⟨S4x8192x1024, .f32⟩
  | .hbm, ⟨124, _⟩ => ⟨S4x8192x1024, .f32⟩
  | .hbm, ⟨125, _⟩ => ⟨S4x8192x1024, .f32⟩
  | .hbm, ⟨126, _⟩ => ⟨S4x8192x1024, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst : Ref sig .tc := ⟨.hbm, 41, rfl⟩
abbrev main_v18 : Ref sig .tc := ⟨.hbm, 42, rfl⟩
abbrev main_v19 : Ref sig .tc := ⟨.hbm, 43, rfl⟩
abbrev main_cst_0 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_cst_4 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_8 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_12 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_13 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S1024x2064 : Shape := ⟨2, ![1024, 2064]⟩
abbrev S3x1024 : Shape := ⟨2, ![3, 1024]⟩
abbrev S1024 : Shape := ⟨1, ![1024]⟩
abbrev S2x8 : Shape := ⟨2, ![2, 8]⟩
abbrev S2x256x256 : Shape := ⟨3, ![2, 256, 256]⟩
abbrev S256x256 : Shape := ⟨2, ![256, 256]⟩
abbrev S1x256 : Shape := ⟨2, ![1, 256]⟩
abbrev S8192x256 : Shape := ⟨2, ![8192, 256]⟩
abbrev S_ : Shape := ⟨0, ![]⟩
abbrev S1024x120 : Shape := ⟨2, ![1024, 120]⟩
abbrev S1024x1536 : Shape := ⟨2, ![1024, 1536]⟩
abbrev S1024x512 : Shape := ⟨2, ![1024, 512]⟩
abbrev S1024x8 : Shape := ⟨2, ![1024, 8]⟩
abbrev S1024x2304 : Shape := ⟨2, ![1024, 2304]⟩
abbrev S1x1024 : Shape := ⟨2, ![1, 1024]⟩
abbrev S2x128 : Shape := ⟨2, ![2, 128]⟩
abbrev S4x8192x512 : Shape := ⟨3, ![4, 8192, 512]⟩
abbrev S4x2x8192x128 : Shape := ⟨4, ![4, 2, 8192, 128]⟩
abbrev S4x2x128x16384 : Shape := ⟨4, ![4, 2, 128, 16384]⟩
abbrev S4x8192x256 : Shape := ⟨3, ![4, 8192, 256]⟩
abbrev S1x1024x1024 : Shape := ⟨3, ![1, 1024, 1024]⟩
abbrev S1x8x1024 : Shape := ⟨3, ![1, 8, 1024]⟩
abbrev S1x1x1024 : Shape := ⟨3, ![1, 1, 1024]⟩
abbrev S1024x256 : Shape := ⟨2, ![1024, 256]⟩
abbrev S1x1024x512 : Shape := ⟨3, ![1, 1024, 512]⟩
abbrev S1x2x1024x128 : Shape := ⟨4, ![1, 2, 1024, 128]⟩
abbrev S1x2x16x16384 : Shape := ⟨4, ![1, 2, 16, 16384]⟩
abbrev S1x1024x256 : Shape := ⟨3, ![1, 1024, 256]⟩
abbrev S8x1024 : Shape := ⟨2, ![8, 1024]⟩
abbrev S1024x1024 : Shape := ⟨2, ![1024, 1024]⟩
abbrev S1040x1024 : Shape := ⟨2, ![1040, 1024]⟩
abbrev S1040 : Shape := ⟨1, ![1040]⟩
abbrev S1040x1 : Shape := ⟨2, ![1040, 1]⟩
abbrev S1040x2304 : Shape := ⟨2, ![1040, 2304]⟩
abbrev S8x1536 : Shape := ⟨2, ![8, 1536]⟩
abbrev S1024x1 : Shape := ⟨2, ![1024, 1]⟩
abbrev S1x128 : Shape := ⟨2, ![1, 128]⟩
abbrev S1024x128 : Shape := ⟨2, ![1024, 128]⟩
abbrev S1x1x1024x128 : Shape := ⟨4, ![1, 1, 1024, 128]⟩
abbrev S1x256x256 : Shape := ⟨3, ![1, 256, 256]⟩
abbrev S16x64x256 : Shape := ⟨3, ![16, 64, 256]⟩
abbrev S16x16384 : Shape := ⟨2, ![16, 16384]⟩
abbrev S1x1x16x16384 : Shape := ⟨4, ![1, 1, 16, 16384]⟩
abbrev S8x256 : Shape := ⟨2, ![8, 256]⟩
abbrev S1040x256 : Shape := ⟨2, ![1040, 256]⟩

abbrev nBuf : Space → Nat
  | .hbm => 34
  | .vmem => 34
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x2064, .f32⟩
  | .hbm, ⟨4, _⟩ => ⟨S3x1024, .f32⟩
  | .hbm, ⟨5, _⟩ => ⟨S1024, .f32⟩
  | .hbm, ⟨6, _⟩ => ⟨S2x8, .f32⟩
  | .hbm, ⟨7, _⟩ => ⟨S2x8, .f32⟩
  | .hbm, ⟨8, _⟩ => ⟨S2x256x256, .bf16⟩
  | .hbm, ⟨9, _⟩ => ⟨S256x256, .bf16⟩
  | .hbm, ⟨10, _⟩ => ⟨S1x256, .f32⟩
  | .hbm, ⟨11, _⟩ => ⟨S8192x256, .f32⟩
  | .hbm, ⟨12, _⟩ => ⟨S_, .f32⟩
  | .hbm, ⟨13, _⟩ => ⟨S1024x120, .f32⟩
  | .hbm, ⟨14, _⟩ => ⟨S1024x1536, .f32⟩
  | .hbm, ⟨15, _⟩ => ⟨S1024x512, .f32⟩
  | .hbm, ⟨16, _⟩ => ⟨S1024x8, .f32⟩
  | .hbm, ⟨17, _⟩ => ⟨S1024x8, .f32⟩
  | .hbm, ⟨18, _⟩ => ⟨S1024x2304, .f32⟩
  | .hbm, ⟨19, _⟩ => ⟨S1024x2304, .bf16⟩
  | .hbm, ⟨20, _⟩ => ⟨S1x1024, .f32⟩
  | .hbm, ⟨21, _⟩ => ⟨S_, .i32⟩
  | .hbm, ⟨22, _⟩ => ⟨S_, .f32⟩
  | .hbm, ⟨23, _⟩ => ⟨S2x128, .f32⟩
  | .hbm, ⟨24, _⟩ => ⟨S_, .i32⟩
  | .hbm, ⟨25, _⟩ => ⟨S_, .f32⟩
  | .hbm, ⟨26, _⟩ => ⟨S2x128, .f32⟩
  | .hbm, ⟨27, _⟩ => ⟨S4x8192x512, .bf16⟩
  | .hbm, ⟨28, _⟩ => ⟨S4x8192x512, .bf16⟩
  | .hbm, ⟨29, _⟩ => ⟨S4x8192x512, .bf16⟩
  | .hbm, ⟨30, _⟩ => ⟨S4x2x8192x128, .f32⟩
  | .hbm, ⟨31, _⟩ => ⟨S4x2x8192x128, .f32⟩
  | .hbm, ⟨32, _⟩ => ⟨S4x2x128x16384, .f32⟩
  | .hbm, ⟨33, _⟩ => ⟨S4x8192x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x2304, .bf16⟩
  | .local _ .vmem, ⟨11, _⟩ => ⟨S3x1024, .f32⟩
  | .local _ .vmem, ⟨12, _⟩ => ⟨S1x1024, .f32⟩
  | .local _ .vmem, ⟨13, _⟩ => ⟨S2x128, .f32⟩
  | .local _ .vmem, ⟨14, _⟩ => ⟨S2x128, .f32⟩
  | .local _ .vmem, ⟨15, _⟩ => ⟨S2x256x256, .bf16⟩
  | .local _ .vmem, ⟨16, _⟩ => ⟨S256x256, .bf16⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x2x1024x128, .f32⟩
  | .local _ .vmem, ⟨27, _⟩ => ⟨S1x2x1024x128, .f32⟩
  | .local _ .vmem, ⟨28, _⟩ => ⟨S1x2x1024x128, .f32⟩
  | .local _ .vmem, ⟨29, _⟩ => ⟨S1x2x1024x128, .f32⟩
  | .local _ .vmem, ⟨30, _⟩ => ⟨S1x2x16x16384, .f32⟩
  | .local _ .vmem, ⟨31, _⟩ => ⟨S1x2x16x16384, .f32⟩
  | .local _ .vmem, ⟨32, _⟩ => ⟨S1x1024x256, .bf16⟩
  | .local _ .vmem, ⟨33, _⟩ => ⟨S1x1024x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_c_0 : Ref sig .tc := ⟨.hbm, 24, rfl⟩
abbrev main_call1_v0 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v10_3 : Ref sig .tc := ⟨.hbm, 30, rfl⟩
abbrev main_v10_4 : Ref sig .tc := ⟨.hbm, 31, rfl⟩
abbrev main_v10_5 : Ref sig .tc := ⟨.hbm, 32, rfl⟩
abbrev main_v10_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x16x16384 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference4Ideal.lean ====
abbrev S4x8192x1024 : Shape := ⟨3, ![4, 8192, 1024]⟩
abbrev S4x1x1024 : Shape := ⟨3, ![4, 1, 1024]⟩
abbrev S1024x2064 : Shape := ⟨2, ![1024, 2064]⟩
abbrev S3x1024 : Shape := ⟨2, ![3, 1024]⟩
abbrev S1024 : Shape := ⟨1, ![1024]⟩
abbrev S2x8 : Shape := ⟨2, ![2, 8]⟩
abbrev S2x256x256 : Shape := ⟨3, ![2, 256, 256]⟩
abbrev S256x256 : Shape := ⟨2, ![256, 256]⟩
abbrev S1x256 : Shape := ⟨2, ![1, 256]⟩
abbrev S8192x256 : Shape := ⟨2, ![8192, 256]⟩
abbrev S_ : Shape := ⟨0, ![]⟩
abbrev S4x8192 : Shape := ⟨2, ![4, 8192]⟩
abbrev S4x8192x1 : Shape := ⟨3, ![4, 8192, 1]⟩
abbrev S4x8192x2064 : Shape := ⟨3, ![4, 8192, 2064]⟩
abbrev S4x8194x1024 : Shape := ⟨3, ![4, 8194, 1024]⟩
abbrev S1x1024 : Shape := ⟨2, ![1, 1024]⟩
abbrev S1x1x1024 : Shape := ⟨3, ![1, 1, 1024]⟩
abbrev S4x8192x16 : Shape := ⟨3, ![4, 8192, 16]⟩
abbrev S4x8192x2x8 : Shape := ⟨4, ![4, 8192, 2, 8]⟩
abbrev S1x1x2x8 : Shape := ⟨4, ![1, 1, 2, 8]⟩
abbrev S4x8192x512 : Shape := ⟨3, ![4, 8192, 512]⟩
abbrev S4x2x8192x8 : Shape := ⟨4, ![4, 2, 8192, 8]⟩
abbrev S4x2x8192x128 : Shape := ⟨4, ![4, 2, 8192, 128]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x2064, .f32⟩
  | .hbm, ⟨4, _⟩ => ⟨S3x1024, .f32⟩
  | .hbm, ⟨5, _⟩ => ⟨S1024, .f32⟩
  | .hbm, ⟨6, _⟩ => ⟨S2x8, .f32⟩
  | .hbm, ⟨7, _⟩ => ⟨S2x8, .f32⟩
  | .hbm, ⟨8, _⟩ => ⟨S2x256x256, .bf16⟩
  | .hbm, ⟨9, _⟩ => ⟨S256x256, .bf16⟩
  | .hbm, ⟨10, _⟩ => ⟨S1x256, .f32⟩
  | .hbm, ⟨11, _⟩ => ⟨S8192x256, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x2064, .f32⟩
  | .hbm, ⟨43, _⟩ => ⟨S4x8192x1024, .f32⟩
  | .hbm, ⟨44, _⟩ => ⟨S_, .i32⟩
  | .hbm, ⟨45, _⟩ => ⟨S_, .f32⟩
  | .hbm, ⟨46, _⟩ => ⟨S4x8194x1024, .f32⟩
  | .hbm, ⟨47, _⟩ => ⟨S4x8192x1024, .f32⟩
  | .hbm, ⟨48, _⟩ => ⟨S1x1024, .f32⟩
  | .hbm, ⟨49, _⟩ => ⟨S1024, .f32⟩
  | .hbm, ⟨50, _⟩ => ⟨S1x1x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S1x1024, .f32⟩
  | .hbm, ⟨55, _⟩ => ⟨S1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S1x1024, .f32⟩
  | .hbm, ⟨62, _⟩ => ⟨S1024, .f32⟩
  | .hbm, ⟨63, _⟩ => ⟨S1x1x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S_, .f32⟩
  | .hbm, ⟨73, _⟩ => ⟨S4x8192x1024, .f32⟩
  | .hbm, ⟨74, _⟩ => ⟨S4x8192x1024, .f32⟩
  | .hbm, ⟨75, _⟩ => ⟨S_, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S4x8192x16, .f32⟩
  | .hbm, ⟨80, _⟩ => ⟨S4x8192x2x8, .f32⟩
  | .hbm, ⟨81, _⟩ => ⟨S1x1x2x8, .f32⟩
  | .hbm, ⟨82, _⟩ => ⟨S4x8192x2x8, .f32⟩
  | .hbm, ⟨83, _⟩ => ⟨S4x8192x2x8, .f32⟩
  | .hbm, ⟨84, _⟩ => ⟨S_, .f32⟩
  | .hbm, ⟨85, _⟩ => ⟨S4x8192x2x8, .f32⟩
  | .hbm, ⟨86, _⟩ => ⟨S4x8192x2x8, .f32⟩
  | .hbm, ⟨87, _⟩ => ⟨S4x8192x2x8, .f32⟩
  | .hbm, ⟨88, _⟩ => ⟨S4x8192x2x8, .f32⟩
  | .hbm, ⟨89, _⟩ => ⟨S4x8192x2x8, .i1⟩
  | .hbm, ⟨90, _⟩ => ⟨S4x8192x2x8, .f32⟩
  | .hbm, ⟨91, _⟩ => ⟨S4x8192x2x8, .f32⟩
  | .hbm, ⟨92, _⟩ => ⟨S4x8192x2x8, .f32⟩
  | .hbm, ⟨93, _⟩ => ⟨S4x8192x2x8, .f32⟩
  | .hbm, ⟨94, _⟩ => ⟨S4x8192x2x8, .f32⟩
  | .hbm, ⟨95, _⟩ => ⟨S4x8192x2x8, .f32⟩
  | .hbm, ⟨96, _⟩ => ⟨S4x8192x2x8, .f32⟩
  | .hbm, ⟨97, _⟩ => ⟨S4x8192x2x8, .f32⟩
  | .hbm, ⟨98, _⟩ => ⟨S2x8, .f32⟩
  | .hbm, ⟨99, _⟩ => ⟨S2x8, .f32⟩
  | .hbm, ⟨100, _⟩ => ⟨S1x1x2x8, .f32⟩
  | .hbm, ⟨101, _⟩ => ⟨S4x8192x2x8, .f32⟩
  | .hbm, ⟨102, _⟩ => ⟨S4x8192x2x8, .f32⟩
  | .hbm, ⟨103, _⟩ => ⟨S4x8192x512, .f32⟩
  | .hbm, ⟨104, _⟩ => ⟨S4x8192x512, .bf16⟩
  | .hbm, ⟨105, _⟩ => ⟨S4x8192x512, .f32⟩
  | .hbm, ⟨106, _⟩ => ⟨S4x8192x512, .bf16⟩
  | .hbm, ⟨107, _⟩ => ⟨S4x8192x512, .f32⟩
  | .hbm, ⟨108, _⟩ => ⟨S4x8192x512, .bf16⟩
  | .hbm, ⟨109, _⟩ => ⟨S4x2x8192x8, .f32⟩
  | .hbm, ⟨110, _⟩ => ⟨S_, .i32⟩
  | .hbm, ⟨111, _⟩ => ⟨S_, .f32⟩
  | .hbm, ⟨112, _⟩ => ⟨S4x2x8192x128, .f32⟩
  | .hbm, ⟨113, _⟩ => ⟨S4x2x8192x8, .f32⟩
  | .hbm, ⟨114, _⟩ => ⟨S_, .i32⟩
  | .hbm, ⟨115, _⟩ => ⟨S_, .f32⟩
  | .hbm, ⟨116, _⟩ => ⟨S4x2x8192x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_call0_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_5 : Ref sig .tc := ⟨.hbm, 110, rfl⟩
abbrev main_call3_v0 : Ref sig .tc := ⟨.hbm, 111, rfl⟩
abbrev main_v69 : Ref sig .tc := ⟨.hbm, 112, rfl⟩
abbrev main_v70 : Ref sig .tc := ⟨.hbm, 113, rfl⟩
abbrev main_c_6 : Ref sig .tc := ⟨.hbm, 114, rfl⟩
abbrev main_call4_v0 : Ref sig .tc := ⟨.hbm, 115, rfl⟩
abbrev main_v71 : Ref sig .tc := ⟨.hbm, 116, rfl⟩

abbrev nD : Nat := 1
abbrev τ : Topo := Topo.v7x

variable {F : FTy → Type} [FloatOps F]
-- ==== Proof.RefSums.lean ====
/- The running sums of the plain program: a sum over a window that ends at the position is the sum over the positions up to it. -/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.Ref

open Idealize.ShloMosaic Idealize.ShloMosaic.TcCoe Cert.ReferenceIdeal Cert.ReferenceIdeal.Gen

/-- A vector of `f32` (over the extended reals). -/
abbrev V32 (s : Shape) := FVec Ideal s .f32

/-- A vector of `bf16` (over the extended reals). -/
abbrev V16 (s : Shape) := FVec Ideal s .bf16

theorem foldl_add_eq_sum (N : ℕ) (g : Fin N → EReal) : (List.finRange N).foldl (fun r n => r + g n) 0 = ∑ n, g n := by
  rw [Fin.sum_univ_def, List.sum_eq_foldl, List.foldl_map]

/-- A window of `N` that ends at `l`, slot by slot, is the positions up to `l`. -/
theorem sum_slots (N : ℕ) (x : Fin N → EReal) (l : Fin N) :
    (∑ s : Fin N, if h : N - 1 ≤ l.val + s.val ∧ l.val + s.val - (N - 1) < N then x ⟨l.val + s.val - (N - 1), h.2⟩ else 0)
      = ∑ k : Fin N, if k ≤ l then x k else 0 := by
  have e : (∑ s : Fin N, if h : N - 1 ≤ l.val + s.val ∧ l.val + s.val - (N - 1) < N then x ⟨l.val + s.val - (N - 1), h.2⟩ else 0)
      = ∑ s ∈ Finset.univ.filter (fun s : Fin N => N - 1 ≤ l.val + s.val), if h : l.val + s.val - (N - 1) < N then x ⟨l.val + s.val - (N - 1), h⟩ else 0 := by
    rw [Finset.sum_filter]
    refine Finset.sum_congr rfl fun s _ => ?_
    by_cases h1 : N - 1 ≤ l.val + s.val
    · by_cases h2 : l.val + s.val - (N - 1) < N
      · rw [dif_pos ⟨h1, h2⟩, if_pos h1, dif_pos h2]
      · rw [dif_neg (fun h => h2 h.2), if_pos h1, dif_neg h2]
    · rw [dif_neg (fun h => h1 h.1), if_neg h1]
  rw [e, ← Finset.sum_filter]
  refine Finset.sum_bij' (fun s _ => (⟨l.val + s.val - (N - 1), by have := l.isLt; have := s.isLt; omega⟩ : Fin N))
    (fun k hk => (⟨k.val + (N - 1) - l.val, by have h : k.val ≤ l.val := (Finset.mem_filter.mp hk).2; have := l.isLt; omega⟩ : Fin N)) ?_ ?_ ?_ ?_ ?_
  · intro s hs
    refine Finset.mem_filter.mpr ⟨Finset.mem_univ _, ?_⟩
    show l.val + s.val - (N - 1) ≤ l.val
    have := s.isLt
    omega
  · intro k hk
    have h : k.val ≤ l.val := (Finset.mem_filter.mp hk).2
    refine Finset.mem_filter.mpr ⟨Finset.mem_univ _, ?_⟩
    show N - 1 ≤ l.val + (k.val + (N - 1) - l.val)
    omega
  · intro s hs
    have h : N - 1 ≤ l.val + s.val := (Finset.mem_filter.mp hs).2
    refine Fin.ext ?_
    show l.val + s.val - (N - 1) + (N - 1) - l.val = s.val
    omega
  · intro k hk
    have h : k.val ≤ l.val := (Finset.mem_filter.mp hk).2
    have := l.isLt
    refine Fin.ext ?_
    show l.val + (k.val + (N - 1) - l.val) - (N - 1) = k.val
    omega
  · intro s hs
    exact dif_pos _

/-- Adding up the slots of a window, in the order of the memory, is the sum over them in any listing. -/
theorem fold_slots {M : ℕ} (W : Shape) (e : Fin M ≃ W.Idx) (g : W.Idx → EReal) :
    (List.finRange W.numel).foldl (fun r n => r + g (W.rowMajor.symm n)) 0 = ∑ k, g (e k) := by
  rw [foldl_add_eq_sum, Equiv.sum_comp W.rowMajor.symm g, Equiv.sum_comp e g]

/-- A sum over windows, slot by slot. -/
theorem window_sum {s t u : Shape} (window strides lo hi : Fin s.rank → ℕ) (x : FVec Ideal s .f32) (init : FVec Ideal u .f32) (h : s.ReduceWindows window strides lo hi t) (hu : 0 < u.numel)
    (h0 : init (Shape.Idx.first hu) = (0 : EReal)) {M : ℕ} (e : Fin M ≃ (⟨s.rank, window⟩ : Shape).Idx) (j : t.Idx) :
    Host.reduceWindowAdd window strides lo hi x init h hu j
      = ∑ k : Fin M, if hin : ∀ a, lo a ≤ (j (a.cast h.1.symm)).val * strides a + (e k a).val ∧ (j (a.cast h.1.symm)).val * strides a + (e k a).val - lo a < s.size a
          then x (fun a => ⟨(j (a.cast h.1.symm)).val * strides a + (e k a).val - lo a, (hin a).2⟩) else (0 : EReal) := by
  change Host.reduceWindow (fun x y : EReal => x + y) window strides lo hi x (fun _ => init (Shape.Idx.first hu)) h hu j = _
  rw [h0]
  unfold Host.reduceWindow
  dsimp only
  convert fold_slots ⟨s.rank, window⟩ e (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal))

/-- The slots of a window that is one wide but for its last axis. -/
def slots4 : Fin 128 ≃ (⟨4, ![1, 1, 1, 128]⟩ : Shape).Idx where
  toFun k := ix4 0 0 0 k
  invFun i := i 3
  left_inv k := rfl
  right_inv i := by
    funext a
    fin_cases a
    · exact Subsingleton.elim (α := Fin 1) _ _
    · exact Subsingleton.elim (α := Fin 1) _ _
    · exact Subsingleton.elim (α := Fin 1) _ _
    · rfl

def slots3 : Fin 65 ≃ (⟨3, ![1, 1, 65]⟩ : Shape).Idx where
  toFun k := ix3 0 0 k
  invFun i := i 2
  left_inv k := rfl
  right_inv i := by
    funext a
    fin_cases a
    · exact Subsingleton.elim (α := Fin 1) _ _
    · exact Subsingleton.elim (α := Fin 1) _ _
    · rfl

/-- The running sums within a chunk. -/
def cum4 (a : V32 S4x8x64x128) : V32 S4x8x64x128 :=
  Host.reduceWindowAdd ![1, 1, 1, 128] ![1, 1, 1, 1] ![0, 0, 0, 127] ![0, 0, 0, 0] a (broadcastInDim S_ ![] bcast_S_S_ (constant S_ .f32 0x00000000#32))
    reduceWindows_S4x8x64x128_S4x8x64x128_w1s1p0_0_w1s1p0_0_w1s1p0_0_w128s1p127_0 h_S_

/-- The running sums over the boundaries. -/
def cum3 (a : V32 S4x8x65) : V32 S4x8x65 :=
  Host.reduceWindowAdd ![1, 1, 65] ![1, 1, 1] ![0, 0, 64] ![0, 0, 0] a (broadcastInDim S_ ![] bcast_S_S_ (constant S_ .f32 0x00000000#32))
    reduceWindows_S4x8x65_S4x8x65_w1s1p0_0_w1s1p0_0_w65s1p64_0 h_S_

theorem cum4_val (a : V32 S4x8x64x128) (b : Fin 4) (h : Fin 8) (z : Fin 64) (l : Fin 128) :
    cum4 a (ix4 b h z l) = ∑ k : Fin 128, if k ≤ l then a (ix4 b h z k) else 0 := by
  rw [← sum_slots 128 (fun k => a (ix4 b h z k)) l]
  unfold cum4
  refine (window_sum _ _ _ _ a _ _ h_S_ Ideal.ofBits_zero_f32 slots4 _).trans ?_
  refine Finset.sum_congr rfl fun s _ => ?_
  have hb := b.isLt
  have hh := h.isLt
  have hz := z.isLt
  by_cases c : 128 - 1 ≤ l.val + s.val ∧ l.val + s.val - (128 - 1) < 128
  · rw [dif_pos c, dif_pos]
    · refine congrArg a (funext fun d => Fin.ext ?_)
      match d with
      | ⟨0, _⟩ => show b.val * 1 + 0 - 0 = b.val; omega
      | ⟨1, _⟩ => show h.val * 1 + 0 - 0 = h.val; omega
      | ⟨2, _⟩ => show z.val * 1 + 0 - 0 = z.val; omega
      | ⟨3, _⟩ => show l.val * 1 + s.val - 127 = l.val + s.val - (128 - 1); omega
    · intro d
      match d with
      | ⟨0, _⟩ => show 0 ≤ b.val * 1 + 0 ∧ b.val * 1 + 0 - 0 < 4; omega
      | ⟨1, _⟩ => show 0 ≤ h.val * 1 + 0 ∧ h.val * 1 + 0 - 0 < 8; omega
      | ⟨2, _⟩ => show 0 ≤ z.val * 1 + 0 ∧ z.val * 1 + 0 - 0 < 64; omega
      | ⟨3, _⟩ => show 127 ≤ l.val * 1 + s.val ∧ l.val * 1 + s.val - 127 < 128; omega
  · rw [dif_neg c, dif_neg]
    intro hin
    have h3 : 127 ≤ l.val * 1 + s.val ∧ l.val * 1 + s.val - 127 < 128 := hin 3
    omega

theorem cum3_val (a : V32 S4x8x65) (b : Fin 4) (h : Fin 8) (z : Fin 65) :
    cum3 a (ix3 b h z) = ∑ k : Fin 65, if k ≤ z then a (ix3 b h k) else 0 := by
  rw [← sum_slots 65 (fun k => a (ix3 b h k)) z]
  unfold cum3
  refine (window_sum _ _ _ _ a _ _ h_S_ Ideal.ofBits_zero_f32 slots3 _).trans ?_
  refine Finset.sum_congr rfl fun s _ => ?_
  have hb := b.isLt
  have hh := h.isLt
  by_cases c : 65 - 1 ≤ z.val + s.val ∧ z.val + s.val - (65 - 1) < 65
  · rw [dif_pos c, dif_pos]
    · refine congrArg a (funext fun d => Fin.ext ?_)
      match d with
      | ⟨0, _⟩ => show b.val * 1 + 0 - 0 = b.val; omega
      | ⟨1, _⟩ => show h.val * 1 + 0 - 0 = h.val; omega
      | ⟨2, _⟩ => show z.val * 1 + s.val - 64 = z.val + s.val - (65 - 1); omega
    · intro d
      match d with
      | ⟨0, _⟩ => show 0 ≤ b.val * 1 + 0 ∧ b.val * 1 + 0 - 0 < 4; omega
      | ⟨1, _⟩ => show 0 ≤ h.val * 1 + 0 ∧ h.val * 1 + 0 - 0 < 8; omega
      | ⟨2, _⟩ => show 64 ≤ z.val * 1 + s.val ∧ z.val * 1 + s.val - 64 < 65; omega
  · rw [dif_neg c, dif_neg]
    intro hin
    have h3 : 64 ≤ z.val * 1 + s.val ∧ z.val * 1 + s.val - 64 < 65 := hin 2
    omega

end Cert.Ref

end
-- ==== Proof.RefOps.lean ====
/- The plain program's steps on one direction's data, read at coordinates: what a chunk adds to the state, the states at the chunk boundaries, the
   outputs. -/
module

public import proofs.«01_k».proof.Proof.RefSums
public import Idealize.ShloMosaic.Lib.WordCmp

@[expose] public section

set_option maxRecDepth 16384

noncomputable section

namespace Cert.Ref

open Idealize.ShloMosaic Idealize.ShloMosaic.TcCoe Cert.ReferenceIdeal Cert.ReferenceIdeal.Gen

/-- The last running sum of each chunk. -/
def ends (s : V32 S4x8x64x128) : V32 S4x8x64x1 := extractStridedSlice S4x8x64x1 ![0, 0, 0, 127] s slices_S4x8x64x128_S4x8x64x1_0_0_0_127

/-- What each chunk adds to the state. -/
def gains (X : V32 S4x64x128x8x64) (B : V32 S4x64x128x8x128) (s : V32 S4x8x64x128) : V32 S4x64x8x64x128 :=
  Host.dotGeneral dot_S4x64x128x8x64_S4x64x128x8x128_S4x64x8x64x128_2_2_4_4_013_013 none (mulf X (broadcastInDim S4x64x128x8x64 ![0, 1, 2, 3, 4] bcast_S4x64x128x8x1_S4x64x128x8x64_0_1_2_3_4 (broadcastInDim S4x64x128x8x1 ![0, 1, 2, 3] bcast_S4x64x128x8_S4x64x128x8x1_0_1_2_3 (transpose S4x64x128x8 [0, 2, 3, 1] (Host.exp (subf (broadcastInDim S4x8x64x128 ![0, 1, 2, 3] bcast_S4x8x64x1_S4x8x64x128_0_1_2_3 (ends s)) s)) transposes_S4x8x64x128_S4x64x128x8_0_2_3_1)))) B

theorem gains_val (X : V32 S4x64x128x8x64) (B : V32 S4x64x128x8x128) (s : V32 S4x8x64x128) (b : Fin 4) (z : Fin 64) (h : Fin 8) (p : Fin 64) (n : Fin 128) :
    gains X B s (ix5 b z h p n) = ∑ l : Fin 128, X (ix5 b z l h p) * Ideal.exp (s (ix4 b h z 127) - s (ix4 b h z l)) * B (ix5 b z l h n) := by
  pointwise [gains, ends]

/-- The running sums over the chunks, with a zero before the first. -/
def bounds (s : V32 S4x8x64x128) : V32 S4x8x65 :=
  cum3 (pad S4x8x65 ![0, 0, 1] ![0, 0, 0] ![0, 0, 0] (shapeCast _ (ends s) shapeCasts_S4x8x64x1_S4x8x64) (sitofp .f32 (constantI S_ 32 0#32)) pads_S4x8x64_S4x8x65_000_000_100 h_S_)

theorem bounds_val (s : V32 S4x8x64x128) (b : Fin 4) (h : Fin 8) (c : Fin 65) :
    bounds s (ix3 b h c) = ∑ k : Fin 65, if k ≤ c then (if k.val < 1 then (0 : EReal) else s (ix4 b h ⟨k.val - 1, by omega⟩ 127)) else 0 := by
  unfold bounds
  rw [cum3_val]
  refine Finset.sum_congr rfl fun k _ => ?_
  congr 1
  pointwise [ends]
  by_cases h1 : k.val < 1
  · rw [dif_neg (fun h => by omega), if_pos h1]
    show ((((0#32 : BitVec 32).toInt : ℤ) : ℝ) : EReal) = 0
    simp
  · rw [dif_pos ⟨by omega, by omega⟩, if_neg h1]

/-- The lower triangle. -/
def tri65 : IVec S65x65 1 := select (cmpi .sge (addi (iotaInDim S65x65 32 0) (broadcastInDim S65x65 ![] bcast_S_S65x65 (constantI S_ 32 0#32))) (iotaInDim S65x65 32 1)) (broadcastInDim S65x65 ![] bcast_S_S65x65 (constantI S_ 1 1#1)) (broadcastInDim S65x65 ![] bcast_S_S65x65 (constantI S_ 1 0#1))

def tri128 : IVec S128x128 1 := select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))

theorem tri65_val (z c : Fin 65) : tri65 (ix2 z c) = if c ≤ z then 1#1 else 0#1 := by
  pointwise [tri65]
  rw [show IntOp.addi (BitVec.ofNat 32 z.val) 0#32 = BitVec.ofNat 32 z.val from BitVec.add_zero _, WordCmp.cmpi_sge_ofNat (by omega) (by omega), WordCmp.select_decide]
  rfl

theorem tri128_val (z c : Fin 128) : tri128 (ix2 z c) = if c ≤ z then 1#1 else 0#1 := by
  pointwise [tri128]
  rw [show IntOp.addi (BitVec.ofNat 32 z.val) 0#32 = BitVec.ofNat 32 z.val from BitVec.add_zero _, WordCmp.cmpi_sge_ofNat (by omega) (by omega), WordCmp.select_decide]
  rfl

theorem neg_inf : Ideal.ofBits .f32 0xFF800000#32 = (⊥ : EReal) := by
  simp [Ideal.ofBits, Ideal.ieee]

/-- The decay from one boundary to another. -/
def decay (P : V32 S4x8x65) : V32 S4x8x65x65 :=
  Host.exp (select (broadcastInDim S4x8x65x65 ![2, 3] bcast_S65x65_S4x8x65x65_2_3 tri65) (subf (broadcastInDim S4x8x65x65 ![0, 1, 2, 3] bcast_S4x8x65x1_S4x8x65x65_0_1_2_3 (broadcastInDim S4x8x65x1 ![0, 1, 2] bcast_S4x8x65_S4x8x65x1_0_1_2 P)) (broadcastInDim S4x8x65x65 ![0, 1, 2, 3] bcast_S4x8x1x65_S4x8x65x65_0_1_2_3 (broadcastInDim S4x8x1x65 ![0, 1, 3] bcast_S4x8x65_S4x8x1x65_0_1_3 P))) (broadcastInDim S4x8x65x65 ![] bcast_S_S4x8x65x65 (id (constant S_ .f32 0xFF800000#32))))

theorem decay_val (P : V32 S4x8x65) (b : Fin 4) (h : Fin 8) (z c : Fin 65) :
    decay P (ix4 b h z c) = Ideal.exp (if c ≤ z then P (ix3 b h z) - P (ix3 b h c) else ⊥) := by
  pointwise [decay]
  rw [tri65_val]
  split
  · rfl
  · exact congrArg Ideal.exp neg_inf

/-- The decay from one position of a chunk to another. -/
def decayIn (s : V32 S4x8x64x128) : V32 S4x8x64x128x128 :=
  Host.exp (select (broadcastInDim S4x8x64x128x128 ![3, 4] bcast_S128x128_S4x8x64x128x128_3_4 tri128) (subf (broadcastInDim S4x8x64x128x128 ![0, 1, 2, 3, 4] bcast_S4x8x64x128x1_S4x8x64x128x128_0_1_2_3_4 (broadcastInDim S4x8x64x128x1 ![0, 1, 2, 3] bcast_S4x8x64x128_S4x8x64x128x1_0_1_2_3 s)) (broadcastInDim S4x8x64x128x128 ![0, 1, 2, 3, 4] bcast_S4x8x64x1x128_S4x8x64x128x128_0_1_2_3_4 (broadcastInDim S4x8x64x1x128 ![0, 1, 2, 4] bcast_S4x8x64x128_S4x8x64x1x128_0_1_2_4 s))) (broadcastInDim S4x8x64x128x128 ![] bcast_S_S4x8x64x128x128 (id (constant S_ .f32 0xFF800000#32))))

theorem decayIn_val (s : V32 S4x8x64x128) (b : Fin 4) (h : Fin 8) (z : Fin 64) (l k : Fin 128) :
    decayIn s (ix5 b h z l k) = Ideal.exp (if k ≤ l then s (ix4 b h z l) - s (ix4 b h z k) else ⊥) := by
  pointwise [decayIn]
  rw [tri128_val]
  split
  · rfl
  · exact congrArg Ideal.exp neg_inf

/-- The initial state and the chunks' gains, one after another. -/
def parts (S0 : V32 S4x8x64x128) (G : V32 S4x64x8x64x128) : V32 S4x65x8x64x128 :=
  concatenate S4x65x8x64x128 1 [⟨S4x1x8x64x128, (broadcastInDim S4x1x8x64x128 ![0, 2, 3, 4] bcast_S4x8x64x128_S4x1x8x64x128_0_2_3_4 S0)⟩, ⟨S4x64x8x64x128, G⟩] concatenates_S4x1x8x64x128_S4x64x8x64x128_S4x65x8x64x128_d1

theorem parts_val (S0 : V32 S4x8x64x128) (G : V32 S4x64x8x64x128) (b : Fin 4) (c : Fin 65) (h : Fin 8) (p : Fin 64) (n : Fin 128) :
    parts S0 G (ix5 b c h p n) = if hc : c.val < 1 then S0 (ix4 b h p n) else G (ix5 b ⟨c.val - 1, by omega⟩ h p n) := by
  pointwise [parts]

/-- The states at the boundaries. -/
def states (Q : V32 S4x65x8x64x128) (W : V32 S4x8x65x65) : V32 S4x65x8x64x128 :=
  transpose S4x65x8x64x128 [0, 4, 1, 2, 3] (Host.dotGeneral dot_S4x65x8x64x128_S4x8x65x65_S4x8x64x128x65_1_3_34_2_02_01 none Q W) transposes_S4x8x64x128x65_S4x65x8x64x128_0_4_1_2_3

theorem states_val (Q : V32 S4x65x8x64x128) (W : V32 S4x8x65x65) (b : Fin 4) (z : Fin 65) (h : Fin 8) (p : Fin 64) (n : Fin 128) :
    states Q W (ix5 b z h p n) = ∑ c : Fin 65, Q (ix5 b c h p n) * W (ix4 b h z c) := by
  pointwise [states]

/-- The outputs from within the chunk. -/
def inner (X : V32 S4x64x128x8x64) (B C : V32 S4x64x128x8x128) (W : V32 S4x8x64x128x128) : V32 S4x64x128x8x64 :=
  transpose S4x64x128x8x64 [0, 1, 4, 2, 3] (Host.dotGeneral dot_S4x64x128x8x64_S4x8x64x128x128_S4x64x8x64x128_2_4_4_3_013_021 none X (mulf (Host.dotGeneral dot_S4x64x128x8x128_S4x64x128x8x128_S4x8x64x128x128_4_4_2_2_031_031 none C B) W)) transposes_S4x64x8x64x128_S4x64x128x8x64_0_1_4_2_3

theorem inner_val (X : V32 S4x64x128x8x64) (B C : V32 S4x64x128x8x128) (W : V32 S4x8x64x128x128) (b : Fin 4) (z : Fin 64) (l : Fin 128) (h : Fin 8) (p : Fin 64) :
    inner X B C W (ix5 b z l h p) = ∑ k : Fin 128, X (ix5 b z k h p) * ((∑ n : Fin 128, C (ix5 b z l h n) * B (ix5 b z k h n)) * W (ix5 b h z l k)) := by
  pointwise [inner]

/-- The outputs from the state before the chunk. -/
def outer (C : V32 S4x64x128x8x128) (S : V32 S4x65x8x64x128) (s : V32 S4x8x64x128) : V32 S4x64x128x8x64 :=
  mulf (transpose S4x64x128x8x64 [0, 1, 4, 2, 3] (Host.dotGeneral dot_S4x64x8x64x128_S4x64x128x8x128_S4x64x8x64x128_4_4_3_2_012_013 none (extractStridedSlice S4x64x8x64x128 ![0, 0, 0, 0, 0] S slices_S4x65x8x64x128_S4x64x8x64x128_0_0_0_0_0) C) transposes_S4x64x8x64x128_S4x64x128x8x64_0_1_4_2_3) (broadcastInDim S4x64x128x8x64 ![0, 1, 2, 3, 4] bcast_S4x64x128x8x1_S4x64x128x8x64_0_1_2_3_4 (broadcastInDim S4x64x128x8x1 ![0, 1, 2, 3] bcast_S4x64x128x8_S4x64x128x8x1_0_1_2_3 (transpose S4x64x128x8 [0, 2, 3, 1] (Host.exp s) transposes_S4x8x64x128_S4x64x128x8_0_2_3_1)))

theorem outer_val (C : V32 S4x64x128x8x128) (S : V32 S4x65x8x64x128) (s : V32 S4x8x64x128) (b : Fin 4) (z : Fin 64) (l : Fin 128) (h : Fin 8) (p : Fin 64) :
    outer C S s (ix5 b z l h p) = (∑ n : Fin 128, S (ix5 b (z.castLE (by decide)) h p n) * C (ix5 b z l h n)) * Ideal.exp (s (ix4 b h z l)) := by
  pointwise [outer]
  rfl

end Cert.Ref

end
-- ==== Proof.Scan.lean ====
/- The scan of one head of one direction over the extended reals: the chunk recurrence as scalars, its closed
   form as the weighted sum over all earlier chunks, and the same recurrence with the positions of a chunk
   renumbered (the reversed direction visits them from the last to the first). -/
module

public import Idealize.ShloMosaic.PureOps.Ideal

@[expose] public section

noncomputable section

namespace Cert.Scan

open Idealize.ShloMosaic

/-- The running sum of chunk `z`'s decays up to and including position `l`. -/
def cum (a : ℕ → Fin 128 → EReal) (z : ℕ) (l : Fin 128) : EReal := ∑ k, if k ≤ l then a z k else 0

/-- What chunk `z` adds to column `n` of the state. -/
def gain (a X : ℕ → Fin 128 → EReal) (B : ℕ → Fin 128 → Fin 128 → EReal) (z : ℕ) (n : Fin 128) : EReal :=
  ∑ l, B z l n * (X z l * Ideal.exp (cum a z 127 - cum a z l))

/-- The state before chunk `z`. -/
def state (a X : ℕ → Fin 128 → EReal) (B : ℕ → Fin 128 → Fin 128 → EReal) (S0 : Fin 128 → EReal) :
    ℕ → Fin 128 → EReal
  | 0, n => S0 n
  | z + 1, n => state a X B S0 z n * Ideal.exp (cum a z 127) + gain a X B z n

/-- The output at position `l` of chunk `z` from the state before it. -/
def out (a X : ℕ → Fin 128 → EReal) (B C : ℕ → Fin 128 → Fin 128 → EReal) (St : Fin 128 → EReal) (z : ℕ)
    (l : Fin 128) : EReal :=
  (∑ s, ((∑ n, C z l n * B z s n) * (if s ≤ l then Ideal.exp (cum a z l - cum a z s) else 0)) * X z s)
    + (∑ n, C z l n * St n) * Ideal.exp (cum a z l)

/-- The boundary sums: what has decayed in the chunks before boundary `c`. -/
def bound (a : ℕ → Fin 128 → EReal) (c : Fin 65) : EReal :=
  ∑ k : Fin 65, if k ≤ c then (if k.val < 1 then 0 else cum a (k.val - 1) 127) else 0

/-- The summand of boundary `c`: the initial state, or what chunk `c - 1` adds. -/
def part (a X : ℕ → Fin 128 → EReal) (B : ℕ → Fin 128 → Fin 128 → EReal) (S0 : Fin 128 → EReal) (c : Fin 65)
    (n : Fin 128) : EReal :=
  if c.val < 1 then S0 n else gain a X B (c.val - 1) n

theorem sum_le_eq_range {M : Type} [AddCommMonoid M] (N : ℕ) (z : ℕ) (hz : z < N) (f : ℕ → M) :
    (∑ k : Fin N, if k.val ≤ z then f k.val else 0) = ∑ k ∈ Finset.range (z + 1), f k := by
  rw [Fin.sum_univ_eq_sum_range (fun k => if k ≤ z then f k else 0) N, ← Finset.sum_filter]
  refine Finset.sum_congr ?_ fun _ _ => rfl
  ext k
  simp only [Finset.mem_filter, Finset.mem_range]
  omega

theorem sum_mul_exp (N : ℕ) (f : ℕ → EReal) (r : ℝ) :
    (∑ k ∈ Finset.range N, f k) * Ideal.exp (r : EReal) = ∑ k ∈ Finset.range N, f k * Ideal.exp (r : EReal) := by
  induction N with
  | zero => simp
  | succ N ih =>
    rw [Finset.sum_range_succ, Finset.sum_range_succ, ← ih, Ideal.exp_coe]
    exact EReal.right_distrib_of_nonneg_of_ne_top (by exact_mod_cast (Real.exp_pos r).le) (EReal.coe_ne_top _) _ _

/-- The running sums of finite decays are finite. -/
theorem cum_coe (r : ℕ → Fin 128 → ℝ) (z : ℕ) (l : Fin 128) :
    cum (fun z k => (r z k : EReal)) z l = ((∑ k, if k ≤ l then r z k else 0 : ℝ) : EReal) := by
  unfold cum
  induction (Finset.univ : Finset (Fin 128)) using Finset.induction_on with
  | empty => simp
  | insert k s hk ih =>
    rw [Finset.sum_insert hk, Finset.sum_insert hk, ih, EReal.coe_add]
    congr 1
    split <;> simp

theorem exists_coe (a : ℕ → Fin 128 → EReal) (ha : ∀ z k, a z k ≠ ⊥ ∧ a z k ≠ ⊤) :
    ∃ r : ℕ → Fin 128 → ℝ, a = fun z k => (r z k : EReal) :=
  ⟨fun z k => (a z k).toReal, funext fun z => funext fun k => (EReal.coe_toReal (ha z k).2 (ha z k).1).symm⟩

/-- The state before chunk `z` is the sum over the boundaries up to `z` of what entered there, decayed since. -/
theorem state_eq_sum (a X : ℕ → Fin 128 → EReal) (B : ℕ → Fin 128 → Fin 128 → EReal) (S0 : Fin 128 → EReal)
    (ha : ∀ z k, a z k ≠ ⊥ ∧ a z k ≠ ⊤) (z : Fin 65) (n : Fin 128) :
    (∑ c : Fin 65, part a X B S0 c n * Ideal.exp (if c ≤ z then bound a z - bound a c else ⊥))
      = state a X B S0 z.val n := by
  obtain ⟨r, rfl⟩ := exists_coe a ha
  -- the chunks' totals and the boundaries as real numbers
  let T : ℕ → ℝ := fun z => ∑ k, if k ≤ (127 : Fin 128) then r z k else 0
  let b : ℕ → ℝ := fun c => ∑ k ∈ Finset.range (c + 1), if k < 1 then 0 else T (k - 1)
  have hT : ∀ z, cum (fun z k => (r z k : EReal)) z 127 = (T z : EReal) := fun z => cum_coe r z 127
  have hb : ∀ c : Fin 65, bound (fun z k => (r z k : EReal)) c = (b c.val : EReal) := by
    intro c
    have h1 : bound (fun z k => (r z k : EReal)) c
        = ∑ k : Fin 65, if k.val ≤ c.val then (if k.val < 1 then 0 else (T (k.val - 1) : EReal)) else 0 :=
      Finset.sum_congr rfl fun k _ => by simp only [hT, Fin.le_def]
    rw [h1, sum_le_eq_range 65 c.val c.isLt (fun k => if k < 1 then 0 else (T (k - 1) : EReal))]
    show _ = ((∑ k ∈ Finset.range (c.val + 1), if k < 1 then 0 else T (k - 1) : ℝ) : EReal)
    induction (c.val + 1) with
    | zero => simp
    | succ N ih =>
      rw [Finset.sum_range_succ, Finset.sum_range_succ, ih, EReal.coe_add]
      congr 1
      split <;> simp
  let p : ℕ → EReal := fun c => if c < 1 then S0 n else gain (fun z k => (r z k : EReal)) X B (c - 1) n
  have hsum : ∀ z : Fin 65,
      (∑ c : Fin 65, part (fun z k => (r z k : EReal)) X B S0 c n
          * Ideal.exp (if c ≤ z then bound (fun z k => (r z k : EReal)) z - bound (fun z k => (r z k : EReal)) c else ⊥))
        = ∑ c ∈ Finset.range (z.val + 1), p c * Ideal.exp ((b z.val - b c : ℝ) : EReal) := by
    intro z
    rw [← sum_le_eq_range 65 z.val z.isLt (fun c => p c * Ideal.exp ((b z.val - b c : ℝ) : EReal))]
    refine Finset.sum_congr rfl fun c _ => ?_
    by_cases h : c ≤ z
    · rw [if_pos h, if_pos (Fin.le_def.mp h), hb, hb, EReal.coe_sub]
      rfl
    · rw [if_neg h, if_neg (fun h' => h (Fin.le_def.mpr h')), Ideal.exp_bot, mul_zero]
  rw [hsum z]
  obtain ⟨z, hz⟩ := z
  show (∑ c ∈ Finset.range (z + 1), p c * Ideal.exp ((b z - b c : ℝ) : EReal)) = state _ X B S0 z n
  clear hsum hz hb
  induction z with
  | zero =>
    simp only [zero_add, Finset.sum_range_one, sub_self, Ideal.exp_coe, Real.exp_zero, EReal.coe_one, mul_one]
    rfl
  | succ z ih =>
    have hbs : b (z + 1) = b z + T z := by
      show (∑ k ∈ Finset.range (z + 1 + 1), if k < 1 then 0 else T (k - 1)) = _
      rw [Finset.sum_range_succ]
      congr 1
    rw [Finset.sum_range_succ, sub_self]
    show _ = state _ X B S0 z n * Ideal.exp (cum _ z 127) + gain _ X B z n
    rw [← ih, hT, sum_mul_exp]
    congr 1
    · refine Finset.sum_congr rfl fun c _ => ?_
      have : b (z + 1) - b c = (b z - b c) + T z := by rw [hbs]; ring
      rw [this, mul_assoc, Ideal.exp_coe, Ideal.exp_coe, Ideal.exp_coe, Real.exp_add, EReal.coe_mul]
    · simp only [Ideal.exp_coe, Real.exp_zero, EReal.coe_one, mul_one]
      show (if z + 1 < 1 then S0 n else gain _ X B (z + 1 - 1) n) = _
      rw [if_neg (by omega), Nat.add_sub_cancel]

/-- With nonpositive decays a running sum only falls. -/
theorem cum_sub_le (a : ℕ → Fin 128 → EReal) (ha : ∀ z k, a z k ≠ ⊥ ∧ a z k ≠ ⊤) (h0 : ∀ z k, a z k ≤ 0) (z : ℕ)
    {s l : Fin 128} (h : s ≤ l) : min (cum a z l - cum a z s) 0 = cum a z l - cum a z s := by
  obtain ⟨r, rfl⟩ := exists_coe a ha
  rw [cum_coe, cum_coe, ← EReal.coe_sub]
  refine min_eq_left ?_
  rw [← EReal.coe_zero, EReal.coe_le_coe_iff, sub_nonpos]
  refine Finset.sum_le_sum fun k _ => ?_
  have hk : r z k ≤ 0 := EReal.coe_nonpos.mp (h0 z k)
  by_cases h1 : k ≤ s
  · rw [if_pos (h1.trans h), if_pos h1]
  · rw [if_neg h1]
    split
    · exact hk
    · exact le_refl _

theorem cum_finite (a : ℕ → Fin 128 → EReal) (ha : ∀ z k, a z k ≠ ⊥ ∧ a z k ≠ ⊤) (z : ℕ) (l : Fin 128) :
    cum a z l ≠ ⊥ ∧ cum a z l ≠ ⊤ := by
  obtain ⟨r, rfl⟩ := exists_coe a ha
  rw [cum_coe]
  exact ⟨EReal.coe_ne_bot _, EReal.coe_ne_top _⟩

end Cert.Scan

end
-- ==== Proof.Job.lean ====
/-
One scan of the layer: a batch row, a direction and a lane, read off the arguments.
-/
module

public import proofs.«01_k».proof.Proof.Scan

@[expose] public section

noncomputable section

namespace Cert.Scan

open Idealize.ShloMosaic

/-- The decays, values, `B`, `C` and initial state of one lane, chunk by chunk in the order of the scan. -/
structure Job where
  a : ℕ → Fin 128 → EReal
  X : ℕ → Fin 128 → EReal
  B : ℕ → Fin 128 → Fin 128 → EReal
  C : ℕ → Fin 128 → Fin 128 → EReal
  S0 : Fin 128 → EReal

/-- The state before chunk `z`. -/
def Job.st (J : Job) (z : ℕ) : Fin 128 → EReal := state J.a J.X J.B J.S0 z

/-- The output at position `l` of chunk `z`. -/
def Job.y (J : Job) (z : ℕ) (l : Fin 128) : EReal := out J.a J.X J.B J.C (J.st z) z l

/-- `J` is `K` from chunk `u` on, for eight chunks. -/
structure Job.Part (J K : Job) (u : ℕ) : Prop where
  a : ∀ j, j < 8 → J.a j = K.a (u + j)
  X : ∀ j, j < 8 → J.X j = K.X (u + j)
  B : ∀ j, j < 8 → J.B j = K.B (u + j)
  C : ∀ j, j < 8 → J.C j = K.C (u + j)
  S0 : J.S0 = K.st u

theorem cum_congr {a a' : ℕ → Fin 128 → EReal} {z z' : ℕ} (h : a z = a' z') (l : Fin 128) : cum a z l = cum a' z' l := by
  unfold cum; rw [h]

theorem Job.Part.st {J K : Job} {u : ℕ} (p : J.Part K u) : ∀ j, j ≤ 8 → J.st j = K.st (u + j)
  | 0, _ => p.S0
  | j + 1, h => by
    have ih := p.st j (by omega)
    funext n
    show J.st j n * Ideal.exp (cum J.a j 127) + gain J.a J.X J.B j n
      = K.st (u + j) n * Ideal.exp (cum K.a (u + j) 127) + gain K.a K.X K.B (u + j) n
    unfold gain
    rw [ih, p.X j (by omega), p.B j (by omega)]
    simp only [cum_congr (p.a j (by omega))]

theorem Job.Part.y {J K : Job} {u : ℕ} (p : J.Part K u) (j : ℕ) (h : j < 8) (l : Fin 128) : J.y j l = K.y (u + j) l := by
  unfold Job.y out
  rw [p.st j (by omega), p.X j h, p.B j h, p.C j h]
  simp only [cum_congr (p.a j h)]

/-- The token at position `k` of chunk `z`, in the order of direction `d`. -/
def tok (d : Fin 2) (z : ℕ) (k : Fin 128) : Fin 8192 :=
  if d = 0 then ⟨z % 64 * 128 + k.val, by omega⟩ else ⟨8191 - (z % 64 * 128 + k.val), by omega⟩

/-- The arguments, by coordinates; `ini d` is the initial state of direction `d`. -/
structure Args where
  xs : Fin 4 → Fin 8192 → Fin 512 → EReal
  bm : Fin 4 → Fin 8192 → Fin 256 → EReal
  cm : Fin 4 → Fin 8192 → Fin 256 → EReal
  dt : Fin 4 → Fin 8192 → Fin 2 → Fin 8 → EReal
  dA : Fin 4 → Fin 8192 → Fin 2 → Fin 8 → EReal
  ini : Fin 2 → Fin 4 → Fin 8 → Fin 64 → Fin 128 → EReal

/-- Finite step sizes, finite decays, and no decay above zero. -/
structure Args.Fine (g : Args) : Prop where
  dt : ∀ b t d h, g.dt b t d h ≠ ⊥ ∧ g.dt b t d h ≠ ⊤
  dA : ∀ b t d h, g.dA b t d h ≠ ⊥ ∧ g.dA b t d h ≠ ⊤
  neg : ∀ b t d h, g.dA b t d h ≤ 0

/-- The scan of direction `d`, batch row `b` and lane `q`: head `q / 64`, channel `q % 64`, group `q / 256`. -/
def Args.job (g : Args) (d : Fin 2) (b : Fin 4) (q : Fin 512) : Job where
  a z k := g.dA b (tok d z k) d ⟨q.val / 64, by omega⟩
  X z k := g.xs b (tok d z k) q * g.dt b (tok d z k) d ⟨q.val / 64, by omega⟩
  B z k n := g.bm b (tok d z k) ⟨q.val / 256 * 128 + n.val, by omega⟩
  C z k n := g.cm b (tok d z k) ⟨q.val / 256 * 128 + n.val, by omega⟩
  S0 n := g.ini d b ⟨q.val / 64, by omega⟩ ⟨q.val % 64, by omega⟩ n

end Cert.Scan

end
-- ==== Proof.RefArgs.lean ====
/- What the plain program makes of its arguments: for each direction the scaled values, `B`, `C` and the decays, chunk by chunk. -/
module

public import proofs.«01_k».proof.Proof.RefOps
public import proofs.«01_k».proof.Proof.Job

@[expose] public section

set_option maxRecDepth 16384

noncomputable section

namespace Cert.Ref

open Idealize.ShloMosaic Idealize.ShloMosaic.TcCoe Cert.ReferenceIdeal Cert.ReferenceIdeal.Gen
open Cert.Scan (tok)

/-- The lane of channel `p` of head `h`. -/
def lane (h : Fin 8) (p : Fin 64) : Fin 512 := ⟨h.val * 64 + p.val, by omega⟩

def vals (x : V16 S4x8192x512) : V32 S4x8192x8x64 := shapeCast _ (extf .f32 x bitsLt_bf16_f32) shapeCasts_S4x8192x512_S4x8192x8x64

/-- Every head gets its group's columns. -/
def heads (x : V16 S4x8192x256) : V32 S4x8192x8x128 :=
  shapeCast _ (broadcastInDim S4x8192x2x4x128 ![0, 1, 2, 4] bcast_S4x8192x2x128_S4x8192x2x4x128_0_1_2_4 (shapeCast _ (extf .f32 x bitsLt_bf16_f32) shapeCasts_S4x8192x256_S4x8192x2x128)) shapeCasts_S4x8192x2x4x128_S4x8192x8x128

def sideF (t : V32 S4x8192x2x8) : V32 S4x8192x8 := shapeCast _ (extractStridedSlice S4x8192x1x8 ![0, 0, 0, 0] t slices_S4x8192x2x8_S4x8192x1x8_0_0_0_0) shapeCasts_S4x8192x1x8_S4x8192x8

def sideB (t : V32 S4x8192x2x8) : V32 S4x8192x8 := shapeCast _ (extractStridedSlice S4x8192x1x8 ![0, 0, 1, 0] t slices_S4x8192x2x8_S4x8192x1x8_0_0_1_0) shapeCasts_S4x8192x1x8_S4x8192x8

def scaled (v : V32 S4x8192x8x64) (t : V32 S4x8192x8) : V32 S4x8192x8x64 :=
  mulf v (broadcastInDim S4x8192x8x64 ![0, 1, 2, 3] bcast_S4x8192x8x1_S4x8192x8x64_0_1_2_3 (broadcastInDim S4x8192x8x1 ![0, 1, 2] bcast_S4x8192x8_S4x8192x8x1_0_1_2 t))

def chunkX (v : V32 S4x8192x8x64) : V32 S4x64x128x8x64 := shapeCast _ v shapeCasts_S4x8192x8x64_S4x64x128x8x64

def chunkB (v : V32 S4x8192x8x128) : V32 S4x64x128x8x128 := shapeCast _ v shapeCasts_S4x8192x8x128_S4x64x128x8x128

def chunkA (v : V32 S4x8192x8) : V32 S4x8x64x128 := transpose S4x8x64x128 [0, 3, 1, 2] (shapeCast _ v shapeCasts_S4x8192x8_S4x64x128x8) transposes_S4x64x128x8_S4x8x64x128_0_3_1_2

theorem vals_val (x : V16 S4x8192x512) (b : Fin 4) (t : Fin 8192) (h : Fin 8) (p : Fin 64) : vals x (ix4 b t h p) = x (ix3 b t (lane h p)) := by
  pointwise [vals, lane]

theorem heads_val (x : V16 S4x8192x256) (b : Fin 4) (t : Fin 8192) (h : Fin 8) (n : Fin 128) : heads x (ix4 b t h n) = x (ix3 b t ⟨h.val / 4 * 128 + n.val, by omega⟩) := by
  pointwise [heads]

theorem sideF_val (x : V32 S4x8192x2x8) (b : Fin 4) (t : Fin 8192) (h : Fin 8) : sideF x (ix3 b t h) = x (ix4 b t 0 h) := by
  pointwise [sideF]

theorem sideB_val (x : V32 S4x8192x2x8) (b : Fin 4) (t : Fin 8192) (h : Fin 8) : sideB x (ix3 b t h) = x (ix4 b t 1 h) := by
  pointwise [sideB]

theorem scaled_val (v : V32 S4x8192x8x64) (t : V32 S4x8192x8) (b : Fin 4) (r : Fin 8192) (h : Fin 8) (p : Fin 64) :
    scaled v t (ix4 b r h p) = v (ix4 b r h p) * t (ix3 b r h) := by
  pointwise [scaled]

theorem chunkX_val (v : V32 S4x8192x8x64) (b : Fin 4) (z : Fin 64) (k : Fin 128) (h : Fin 8) (p : Fin 64) :
    chunkX v (ix5 b z k h p) = v (ix4 b ⟨z.val * 128 + k.val, by omega⟩ h p) := by
  pointwise [chunkX]

theorem chunkB_val (v : V32 S4x8192x8x128) (b : Fin 4) (z : Fin 64) (k : Fin 128) (h : Fin 8) (p : Fin 128) :
    chunkB v (ix5 b z k h p) = v (ix4 b ⟨z.val * 128 + k.val, by omega⟩ h p) := by
  pointwise [chunkB]

theorem chunkA_val (v : V32 S4x8192x8) (b : Fin 4) (z : Fin 64) (k : Fin 128) (h : Fin 8) :
    chunkA v (ix4 b h z k) = v (ix3 b ⟨z.val * 128 + k.val, by omega⟩ h) := by
  pointwise [chunkA]

theorem rev_eq (r : Fin 8192) : r.rev = ⟨8191 - r.val, by omega⟩ := Fin.ext (by rw [Fin.val_rev]; show 8192 - (r.val + 1) = 8191 - r.val; omega)

theorem revX_val (v : V32 S4x8192x8x64) (b : Fin 4) (r : Fin 8192) (h : Fin 8) (p : Fin 64) :
    (Host.reverse [1] v : V32 S4x8192x8x64) (ix4 b r h p) = v (ix4 b ⟨8191 - r.val, by omega⟩ h p) := by
  pointwise
  show v (ix4 b r.rev h p) = _
  rw [rev_eq]

theorem revB_val (v : V32 S4x8192x8x128) (b : Fin 4) (r : Fin 8192) (h : Fin 8) (p : Fin 128) :
    (Host.reverse [1] v : V32 S4x8192x8x128) (ix4 b r h p) = v (ix4 b ⟨8191 - r.val, by omega⟩ h p) := by
  pointwise
  show v (ix4 b r.rev h p) = _
  rw [rev_eq]

theorem revA_val (v : V32 S4x8192x8) (b : Fin 4) (r : Fin 8192) (h : Fin 8) :
    (Host.reverse [1] v : V32 S4x8192x8) (ix3 b r h) = v (ix3 b ⟨8191 - r.val, by omega⟩ h) := by
  pointwise
  show v (ix3 b r.rev h) = _
  rw [rev_eq]

end Cert.Ref

end
-- ==== Proof.RefScan.lean ====
/- The plain program's steps on one lane are the scan of that lane. -/
module

public import proofs.«01_k».proof.Proof.RefOps
public import proofs.«01_k».proof.Proof.Job

@[expose] public section

set_option maxRecDepth 16384

noncomputable section

namespace Cert.Ref

open Idealize.ShloMosaic Idealize.ShloMosaic.TcCoe Cert.ReferenceIdeal Cert.ReferenceIdeal.Gen
open Cert.Scan (Job)

/-- The data at batch row `b`, head `h`, channel `p` are those of `J`, whose decays are finite. -/
structure Sees (J : Job) (b : Fin 4) (h : Fin 8) (p : Fin 64) (X : V32 S4x64x128x8x64) (B C : V32 S4x64x128x8x128) (A S0 : V32 S4x8x64x128) : Prop where
  X : ∀ (z : Fin 64) k, X (ix5 b z k h p) = J.X z.val k
  B : ∀ (z : Fin 64) k n, B (ix5 b z k h n) = J.B z.val k n
  C : ∀ (z : Fin 64) k n, C (ix5 b z k h n) = J.C z.val k n
  A : ∀ (z : Fin 64) k, A (ix4 b h z k) = J.a z.val k
  S0 : ∀ n, S0 (ix4 b h p n) = J.S0 n
  fine : ∀ z k, J.a z k ≠ ⊥ ∧ J.a z k ≠ ⊤

variable {J : Job} {b : Fin 4} {h : Fin 8} {p : Fin 64} {X : V32 S4x64x128x8x64} {B C : V32 S4x64x128x8x128} {A S0 : V32 S4x8x64x128}

theorem Sees.cum (s : Sees J b h p X B C A S0) (z : Fin 64) (l : Fin 128) : cum4 A (ix4 b h z l) = Scan.cum J.a z.val l := by
  rw [cum4_val]
  unfold Scan.cum
  refine Finset.sum_congr rfl fun k _ => ?_
  rw [s.A]

theorem Sees.bound (s : Sees J b h p X B C A S0) (c : Fin 65) : bounds (cum4 A) (ix3 b h c) = Scan.bound J.a c := by
  rw [bounds_val]
  unfold Scan.bound
  refine Finset.sum_congr rfl fun k _ => ?_
  rw [s.cum]

theorem Sees.gain (s : Sees J b h p X B C A S0) (z : Fin 64) (n : Fin 128) : gains X B (cum4 A) (ix5 b z h p n) = Scan.gain J.a J.X J.B z.val n := by
  rw [gains_val]
  unfold Scan.gain
  refine Finset.sum_congr rfl fun l _ => ?_
  rw [s.X, s.B, s.cum, s.cum, mul_comm]

/-- The states at the boundaries, from the arguments. -/
def statesOf (X : V32 S4x64x128x8x64) (B : V32 S4x64x128x8x128) (A S0 : V32 S4x8x64x128) : V32 S4x65x8x64x128 :=
  states (parts S0 (gains X B (cum4 A))) (decay (bounds (cum4 A)))

theorem Sees.state (s : Sees J b h p X B C A S0) (z : Fin 65) (n : Fin 128) : statesOf X B A S0 (ix5 b z h p n) = J.st z.val n := by
  unfold statesOf
  rw [states_val]
  refine Eq.trans ?_ (Scan.state_eq_sum J.a J.X J.B J.S0 s.fine z n)
  refine Finset.sum_congr rfl fun c _ => ?_
  rw [parts_val, decay_val, s.bound, s.bound]
  unfold Scan.part
  congr 1
  split
  · exact s.S0 n
  · exact s.gain _ n

/-- The outputs, chunk by chunk. -/
def outsOf (X : V32 S4x64x128x8x64) (B C : V32 S4x64x128x8x128) (A S0 : V32 S4x8x64x128) : V32 S4x64x128x8x64 :=
  addf (inner X B C (decayIn (cum4 A))) (outer C (statesOf X B A S0) (cum4 A))

theorem Sees.out (s : Sees J b h p X B C A S0) (z : Fin 64) (l : Fin 128) : outsOf X B C A S0 (ix5 b z l h p) = J.y z.val l := by
  show inner X B C (decayIn (cum4 A)) (ix5 b z l h p) + outer C (statesOf X B A S0) (cum4 A) (ix5 b z l h p) = _
  rw [inner_val, outer_val]
  unfold Job.y Scan.out
  refine congrArg₂ _ (Finset.sum_congr rfl fun k _ => ?_) (congrArg₂ _ (Finset.sum_congr rfl fun n _ => ?_) ?_)
  · rw [s.X, decayIn_val, s.cum, s.cum, mul_comm]
    congr 1
    refine congrArg₂ _ (Finset.sum_congr rfl fun n _ => ?_) ?_
    · rw [s.C, s.B]
    · split
      · rfl
      · exact Ideal.exp_bot
  · rw [s.state, s.C, mul_comm]
    rfl
  · rw [s.cum]

end Cert.Ref

end
-- ==== Proof.Body.lean ====
/- One chunk of the scan as the kernel's body computes it, on whole vectors: the same text for the two directions and for every chunk, so
   that each piece the body stores is one of these functions at the blocks that the grid point found. The decay prefix sums are one product
   with a triangular matrix of ones and a second product spreads a head's number over the head's 64 lanes. -/
module

public import proofs.«01_k».proof.Proof.Gen.KernelIdeal.Skeleton
public import Idealize.ShloMosaic.Lib.Pipeline.ValueKit

@[expose] public section

set_option maxRecDepth 16384

noncomputable section

namespace Cert.Body

open Idealize.ShloMosaic Idealize.ShloMosaic.TcCoe Cert.KernelIdeal Cert.KernelIdeal.Facts₀ Cert.KernelIdeal.Facts

/-- A vector of `f32` (over the extended reals). -/
abbrev V32 (s : Shape) := FVec Ideal s .f32

/-- A vector of `bf16` (over the extended reals). -/
abbrev V16 (s : Shape) := FVec Ideal s .bf16

/-- What rounding to half width leaves over. -/
def left {s : Shape} (v : V32 s) : V32 s := subf v (extf .f32 (truncf (F := Ideal) .bf16 v bitsLt_bf16_f32) bitsLt_bf16_f32)

/-- The decay sums of a chunk, position by head: the triangular matrix `T` times the decays `A`, these in three half-width pieces. -/
def sums3 (T : V32 S1x128x128) (A : V32 S1x1x128x128) : V32 S128x384 :=
  let a : V32 S128x128 := shapeCast S128x128 A shapeCasts_S1x1x128x128_S128x128
  matmul dot_S128x128_S128x384_S128x384_1_0_0_1_n_n none
    (truncf .bf16 (shapeCast S128x128 T shapeCasts_S1x128x128_S128x128 : V32 S128x128) bitsLt_bf16_f32)
    (concatenate S128x384 1 [⟨S128x128, truncf .bf16 a bitsLt_bf16_f32⟩, ⟨S128x128, truncf .bf16 (left a) bitsLt_bf16_f32⟩,
      ⟨S128x128, truncf .bf16 (left (left a)) bitsLt_bf16_f32⟩] concatenates_S128x128_S128x128_S128x128_S128x384_d1)
    (constant S128x384 .f32 0x00000000#32)

/-- The three thirds added up. -/
def sums (T : V32 S1x128x128) (A : V32 S1x1x128x128) : V32 S128x128 :=
  addf (addf (extractStridedSlice S128x128 ![0, 0] (sums3 T A) slices_S128x384_o0_0_S128x128)
      (extractStridedSlice S128x128 ![0, 128] (sums3 T A) slices_S128x384_o0_128_S128x128))
    (extractStridedSlice S128x128 ![0, 256] (sums3 T A) slices_S128x384_o0_256_S128x128)

/-- The sums `cs` and the step sizes `D` spread over the lanes of their heads, in two half-width pieces each. -/
def wide (cs : V32 S128x128) (D : V32 S1x1x128x128) (E : V16 S128x512) : V32 S512x512 :=
  let d : V32 S128x128 := shapeCast S128x128 D shapeCasts_S1x1x128x128_S128x128
  matmul dot_S512x128_S128x512_S512x512_1_0_0_1_n_n none
    (concatenate S512x128 0 [⟨S128x128, truncf .bf16 cs bitsLt_bf16_f32⟩, ⟨S128x128, truncf .bf16 (left cs) bitsLt_bf16_f32⟩,
      ⟨S128x128, truncf .bf16 d bitsLt_bf16_f32⟩, ⟨S128x128, truncf .bf16 (left d) bitsLt_bf16_f32⟩]
      concatenates_S128x128_S128x128_S128x128_S128x128_S512x128_d0)
    E (constant S512x512 .f32 0x00000000#32)

/-- The spread decay sums. -/
def csx (w : V32 S512x512) : V32 S128x512 :=
  addf (extractStridedSlice S128x512 ![0, 0] w slices_S512x512_o0_0_S128x512)
    (extractStridedSlice S128x512 ![128, 0] w slices_S512x512_o128_0_S128x512)

/-- The spread step sizes. -/
def dtx (w : V32 S512x512) : V32 S128x512 :=
  addf (extractStridedSlice S128x512 ![256, 0] w slices_S512x512_o256_0_S128x512)
    (extractStridedSlice S128x512 ![384, 0] w slices_S512x512_o384_0_S128x512)

/-- The values times their step sizes. -/
def xdt (X : V16 S1x128x512) (w : V32 S512x512) : V32 S128x512 :=
  mulf (extf .f32 (shapeCast S128x512 X shapeCasts_S1x128x512_S128x512 : V16 S128x512) bitsLt_bf16_f32) (dtx w)

/-- The same, each decayed to the end of the chunk, whose decay sums are the row `tot`. -/
def xdec (X : V16 S1x128x512) (w : V32 S512x512) (tot : V32 S1x512) : V16 S128x512 :=
  truncf .bf16 (mulf (xdt X w) (exp (subf (broadcastTo S128x512 tot broadcasts_S1x512_S128x512) (csx w)))) bitsLt_bf16_f32

/-- `B` of a group, transposed. -/
def bT (BC : V16 S1x128x512) (o : Fin 2 → ℕ) (h : S128x512.Slices o S128x128) : V16 S128x128 :=
  truncf .bf16 (transpose S128x128 [1, 0] (extf .f32 (extractStridedSlice S128x128 o
    (shapeCast S128x512 BC shapeCasts_S1x128x512_S128x512 : V16 S128x512) h) bitsLt_bf16_f32) transposes_S128x128_p1_0_S128x128) bitsLt_bf16_f32

/-- `C` of a group. -/
def cG (BC : V16 S1x128x512) (o : Fin 2 → ℕ) (h : S128x512.Slices o S128x128) : V16 S128x128 :=
  extractStridedSlice S128x128 o (shapeCast S128x512 BC shapeCasts_S1x128x512_S128x512 : V16 S128x512) h

/-- All pairs of a position's `C` and a position's `B`. -/
def cb (c b : V16 S128x128) : V32 S128x128 :=
  matmul dot_S128x128_S128x128_S128x128_1_0_0_1_n_n none c b (constant S128x128 .f32 0x00000000#32)

/-- Where the triangular matrix is not zero. -/
def mask (T : V32 S1x128x128) : IVec S128x128 1 :=
  cmpf .ogt (shapeCast S128x128 T shapeCasts_S1x128x128_S128x128 : V32 S128x128) (broadcast S128x128 (Scalar.ofBits .f32 0x3F000000#32))

/-- The pairs of positions weighed by the decay between them, for the head whose column of the sums is cut at `o` and whose row at `o'`. -/
def weigh (M : IVec S128x128 1) (cs cb : V32 S128x128) (o o' : Fin 2 → ℕ) (h : S128x128.Slices o S128x1) (h' : S128x128.Slices o' S1x128) : V32 S128x128 :=
  mulf cb (select M (exp (minimumf (subf (broadcastTo S128x128 (extractStridedSlice S128x1 o cs h) broadcasts_S128x1_S128x128)
      (broadcastTo S128x128 (extractStridedSlice S1x128 o' (transpose S128x128 [1, 0] cs transposes_S128x128_p1_0_S128x128) h')
        broadcasts_S1x128_S128x128)) (broadcast S128x128 (Scalar.ofBits .f32 0x00000000#32))))
    (broadcast S128x128 (Scalar.ofBits .f32 0x00000000#32)))

/-- The lanes of the first head of a pair. -/
def lowHalf : IVec S128x128 1 :=
  broadcastTo S128x128 (shapeCast S1x128 (cmpi .slt (iota .tc S1x128 32 [1] iota_S1x128_d1_w32) (broadcast S1x128 64#32)) shapeCasts_S1x128_S1x128)
    broadcasts_S1x128_S128x128

/-- The values of a pair of heads, the first head's over the second's. -/
def stackPair (xp : V16 S128x128) : V16 S256x128 :=
  concatenate S256x128 0 [⟨S128x128, select lowHalf xp (broadcast S128x128 (Scalar.ofBits .bf16 0x0000#16))⟩,
    ⟨S128x128, select lowHalf (broadcast S128x128 (Scalar.ofBits .bf16 0x0000#16)) xp⟩] concatenates_S128x128_S128x128_S256x128_d0

/-- The part of a pair of heads that stays within the chunk: the two weighed matrices side by side times the stacked values. -/
def pairOut (m₁ m₂ : V32 S128x128) (xp : V16 S128x128) : V32 S128x128 :=
  matmul dot_S128x256_S256x128_S128x128_1_0_0_1_n_n none
    (truncf .bf16 (concatenate S128x256 1 [⟨S128x128, m₁⟩, ⟨S128x128, m₂⟩] concatenates_S128x128_S128x128_S128x256_d1 : V32 S128x256) bitsLt_bf16_f32)
    (stackPair xp) (constant S128x128 .f32 0x00000000#32)

/-- The output block of a group from what stays within the chunk (`y`), `C`, the group's spread decay factors (`e`) and the state. -/
def blockOut (y : V32 S128x256) (c : V16 S128x128) (e : V32 S128x256) (S : V32 S1x1x128x256) : V16 S1x128x256 :=
  shapeCast S1x128x256 (truncf .bf16 (addf y (mulf (matmul dot_S128x128_S128x256_S128x256_1_0_0_1_n_n none c
      (truncf .bf16 (shapeCast S128x256 S shapeCasts_S1x1x128x256_S128x256 : V32 S128x256) bitsLt_bf16_f32)
      (constant S128x256 .f32 0x00000000#32)) e)) bitsLt_bf16_f32 : V16 S128x256) shapeCasts_S128x256_S1x128x256

/-- The next state of a group: the old one times the chunk's whole decay (`t`) plus the chunk's own sum. -/
def next (t : V32 S1x256) (b : V16 S128x128) (x : V16 S128x256) (S : V32 S1x1x128x256) : V32 S1x1x128x256 :=
  shapeCast S1x1x128x256 (addf (mulf (shapeCast S128x256 S shapeCasts_S1x1x128x256_S128x256 : V32 S128x256) (broadcastTo S128x256 t broadcasts_S1x256_S128x256))
    (matmul dot_S128x128_S128x256_S128x256_1_0_0_1_n_n none b x (constant S128x256 .f32 0x00000000#32))) shapeCasts_S128x256_S1x1x128x256

/-- The blocks that a chunk of a direction reads: triangular matrix, spreading matrix, values, `B` beside `C`, step sizes, decays. -/
structure In where
  T : V32 S1x128x128
  E : V16 S128x512
  X : V16 S1x128x512
  BC : V16 S1x128x512
  D : V32 S1x1x128x128
  A : V32 S1x1x128x128

namespace In

variable (I : In)

/-- The decay sums. -/
def cs : V32 S128x128 := sums I.T I.A

/-- The spread sums and step sizes. -/
def w : V32 S512x512 := wide I.cs I.D I.E

/-- The values of a pair of heads. -/
def xp (o : Fin 2 → ℕ) (h : S128x512.Slices o S128x128) : V16 S128x128 :=
  extractStridedSlice S128x128 o (truncf .bf16 (xdt I.X I.w) bitsLt_bf16_f32 : V16 S128x512) h

/-- The output of the first group. -/
def y0 (S : V32 S1x1x128x256) : V16 S1x128x256 :=
  let c := cG I.BC ![0, 256] slices_S128x512_o0_256_S128x128
  let q := cb c (bT I.BC ![0, 0] slices_S128x512_o0_0_S128x128)
  blockOut (concatenate S128x256 1
      [⟨S128x128, pairOut (weigh (mask I.T) I.cs q ![0, 0] ![0, 0] slices_S128x128_o0_0_S128x1 slices_S128x128_o0_0_S1x128)
          (weigh (mask I.T) I.cs q ![0, 1] ![1, 0] slices_S128x128_o0_1_S128x1 slices_S128x128_o1_0_S1x128)
          (I.xp ![0, 0] slices_S128x512_o0_0_S128x128)⟩,
        ⟨S128x128, pairOut (weigh (mask I.T) I.cs q ![0, 2] ![2, 0] slices_S128x128_o0_2_S128x1 slices_S128x128_o2_0_S1x128)
          (weigh (mask I.T) I.cs q ![0, 3] ![3, 0] slices_S128x128_o0_3_S128x1 slices_S128x128_o3_0_S1x128)
          (I.xp ![0, 128] slices_S128x512_o0_128_S128x128)⟩] concatenates_S128x128_S128x128_S128x256_d1)
    c (extractStridedSlice S128x256 ![0, 0] (exp (csx I.w)) slices_S128x512_o0_0_S128x256) S

/-- The output of the second group. -/
def y1 (S : V32 S1x1x128x256) : V16 S1x128x256 :=
  let c := cG I.BC ![0, 384] slices_S128x512_o0_384_S128x128
  let q := cb c (bT I.BC ![0, 128] slices_S128x512_o0_128_S128x128)
  blockOut (concatenate S128x256 1
      [⟨S128x128, pairOut (weigh (mask I.T) I.cs q ![0, 4] ![4, 0] slices_S128x128_o0_4_S128x1 slices_S128x128_o4_0_S1x128)
          (weigh (mask I.T) I.cs q ![0, 5] ![5, 0] slices_S128x128_o0_5_S128x1 slices_S128x128_o5_0_S1x128)
          (I.xp ![0, 256] slices_S128x512_o0_256_S128x128)⟩,
        ⟨S128x128, pairOut (weigh (mask I.T) I.cs q ![0, 6] ![6, 0] slices_S128x128_o0_6_S128x1 slices_S128x128_o6_0_S1x128)
          (weigh (mask I.T) I.cs q ![0, 7] ![7, 0] slices_S128x128_o0_7_S128x1 slices_S128x128_o7_0_S1x128)
          (I.xp ![0, 384] slices_S128x512_o0_384_S128x128)⟩] concatenates_S128x128_S128x128_S128x256_d1)
    c (extractStridedSlice S128x256 ![0, 256] (exp (csx I.w)) slices_S128x512_o0_256_S128x256) S

/-- The next state of the first group; `tot` is the row of the spread sums at the chunk's end. -/
def next0 (tot : V32 S1x512) (S : V32 S1x1x128x256) : V32 S1x1x128x256 :=
  next (extractStridedSlice S1x256 ![0, 0] (exp tot) slices_S1x512_o0_0_S1x256) (bT I.BC ![0, 0] slices_S128x512_o0_0_S128x128)
    (extractStridedSlice S128x256 ![0, 0] (xdec I.X I.w tot) slices_S128x512_o0_0_S128x256) S

/-- The next state of the second group. -/
def next1 (tot : V32 S1x512) (S : V32 S1x1x128x256) : V32 S1x1x128x256 :=
  next (extractStridedSlice S1x256 ![0, 256] (exp tot) slices_S1x512_o0_256_S1x256) (bT I.BC ![0, 128] slices_S128x512_o0_128_S128x128)
    (extractStridedSlice S128x256 ![0, 256] (xdec I.X I.w tot) slices_S128x512_o0_256_S128x256) S

/-- The end of a chunk that runs forwards: its last row. -/
def totF : V32 S1x512 := extractStridedSlice S1x512 ![127, 0] (csx I.w) slices_S128x512_o127_0_S1x512

/-- The end of a chunk that runs backwards: its first row. -/
def totB : V32 S1x512 := extractStridedSlice S1x512 ![0, 0] (csx I.w) slices_S128x512_o0_0_S1x512

end In

end Cert.Body

end
-- ==== Proof.TableF.lean ====
/- The forward triangular table, entry by entry: row `l` of the first plane is one up to the diagonal. -/
module

public import proofs.«01_k».proof.KernelIdeal

@[expose] public section

set_option maxRecDepth 16384

namespace Cert.Body

open Idealize.ShloMosaic Cert.KernelIdeal

theorem table_fwd_0 : ∀ l : Fin 8, ∀ k : Fin 128, lit0t ((0 + l.val) * 128 + k.val) = if k.val ≤ (0 + l.val) then 0x3F800000#32 else 0#32 := by decide +kernel
theorem table_fwd_1 : ∀ l : Fin 8, ∀ k : Fin 128, lit0t ((8 + l.val) * 128 + k.val) = if k.val ≤ (8 + l.val) then 0x3F800000#32 else 0#32 := by decide +kernel
theorem table_fwd_2 : ∀ l : Fin 8, ∀ k : Fin 128, lit0t ((16 + l.val) * 128 + k.val) = if k.val ≤ (16 + l.val) then 0x3F800000#32 else 0#32 := by decide +kernel
theorem table_fwd_3 : ∀ l : Fin 8, ∀ k : Fin 128, lit0t ((24 + l.val) * 128 + k.val) = if k.val ≤ (24 + l.val) then 0x3F800000#32 else 0#32 := by decide +kernel
theorem table_fwd_4 : ∀ l : Fin 8, ∀ k : Fin 128, lit0t ((32 + l.val) * 128 + k.val) = if k.val ≤ (32 + l.val) then 0x3F800000#32 else 0#32 := by decide +kernel
theorem table_fwd_5 : ∀ l : Fin 8, ∀ k : Fin 128, lit0t ((40 + l.val) * 128 + k.val) = if k.val ≤ (40 + l.val) then 0x3F800000#32 else 0#32 := by decide +kernel
theorem table_fwd_6 : ∀ l : Fin 8, ∀ k : Fin 128, lit0t ((48 + l.val) * 128 + k.val) = if k.val ≤ (48 + l.val) then 0x3F800000#32 else 0#32 := by decide +kernel
theorem table_fwd_7 : ∀ l : Fin 8, ∀ k : Fin 128, lit0t ((56 + l.val) * 128 + k.val) = if k.val ≤ (56 + l.val) then 0x3F800000#32 else 0#32 := by decide +kernel
theorem table_fwd_8 : ∀ l : Fin 8, ∀ k : Fin 128, lit0t ((64 + l.val) * 128 + k.val) = if k.val ≤ (64 + l.val) then 0x3F800000#32 else 0#32 := by decide +kernel
theorem table_fwd_9 : ∀ l : Fin 8, ∀ k : Fin 128, lit0t ((72 + l.val) * 128 + k.val) = if k.val ≤ (72 + l.val) then 0x3F800000#32 else 0#32 := by decide +kernel
theorem table_fwd_10 : ∀ l : Fin 8, ∀ k : Fin 128, lit0t ((80 + l.val) * 128 + k.val) = if k.val ≤ (80 + l.val) then 0x3F800000#32 else 0#32 := by decide +kernel
theorem table_fwd_11 : ∀ l : Fin 8, ∀ k : Fin 128, lit0t ((88 + l.val) * 128 + k.val) = if k.val ≤ (88 + l.val) then 0x3F800000#32 else 0#32 := by decide +kernel
theorem table_fwd_12 : ∀ l : Fin 8, ∀ k : Fin 128, lit0t ((96 + l.val) * 128 + k.val) = if k.val ≤ (96 + l.val) then 0x3F800000#32 else 0#32 := by decide +kernel
theorem table_fwd_13 : ∀ l : Fin 8, ∀ k : Fin 128, lit0t ((104 + l.val) * 128 + k.val) = if k.val ≤ (104 + l.val) then 0x3F800000#32 else 0#32 := by decide +kernel
theorem table_fwd_14 : ∀ l : Fin 8, ∀ k : Fin 128, lit0t ((112 + l.val) * 128 + k.val) = if k.val ≤ (112 + l.val) then 0x3F800000#32 else 0#32 := by decide +kernel
theorem table_fwd_15 : ∀ l : Fin 8, ∀ k : Fin 128, lit0t ((120 + l.val) * 128 + k.val) = if k.val ≤ (120 + l.val) then 0x3F800000#32 else 0#32 := by decide +kernel

theorem table_fwd (l : Fin 128) (k : Fin 128) : lit0t (l.val * 128 + k.val) = if k.val ≤ l.val then 0x3F800000#32 else 0#32 := by
  have hl := l.isLt
  by_cases h0 : l.val < 8
  · have h := table_fwd_0 ⟨l.val - 0, by omega⟩ k; rwa [show 0 + (l.val - 0) = l.val by omega] at h
  by_cases h1 : l.val < 16
  · have h := table_fwd_1 ⟨l.val - 8, by omega⟩ k; rwa [show 8 + (l.val - 8) = l.val by omega] at h
  by_cases h2 : l.val < 24
  · have h := table_fwd_2 ⟨l.val - 16, by omega⟩ k; rwa [show 16 + (l.val - 16) = l.val by omega] at h
  by_cases h3 : l.val < 32
  · have h := table_fwd_3 ⟨l.val - 24, by omega⟩ k; rwa [show 24 + (l.val - 24) = l.val by omega] at h
  by_cases h4 : l.val < 40
  · have h := table_fwd_4 ⟨l.val - 32, by omega⟩ k; rwa [show 32 + (l.val - 32) = l.val by omega] at h
  by_cases h5 : l.val < 48
  · have h := table_fwd_5 ⟨l.val - 40, by omega⟩ k; rwa [show 40 + (l.val - 40) = l.val by omega] at h
  by_cases h6 : l.val < 56
  · have h := table_fwd_6 ⟨l.val - 48, by omega⟩ k; rwa [show 48 + (l.val - 48) = l.val by omega] at h
  by_cases h7 : l.val < 64
  · have h := table_fwd_7 ⟨l.val - 56, by omega⟩ k; rwa [show 56 + (l.val - 56) = l.val by omega] at h
  by_cases h8 : l.val < 72
  · have h := table_fwd_8 ⟨l.val - 64, by omega⟩ k; rwa [show 64 + (l.val - 64) = l.val by omega] at h
  by_cases h9 : l.val < 80
  · have h := table_fwd_9 ⟨l.val - 72, by omega⟩ k; rwa [show 72 + (l.val - 72) = l.val by omega] at h
  by_cases h10 : l.val < 88
  · have h := table_fwd_10 ⟨l.val - 80, by omega⟩ k; rwa [show 80 + (l.val - 80) = l.val by omega] at h
  by_cases h11 : l.val < 96
  · have h := table_fwd_11 ⟨l.val - 88, by omega⟩ k; rwa [show 88 + (l.val - 88) = l.val by omega] at h
  by_cases h12 : l.val < 104
  · have h := table_fwd_12 ⟨l.val - 96, by omega⟩ k; rwa [show 96 + (l.val - 96) = l.val by omega] at h
  by_cases h13 : l.val < 112
  · have h := table_fwd_13 ⟨l.val - 104, by omega⟩ k; rwa [show 104 + (l.val - 104) = l.val by omega] at h
  by_cases h14 : l.val < 120
  · have h := table_fwd_14 ⟨l.val - 112, by omega⟩ k; rwa [show 112 + (l.val - 112) = l.val by omega] at h
  have h := table_fwd_15 ⟨l.val - 120, by omega⟩ k; rwa [show 120 + (l.val - 120) = l.val by omega] at h

end Cert.Body
-- ==== Proof.TableB.lean ====
/- The backward triangular table, entry by entry: row `l` of the second plane is one from the diagonal on. -/
module

public import proofs.«01_k».proof.KernelIdeal

@[expose] public section

set_option maxRecDepth 16384

namespace Cert.Body

open Idealize.ShloMosaic Cert.KernelIdeal

theorem table_bwd_0 : ∀ l : Fin 8, ∀ k : Fin 128, lit0t (16384 + (0 + l.val) * 128 + k.val) = if (0 + l.val) ≤ k.val then 0x3F800000#32 else 0#32 := by decide +kernel
theorem table_bwd_1 : ∀ l : Fin 8, ∀ k : Fin 128, lit0t (16384 + (8 + l.val) * 128 + k.val) = if (8 + l.val) ≤ k.val then 0x3F800000#32 else 0#32 := by decide +kernel
theorem table_bwd_2 : ∀ l : Fin 8, ∀ k : Fin 128, lit0t (16384 + (16 + l.val) * 128 + k.val) = if (16 + l.val) ≤ k.val then 0x3F800000#32 else 0#32 := by decide +kernel
theorem table_bwd_3 : ∀ l : Fin 8, ∀ k : Fin 128, lit0t (16384 + (24 + l.val) * 128 + k.val) = if (24 + l.val) ≤ k.val then 0x3F800000#32 else 0#32 := by decide +kernel
theorem table_bwd_4 : ∀ l : Fin 8, ∀ k : Fin 128, lit0t (16384 + (32 + l.val) * 128 + k.val) = if (32 + l.val) ≤ k.val then 0x3F800000#32 else 0#32 := by decide +kernel
theorem table_bwd_5 : ∀ l : Fin 8, ∀ k : Fin 128, lit0t (16384 + (40 + l.val) * 128 + k.val) = if (40 + l.val) ≤ k.val then 0x3F800000#32 else 0#32 := by decide +kernel
theorem table_bwd_6 : ∀ l : Fin 8, ∀ k : Fin 128, lit0t (16384 + (48 + l.val) * 128 + k.val) = if (48 + l.val) ≤ k.val then 0x3F800000#32 else 0#32 := by decide +kernel
theorem table_bwd_7 : ∀ l : Fin 8, ∀ k : Fin 128, lit0t (16384 + (56 + l.val) * 128 + k.val) = if (56 + l.val) ≤ k.val then 0x3F800000#32 else 0#32 := by decide +kernel
theorem table_bwd_8 : ∀ l : Fin 8, ∀ k : Fin 128, lit0t (16384 + (64 + l.val) * 128 + k.val) = if (64 + l.val) ≤ k.val then 0x3F800000#32 else 0#32 := by decide +kernel
theorem table_bwd_9 : ∀ l : Fin 8, ∀ k : Fin 128, lit0t (16384 + (72 + l.val) * 128 + k.val) = if (72 + l.val) ≤ k.val then 0x3F800000#32 else 0#32 := by decide +kernel
theorem table_bwd_10 : ∀ l : Fin 8, ∀ k : Fin 128, lit0t (16384 + (80 + l.val) * 128 + k.val) = if (80 + l.val) ≤ k.val then 0x3F800000#32 else 0#32 := by decide +kernel
theorem table_bwd_11 : ∀ l : Fin 8, ∀ k : Fin 128, lit0t (16384 + (88 + l.val) * 128 + k.val) = if (88 + l.val) ≤ k.val then 0x3F800000#32 else 0#32 := by decide +kernel
theorem table_bwd_12 : ∀ l : Fin 8, ∀ k : Fin 128, lit0t (16384 + (96 + l.val) * 128 + k.val) = if (96 + l.val) ≤ k.val then 0x3F800000#32 else 0#32 := by decide +kernel
theorem table_bwd_13 : ∀ l : Fin 8, ∀ k : Fin 128, lit0t (16384 + (104 + l.val) * 128 + k.val) = if (104 + l.val) ≤ k.val then 0x3F800000#32 else 0#32 := by decide +kernel
theorem table_bwd_14 : ∀ l : Fin 8, ∀ k : Fin 128, lit0t (16384 + (112 + l.val) * 128 + k.val) = if (112 + l.val) ≤ k.val then 0x3F800000#32 else 0#32 := by decide +kernel
theorem table_bwd_15 : ∀ l : Fin 8, ∀ k : Fin 128, lit0t (16384 + (120 + l.val) * 128 + k.val) = if (120 + l.val) ≤ k.val then 0x3F800000#32 else 0#32 := by decide +kernel

theorem table_bwd (l : Fin 128) (k : Fin 128) : lit0t (16384 + l.val * 128 + k.val) = if l.val ≤ k.val then 0x3F800000#32 else 0#32 := by
  have hl := l.isLt
  by_cases h0 : l.val < 8
  · have h := table_bwd_0 ⟨l.val - 0, by omega⟩ k; rwa [show 0 + (l.val - 0) = l.val by omega] at h
  by_cases h1 : l.val < 16
  · have h := table_bwd_1 ⟨l.val - 8, by omega⟩ k; rwa [show 8 + (l.val - 8) = l.val by omega] at h
  by_cases h2 : l.val < 24
  · have h := table_bwd_2 ⟨l.val - 16, by omega⟩ k; rwa [show 16 + (l.val - 16) = l.val by omega] at h
  by_cases h3 : l.val < 32
  · have h := table_bwd_3 ⟨l.val - 24, by omega⟩ k; rwa [show 24 + (l.val - 24) = l.val by omega] at h
  by_cases h4 : l.val < 40
  · have h := table_bwd_4 ⟨l.val - 32, by omega⟩ k; rwa [show 32 + (l.val - 32) = l.val by omega] at h
  by_cases h5 : l.val < 48
  · have h := table_bwd_5 ⟨l.val - 40, by omega⟩ k; rwa [show 40 + (l.val - 40) = l.val by omega] at h
  by_cases h6 : l.val < 56
  · have h := table_bwd_6 ⟨l.val - 48, by omega⟩ k; rwa [show 48 + (l.val - 48) = l.val by omega] at h
  by_cases h7 : l.val < 64
  · have h := table_bwd_7 ⟨l.val - 56, by omega⟩ k; rwa [show 56 + (l.val - 56) = l.val by omega] at h
  by_cases h8 : l.val < 72
  · have h := table_bwd_8 ⟨l.val - 64, by omega⟩ k; rwa [show 64 + (l.val - 64) = l.val by omega] at h
  by_cases h9 : l.val < 80
  · have h := table_bwd_9 ⟨l.val - 72, by omega⟩ k; rwa [show 72 + (l.val - 72) = l.val by omega] at h
  by_cases h10 : l.val < 88
  · have h := table_bwd_10 ⟨l.val - 80, by omega⟩ k; rwa [show 80 + (l.val - 80) = l.val by omega] at h
  by_cases h11 : l.val < 96
  · have h := table_bwd_11 ⟨l.val - 88, by omega⟩ k; rwa [show 88 + (l.val - 88) = l.val by omega] at h
  by_cases h12 : l.val < 104
  · have h := table_bwd_12 ⟨l.val - 96, by omega⟩ k; rwa [show 96 + (l.val - 96) = l.val by omega] at h
  by_cases h13 : l.val < 112
  · have h := table_bwd_13 ⟨l.val - 104, by omega⟩ k; rwa [show 104 + (l.val - 104) = l.val by omega] at h
  by_cases h14 : l.val < 120
  · have h := table_bwd_14 ⟨l.val - 112, by omega⟩ k; rwa [show 112 + (l.val - 112) = l.val by omega] at h
  have h := table_bwd_15 ⟨l.val - 120, by omega⟩ k; rwa [show 120 + (l.val - 120) = l.val by omega] at h

end Cert.Body
-- ==== Proof.TableE0.lean ====
/- Rows 0 to 31 of the table that spreads a head over its lanes. -/
module

public import proofs.«01_k».proof.KernelIdeal

@[expose] public section

set_option maxRecDepth 16384

namespace Cert.Body

open Idealize.ShloMosaic Cert.KernelIdeal

theorem table_spread_0 : ∀ l : Fin 2, ∀ k : Fin 512, lit1t ((0 + l.val) * 512 + k.val) = if k.val / 64 = (0 + l.val) then 0x3F80#16 else 0#16 := by decide +kernel
theorem table_spread_1 : ∀ l : Fin 2, ∀ k : Fin 512, lit1t ((2 + l.val) * 512 + k.val) = if k.val / 64 = (2 + l.val) then 0x3F80#16 else 0#16 := by decide +kernel
theorem table_spread_2 : ∀ l : Fin 2, ∀ k : Fin 512, lit1t ((4 + l.val) * 512 + k.val) = if k.val / 64 = (4 + l.val) then 0x3F80#16 else 0#16 := by decide +kernel
theorem table_spread_3 : ∀ l : Fin 2, ∀ k : Fin 512, lit1t ((6 + l.val) * 512 + k.val) = if k.val / 64 = (6 + l.val) then 0x3F80#16 else 0#16 := by decide +kernel
theorem table_spread_4 : ∀ l : Fin 2, ∀ k : Fin 512, lit1t ((8 + l.val) * 512 + k.val) = if k.val / 64 = (8 + l.val) then 0x3F80#16 else 0#16 := by decide +kernel
theorem table_spread_5 : ∀ l : Fin 2, ∀ k : Fin 512, lit1t ((10 + l.val) * 512 + k.val) = if k.val / 64 = (10 + l.val) then 0x3F80#16 else 0#16 := by decide +kernel
theorem table_spread_6 : ∀ l : Fin 2, ∀ k : Fin 512, lit1t ((12 + l.val) * 512 + k.val) = if k.val / 64 = (12 + l.val) then 0x3F80#16 else 0#16 := by decide +kernel
theorem table_spread_7 : ∀ l : Fin 2, ∀ k : Fin 512, lit1t ((14 + l.val) * 512 + k.val) = if k.val / 64 = (14 + l.val) then 0x3F80#16 else 0#16 := by decide +kernel
theorem table_spread_8 : ∀ l : Fin 2, ∀ k : Fin 512, lit1t ((16 + l.val) * 512 + k.val) = if k.val / 64 = (16 + l.val) then 0x3F80#16 else 0#16 := by decide +kernel
theorem table_spread_9 : ∀ l : Fin 2, ∀ k : Fin 512, lit1t ((18 + l.val) * 512 + k.val) = if k.val / 64 = (18 + l.val) then 0x3F80#16 else 0#16 := by decide +kernel
theorem table_spread_10 : ∀ l : Fin 2, ∀ k : Fin 512, lit1t ((20 + l.val) * 512 + k.val) = if k.val / 64 = (20 + l.val) then 0x3F80#16 else 0#16 := by decide +kernel
theorem table_spread_11 : ∀ l : Fin 2, ∀ k : Fin 512, lit1t ((22 + l.val) * 512 + k.val) = if k.val / 64 = (22 + l.val) then 0x3F80#16 else 0#16 := by decide +kernel
theorem table_spread_12 : ∀ l : Fin 2, ∀ k : Fin 512, lit1t ((24 + l.val) * 512 + k.val) = if k.val / 64 = (24 + l.val) then 0x3F80#16 else 0#16 := by decide +kernel
theorem table_spread_13 : ∀ l : Fin 2, ∀ k : Fin 512, lit1t ((26 + l.val) * 512 + k.val) = if k.val / 64 = (26 + l.val) then 0x3F80#16 else 0#16 := by decide +kernel
theorem table_spread_14 : ∀ l : Fin 2, ∀ k : Fin 512, lit1t ((28 + l.val) * 512 + k.val) = if k.val / 64 = (28 + l.val) then 0x3F80#16 else 0#16 := by decide +kernel
theorem table_spread_15 : ∀ l : Fin 2, ∀ k : Fin 512, lit1t ((30 + l.val) * 512 + k.val) = if k.val / 64 = (30 + l.val) then 0x3F80#16 else 0#16 := by decide +kernel

end Cert.Body
-- ==== Proof.TableE1.lean ====
/- Rows 32 to 63 of the table that spreads a head over its lanes. -/
module

public import proofs.«01_k».proof.KernelIdeal

@[expose] public section

set_option maxRecDepth 16384

namespace Cert.Body

open Idealize.ShloMosaic Cert.KernelIdeal

theorem table_spread_16 : ∀ l : Fin 2, ∀ k : Fin 512, lit1t ((32 + l.val) * 512 + k.val) = if k.val / 64 = (32 + l.val) then 0x3F80#16 else 0#16 := by decide +kernel
theorem table_spread_17 : ∀ l : Fin 2, ∀ k : Fin 512, lit1t ((34 + l.val) * 512 + k.val) = if k.val / 64 = (34 + l.val) then 0x3F80#16 else 0#16 := by decide +kernel
theorem table_spread_18 : ∀ l : Fin 2, ∀ k : Fin 512, lit1t ((36 + l.val) * 512 + k.val) = if k.val / 64 = (36 + l.val) then 0x3F80#16 else 0#16 := by decide +kernel
theorem table_spread_19 : ∀ l : Fin 2, ∀ k : Fin 512, lit1t ((38 + l.val) * 512 + k.val) = if k.val / 64 = (38 + l.val) then 0x3F80#16 else 0#16 := by decide +kernel
theorem table_spread_20 : ∀ l : Fin 2, ∀ k : Fin 512, lit1t ((40 + l.val) * 512 + k.val) = if k.val / 64 = (40 + l.val) then 0x3F80#16 else 0#16 := by decide +kernel
theorem table_spread_21 : ∀ l : Fin 2, ∀ k : Fin 512, lit1t ((42 + l.val) * 512 + k.val) = if k.val / 64 = (42 + l.val) then 0x3F80#16 else 0#16 := by decide +kernel
theorem table_spread_22 : ∀ l : Fin 2, ∀ k : Fin 512, lit1t ((44 + l.val) * 512 + k.val) = if k.val / 64 = (44 + l.val) then 0x3F80#16 else 0#16 := by decide +kernel
theorem table_spread_23 : ∀ l : Fin 2, ∀ k : Fin 512, lit1t ((46 + l.val) * 512 + k.val) = if k.val / 64 = (46 + l.val) then 0x3F80#16 else 0#16 := by decide +kernel
theorem table_spread_24 : ∀ l : Fin 2, ∀ k : Fin 512, lit1t ((48 + l.val) * 512 + k.val) = if k.val / 64 = (48 + l.val) then 0x3F80#16 else 0#16 := by decide +kernel
theorem table_spread_25 : ∀ l : Fin 2, ∀ k : Fin 512, lit1t ((50 + l.val) * 512 + k.val) = if k.val / 64 = (50 + l.val) then 0x3F80#16 else 0#16 := by decide +kernel
theorem table_spread_26 : ∀ l : Fin 2, ∀ k : Fin 512, lit1t ((52 + l.val) * 512 + k.val) = if k.val / 64 = (52 + l.val) then 0x3F80#16 else 0#16 := by decide +kernel
theorem table_spread_27 : ∀ l : Fin 2, ∀ k : Fin 512, lit1t ((54 + l.val) * 512 + k.val) = if k.val / 64 = (54 + l.val) then 0x3F80#16 else 0#16 := by decide +kernel
theorem table_spread_28 : ∀ l : Fin 2, ∀ k : Fin 512, lit1t ((56 + l.val) * 512 + k.val) = if k.val / 64 = (56 + l.val) then 0x3F80#16 else 0#16 := by decide +kernel
theorem table_spread_29 : ∀ l : Fin 2, ∀ k : Fin 512, lit1t ((58 + l.val) * 512 + k.val) = if k.val / 64 = (58 + l.val) then 0x3F80#16 else 0#16 := by decide +kernel
theorem table_spread_30 : ∀ l : Fin 2, ∀ k : Fin 512, lit1t ((60 + l.val) * 512 + k.val) = if k.val / 64 = (60 + l.val) then 0x3F80#16 else 0#16 := by decide +kernel
theorem table_spread_31 : ∀ l : Fin 2, ∀ k : Fin 512, lit1t ((62 + l.val) * 512 + k.val) = if k.val / 64 = (62 + l.val) then 0x3F80#16 else 0#16 := by decide +kernel

end Cert.Body
-- ==== Proof.TableE2.lean ====
/- Rows 64 to 95 of the table that spreads a head over its lanes. -/
module

public import proofs.«01_k».proof.KernelIdeal

@[expose] public section

set_option maxRecDepth 16384

namespace Cert.Body

open Idealize.ShloMosaic Cert.KernelIdeal

theorem table_spread_32 : ∀ l : Fin 2, ∀ k : Fin 512, lit1t ((64 + l.val) * 512 + k.val) = if k.val / 64 = (64 + l.val) then 0x3F80#16 else 0#16 := by decide +kernel
theorem table_spread_33 : ∀ l : Fin 2, ∀ k : Fin 512, lit1t ((66 + l.val) * 512 + k.val) = if k.val / 64 = (66 + l.val) then 0x3F80#16 else 0#16 := by decide +kernel
theorem table_spread_34 : ∀ l : Fin 2, ∀ k : Fin 512, lit1t ((68 + l.val) * 512 + k.val) = if k.val / 64 = (68 + l.val) then 0x3F80#16 else 0#16 := by decide +kernel
theorem table_spread_35 : ∀ l : Fin 2, ∀ k : Fin 512, lit1t ((70 + l.val) * 512 + k.val) = if k.val / 64 = (70 + l.val) then 0x3F80#16 else 0#16 := by decide +kernel
theorem table_spread_36 : ∀ l : Fin 2, ∀ k : Fin 512, lit1t ((72 + l.val) * 512 + k.val) = if k.val / 64 = (72 + l.val) then 0x3F80#16 else 0#16 := by decide +kernel
theorem table_spread_37 : ∀ l : Fin 2, ∀ k : Fin 512, lit1t ((74 + l.val) * 512 + k.val) = if k.val / 64 = (74 + l.val) then 0x3F80#16 else 0#16 := by decide +kernel
theorem table_spread_38 : ∀ l : Fin 2, ∀ k : Fin 512, lit1t ((76 + l.val) * 512 + k.val) = if k.val / 64 = (76 + l.val) then 0x3F80#16 else 0#16 := by decide +kernel
theorem table_spread_39 : ∀ l : Fin 2, ∀ k : Fin 512, lit1t ((78 + l.val) * 512 + k.val) = if k.val / 64 = (78 + l.val) then 0x3F80#16 else 0#16 := by decide +kernel
theorem table_spread_40 : ∀ l : Fin 2, ∀ k : Fin 512, lit1t ((80 + l.val) * 512 + k.val) = if k.val / 64 = (80 + l.val) then 0x3F80#16 else 0#16 := by decide +kernel
theorem table_spread_41 : ∀ l : Fin 2, ∀ k : Fin 512, lit1t ((82 + l.val) * 512 + k.val) = if k.val / 64 = (82 + l.val) then 0x3F80#16 else 0#16 := by decide +kernel
theorem table_spread_42 : ∀ l : Fin 2, ∀ k : Fin 512, lit1t ((84 + l.val) * 512 + k.val) = if k.val / 64 = (84 + l.val) then 0x3F80#16 else 0#16 := by decide +kernel
theorem table_spread_43 : ∀ l : Fin 2, ∀ k : Fin 512, lit1t ((86 + l.val) * 512 + k.val) = if k.val / 64 = (86 + l.val) then 0x3F80#16 else 0#16 := by decide +kernel
theorem table_spread_44 : ∀ l : Fin 2, ∀ k : Fin 512, lit1t ((88 + l.val) * 512 + k.val) = if k.val / 64 = (88 + l.val) then 0x3F80#16 else 0#16 := by decide +kernel
theorem table_spread_45 : ∀ l : Fin 2, ∀ k : Fin 512, lit1t ((90 + l.val) * 512 + k.val) = if k.val / 64 = (90 + l.val) then 0x3F80#16 else 0#16 := by decide +kernel
theorem table_spread_46 : ∀ l : Fin 2, ∀ k : Fin 512, lit1t ((92 + l.val) * 512 + k.val) = if k.val / 64 = (92 + l.val) then 0x3F80#16 else 0#16 := by decide +kernel
theorem table_spread_47 : ∀ l : Fin 2, ∀ k : Fin 512, lit1t ((94 + l.val) * 512 + k.val) = if k.val / 64 = (94 + l.val) then 0x3F80#16 else 0#16 := by decide +kernel

end Cert.Body
-- ==== Proof.TableE3.lean ====
/- Rows 96 to 127 of the table that spreads a head over its lanes. -/
module

public import proofs.«01_k».proof.KernelIdeal

@[expose] public section

set_option maxRecDepth 16384

namespace Cert.Body

open Idealize.ShloMosaic Cert.KernelIdeal

theorem table_spread_48 : ∀ l : Fin 2, ∀ k : Fin 512, lit1t ((96 + l.val) * 512 + k.val) = if k.val / 64 = (96 + l.val) then 0x3F80#16 else 0#16 := by decide +kernel
theorem table_spread_49 : ∀ l : Fin 2, ∀ k : Fin 512, lit1t ((98 + l.val) * 512 + k.val) = if k.val / 64 = (98 + l.val) then 0x3F80#16 else 0#16 := by decide +kernel
theorem table_spread_50 : ∀ l : Fin 2, ∀ k : Fin 512, lit1t ((100 + l.val) * 512 + k.val) = if k.val / 64 = (100 + l.val) then 0x3F80#16 else 0#16 := by decide +kernel
theorem table_spread_51 : ∀ l : Fin 2, ∀ k : Fin 512, lit1t ((102 + l.val) * 512 + k.val) = if k.val / 64 = (102 + l.val) then 0x3F80#16 else 0#16 := by decide +kernel
theorem table_spread_52 : ∀ l : Fin 2, ∀ k : Fin 512, lit1t ((104 + l.val) * 512 + k.val) = if k.val / 64 = (104 + l.val) then 0x3F80#16 else 0#16 := by decide +kernel
theorem table_spread_53 : ∀ l : Fin 2, ∀ k : Fin 512, lit1t ((106 + l.val) * 512 + k.val) = if k.val / 64 = (106 + l.val) then 0x3F80#16 else 0#16 := by decide +kernel
theorem table_spread_54 : ∀ l : Fin 2, ∀ k : Fin 512, lit1t ((108 + l.val) * 512 + k.val) = if k.val / 64 = (108 + l.val) then 0x3F80#16 else 0#16 := by decide +kernel
theorem table_spread_55 : ∀ l : Fin 2, ∀ k : Fin 512, lit1t ((110 + l.val) * 512 + k.val) = if k.val / 64 = (110 + l.val) then 0x3F80#16 else 0#16 := by decide +kernel
theorem table_spread_56 : ∀ l : Fin 2, ∀ k : Fin 512, lit1t ((112 + l.val) * 512 + k.val) = if k.val / 64 = (112 + l.val) then 0x3F80#16 else 0#16 := by decide +kernel
theorem table_spread_57 : ∀ l : Fin 2, ∀ k : Fin 512, lit1t ((114 + l.val) * 512 + k.val) = if k.val / 64 = (114 + l.val) then 0x3F80#16 else 0#16 := by decide +kernel
theorem table_spread_58 : ∀ l : Fin 2, ∀ k : Fin 512, lit1t ((116 + l.val) * 512 + k.val) = if k.val / 64 = (116 + l.val) then 0x3F80#16 else 0#16 := by decide +kernel
theorem table_spread_59 : ∀ l : Fin 2, ∀ k : Fin 512, lit1t ((118 + l.val) * 512 + k.val) = if k.val / 64 = (118 + l.val) then 0x3F80#16 else 0#16 := by decide +kernel
theorem table_spread_60 : ∀ l : Fin 2, ∀ k : Fin 512, lit1t ((120 + l.val) * 512 + k.val) = if k.val / 64 = (120 + l.val) then 0x3F80#16 else 0#16 := by decide +kernel
theorem table_spread_61 : ∀ l : Fin 2, ∀ k : Fin 512, lit1t ((122 + l.val) * 512 + k.val) = if k.val / 64 = (122 + l.val) then 0x3F80#16 else 0#16 := by decide +kernel
theorem table_spread_62 : ∀ l : Fin 2, ∀ k : Fin 512, lit1t ((124 + l.val) * 512 + k.val) = if k.val / 64 = (124 + l.val) then 0x3F80#16 else 0#16 := by decide +kernel
theorem table_spread_63 : ∀ l : Fin 2, ∀ k : Fin 512, lit1t ((126 + l.val) * 512 + k.val) = if k.val / 64 = (126 + l.val) then 0x3F80#16 else 0#16 := by decide +kernel

end Cert.Body
-- ==== Proof.TableE.lean ====
/- The table that spreads a head over its lanes: lane `k` belongs to head `k / 64`. -/
module

public import Mathlib.Data.Nat.Notation
public import proofs.«01_k».proof.Proof.TableE0
public import proofs.«01_k».proof.Proof.TableE1
public import proofs.«01_k».proof.Proof.TableE2
public import proofs.«01_k».proof.Proof.TableE3

@[expose] public section

set_option maxRecDepth 16384

namespace Cert.Body

open Idealize.ShloMosaic Cert.KernelIdeal

/-- A property of the row numbers from `a` to `a + R - 1`, at one of them. -/
theorem rows_of (P : ℕ → Prop) (a R n : ℕ) (h : ∀ l : Fin R, P (a + l.val)) (h1 : a ≤ n) (h2 : n < a + R) : P n := by
  have e := h ⟨n - a, by omega⟩
  have e' : a + (n - a) = n := by omega
  exact e' ▸ e

/-- What the table says of row `n`. -/
def SpreadRow (n : ℕ) : Prop := ∀ k : Fin 512, lit1t (n * 512 + k.val) = if k.val / 64 = n then 0x3F80#16 else 0#16

theorem table_spread_q0 (n : ℕ) (hj : 0 ≤ n) (hl : n < 32) : SpreadRow n := by
  by_cases h0 : n < 2
  · exact rows_of SpreadRow 0 2 n table_spread_0 (by omega) (by omega)
  by_cases h1 : n < 4
  · exact rows_of SpreadRow 2 2 n table_spread_1 (by omega) (by omega)
  by_cases h2 : n < 6
  · exact rows_of SpreadRow 4 2 n table_spread_2 (by omega) (by omega)
  by_cases h3 : n < 8
  · exact rows_of SpreadRow 6 2 n table_spread_3 (by omega) (by omega)
  by_cases h4 : n < 10
  · exact rows_of SpreadRow 8 2 n table_spread_4 (by omega) (by omega)
  by_cases h5 : n < 12
  · exact rows_of SpreadRow 10 2 n table_spread_5 (by omega) (by omega)
  by_cases h6 : n < 14
  · exact rows_of SpreadRow 12 2 n table_spread_6 (by omega) (by omega)
  by_cases h7 : n < 16
  · exact rows_of SpreadRow 14 2 n table_spread_7 (by omega) (by omega)
  by_cases h8 : n < 18
  · exact rows_of SpreadRow 16 2 n table_spread_8 (by omega) (by omega)
  by_cases h9 : n < 20
  · exact rows_of SpreadRow 18 2 n table_spread_9 (by omega) (by omega)
  by_cases h10 : n < 22
  · exact rows_of SpreadRow 20 2 n table_spread_10 (by omega) (by omega)
  by_cases h11 : n < 24
  · exact rows_of SpreadRow 22 2 n table_spread_11 (by omega) (by omega)
  by_cases h12 : n < 26
  · exact rows_of SpreadRow 24 2 n table_spread_12 (by omega) (by omega)
  by_cases h13 : n < 28
  · exact rows_of SpreadRow 26 2 n table_spread_13 (by omega) (by omega)
  by_cases h14 : n < 30
  · exact rows_of SpreadRow 28 2 n table_spread_14 (by omega) (by omega)
  exact rows_of SpreadRow 30 2 n table_spread_15 (by omega) (by omega)

theorem table_spread_q1 (n : ℕ) (hj : 32 ≤ n) (hl : n < 64) : SpreadRow n := by
  by_cases h16 : n < 34
  · exact rows_of SpreadRow 32 2 n table_spread_16 (by omega) (by omega)
  by_cases h17 : n < 36
  · exact rows_of SpreadRow 34 2 n table_spread_17 (by omega) (by omega)
  by_cases h18 : n < 38
  · exact rows_of SpreadRow 36 2 n table_spread_18 (by omega) (by omega)
  by_cases h19 : n < 40
  · exact rows_of SpreadRow 38 2 n table_spread_19 (by omega) (by omega)
  by_cases h20 : n < 42
  · exact rows_of SpreadRow 40 2 n table_spread_20 (by omega) (by omega)
  by_cases h21 : n < 44
  · exact rows_of SpreadRow 42 2 n table_spread_21 (by omega) (by omega)
  by_cases h22 : n < 46
  · exact rows_of SpreadRow 44 2 n table_spread_22 (by omega) (by omega)
  by_cases h23 : n < 48
  · exact rows_of SpreadRow 46 2 n table_spread_23 (by omega) (by omega)
  by_cases h24 : n < 50
  · exact rows_of SpreadRow 48 2 n table_spread_24 (by omega) (by omega)
  by_cases h25 : n < 52
  · exact rows_of SpreadRow 50 2 n table_spread_25 (by omega) (by omega)
  by_cases h26 : n < 54
  · exact rows_of SpreadRow 52 2 n table_spread_26 (by omega) (by omega)
  by_cases h27 : n < 56
  · exact rows_of SpreadRow 54 2 n table_spread_27 (by omega) (by omega)
  by_cases h28 : n < 58
  · exact rows_of SpreadRow 56 2 n table_spread_28 (by omega) (by omega)
  by_cases h29 : n < 60
  · exact rows_of SpreadRow 58 2 n table_spread_29 (by omega) (by omega)
  by_cases h30 : n < 62
  · exact rows_of SpreadRow 60 2 n table_spread_30 (by omega) (by omega)
  exact rows_of SpreadRow 62 2 n table_spread_31 (by omega) (by omega)

theorem table_spread_q2 (n : ℕ) (hj : 64 ≤ n) (hl : n < 96) : SpreadRow n := by
  by_cases h32 : n < 66
  · exact rows_of SpreadRow 64 2 n table_spread_32 (by omega) (by omega)
  by_cases h33 : n < 68
  · exact rows_of SpreadRow 66 2 n table_spread_33 (by omega) (by omega)
  by_cases h34 : n < 70
  · exact rows_of SpreadRow 68 2 n table_spread_34 (by omega) (by omega)
  by_cases h35 : n < 72
  · exact rows_of SpreadRow 70 2 n table_spread_35 (by omega) (by omega)
  by_cases h36 : n < 74
  · exact rows_of SpreadRow 72 2 n table_spread_36 (by omega) (by omega)
  by_cases h37 : n < 76
  · exact rows_of SpreadRow 74 2 n table_spread_37 (by omega) (by omega)
  by_cases h38 : n < 78
  · exact rows_of SpreadRow 76 2 n table_spread_38 (by omega) (by omega)
  by_cases h39 : n < 80
  · exact rows_of SpreadRow 78 2 n table_spread_39 (by omega) (by omega)
  by_cases h40 : n < 82
  · exact rows_of SpreadRow 80 2 n table_spread_40 (by omega) (by omega)
  by_cases h41 : n < 84
  · exact rows_of SpreadRow 82 2 n table_spread_41 (by omega) (by omega)
  by_cases h42 : n < 86
  · exact rows_of SpreadRow 84 2 n table_spread_42 (by omega) (by omega)
  by_cases h43 : n < 88
  · exact rows_of SpreadRow 86 2 n table_spread_43 (by omega) (by omega)
  by_cases h44 : n < 90
  · exact rows_of SpreadRow 88 2 n table_spread_44 (by omega) (by omega)
  by_cases h45 : n < 92
  · exact rows_of SpreadRow 90 2 n table_spread_45 (by omega) (by omega)
  by_cases h46 : n < 94
  · exact rows_of SpreadRow 92 2 n table_spread_46 (by omega) (by omega)
  exact rows_of SpreadRow 94 2 n table_spread_47 (by omega) (by omega)

theorem table_spread_q3 (n : ℕ) (hj : 96 ≤ n) (hl : n < 128) : SpreadRow n := by
  by_cases h48 : n < 98
  · exact rows_of SpreadRow 96 2 n table_spread_48 (by omega) (by omega)
  by_cases h49 : n < 100
  · exact rows_of SpreadRow 98 2 n table_spread_49 (by omega) (by omega)
  by_cases h50 : n < 102
  · exact rows_of SpreadRow 100 2 n table_spread_50 (by omega) (by omega)
  by_cases h51 : n < 104
  · exact rows_of SpreadRow 102 2 n table_spread_51 (by omega) (by omega)
  by_cases h52 : n < 106
  · exact rows_of SpreadRow 104 2 n table_spread_52 (by omega) (by omega)
  by_cases h53 : n < 108
  · exact rows_of SpreadRow 106 2 n table_spread_53 (by omega) (by omega)
  by_cases h54 : n < 110
  · exact rows_of SpreadRow 108 2 n table_spread_54 (by omega) (by omega)
  by_cases h55 : n < 112
  · exact rows_of SpreadRow 110 2 n table_spread_55 (by omega) (by omega)
  by_cases h56 : n < 114
  · exact rows_of SpreadRow 112 2 n table_spread_56 (by omega) (by omega)
  by_cases h57 : n < 116
  · exact rows_of SpreadRow 114 2 n table_spread_57 (by omega) (by omega)
  by_cases h58 : n < 118
  · exact rows_of SpreadRow 116 2 n table_spread_58 (by omega) (by omega)
  by_cases h59 : n < 120
  · exact rows_of SpreadRow 118 2 n table_spread_59 (by omega) (by omega)
  by_cases h60 : n < 122
  · exact rows_of SpreadRow 120 2 n table_spread_60 (by omega) (by omega)
  by_cases h61 : n < 124
  · exact rows_of SpreadRow 122 2 n table_spread_61 (by omega) (by omega)
  by_cases h62 : n < 126
  · exact rows_of SpreadRow 124 2 n table_spread_62 (by omega) (by omega)
  exact rows_of SpreadRow 126 2 n table_spread_63 (by omega) (by omega)

theorem table_spread (l : Fin 128) (k : Fin 512) : lit1t (l.val * 512 + k.val) = if k.val / 64 = l.val then 0x3F80#16 else 0#16 := by
  have hl := l.isLt
  by_cases h0 : l.val < 32
  · exact table_spread_q0 l.val (by omega) h0 k
  by_cases h1 : l.val < 64
  · exact table_spread_q1 l.val (by omega) h1 k
  by_cases h2 : l.val < 96
  · exact table_spread_q2 l.val (by omega) h2 k
  exact table_spread_q3 l.val (by omega) hl k

end Cert.Body
-- ==== Proof.Entry.lean ====
/- What the windows of the call hold at a point of the grid, in terms of the arguments: the host lines before the call lay `B` beside `C`, the steps
   and decays out as planes, the states out by group, and write the two triangular tables and the spreading table. -/
module

public import proofs.«01_k».proof.Proof.Gen.KernelIdeal.Frame
public import proofs.«01_k».proof.Proof.Body
public import proofs.«01_k».proof.Proof.Job
public import proofs.«01_k».proof.Proof.TableF
public import proofs.«01_k».proof.Proof.TableB
public import proofs.«01_k».proof.Proof.TableE
public import Idealize.ShloMosaic.Lib.Pointwise
public import Idealize.ShloMosaic.Lib.Claim
public import Idealize.ShloMosaic.Lib.IdealHost

@[expose] public section

set_option maxRecDepth 16384

noncomputable section

namespace Cert.Body

open Idealize.ShloMosaic Idealize.ShloMosaic.TcCoe Cert.KernelIdeal Cert.KernelIdeal.Gen Idealize.SL.Sem

variable (m : (ℓ : Loc nD τ sig) → Buf (Elt Ideal) ℓ) (c : Dev nD)

/-- The arguments as launched. -/
def kargs : Scan.Args where
  xs b t q := (m ((c : Thread nD τ).loc main_arg0) : V16 S4x8192x512) (ix3 b t q)
  bm b t n := (m ((c : Thread nD τ).loc main_arg1) : V16 S4x8192x256) (ix3 b t n)
  cm b t n := (m ((c : Thread nD τ).loc main_arg2) : V16 S4x8192x256) (ix3 b t n)
  dt b t d h := (m ((c : Thread nD τ).loc main_arg3) : V32 S4x8192x2x8) (ix4 b t d h)
  dA b t d h := (m ((c : Thread nD τ).loc main_arg4) : V32 S4x8192x2x8) (ix4 b t d h)
  ini d b h p n := if d = 0 then (m ((c : Thread nD τ).loc main_arg5) : V32 S4x8x64x128) (ix4 b h p n)
    else (m ((c : Thread nD τ).loc main_arg6) : V32 S4x8x64x128) (ix4 b h p n)

theorem entry_dt (b : Fin 4) (d : Fin 2) (r : Fin 8192) (h : Fin 8) :
    (V m c main_v11 : V32 S4x2x8192x128) (ix4 b d r (h.castLE (by decide))) = (kargs m c).dt b r d h := by
  simp only [V, hostOps0, hostOps0_1, hostOps0_2, hostOps0_3, List.flatten_cons, List.flatten_nil, List.append_nil, List.cons_append,
    List.nil_append]
  entry_read
  show (pad S4x2x8192x128 ![0, 0, 0, 0] ![0, 0, 0, 120] ![0, 0, 0, 0]
    (transpose S4x2x8192x8 [0, 2, 1, 3] (m (c, Proc.tc.devRef main_arg3) : V32 S4x8192x2x8) transposes_S4x8192x2x8_S4x2x8192x8_0_2_1_3 : V32 S4x2x8192x8)
    (sitofp (F := Ideal) .f32 (constantI S_ 32 0#32) : V32 S_) pads_S4x2x8192x8_S4x2x8192x128_000_000_000_01200 h_S_ : V32 S4x2x8192x128)
      (ix4 b d r (h.castLE (by decide))) = _
  pointwise
  have := h.isLt
  simp [this]
  rfl

theorem entry_dA (b : Fin 4) (d : Fin 2) (r : Fin 8192) (h : Fin 8) :
    (V m c main_v13 : V32 S4x2x8192x128) (ix4 b d r (h.castLE (by decide))) = (kargs m c).dA b r d h := by
  simp only [V, hostOps0, hostOps0_1, hostOps0_2, hostOps0_3, List.flatten_cons, List.flatten_nil, List.append_nil, List.cons_append,
    List.nil_append]
  entry_read
  show (pad S4x2x8192x128 ![0, 0, 0, 0] ![0, 0, 0, 120] ![0, 0, 0, 0]
    (transpose S4x2x8192x8 [0, 2, 1, 3] (m (c, Proc.tc.devRef main_arg4) : V32 S4x8192x2x8) transposes_S4x8192x2x8_S4x2x8192x8_0_2_1_3 : V32 S4x2x8192x8)
    (sitofp (F := Ideal) .f32 (constantI S_ 32 0#32) : V32 S_) pads_S4x2x8192x8_S4x2x8192x128_000_000_000_01200 h_S_ : V32 S4x2x8192x128)
      (ix4 b d r (h.castLE (by decide))) = _
  pointwise
  have := h.isLt
  simp [this]
  rfl

theorem entry_bc (b : Fin 4) (r : Fin 8192) (q : Fin 512) :
    (V m c main_v0 : V16 S4x8192x512) (ix3 b r q)
      = if h : q.val < 256 then (kargs m c).bm b r ⟨q.val, h⟩ else (kargs m c).cm b r ⟨q.val - 256, by omega⟩ := by
  simp only [V, hostOps0, hostOps0_1, hostOps0_2, hostOps0_3, List.flatten_cons, List.flatten_nil, List.append_nil, List.cons_append,
    List.nil_append]
  entry_read
  pointwise
  rfl

theorem entry_ini (b : Fin 4) (d o : Fin 2) (n : Fin 128) (q : Fin 256) :
    (V m c main_v9 : V32 S4x2x2x128x256) (ix5 b d o n q)
      = (kargs m c).ini d b ⟨o.val * 4 + q.val / 64, by omega⟩ ⟨q.val % 64, by omega⟩ n := by
  simp only [V, hostOps0, hostOps0_1, hostOps0_2, hostOps0_3, List.flatten_cons, List.flatten_nil, List.append_nil, List.cons_append,
    List.nil_append]
  entry_read
  pointwise
  have e : (d.val < 1) = (d = 0) := by apply propext; rw [Fin.ext_iff]; show d.val < 1 ↔ d.val = 0; omega
  simp only [e]
  rfl

theorem entry_xs (b : Fin 4) (r : Fin 8192) (q : Fin 512) : (V m c main_arg0 : V16 S4x8192x512) (ix3 b r q) = (kargs m c).xs b r q := by
  rw [V_main_arg0]; rfl

theorem entry_triF (l k : Fin 128) : (V m c main_cst : V32 S2x128x128) (ix3 0 l k) = (if k.val ≤ l.val then 1 else 0 : EReal) := by
  simp only [V, hostOps0, hostOps0_1, hostOps0_2, hostOps0_3, List.flatten_cons, List.flatten_nil, List.append_nil, List.cons_append,
    List.nil_append]
  entry_read
  have e : S2x128x128.rowMajor (ix3 0 l k) = ⟨l.val * 128 + k.val, by show _ < 32768; omega⟩ := Fin.ext (by rw [Shape.rowMajor_val_three]; simp [ix3]; try omega)
  show Ideal.ofBits .f32 (lit0 (S2x128x128.rowMajor (ix3 0 l k))) = _
  rw [e]
  show Ideal.ofBits .f32 (lit0t (l.val * 128 + k.val)) = _
  rw [table_fwd]
  split
  · exact Ideal.ofBits_one_f32
  · exact Ideal.ofBits_zero_f32

theorem entry_triB (l k : Fin 128) : (V m c main_cst : V32 S2x128x128) (ix3 1 l k) = (if l.val ≤ k.val then 1 else 0 : EReal) := by
  simp only [V, hostOps0, hostOps0_1, hostOps0_2, hostOps0_3, List.flatten_cons, List.flatten_nil, List.append_nil, List.cons_append,
    List.nil_append]
  entry_read
  have e : S2x128x128.rowMajor (ix3 1 l k) = ⟨16384 + l.val * 128 + k.val, by show _ < 32768; omega⟩ := Fin.ext (by rw [Shape.rowMajor_val_three]; simp [ix3]; try omega)
  show Ideal.ofBits .f32 (lit0 (S2x128x128.rowMajor (ix3 1 l k))) = _
  rw [e]
  show Ideal.ofBits .f32 (lit0t (16384 + l.val * 128 + k.val)) = _
  rw [table_bwd]
  split
  · exact Ideal.ofBits_one_f32
  · exact Ideal.ofBits_zero_f32

theorem entry_spread (h : Fin 128) (q : Fin 512) : (V m c main_cst_0 : V16 S128x512) (ix2 h q) = (if q.val / 64 = h.val then 1 else 0 : EReal) := by
  simp only [V, hostOps0, hostOps0_1, hostOps0_2, hostOps0_3, List.flatten_cons, List.flatten_nil, List.append_nil, List.cons_append,
    List.nil_append]
  entry_read
  have e : S128x512.rowMajor (ix2 h q) = ⟨h.val * 512 + q.val, by show _ < 65536; omega⟩ := Fin.ext (by rw [Shape.rowMajor_val_two]; simp [ix2])
  show Ideal.ofBits .bf16 (lit1 (S128x512.rowMajor (ix2 h q))) = _
  rw [e]
  show Ideal.ofBits .bf16 (lit1t (h.val * 512 + q.val)) = _
  rw [table_spread]
  split
  · exact Ideal.ofBits_one_bf16
  · exact Ideal.ofBits_zero_bf16

/-! ### The windows -/

theorem count_points (t : Fin cfg0.N) : t.val < 32 := lt_of_lt_of_eq t.isLt N_0

/-- The batch row of a point. -/
def row (t : Fin cfg0.N) : Fin 4 := ⟨t.val / 8, by have := count_points t; omega⟩

theorem idx0 : ∀ t : Fin cfg0.N, win0_0.index t = ![t.val / 8, t.val % 8, 0] := by decide +kernel
theorem idx1 : ∀ t : Fin cfg0.N, win0_1.index t = ![t.val / 8, t.val % 8, 0] := by decide +kernel
theorem idx2 : ∀ t : Fin cfg0.N, win0_2.index t = ![t.val / 8, 0, t.val % 8, 0] := by decide +kernel
theorem idx3 : ∀ t : Fin cfg0.N, win0_3.index t = ![t.val / 8, 0, t.val % 8, 0] := by decide +kernel
theorem idx4 : ∀ t : Fin cfg0.N, win0_4.index t = ![t.val / 8, 7 - t.val % 8, 0] := by decide +kernel
theorem idx5 : ∀ t : Fin cfg0.N, win0_5.index t = ![t.val / 8, 7 - t.val % 8, 0] := by decide +kernel
theorem idx6 : ∀ t : Fin cfg0.N, win0_6.index t = ![t.val / 8, 1, 7 - t.val % 8, 0] := by decide +kernel
theorem idx7 : ∀ t : Fin cfg0.N, win0_7.index t = ![t.val / 8, 1, 7 - t.val % 8, 0] := by decide +kernel
theorem idx8 : ∀ t : Fin cfg0.N, win0_8.index t = ![0, 0, 0] := by decide +kernel
theorem idx9 : ∀ t : Fin cfg0.N, win0_9.index t = ![0, 0] := by decide +kernel
theorem idx10 : ∀ t : Fin cfg0.N, win0_10.index t = ![t.val / 8, 0, 0, 0, 0] := by decide +kernel
theorem idx11 : ∀ t : Fin cfg0.N, win0_11.index t = ![t.val / 8, t.val % 8, 0] := by decide +kernel
theorem idx12 : ∀ t : Fin cfg0.N, win0_12.index t = ![t.val / 8, 7 - t.val % 8, 0] := by decide +kernel
theorem idx13 : ∀ t : Fin cfg0.N, win0_13.index t = ![t.val / 8, 0, 0, 0, 0] := by decide +kernel

/-- The token at row `r` of the block of direction `d` at point `t`. -/
def place (d : Fin 2) (t : Fin cfg0.N) (r : Fin 1024) : Fin 8192 :=
  if d = 0 then ⟨t.val % 8 * 1024 + r.val, by omega⟩ else ⟨(7 - t.val % 8) * 1024 + r.val, by omega⟩

theorem win_xsF (t : Fin cfg0.N) (r : Fin 1024) (q : Fin 512) : (iblk m c 0 t : V16 S1x1024x512) (ix3 0 r q) = (kargs m c).xs (row t) (place 0 t r) q := by
  rw [← entry_xs]
  blk_ext [iblk, idx0 t, row, place] <;> simp

theorem win_bcF (t : Fin cfg0.N) (r : Fin 1024) (q : Fin 512) : (iblk m c 1 t : V16 S1x1024x512) (ix3 0 r q)
      = if h : q.val < 256 then (kargs m c).bm (row t) (place 0 t r) ⟨q.val, h⟩ else (kargs m c).cm (row t) (place 0 t r) ⟨q.val - 256, by omega⟩ := by
  rw [← entry_bc]
  blk_ext [iblk, idx1 t, row, place] <;> simp

theorem win_dtF (t : Fin cfg0.N) (r : Fin 1024) (h : Fin 8) : (iblk m c 2 t : V32 S1x1x1024x128) (ix4 0 0 r (h.castLE (by decide)))
      = (kargs m c).dt (row t) (place 0 t r) 0 h := by
  rw [← entry_dt]
  blk_ext [iblk, idx2 t, row, place] <;> simp

theorem win_dAF (t : Fin cfg0.N) (r : Fin 1024) (h : Fin 8) : (iblk m c 3 t : V32 S1x1x1024x128) (ix4 0 0 r (h.castLE (by decide)))
      = (kargs m c).dA (row t) (place 0 t r) 0 h := by
  rw [← entry_dA]
  blk_ext [iblk, idx3 t, row, place] <;> simp

theorem win_xsB (t : Fin cfg0.N) (r : Fin 1024) (q : Fin 512) : (iblk m c 4 t : V16 S1x1024x512) (ix3 0 r q) = (kargs m c).xs (row t) (place 1 t r) q := by
  rw [← entry_xs]
  blk_ext [iblk, idx4 t, row, place] <;> simp

theorem win_bcB (t : Fin cfg0.N) (r : Fin 1024) (q : Fin 512) : (iblk m c 5 t : V16 S1x1024x512) (ix3 0 r q)
      = if h : q.val < 256 then (kargs m c).bm (row t) (place 1 t r) ⟨q.val, h⟩ else (kargs m c).cm (row t) (place 1 t r) ⟨q.val - 256, by omega⟩ := by
  rw [← entry_bc]
  blk_ext [iblk, idx5 t, row, place] <;> simp

theorem win_dtB (t : Fin cfg0.N) (r : Fin 1024) (h : Fin 8) : (iblk m c 6 t : V32 S1x1x1024x128) (ix4 0 0 r (h.castLE (by decide)))
      = (kargs m c).dt (row t) (place 1 t r) 1 h := by
  rw [← entry_dt]
  blk_ext [iblk, idx6 t, row, place] <;> simp

theorem win_dAB (t : Fin cfg0.N) (r : Fin 1024) (h : Fin 8) : (iblk m c 7 t : V32 S1x1x1024x128) (ix4 0 0 r (h.castLE (by decide)))
      = (kargs m c).dA (row t) (place 1 t r) 1 h := by
  rw [← entry_dA]
  blk_ext [iblk, idx7 t, row, place] <;> simp

theorem win_tri (t : Fin cfg0.N) (d : Fin 2) (l k : Fin 128) : (iblk m c 8 t : V32 S2x128x128) (ix3 d l k) = (V m c main_cst : V32 S2x128x128) (ix3 d l k) := by
  blk_ext [iblk, idx8 t]

theorem win_spread (t : Fin cfg0.N) (h : Fin 128) (q : Fin 512) : (iblk m c 9 t : V16 S128x512) (ix2 h q) = (if q.val / 64 = h.val then 1 else 0 : EReal) := by
  rw [← entry_spread m c]
  blk_ext [iblk, idx9 t]

theorem win_ini (t : Fin cfg0.N) (d o : Fin 2) (n : Fin 128) (q : Fin 256) : (iblk m c 10 t : V32 S1x2x2x128x256) (ix5 0 d o n q)
      = (kargs m c).ini d (row t) ⟨o.val * 4 + q.val / 64, by omega⟩ ⟨q.val % 64, by omega⟩ n := by
  rw [← entry_ini]
  blk_ext [iblk, idx10 t, row]

end Cert.Body

end
-- ==== Proof.Pieces.lean ====
/- The blocks that a grid point's stores leave, piece by piece: `Body`'s functions at the point's own blocks, chunk after chunk, each chunk's state
   the one that the chunk before it left. The three cases of the body differ in where the first state comes from (the initial states, or what the
   point before left) and in the last point's copy of the final states. -/
module

public import proofs.«01_k».proof.Proof.Gen.KernelIdeal.Frame
public import proofs.«01_k».proof.Proof.Body
public import Idealize.ShloMosaic.Lib.Pipeline.ReadBack

@[expose] public section

set_option maxRecDepth 16384

noncomputable section

namespace Cert.Body

open Idealize.ShloMosaic Idealize.ShloMosaic.TcCoe Cert.KernelIdeal Cert.KernelIdeal.Gen

/-- What a chunk of a direction reads of a point's blocks: the direction's plane of the triangular matrices and the 128 rows from `128 r` on. -/
def inp (d r : ℕ) (T : V32 S2x128x128) (E : V16 S128x512) (X BC : V16 S1x1024x512) (D A : V32 S1x1x1024x128) : In where
  T := View.ld (Val := Elt Ideal) (e' := .f32) T (Rect.unit (s := S2x128x128) ![d % 2, 0, 0] ![1, 128, 128] (by intro a; fin_cases a <;> simp <;> omega))
  E := E
  X := View.ld (Val := Elt Ideal) (e' := .bf16) X (Rect.unit (s := S1x1024x512) ![0, r % 8 * 128, 0] ![1, 128, 512] (by intro a; fin_cases a <;> simp <;> omega))
  BC := View.ld (Val := Elt Ideal) (e' := .bf16) BC (Rect.unit (s := S1x1024x512) ![0, r % 8 * 128, 0] ![1, 128, 512] (by intro a; fin_cases a <;> simp <;> omega))
  D := View.ld (Val := Elt Ideal) (e' := .f32) D (Rect.unit (s := S1x1x1024x128) ![0, 0, r % 8 * 128, 0] ![1, 1, 128, 128] (by intro a; fin_cases a <;> simp <;> omega))
  A := View.ld (Val := Elt Ideal) (e' := .f32) A (Rect.unit (s := S1x1x1024x128) ![0, 0, r % 8 * 128, 0] ![1, 1, 128, 128] (by intro a; fin_cases a <;> simp <;> omega))

/-- A state of a direction and a group, out of all four. -/
def pick (d g : ℕ) (S : V32 S2x2x128x256) : V32 S1x1x128x256 :=
  View.ld (Val := Elt Ideal) (e' := .f32) S (Rect.unit (s := S2x2x128x256) ![d % 2, g % 2, 0, 0] ![1, 1, 128, 256] (by intro a; fin_cases a <;> simp <;> omega))

/-- The state of the first group before chunk `j` of a direction that runs forwards. -/
def stF0 (I : ℕ → In) (S : V32 S1x1x128x256) : ℕ → V32 S1x1x128x256
  | 0 => S
  | j + 1 => (I j).next0 (I j).totF (stF0 I S j)

/-- The state of the second group. -/
def stF1 (I : ℕ → In) (S : V32 S1x1x128x256) : ℕ → V32 S1x1x128x256
  | 0 => S
  | j + 1 => (I j).next1 (I j).totF (stF1 I S j)

/-- The state of the first group before chunk `j`, counted from the end, of a direction that runs backwards. -/
def stB0 (I : ℕ → In) (S : V32 S1x1x128x256) : ℕ → V32 S1x1x128x256
  | 0 => S
  | j + 1 => (I j).next0 (I j).totB (stB0 I S j)

/-- The state of the second group. -/
def stB1 (I : ℕ → In) (S : V32 S1x1x128x256) : ℕ → V32 S1x1x128x256
  | 0 => S
  | j + 1 => (I j).next1 (I j).totB (stB1 I S j)

/-- The pieces of the output of the direction that runs forwards, last first. -/
def piecesF (I : ℕ → In) (s0 s1 : V32 S1x1x128x256) : List (View.Piece (Elt Ideal) S1x1024x512 .bf16) := [
    ⟨Rect.unit ![0, 896, 256] ![1, 128, 256] inb_S1x1024x512_S1x128x256_0_896_256, (I 7).y1 (stF1 I s1 7)⟩,
    ⟨Rect.unit ![0, 896, 0] ![1, 128, 256] inb_S1x1024x512_S1x128x256_0_896_0, (I 7).y0 (stF0 I s0 7)⟩,
    ⟨Rect.unit ![0, 768, 256] ![1, 128, 256] inb_S1x1024x512_S1x128x256_0_768_256, (I 6).y1 (stF1 I s1 6)⟩,
    ⟨Rect.unit ![0, 768, 0] ![1, 128, 256] inb_S1x1024x512_S1x128x256_0_768_0, (I 6).y0 (stF0 I s0 6)⟩,
    ⟨Rect.unit ![0, 640, 256] ![1, 128, 256] inb_S1x1024x512_S1x128x256_0_640_256, (I 5).y1 (stF1 I s1 5)⟩,
    ⟨Rect.unit ![0, 640, 0] ![1, 128, 256] inb_S1x1024x512_S1x128x256_0_640_0, (I 5).y0 (stF0 I s0 5)⟩,
    ⟨Rect.unit ![0, 512, 256] ![1, 128, 256] inb_S1x1024x512_S1x128x256_0_512_256, (I 4).y1 (stF1 I s1 4)⟩,
    ⟨Rect.unit ![0, 512, 0] ![1, 128, 256] inb_S1x1024x512_S1x128x256_0_512_0, (I 4).y0 (stF0 I s0 4)⟩,
    ⟨Rect.unit ![0, 384, 256] ![1, 128, 256] inb_S1x1024x512_S1x128x256_0_384_256, (I 3).y1 (stF1 I s1 3)⟩,
    ⟨Rect.unit ![0, 384, 0] ![1, 128, 256] inb_S1x1024x512_S1x128x256_0_384_0, (I 3).y0 (stF0 I s0 3)⟩,
    ⟨Rect.unit ![0, 256, 256] ![1, 128, 256] inb_S1x1024x512_S1x128x256_0_256_256, (I 2).y1 (stF1 I s1 2)⟩,
    ⟨Rect.unit ![0, 256, 0] ![1, 128, 256] inb_S1x1024x512_S1x128x256_0_256_0, (I 2).y0 (stF0 I s0 2)⟩,
    ⟨Rect.unit ![0, 128, 256] ![1, 128, 256] inb_S1x1024x512_S1x128x256_0_128_256, (I 1).y1 (stF1 I s1 1)⟩,
    ⟨Rect.unit ![0, 128, 0] ![1, 128, 256] inb_S1x1024x512_S1x128x256_0_128_0, (I 1).y0 (stF0 I s0 1)⟩,
    ⟨Rect.unit ![0, 0, 256] ![1, 128, 256] inb_S1x1024x512_S1x128x256_0_0_256, (I 0).y1 (stF1 I s1 0)⟩,
    ⟨Rect.unit ![0, 0, 0] ![1, 128, 256] inb_S1x1024x512_S1x128x256_0_0_0, (I 0).y0 (stF0 I s0 0)⟩]

/-- The pieces of the output of the direction that runs backwards, last first. -/
def piecesB (I : ℕ → In) (s0 s1 : V32 S1x1x128x256) : List (View.Piece (Elt Ideal) S1x1024x512 .bf16) := [
    ⟨Rect.unit ![0, 0, 256] ![1, 128, 256] inb_S1x1024x512_S1x128x256_0_0_256, (I 7).y1 (stB1 I s1 7)⟩,
    ⟨Rect.unit ![0, 0, 0] ![1, 128, 256] inb_S1x1024x512_S1x128x256_0_0_0, (I 7).y0 (stB0 I s0 7)⟩,
    ⟨Rect.unit ![0, 128, 256] ![1, 128, 256] inb_S1x1024x512_S1x128x256_0_128_256, (I 6).y1 (stB1 I s1 6)⟩,
    ⟨Rect.unit ![0, 128, 0] ![1, 128, 256] inb_S1x1024x512_S1x128x256_0_128_0, (I 6).y0 (stB0 I s0 6)⟩,
    ⟨Rect.unit ![0, 256, 256] ![1, 128, 256] inb_S1x1024x512_S1x128x256_0_256_256, (I 5).y1 (stB1 I s1 5)⟩,
    ⟨Rect.unit ![0, 256, 0] ![1, 128, 256] inb_S1x1024x512_S1x128x256_0_256_0, (I 5).y0 (stB0 I s0 5)⟩,
    ⟨Rect.unit ![0, 384, 256] ![1, 128, 256] inb_S1x1024x512_S1x128x256_0_384_256, (I 4).y1 (stB1 I s1 4)⟩,
    ⟨Rect.unit ![0, 384, 0] ![1, 128, 256] inb_S1x1024x512_S1x128x256_0_384_0, (I 4).y0 (stB0 I s0 4)⟩,
    ⟨Rect.unit ![0, 512, 256] ![1, 128, 256] inb_S1x1024x512_S1x128x256_0_512_256, (I 3).y1 (stB1 I s1 3)⟩,
    ⟨Rect.unit ![0, 512, 0] ![1, 128, 256] inb_S1x1024x512_S1x128x256_0_512_0, (I 3).y0 (stB0 I s0 3)⟩,
    ⟨Rect.unit ![0, 640, 256] ![1, 128, 256] inb_S1x1024x512_S1x128x256_0_640_256, (I 2).y1 (stB1 I s1 2)⟩,
    ⟨Rect.unit ![0, 640, 0] ![1, 128, 256] inb_S1x1024x512_S1x128x256_0_640_0, (I 2).y0 (stB0 I s0 2)⟩,
    ⟨Rect.unit ![0, 768, 256] ![1, 128, 256] inb_S1x1024x512_S1x128x256_0_768_256, (I 1).y1 (stB1 I s1 1)⟩,
    ⟨Rect.unit ![0, 768, 0] ![1, 128, 256] inb_S1x1024x512_S1x128x256_0_768_0, (I 1).y0 (stB0 I s0 1)⟩,
    ⟨Rect.unit ![0, 896, 256] ![1, 128, 256] inb_S1x1024x512_S1x128x256_0_896_256, (I 0).y1 (stB1 I s1 0)⟩,
    ⟨Rect.unit ![0, 896, 0] ![1, 128, 256] inb_S1x1024x512_S1x128x256_0_896_0, (I 0).y0 (stB0 I s0 0)⟩]

/-- The pieces of the states, last first; `L` is what was stored before them. -/
def piecesS (I J : ℕ → In) (s0 s1 u0 u1 : V32 S1x1x128x256) (L : List (View.Piece (Elt Ideal) S2x2x128x256 .f32)) :
    List (View.Piece (Elt Ideal) S2x2x128x256 .f32) :=
    ⟨Rect.unit ![1, 1, 0, 0] ![1, 1, 128, 256] inb_S2x2x128x256_S1x1x128x256_1_1_0_0, stB1 J u1 8⟩ ::
    ⟨Rect.unit ![1, 0, 0, 0] ![1, 1, 128, 256] inb_S2x2x128x256_S1x1x128x256_1_0_0_0, stB0 J u0 8⟩ ::
    ⟨Rect.unit ![1, 1, 0, 0] ![1, 1, 128, 256] inb_S2x2x128x256_S1x1x128x256_1_1_0_0, stB1 J u1 7⟩ ::
    ⟨Rect.unit ![1, 0, 0, 0] ![1, 1, 128, 256] inb_S2x2x128x256_S1x1x128x256_1_0_0_0, stB0 J u0 7⟩ ::
    ⟨Rect.unit ![1, 1, 0, 0] ![1, 1, 128, 256] inb_S2x2x128x256_S1x1x128x256_1_1_0_0, stB1 J u1 6⟩ ::
    ⟨Rect.unit ![1, 0, 0, 0] ![1, 1, 128, 256] inb_S2x2x128x256_S1x1x128x256_1_0_0_0, stB0 J u0 6⟩ ::
    ⟨Rect.unit ![1, 1, 0, 0] ![1, 1, 128, 256] inb_S2x2x128x256_S1x1x128x256_1_1_0_0, stB1 J u1 5⟩ ::
    ⟨Rect.unit ![1, 0, 0, 0] ![1, 1, 128, 256] inb_S2x2x128x256_S1x1x128x256_1_0_0_0, stB0 J u0 5⟩ ::
    ⟨Rect.unit ![1, 1, 0, 0] ![1, 1, 128, 256] inb_S2x2x128x256_S1x1x128x256_1_1_0_0, stB1 J u1 4⟩ ::
    ⟨Rect.unit ![1, 0, 0, 0] ![1, 1, 128, 256] inb_S2x2x128x256_S1x1x128x256_1_0_0_0, stB0 J u0 4⟩ ::
    ⟨Rect.unit ![1, 1, 0, 0] ![1, 1, 128, 256] inb_S2x2x128x256_S1x1x128x256_1_1_0_0, stB1 J u1 3⟩ ::
    ⟨Rect.unit ![1, 0, 0, 0] ![1, 1, 128, 256] inb_S2x2x128x256_S1x1x128x256_1_0_0_0, stB0 J u0 3⟩ ::
    ⟨Rect.unit ![1, 1, 0, 0] ![1, 1, 128, 256] inb_S2x2x128x256_S1x1x128x256_1_1_0_0, stB1 J u1 2⟩ ::
    ⟨Rect.unit ![1, 0, 0, 0] ![1, 1, 128, 256] inb_S2x2x128x256_S1x1x128x256_1_0_0_0, stB0 J u0 2⟩ ::
    ⟨Rect.unit ![1, 1, 0, 0] ![1, 1, 128, 256] inb_S2x2x128x256_S1x1x128x256_1_1_0_0, stB1 J u1 1⟩ ::
    ⟨Rect.unit ![1, 0, 0, 0] ![1, 1, 128, 256] inb_S2x2x128x256_S1x1x128x256_1_0_0_0, stB0 J u0 1⟩ ::
    ⟨Rect.unit ![0, 1, 0, 0] ![1, 1, 128, 256] inb_S2x2x128x256_S1x1x128x256_0_1_0_0, stF1 I s1 8⟩ ::
    ⟨Rect.unit ![0, 0, 0, 0] ![1, 1, 128, 256] inb_S2x2x128x256_S1x1x128x256_0_0_0_0, stF0 I s0 8⟩ ::
    ⟨Rect.unit ![0, 1, 0, 0] ![1, 1, 128, 256] inb_S2x2x128x256_S1x1x128x256_0_1_0_0, stF1 I s1 7⟩ ::
    ⟨Rect.unit ![0, 0, 0, 0] ![1, 1, 128, 256] inb_S2x2x128x256_S1x1x128x256_0_0_0_0, stF0 I s0 7⟩ ::
    ⟨Rect.unit ![0, 1, 0, 0] ![1, 1, 128, 256] inb_S2x2x128x256_S1x1x128x256_0_1_0_0, stF1 I s1 6⟩ ::
    ⟨Rect.unit ![0, 0, 0, 0] ![1, 1, 128, 256] inb_S2x2x128x256_S1x1x128x256_0_0_0_0, stF0 I s0 6⟩ ::
    ⟨Rect.unit ![0, 1, 0, 0] ![1, 1, 128, 256] inb_S2x2x128x256_S1x1x128x256_0_1_0_0, stF1 I s1 5⟩ ::
    ⟨Rect.unit ![0, 0, 0, 0] ![1, 1, 128, 256] inb_S2x2x128x256_S1x1x128x256_0_0_0_0, stF0 I s0 5⟩ ::
    ⟨Rect.unit ![0, 1, 0, 0] ![1, 1, 128, 256] inb_S2x2x128x256_S1x1x128x256_0_1_0_0, stF1 I s1 4⟩ ::
    ⟨Rect.unit ![0, 0, 0, 0] ![1, 1, 128, 256] inb_S2x2x128x256_S1x1x128x256_0_0_0_0, stF0 I s0 4⟩ ::
    ⟨Rect.unit ![0, 1, 0, 0] ![1, 1, 128, 256] inb_S2x2x128x256_S1x1x128x256_0_1_0_0, stF1 I s1 3⟩ ::
    ⟨Rect.unit ![0, 0, 0, 0] ![1, 1, 128, 256] inb_S2x2x128x256_S1x1x128x256_0_0_0_0, stF0 I s0 3⟩ ::
    ⟨Rect.unit ![0, 1, 0, 0] ![1, 1, 128, 256] inb_S2x2x128x256_S1x1x128x256_0_1_0_0, stF1 I s1 2⟩ ::
    ⟨Rect.unit ![0, 0, 0, 0] ![1, 1, 128, 256] inb_S2x2x128x256_S1x1x128x256_0_0_0_0, stF0 I s0 2⟩ ::
    ⟨Rect.unit ![0, 1, 0, 0] ![1, 1, 128, 256] inb_S2x2x128x256_S1x1x128x256_0_1_0_0, stF1 I s1 1⟩ ::
    ⟨Rect.unit ![0, 0, 0, 0] ![1, 1, 128, 256] inb_S2x2x128x256_S1x1x128x256_0_0_0_0, stF0 I s0 1⟩ ::
    L

end Cert.Body

end
-- ==== Proof.Reading.lean ====
/- The chunk's vectors at an index, over the extended reals: the half-width pieces add up to the number they were cut from, the product with the
   triangular matrix is a running sum and the product with the spreading matrix repeats a head's number over its lanes. -/
module

public import proofs.«01_k».proof.Proof.Body
public import proofs.«01_k».proof.Proof.Scan
public import Idealize.ShloMosaic.Lib.Pointwise

@[expose] public section

set_option maxRecDepth 16384

noncomputable section

namespace Cert.Body

open Idealize.ShloMosaic Idealize.ShloMosaic.TcCoe Cert.KernelIdeal Cert.KernelIdeal.Facts₀ Cert.KernelIdeal.Facts

/-- A finite number less itself. -/
theorem sub_self_of_finite {x : EReal} (h : x ≠ ⊥ ∧ x ≠ ⊤) : x - x = 0 := by
  induction x with
  | bot => exact absurd rfl h.1
  | top => exact absurd rfl h.2
  | coe r => rw [← EReal.coe_sub, sub_self, EReal.coe_zero]

theorem sums_apply (T : V32 S1x128x128) (A : V32 S1x1x128x128) (l h : Fin 128) :
    sums T A (ix2 l h) = (∑ k : Fin 128, T (ix3 0 l k) * A (ix4 0 0 k h)) + (∑ k : Fin 128, T (ix3 0 l k) * (A (ix4 0 0 k h) - A (ix4 0 0 k h)))
      + (∑ k : Fin 128, T (ix3 0 l k) * (A (ix4 0 0 k h) - A (ix4 0 0 k h) - (A (ix4 0 0 k h) - A (ix4 0 0 k h)))) := by
  pointwise [sums, sums3, left]
  have e : ∀ p, (⟨256 + h.val - 128 - 128, p⟩ : Fin 128) = h := fun p => Fin.ext (by show 256 + h.val - 128 - 128 = h.val; omega)
  refine congrArg₂ _ rfl (Finset.sum_congr rfl fun k _ => ?_)
  rw [dif_neg (by omega), dif_neg (by omega)]
  simp only [e]

theorem csx_apply (cs : V32 S128x128) (D : V32 S1x1x128x128) (E : V16 S128x512) (l : Fin 128) (q : Fin 512) :
    csx (wide cs D E) (ix2 l q) = (∑ h : Fin 128, cs (ix2 l h) * E (ix2 h q)) + ∑ h : Fin 128, (cs (ix2 l h) - cs (ix2 l h)) * E (ix2 h q) := by
  pointwise [csx, wide, left]

theorem dtx_apply (cs : V32 S128x128) (D : V32 S1x1x128x128) (E : V16 S128x512) (l : Fin 128) (q : Fin 512) :
    dtx (wide cs D E) (ix2 l q) = (∑ h : Fin 128, D (ix4 0 0 l h) * E (ix2 h q)) + ∑ h : Fin 128, (D (ix4 0 0 l h) - D (ix4 0 0 l h)) * E (ix2 h q) := by
  pointwise [dtx, wide, left]
  have e : ∀ p, (⟨256 + l.val - 128 - 128, p⟩ : Fin 128) = l := fun p => Fin.ext (by show 256 + l.val - 128 - 128 = l.val; omega)
  have e' : ∀ p, (⟨384 + l.val - 128 - 128 - 128, p⟩ : Fin 128) = l := fun p => Fin.ext (by show 384 + l.val - 128 - 128 - 128 = l.val; omega)
  refine congrArg₂ _ (Finset.sum_congr rfl fun k _ => ?_) (Finset.sum_congr rfl fun k _ => ?_)
  · rw [dif_neg (by omega), dif_neg (by omega), dif_pos (by omega)]
    simp only [e]
  · rw [dif_neg (by omega), dif_neg (by omega), dif_neg (by omega)]
    simp only [e']

theorem xdt_apply (X : V16 S1x128x512) (w : V32 S512x512) (l : Fin 128) (q : Fin 512) :
    xdt X w (ix2 l q) = X (ix3 0 l q) * dtx w (ix2 l q) := by
  pointwise [xdt]

theorem xdec_apply (X : V16 S1x128x512) (w : V32 S512x512) (t : V32 S1x512) (l : Fin 128) (q : Fin 512) :
    xdec X w t (ix2 l q) = xdt X w (ix2 l q) * Ideal.exp (t (ix2 0 q) - csx w (ix2 l q)) := by
  pointwise [xdec]

theorem sel_one {α : Type} {c : BitVec 1} (h : c = 1#1) (a b : α) : Scalar.select c a b = a := by subst h; rfl

theorem sel_zero {α : Type} {c : BitVec 1} (h : c = 0#1) (a b : α) : Scalar.select c a b = b := by subst h; rfl

theorem weigh_apply (M : IVec S128x128 1) (cs cb : V32 S128x128) (n : ℕ) (hn : n < 128) (h h') (l s : Fin 128) (p : Prop) [Decidable p]
    (hM : M (ix2 l s) = if p then 1#1 else 0#1) :
    weigh M cs cb ![0, n] ![n, 0] h h' (ix2 l s) = cb (ix2 l s) * (if p then
      Ideal.exp (min (cs (ix2 l ⟨n, hn⟩) - cs (ix2 s ⟨n, hn⟩)) 0) else 0) := by
  pointwise [weigh]
  by_cases hp : p
  · rw [if_pos hp] at hM
    rw [if_pos hp, sel_one hM]
  · rw [if_neg hp] at hM
    rw [if_neg hp, sel_zero hM, mul_zero]

theorem pairOut_apply (m₁ m₂ : V32 S128x128) (xp : V16 S128x128) (l p : Fin 128) :
    pairOut m₁ m₂ xp (ix2 l p) = if p.val < 64 then ∑ s : Fin 128, m₁ (ix2 l s) * xp (ix2 s p) else ∑ s : Fin 128, m₂ (ix2 l s) * xp (ix2 s p) := by
  pointwise [pairOut, stackPair, lowHalf]
  have e : ∀ p : Fin 128, IntOp.cmpi CmpIPredicate.slt (BitVec.ofNat 32 p.val) 64#32 = if p.val < 64 then 1#1 else 0#1 := by decide
  by_cases hp : p.val < 64
  · have e1 := (e p).trans (if_pos hp)
    simp only [sel_one e1, if_pos hp, Finset.sum_const_zero, add_zero]
  · have e1 := (e p).trans (if_neg hp)
    simp only [sel_zero e1, if_neg hp, Finset.sum_const_zero, zero_add]

theorem cb_apply (c b : V16 S128x128) (l s : Fin 128) : cb c b (ix2 l s) = ∑ n : Fin 128, c (ix2 l n) * b (ix2 n s) := by
  pointwise [cb]

theorem blockOut_apply (y : V32 S128x256) (c : V16 S128x128) (e : V32 S128x256) (S : V32 S1x1x128x256) (l : Fin 128) (q : Fin 256) :
    blockOut y c e S (ix3 0 l q) = y (ix2 l q) + (∑ n : Fin 128, c (ix2 l n) * S (ix4 0 0 n q)) * e (ix2 l q) := by
  pointwise [blockOut]

theorem next_apply (t : V32 S1x256) (b : V16 S128x128) (x : V16 S128x256) (S : V32 S1x1x128x256) (n : Fin 128) (q : Fin 256) :
    next t b x S (ix4 0 0 n q) = S (ix4 0 0 n q) * t (ix2 0 q) + ∑ l : Fin 128, b (ix2 n l) * x (ix2 l q) := by
  pointwise [next]

/-- The positions of a chunk in the order in which direction `d` visits them. -/
def visit (d : ℕ) (l : Fin 128) : Fin 128 := if d = 0 then l else Fin.rev l

/-- What the proofs assume of a chunk's blocks: the triangular matrix of direction `d`, the spreading matrix, and finite step sizes and decays of
    the eight heads. -/
structure Good (d : ℕ) (I : In) : Prop where
  T : ∀ l k : Fin 128, I.T (ix3 0 l k) = if visit d k ≤ visit d l then 1 else 0
  E : ∀ (h : Fin 128) (q : Fin 512), I.E (ix2 h q) = if q.val / 64 = h.val then 1 else 0
  D : ∀ (l : Fin 128) (h : Fin 8), I.D (ix4 0 0 l (h.castLE (by decide))) ≠ ⊥ ∧ I.D (ix4 0 0 l (h.castLE (by decide))) ≠ ⊤
  A : ∀ (l : Fin 128) (h : Fin 8), I.A (ix4 0 0 l (h.castLE (by decide))) ≠ ⊥ ∧ I.A (ix4 0 0 l (h.castLE (by decide))) ≠ ⊤
  N : ∀ (l : Fin 128) (h : Fin 8), I.A (ix4 0 0 l (h.castLE (by decide))) ≤ 0

/-- The running sum of head `h`'s decays, at position `l` of the block. -/
def In.run (I : In) (d : ℕ) (l h : Fin 128) : EReal := ∑ k : Fin 128, if visit d k ≤ visit d l then I.A (ix4 0 0 k h) else 0

/-- A sum over the heads against the spreading matrix keeps the lane's own head. -/
theorem spread (f : Fin 128 → EReal) (E : V16 S128x512) (hE : ∀ (h : Fin 128) (q : Fin 512), E (ix2 h q) = if q.val / 64 = h.val then 1 else 0)
    (q : Fin 512) : (∑ h : Fin 128, f h * E (ix2 h q)) = f ⟨q.val / 64, by omega⟩ := by
  rw [Finset.sum_eq_single (⟨q.val / 64, by omega⟩ : Fin 128)]
  · rw [hE, if_pos rfl, mul_one]
  · intro h _ hh
    rw [hE, if_neg (fun e => hh (Fin.ext e.symm)), mul_zero]
  · intro h; exact absurd (Finset.mem_univ _) h

theorem sum_finite {ι : Type} (s : Finset ι) (f : ι → EReal) (hf : ∀ i, f i ≠ ⊥ ∧ f i ≠ ⊤) : (∑ i ∈ s, f i) ≠ ⊥ ∧ (∑ i ∈ s, f i) ≠ ⊤ := by
  classical
  induction s using Finset.induction_on with
  | empty => simp
  | insert a s ha ih =>
    rw [Finset.sum_insert ha]
    exact ⟨by rw [Ne, EReal.add_eq_bot_iff]; exact fun h => h.elim (hf a).1 ih.1, EReal.add_ne_top (hf a).2 ih.2⟩

variable {d : ℕ} {I : In}

theorem run_finite (g : Good d I) (l : Fin 128) (h : Fin 8) :
    I.run d l (h.castLE (by decide)) ≠ ⊥ ∧ I.run d l (h.castLE (by decide)) ≠ ⊤ :=
  sum_finite _ _ fun k => by
    split
    · exact g.A k h
    · exact ⟨EReal.zero_ne_bot, EReal.zero_ne_top⟩

theorem cs_apply (g : Good d I) (l : Fin 128) (h : Fin 8) : I.cs (ix2 l (h.castLE (by decide))) = I.run d l (h.castLE (by decide)) := by
  unfold In.cs In.run
  rw [sums_apply]
  simp only [sub_self_of_finite (g.A _ h), sub_zero, mul_zero, Finset.sum_const_zero, add_zero]
  refine Finset.sum_congr rfl fun k _ => ?_
  rw [g.T]
  split
  · rw [one_mul]
  · rw [zero_mul]

/-- The head of a lane, among the eight. -/
def head8 (q : Fin 512) : Fin 8 := ⟨q.val / 64, by omega⟩

/-- The head of a lane. -/
def headOf (q : Fin 512) : Fin 128 := (head8 q).castLE (by decide)

theorem w_cs (g : Good d I) (l : Fin 128) (q : Fin 512) : csx I.w (ix2 l q) = I.run d l (headOf q) := by
  unfold In.w
  rw [csx_apply, spread (fun h => I.cs (ix2 l h)) I.E g.E q, spread (fun h => I.cs (ix2 l h) - I.cs (ix2 l h)) I.E g.E q]
  show I.cs (ix2 l (headOf q)) + (I.cs (ix2 l (headOf q)) - I.cs (ix2 l (headOf q))) = _
  have h1 : I.cs (ix2 l (headOf q)) = I.run d l (headOf q) := cs_apply g l (head8 q)
  have h2 : I.run d l (headOf q) - I.run d l (headOf q) = 0 := sub_self_of_finite (run_finite g l (head8 q))
  rw [h1, h2, add_zero]

theorem w_dt (g : Good d I) (l : Fin 128) (q : Fin 512) : dtx I.w (ix2 l q) = I.D (ix4 0 0 l (headOf q)) := by
  unfold In.w
  rw [dtx_apply, spread (fun h => I.D (ix4 0 0 l h)) I.E g.E q, spread (fun h => I.D (ix4 0 0 l h) - I.D (ix4 0 0 l h)) I.E g.E q]
  show I.D (ix4 0 0 l (headOf q)) + (I.D (ix4 0 0 l (headOf q)) - I.D (ix4 0 0 l (headOf q))) = _
  have h2 : I.D (ix4 0 0 l (headOf q)) - I.D (ix4 0 0 l (headOf q)) = 0 := sub_self_of_finite (g.D l (head8 q))
  rw [h2, add_zero]

theorem half_val : Ideal.ofBits FTy.f32 1056964608#32 = ((2⁻¹ : ℝ) : EReal) := by
  simp [Ideal.ofBits, Ideal.ieee, -EReal.coe_mul]; norm_num

theorem half_lt_one : Ideal.ofBits FTy.f32 1056964608#32 < 1 := by
  rw [half_val, ← EReal.coe_one, EReal.coe_lt_coe_iff]; norm_num

theorem half_pos : 0 < Ideal.ofBits FTy.f32 1056964608#32 := by
  rw [half_val, ← EReal.coe_zero, EReal.coe_lt_coe_iff]; norm_num

theorem mask_apply (g : Good d I) (l s : Fin 128) : mask I.T (ix2 l s) = if visit d s ≤ visit d l then 1#1 else 0#1 := by
  pointwise [mask]
  rw [g.T]
  by_cases h : visit d s ≤ visit d l
  · rw [if_pos h, if_pos h]
    exact congrArg BitVec.ofBool (decide_eq_true half_lt_one)
  · rw [if_neg h, if_neg h]
    exact congrArg BitVec.ofBool (decide_eq_false (not_lt.mpr half_pos.le))

/-- The values times the step sizes, at position `l` and lane `q`. -/
def In.xv (I : In) (l : Fin 128) (q : Fin 512) : EReal := I.X (ix3 0 l q) * I.D (ix4 0 0 l (headOf q))

/-- `B` of group `o` at position `l`. -/
def In.bv (I : In) (o : Fin 2) (l n : Fin 128) : EReal := I.BC (ix3 0 l ⟨o.val * 128 + n.val, by omega⟩)

/-- `C` of group `o` at position `l`. -/
def In.cv (I : In) (o : Fin 2) (l n : Fin 128) : EReal := I.BC (ix3 0 l ⟨256 + o.val * 128 + n.val, by omega⟩)

/-- The last position that direction `d` visits. -/
def lastOf (d : ℕ) : Fin 128 := if d = 0 then 127 else 0

theorem xdt_val (g : Good d I) (l : Fin 128) (q : Fin 512) : xdt I.X I.w (ix2 l q) = I.xv l q := by
  rw [xdt_apply, w_dt g, In.xv]

theorem bT_apply0 (BC : V16 S1x128x512) (n l : Fin 128) (h) :
    bT BC ![0, 0] h (ix2 n l) = BC (ix3 0 l ⟨n.val, by omega⟩) := by
  pointwise [bT]

theorem bT_apply1 (BC : V16 S1x128x512) (n l : Fin 128) (h) :
    bT BC ![0, 128] h (ix2 n l) = BC (ix3 0 l ⟨128 + n.val, by omega⟩) := by
  pointwise [bT]

theorem cG_apply0 (BC : V16 S1x128x512) (l n : Fin 128) (h) :
    cG BC ![0, 256] h (ix2 l n) = BC (ix3 0 l ⟨256 + n.val, by omega⟩) := by
  pointwise [cG]

theorem cG_apply1 (BC : V16 S1x128x512) (l n : Fin 128) (h) :
    cG BC ![0, 384] h (ix2 l n) = BC (ix3 0 l ⟨384 + n.val, by omega⟩) := by
  pointwise [cG]

/-! ### A chunk's block, its positions taken in the order of the direction -/

theorem visit_visit (d : ℕ) (l : Fin 128) : visit d (visit d l) = l := by
  unfold visit; split
  · rfl
  · exact Fin.rev_rev l

/-- The order of a direction as a permutation. -/
def visitEquiv (d : ℕ) : Fin 128 ≃ Fin 128 := ⟨visit d, visit d, visit_visit d, visit_visit d⟩

theorem sum_visit (d : ℕ) (f : Fin 128 → EReal) : ∑ k, f k = ∑ k, f (visit d k) := ((visitEquiv d).sum_comp f).symm

/-- The decays of head `h`. -/
def In.a (I : In) (d : ℕ) (h : Fin 8) (k : Fin 128) : EReal := I.A (ix4 0 0 (visit d k) (h.castLE (by decide)))

/-- The values of lane `q`. -/
def In.x (I : In) (d : ℕ) (q : Fin 512) (k : Fin 128) : EReal := I.xv (visit d k) q

/-- `B` of group `o`. -/
def In.b (I : In) (d : ℕ) (o : Fin 2) (k n : Fin 128) : EReal := I.bv o (visit d k) n

/-- `C` of group `o`. -/
def In.c (I : In) (d : ℕ) (o : Fin 2) (k n : Fin 128) : EReal := I.cv o (visit d k) n

theorem run_eq (I : In) (d : ℕ) (l : Fin 128) (h : Fin 8) :
    I.run d (visit d l) (h.castLE (by decide)) = Scan.cum (fun _ => I.a d h) 0 l := by
  unfold In.run Scan.cum In.a
  rw [sum_visit d]
  simp only [visit_visit]

theorem weigh_val (g : Good d I) (cb : V32 S128x128) (n : ℕ) (hn : n < 8) (h h') (l s : Fin 128) :
    weigh (mask I.T) I.cs cb ![0, n] ![n, 0] h h' (ix2 (visit d l) (visit d s)) = cb (ix2 (visit d l) (visit d s)) *
      (if s ≤ l then Ideal.exp (Scan.cum (fun _ => I.a d ⟨n, hn⟩) 0 l - Scan.cum (fun _ => I.a d ⟨n, hn⟩) 0 s) else 0) := by
  rw [weigh_apply (mask I.T) I.cs cb n (by omega) h h' _ _ (s ≤ l) (by rw [mask_apply g]; simp only [visit_visit])]
  congr 1
  by_cases hs : s ≤ l
  · rw [if_pos hs, if_pos hs]
    have e : ∀ k : Fin 128, I.cs (ix2 (visit d k) ⟨n, by omega⟩) = Scan.cum (fun _ => I.a d ⟨n, hn⟩) 0 k := fun k =>
      (cs_apply g (visit d k) ⟨n, hn⟩).trans (run_eq I d k ⟨n, hn⟩)
    rw [e, e, Scan.cum_sub_le (fun _ => I.a d ⟨n, hn⟩) (fun _ k => g.A (visit d k) ⟨n, hn⟩) (fun _ k => g.N (visit d k) ⟨n, hn⟩) 0 hs]
  · rw [if_neg hs, if_neg hs]

theorem pair_val (g : Good d I) (cb : V32 S128x128) (xp : V16 S128x128) (n n' : ℕ) (hn : n' < 8) (e : n + 1 = n') (h₁ h₁' h₂ h₂')
    (hx : ∀ s p : Fin 128, xp (ix2 s p) = I.xv s ⟨n * 64 + p.val, by omega⟩) (l p : Fin 128) (q : Fin 512) (hq : q.val = n * 64 + p.val) :
    pairOut (weigh (mask I.T) I.cs cb ![0, n] ![n, 0] h₁ h₁') (weigh (mask I.T) I.cs cb ![0, n'] ![n', 0] h₂ h₂') xp (ix2 (visit d l) p)
      = ∑ s, (cb (ix2 (visit d l) (visit d s)) *
          (if s ≤ l then Ideal.exp (Scan.cum (fun _ => I.a d (head8 q)) 0 l - Scan.cum (fun _ => I.a d (head8 q)) 0 s) else 0)) * I.x d q s := by
  have hxq : ∀ s, xp (ix2 (visit d s) p) = I.x d q s := fun s => by
    rw [hx]; exact congrArg (I.xv (visit d s)) (Fin.ext hq.symm)
  rw [pairOut_apply]
  by_cases hp : p.val < 64
  · have e8 : head8 q = ⟨n, by omega⟩ := Fin.ext (by show q.val / 64 = n; omega)
    rw [if_pos hp, sum_visit d, e8]
    refine Finset.sum_congr rfl fun s _ => ?_
    rw [weigh_val g cb n (by omega), hxq]
  · have e8 : head8 q = ⟨n', by omega⟩ := Fin.ext (by show q.val / 64 = n'; omega)
    rw [if_neg hp, sum_visit d, e8]
    refine Finset.sum_congr rfl fun s _ => ?_
    rw [weigh_val g cb n' hn, hxq]

/-- Lane `q` of group `o`. -/
def lane (o : Fin 2) (q : Fin 256) : Fin 512 := ⟨o.val * 256 + q.val, by omega⟩

theorem exp_csx (g : Good d I) (l : Fin 128) (q : Fin 512) :
    csx I.w (ix2 (visit d l) q) = Scan.cum (fun _ => I.a d (head8 q)) 0 l := by
  rw [w_cs g]
  exact run_eq I d l (head8 q)

theorem xp_val (g : Good d I) (n : ℕ) (hn : n ≤ 384) (h) (s p : Fin 128) : I.xp ![0, n] h (ix2 s p) = I.xv s ⟨n + p.val, by omega⟩ := by
  rw [← xdt_val g]
  pointwise [In.xp]

theorem cG_val0 (I : In) (l n : Fin 128) (h) : cG I.BC ![0, 256] h (ix2 l n) = I.cv 0 l n :=
  (cG_apply0 I.BC l n h).trans (congrArg (fun k => I.BC (ix3 0 l k)) (Fin.ext (by show 256 + n.val = 256 + 0 * 128 + n.val; omega)))

theorem bT_val0 (I : In) (n l : Fin 128) (h) : bT I.BC ![0, 0] h (ix2 n l) = I.bv 0 l n :=
  (bT_apply0 I.BC n l h).trans (congrArg (fun k => I.BC (ix3 0 l k)) (Fin.ext (by show n.val = 0 * 128 + n.val; omega)))

theorem cG_val1 (I : In) (l n : Fin 128) (h) : cG I.BC ![0, 384] h (ix2 l n) = I.cv 1 l n :=
  (cG_apply1 I.BC l n h).trans (congrArg (fun k => I.BC (ix3 0 l k)) (Fin.ext (by show 384 + n.val = 256 + 1 * 128 + n.val; omega)))

theorem bT_val1 (I : In) (n l : Fin 128) (h) : bT I.BC ![0, 128] h (ix2 n l) = I.bv 1 l n :=
  (bT_apply1 I.BC n l h).trans (congrArg (fun k => I.BC (ix3 0 l k)) (Fin.ext (by show 128 + n.val = 1 * 128 + n.val; omega)))

theorem y0_val (g : Good d I) (S : V32 S1x1x128x256) (l : Fin 128) (q : Fin 256) :
    I.y0 S (ix3 0 (visit d l) q) = Scan.out (fun _ => I.a d (head8 (lane 0 q))) (fun _ => I.x d (lane 0 q)) (fun _ => I.b d 0) (fun _ => I.c d 0)
      (fun n => S (ix4 0 0 n q)) 0 l := by
  unfold In.y0 Scan.out
  rw [blockOut_apply]
  have hc : ∀ l s : Fin 128, cb (cG I.BC ![0, 256] slices_S128x512_o0_256_S128x128) (bT I.BC ![0, 0] slices_S128x512_o0_0_S128x128)
      (ix2 (visit d l) (visit d s)) = ∑ n, I.c d 0 l n * I.b d 0 s n := fun l s => by
    rw [cb_apply]
    refine Finset.sum_congr rfl fun n _ => ?_
    rw [cG_val0, bT_val0]; rfl
  congr 1
  · pointwise
    by_cases hq : q.val < 128
    · simp only [hq]
      refine (pair_val g _ _ 0 1 (by decide) rfl _ _ _ _ (xp_val g 0 (by decide) _) l ⟨q.val, hq⟩ (lane 0 q) rfl).trans ?_
      simp only [hc]
    · simp only [hq]
      refine (pair_val g _ _ 2 3 (by decide) rfl _ _ _ _ (xp_val g 128 (by decide) _) l ⟨q.val - 128, by omega⟩ (lane 0 q) (by show 0 * 256 + q.val = 2 * 64 + (q.val - 128); omega)).trans ?_
      simp only [hc]
  · congr 1
    · refine Finset.sum_congr rfl fun n _ => ?_
      rw [cG_val0]; rfl
    · rw [← exp_csx g]
      pointwise [lane]

theorem next0_val (g : Good d I) (tot : V32 S1x512) (ht : ∀ q, tot (ix2 0 q) = csx I.w (ix2 (visit d 127) q)) (S : V32 S1x1x128x256) (n : Fin 128)
    (q : Fin 256) :
    I.next0 tot S (ix4 0 0 n q) = S (ix4 0 0 n q) * Ideal.exp (Scan.cum (fun _ => I.a d (head8 (lane 0 q))) 0 127)
      + Scan.gain (fun _ => I.a d (head8 (lane 0 q))) (fun _ => I.x d (lane 0 q)) (fun _ => I.b d 0) 0 n := by
  unfold In.next0 Scan.gain
  rw [next_apply, sum_visit d]
  congr 1
  · rw [← exp_csx g, ← ht]
    pointwise [lane]
  · refine Finset.sum_congr rfl fun l _ => ?_
    rw [bT_val0]
    congr 1
    rw [← exp_csx g, ← exp_csx g, ← ht]
    refine Eq.trans (b := xdec I.X I.w tot (ix2 (visit d l) (lane 0 q))) ?_ ?_
    · pointwise [lane]
    · rw [xdec_apply, xdt_val g]; rfl

theorem y1_val (g : Good d I) (S : V32 S1x1x128x256) (l : Fin 128) (q : Fin 256) :
    I.y1 S (ix3 0 (visit d l) q) = Scan.out (fun _ => I.a d (head8 (lane 1 q))) (fun _ => I.x d (lane 1 q)) (fun _ => I.b d 1) (fun _ => I.c d 1)
      (fun n => S (ix4 0 0 n q)) 0 l := by
  unfold In.y1 Scan.out
  rw [blockOut_apply]
  have hc : ∀ l s : Fin 128, cb (cG I.BC ![0, 384] slices_S128x512_o0_384_S128x128) (bT I.BC ![0, 128] slices_S128x512_o0_128_S128x128)
      (ix2 (visit d l) (visit d s)) = ∑ n, I.c d 1 l n * I.b d 1 s n := fun l s => by
    rw [cb_apply]
    refine Finset.sum_congr rfl fun n _ => ?_
    rw [cG_val1, bT_val1]; rfl
  congr 1
  · pointwise
    by_cases hq : q.val < 128
    · simp only [hq]
      refine (pair_val g _ _ 4 5 (by decide) rfl _ _ _ _ (xp_val g 256 (by decide) _) l ⟨q.val, hq⟩ (lane 1 q) rfl).trans ?_
      simp only [hc]
    · simp only [hq]
      refine (pair_val g _ _ 6 7 (by decide) rfl _ _ _ _ (xp_val g 384 (by decide) _) l ⟨q.val - 128, by omega⟩ (lane 1 q) (by show 1 * 256 + q.val = 6 * 64 + (q.val - 128); omega)).trans ?_
      simp only [hc]
  · congr 1
    · refine Finset.sum_congr rfl fun n _ => ?_
      rw [cG_val1]; rfl
    · rw [← exp_csx g]
      pointwise [lane]

theorem next1_val (g : Good d I) (tot : V32 S1x512) (ht : ∀ q, tot (ix2 0 q) = csx I.w (ix2 (visit d 127) q)) (S : V32 S1x1x128x256) (n : Fin 128)
    (q : Fin 256) :
    I.next1 tot S (ix4 0 0 n q) = S (ix4 0 0 n q) * Ideal.exp (Scan.cum (fun _ => I.a d (head8 (lane 1 q))) 0 127)
      + Scan.gain (fun _ => I.a d (head8 (lane 1 q))) (fun _ => I.x d (lane 1 q)) (fun _ => I.b d 1) 0 n := by
  unfold In.next1 Scan.gain
  rw [next_apply, sum_visit d]
  congr 1
  · rw [← exp_csx g, ← ht]
    pointwise [lane]
  · refine Finset.sum_congr rfl fun l _ => ?_
    rw [bT_val1]
    congr 1
    rw [← exp_csx g, ← exp_csx g, ← ht]
    refine Eq.trans (b := xdec I.X I.w tot (ix2 (visit d l) (lane 1 q))) ?_ ?_
    · pointwise [lane]
    · rw [xdec_apply, xdt_val g]; rfl

theorem totF_apply (I : In) (q : Fin 512) : I.totF (ix2 0 q) = csx I.w (ix2 (visit 0 127) q) := by
  pointwise [In.totF, visit]

theorem totB_apply (I : In) (q : Fin 512) : I.totB (ix2 0 q) = csx I.w (ix2 (visit 1 127) q) := by
  pointwise [In.totB, visit]
  rfl

end Cert.Body

end
-- ==== Proof.Point.lean ====
/- What one visit of the grid leaves, at an index: the outputs and the states of eight chunks as steps of the scans of their lanes. -/
module

public import proofs.«01_k».proof.Proof.Pieces
public import proofs.«01_k».proof.Proof.Reading
public import proofs.«01_k».proof.Proof.Job
public import Idealize.ShloMosaic.Lib.Pipeline.ReadBack

@[expose] public section

set_option maxRecDepth 16384

noncomputable section

namespace Cert.Body

open Idealize.ShloMosaic Idealize.ShloMosaic.TcCoe Cert.KernelIdeal Cert.KernelIdeal.Facts₀ Cert.KernelIdeal.Facts
open Cert.Scan (Job)

/-- The scan of lane `q` of group `o` over the chunks `I`, from the state `S`. -/
def loc (d : ℕ) (I : ℕ → In) (o : Fin 2) (q : Fin 256) (S : V32 S1x1x128x256) : Job where
  a z := (I z).a d (head8 (lane o q))
  X z := (I z).x d (lane o q)
  B z := (I z).b d o
  C z := (I z).c d o
  S0 n := S (ix4 0 0 n q)

theorem stF0_val (I : ℕ → In) (hI : ∀ j, Good 0 (I j)) (S : V32 S1x1x128x256) (n : Fin 128) (q : Fin 256) :
    ∀ j, stF0 I S j (ix4 0 0 n q) = (loc 0 I 0 q S).st j n
  | 0 => rfl
  | j + 1 => by
    show (I j).next0 (I j).totF (stF0 I S j) (ix4 0 0 n q) = _
    rw [next0_val (hI j) _ (totF_apply (I j)), stF0_val I hI S n q j]
    rfl

theorem yF0_val (I : ℕ → In) (hI : ∀ j, Good 0 (I j)) (S : V32 S1x1x128x256) (j : ℕ) (l : Fin 128) (q : Fin 256) :
    (I j).y0 (stF0 I S j) (ix3 0 (visit 0 l) q) = (loc 0 I 0 q S).y j l := by
  rw [y0_val (hI j)]
  simp only [stF0_val I hI S]
  rfl

theorem stF1_val (I : ℕ → In) (hI : ∀ j, Good 0 (I j)) (S : V32 S1x1x128x256) (n : Fin 128) (q : Fin 256) :
    ∀ j, stF1 I S j (ix4 0 0 n q) = (loc 0 I 1 q S).st j n
  | 0 => rfl
  | j + 1 => by
    show (I j).next1 (I j).totF (stF1 I S j) (ix4 0 0 n q) = _
    rw [next1_val (hI j) _ (totF_apply (I j)), stF1_val I hI S n q j]
    rfl

theorem yF1_val (I : ℕ → In) (hI : ∀ j, Good 0 (I j)) (S : V32 S1x1x128x256) (j : ℕ) (l : Fin 128) (q : Fin 256) :
    (I j).y1 (stF1 I S j) (ix3 0 (visit 0 l) q) = (loc 0 I 1 q S).y j l := by
  rw [y1_val (hI j)]
  simp only [stF1_val I hI S]
  rfl

theorem stB0_val (I : ℕ → In) (hI : ∀ j, Good 1 (I j)) (S : V32 S1x1x128x256) (n : Fin 128) (q : Fin 256) :
    ∀ j, stB0 I S j (ix4 0 0 n q) = (loc 1 I 0 q S).st j n
  | 0 => rfl
  | j + 1 => by
    show (I j).next0 (I j).totB (stB0 I S j) (ix4 0 0 n q) = _
    rw [next0_val (hI j) _ (totB_apply (I j)), stB0_val I hI S n q j]
    rfl

theorem yB0_val (I : ℕ → In) (hI : ∀ j, Good 1 (I j)) (S : V32 S1x1x128x256) (j : ℕ) (l : Fin 128) (q : Fin 256) :
    (I j).y0 (stB0 I S j) (ix3 0 (visit 1 l) q) = (loc 1 I 0 q S).y j l := by
  rw [y0_val (hI j)]
  simp only [stB0_val I hI S]
  rfl

theorem stB1_val (I : ℕ → In) (hI : ∀ j, Good 1 (I j)) (S : V32 S1x1x128x256) (n : Fin 128) (q : Fin 256) :
    ∀ j, stB1 I S j (ix4 0 0 n q) = (loc 1 I 1 q S).st j n
  | 0 => rfl
  | j + 1 => by
    show (I j).next1 (I j).totB (stB1 I S j) (ix4 0 0 n q) = _
    rw [next1_val (hI j) _ (totB_apply (I j)), stB1_val I hI S n q j]
    rfl

theorem yB1_val (I : ℕ → In) (hI : ∀ j, Good 1 (I j)) (S : V32 S1x1x128x256) (j : ℕ) (l : Fin 128) (q : Fin 256) :
    (I j).y1 (stB1 I S j) (ix3 0 (visit 1 l) q) = (loc 1 I 1 q S).y j l := by
  rw [y1_val (hI j)]
  simp only [stB1_val I hI S]
  rfl

theorem ybF0_val (I : ℕ → In) (hI : ∀ j, Good 0 (I j)) (S : V32 S1x1x128x256) (j : ℕ) (l : Fin 128) (q : Fin 256) :
    (I j).y0 (stF0 I S j) (ix3 0 l q) = (loc 0 I 0 q S).y j (visit 0 l) := by
  rw [← yF0_val I hI, visit_visit]

theorem ybF1_val (I : ℕ → In) (hI : ∀ j, Good 0 (I j)) (S : V32 S1x1x128x256) (j : ℕ) (l : Fin 128) (q : Fin 256) :
    (I j).y1 (stF1 I S j) (ix3 0 l q) = (loc 0 I 1 q S).y j (visit 0 l) := by
  rw [← yF1_val I hI, visit_visit]

theorem ybB0_val (I : ℕ → In) (hI : ∀ j, Good 1 (I j)) (S : V32 S1x1x128x256) (j : ℕ) (l : Fin 128) (q : Fin 256) :
    (I j).y0 (stB0 I S j) (ix3 0 l q) = (loc 1 I 0 q S).y j (visit 1 l) := by
  rw [← yB0_val I hI, visit_visit]

theorem ybB1_val (I : ℕ → In) (hI : ∀ j, Good 1 (I j)) (S : V32 S1x1x128x256) (j : ℕ) (l : Fin 128) (q : Fin 256) :
    (I j).y1 (stB1 I S j) (ix3 0 l q) = (loc 1 I 1 q S).y j (visit 1 l) := by
  rw [← yB1_val I hI, visit_visit]

/-- An output block of eight chunks: row `128 * k + l` is position `l` of block chunk `k`, which the scan visits as chunk `z`. -/
def block (d : ℕ) (I : ℕ → In) (s0 s1 : V32 S1x1x128x256) (r : Fin 1024) (q : Fin 512) : EReal :=
  (loc d I ⟨q.val / 256, by omega⟩ ⟨q.val % 256, by omega⟩ (if q.val / 256 = 0 then s0 else s1)).y
    (if d = 0 then r.val / 128 else 7 - r.val / 128) (visit d ⟨r.val % 128, by omega⟩)

theorem block_apply (d : ℕ) (I : ℕ → In) (s0 s1 : V32 S1x1x128x256) (k : ℕ) (hk : k < 8) (l : Fin 128) (o : Fin 2) (q : Fin 256) :
    block d I s0 s1 ⟨128 * k + l.val, by omega⟩ ⟨256 * o.val + q.val, by omega⟩
      = (loc d I o q (if o = 0 then s0 else s1)).y (if d = 0 then k else 7 - k) (visit d l) := by
  unfold block
  have e1 : (⟨(256 * o.val + q.val) / 256, by omega⟩ : Fin 2) = o := Fin.ext (by show (256 * o.val + q.val) / 256 = o.val; omega)
  have e2 : (⟨(256 * o.val + q.val) % 256, by omega⟩ : Fin 256) = q := Fin.ext (by show (256 * o.val + q.val) % 256 = q.val; omega)
  have e3 : (⟨(128 * k + l.val) % 128, by omega⟩ : Fin 128) = l := Fin.ext (by show (128 * k + l.val) % 128 = l.val; omega)
  have e4 : (128 * k + l.val) / 128 = k := by omega
  have e5 : ((256 * o.val + q.val) / 256 = 0) = (o = 0) := by
    rw [Fin.ext_iff]; show ((256 * o.val + q.val) / 256 = 0) = (o.val = 0); congr 1; omega
  simp only [e1, e2, e3, e4, e5]

theorem block_at (d : ℕ) (I : ℕ → In) (s0 s1 : V32 S1x1x128x256) (k n c z : ℕ) (o : Fin 2) (s : V32 S1x1x128x256) (hk : k < 8) (hn : n = 128 * k)
    (hc : c = 256 * o.val) (hz : z = if d = 0 then k else 7 - k) (hs : s = if o = 0 then s0 else s1) (l : Fin 128) (q : Fin 256) :
    (loc d I o q s).y z (visit d l) = block d I s0 s1 ⟨n + l.val, by omega⟩ ⟨c + q.val, by omega⟩ := by
  subst hn hc hz hs
  exact (block_apply d I s0 s1 k hk l o q).symm

theorem piece_row (G : S1x1024x512.Idx → EReal) (n k : ℕ) (h) (w : V16 S1x128x256) (hn : n ≤ 896) (hk : k ≤ 256)
    (hw : ∀ (l : Fin 128) (q : Fin 256), w (ix3 0 l q) = G (ix3 0 ⟨n + l.val, by omega⟩ ⟨k + q.val, by omega⟩)) :
    ∀ x : (Rect.unit (s := S1x1024x512) ![0, n, k] ![1, 128, 256] h).shape.Idx, w x = G ((Rect.unit (s := S1x1024x512) ![0, n, k] ![1, 128, 256] h).emb x) := by
  intro x
  have ex : ∀ x : S1x128x256.Idx, ∃ l q, x = ix3 0 l q := fun x => by
    idx_vars x
    exact ⟨_, _, congrArg (fun a => ix3 a _ _) (Subsingleton.elim _ _)⟩
  obtain ⟨l, q, hx⟩ := ex x
  refine (congrArg w hx).trans ((hw l q).trans (congrArg G ?_))
  funext a
  refine Fin.ext ?_
  rw [ValueKit.rect_emb_unit_val, hx]
  fin_cases a <;> simp

theorem mem_row (n k : ℕ) (h) (r : Fin 1024) (q : Fin 512) (h1 : n ≤ r.val ∧ r.val < n + 128) (h2 : k ≤ q.val ∧ q.val < k + 256) :
    (ix3 0 r q : S1x1024x512.Idx) ∈ (Rect.unit (s := S1x1024x512) ![0, n, k] ![1, 128, 256] h).set := by
  rw [Rect.mem_set_unit]
  intro a
  fin_cases a
  · simp
  · simpa using h1
  · simpa using h2

theorem piecesF_val (I : ℕ → In) (hI : ∀ j, Good 0 (I j)) (s0 s1 : V32 S1x1x128x256) (r : Fin 1024) (q : Fin 512) :
    View.canon (piecesF I s0 s1) (ix3 0 r q) = block 0 I s0 s1 r q := by
  refine View.canon_apply_of_pieces (fun i : S1x1024x512.Idx => block 0 I s0 s1 (i 1) (i 2)) (piecesF I s0 s1) (View.PiecesOf.mem (Val := Elt Ideal) (e := .bf16) (G := fun i : S1x1024x512.Idx => block 0 I s0 s1 (i 1) (i 2)) (L := piecesF I s0 s1) ⟨piece_row (fun i : S1x1024x512.Idx => block 0 I s0 s1 (i 1) (i 2)) 896 256 Gen.inb_S1x1024x512_S1x128x256_0_896_256 _ (by decide) (by decide) fun l q =>
      (ybF1_val I hI s1 7 l q).trans (block_at 0 I s0 s1 7 896 256 7 1 s1 (by decide) rfl rfl rfl rfl l q),
    piece_row (fun i : S1x1024x512.Idx => block 0 I s0 s1 (i 1) (i 2)) 896 0 Gen.inb_S1x1024x512_S1x128x256_0_896_0 _ (by decide) (by decide) fun l q =>
      (ybF0_val I hI s0 7 l q).trans (block_at 0 I s0 s1 7 896 0 7 0 s0 (by decide) rfl rfl rfl rfl l q),
    piece_row (fun i : S1x1024x512.Idx => block 0 I s0 s1 (i 1) (i 2)) 768 256 Gen.inb_S1x1024x512_S1x128x256_0_768_256 _ (by decide) (by decide) fun l q =>
      (ybF1_val I hI s1 6 l q).trans (block_at 0 I s0 s1 6 768 256 6 1 s1 (by decide) rfl rfl rfl rfl l q),
    piece_row (fun i : S1x1024x512.Idx => block 0 I s0 s1 (i 1) (i 2)) 768 0 Gen.inb_S1x1024x512_S1x128x256_0_768_0 _ (by decide) (by decide) fun l q =>
      (ybF0_val I hI s0 6 l q).trans (block_at 0 I s0 s1 6 768 0 6 0 s0 (by decide) rfl rfl rfl rfl l q),
    piece_row (fun i : S1x1024x512.Idx => block 0 I s0 s1 (i 1) (i 2)) 640 256 Gen.inb_S1x1024x512_S1x128x256_0_640_256 _ (by decide) (by decide) fun l q =>
      (ybF1_val I hI s1 5 l q).trans (block_at 0 I s0 s1 5 640 256 5 1 s1 (by decide) rfl rfl rfl rfl l q),
    piece_row (fun i : S1x1024x512.Idx => block 0 I s0 s1 (i 1) (i 2)) 640 0 Gen.inb_S1x1024x512_S1x128x256_0_640_0 _ (by decide) (by decide) fun l q =>
      (ybF0_val I hI s0 5 l q).trans (block_at 0 I s0 s1 5 640 0 5 0 s0 (by decide) rfl rfl rfl rfl l q),
    piece_row (fun i : S1x1024x512.Idx => block 0 I s0 s1 (i 1) (i 2)) 512 256 Gen.inb_S1x1024x512_S1x128x256_0_512_256 _ (by decide) (by decide) fun l q =>
      (ybF1_val I hI s1 4 l q).trans (block_at 0 I s0 s1 4 512 256 4 1 s1 (by decide) rfl rfl rfl rfl l q),
    piece_row (fun i : S1x1024x512.Idx => block 0 I s0 s1 (i 1) (i 2)) 512 0 Gen.inb_S1x1024x512_S1x128x256_0_512_0 _ (by decide) (by decide) fun l q =>
      (ybF0_val I hI s0 4 l q).trans (block_at 0 I s0 s1 4 512 0 4 0 s0 (by decide) rfl rfl rfl rfl l q),
    piece_row (fun i : S1x1024x512.Idx => block 0 I s0 s1 (i 1) (i 2)) 384 256 Gen.inb_S1x1024x512_S1x128x256_0_384_256 _ (by decide) (by decide) fun l q =>
      (ybF1_val I hI s1 3 l q).trans (block_at 0 I s0 s1 3 384 256 3 1 s1 (by decide) rfl rfl rfl rfl l q),
    piece_row (fun i : S1x1024x512.Idx => block 0 I s0 s1 (i 1) (i 2)) 384 0 Gen.inb_S1x1024x512_S1x128x256_0_384_0 _ (by decide) (by decide) fun l q =>
      (ybF0_val I hI s0 3 l q).trans (block_at 0 I s0 s1 3 384 0 3 0 s0 (by decide) rfl rfl rfl rfl l q),
    piece_row (fun i : S1x1024x512.Idx => block 0 I s0 s1 (i 1) (i 2)) 256 256 Gen.inb_S1x1024x512_S1x128x256_0_256_256 _ (by decide) (by decide) fun l q =>
      (ybF1_val I hI s1 2 l q).trans (block_at 0 I s0 s1 2 256 256 2 1 s1 (by decide) rfl rfl rfl rfl l q),
    piece_row (fun i : S1x1024x512.Idx => block 0 I s0 s1 (i 1) (i 2)) 256 0 Gen.inb_S1x1024x512_S1x128x256_0_256_0 _ (by decide) (by decide) fun l q =>
      (ybF0_val I hI s0 2 l q).trans (block_at 0 I s0 s1 2 256 0 2 0 s0 (by decide) rfl rfl rfl rfl l q),
    piece_row (fun i : S1x1024x512.Idx => block 0 I s0 s1 (i 1) (i 2)) 128 256 Gen.inb_S1x1024x512_S1x128x256_0_128_256 _ (by decide) (by decide) fun l q =>
      (ybF1_val I hI s1 1 l q).trans (block_at 0 I s0 s1 1 128 256 1 1 s1 (by decide) rfl rfl rfl rfl l q),
    piece_row (fun i : S1x1024x512.Idx => block 0 I s0 s1 (i 1) (i 2)) 128 0 Gen.inb_S1x1024x512_S1x128x256_0_128_0 _ (by decide) (by decide) fun l q =>
      (ybF0_val I hI s0 1 l q).trans (block_at 0 I s0 s1 1 128 0 1 0 s0 (by decide) rfl rfl rfl rfl l q),
    piece_row (fun i : S1x1024x512.Idx => block 0 I s0 s1 (i 1) (i 2)) 0 256 Gen.inb_S1x1024x512_S1x128x256_0_0_256 _ (by decide) (by decide) fun l q =>
      (ybF1_val I hI s1 0 l q).trans (block_at 0 I s0 s1 0 0 256 0 1 s1 (by decide) rfl rfl rfl rfl l q),
    piece_row (fun i : S1x1024x512.Idx => block 0 I s0 s1 (i 1) (i 2)) 0 0 Gen.inb_S1x1024x512_S1x128x256_0_0_0 _ (by decide) (by decide) fun l q =>
      (ybF0_val I hI s0 0 l q).trans (block_at 0 I s0 s1 0 0 0 0 0 s0 (by decide) rfl rfl rfl rfl l q),
    trivial⟩) (ix3 0 r q) ?_
  by_contra hne
  have hno : ∀ p ∈ piecesF I s0 s1, (ix3 0 r q : S1x1024x512.Idx) ∉ p.1.set := fun p hp hm => hne ⟨p, hp, hm⟩
  simp only [piecesF, List.mem_cons, List.not_mem_nil, or_false, forall_eq_or_imp, forall_eq] at hno
  obtain ⟨h0, h1, h2, h3, h4, h5, h6, h7, h8, h9, h10, h11, h12, h13, h14, h15⟩ := hno
  have g0 : ¬((896 ≤ r.val ∧ r.val < 1024) ∧ (256 ≤ q.val ∧ q.val < 512)) := fun hh => h0 (mem_row 896 256 _ r q hh.1 hh.2)
  have g1 : ¬((896 ≤ r.val ∧ r.val < 1024) ∧ (0 ≤ q.val ∧ q.val < 256)) := fun hh => h1 (mem_row 896 0 _ r q hh.1 hh.2)
  have g2 : ¬((768 ≤ r.val ∧ r.val < 896) ∧ (256 ≤ q.val ∧ q.val < 512)) := fun hh => h2 (mem_row 768 256 _ r q hh.1 hh.2)
  have g3 : ¬((768 ≤ r.val ∧ r.val < 896) ∧ (0 ≤ q.val ∧ q.val < 256)) := fun hh => h3 (mem_row 768 0 _ r q hh.1 hh.2)
  have g4 : ¬((640 ≤ r.val ∧ r.val < 768) ∧ (256 ≤ q.val ∧ q.val < 512)) := fun hh => h4 (mem_row 640 256 _ r q hh.1 hh.2)
  have g5 : ¬((640 ≤ r.val ∧ r.val < 768) ∧ (0 ≤ q.val ∧ q.val < 256)) := fun hh => h5 (mem_row 640 0 _ r q hh.1 hh.2)
  have g6 : ¬((512 ≤ r.val ∧ r.val < 640) ∧ (256 ≤ q.val ∧ q.val < 512)) := fun hh => h6 (mem_row 512 256 _ r q hh.1 hh.2)
  have g7 : ¬((512 ≤ r.val ∧ r.val < 640) ∧ (0 ≤ q.val ∧ q.val < 256)) := fun hh => h7 (mem_row 512 0 _ r q hh.1 hh.2)
  have g8 : ¬((384 ≤ r.val ∧ r.val < 512) ∧ (256 ≤ q.val ∧ q.val < 512)) := fun hh => h8 (mem_row 384 256 _ r q hh.1 hh.2)
  have g9 : ¬((384 ≤ r.val ∧ r.val < 512) ∧ (0 ≤ q.val ∧ q.val < 256)) := fun hh => h9 (mem_row 384 0 _ r q hh.1 hh.2)
  have g10 : ¬((256 ≤ r.val ∧ r.val < 384) ∧ (256 ≤ q.val ∧ q.val < 512)) := fun hh => h10 (mem_row 256 256 _ r q hh.1 hh.2)
  have g11 : ¬((256 ≤ r.val ∧ r.val < 384) ∧ (0 ≤ q.val ∧ q.val < 256)) := fun hh => h11 (mem_row 256 0 _ r q hh.1 hh.2)
  have g12 : ¬((128 ≤ r.val ∧ r.val < 256) ∧ (256 ≤ q.val ∧ q.val < 512)) := fun hh => h12 (mem_row 128 256 _ r q hh.1 hh.2)
  have g13 : ¬((128 ≤ r.val ∧ r.val < 256) ∧ (0 ≤ q.val ∧ q.val < 256)) := fun hh => h13 (mem_row 128 0 _ r q hh.1 hh.2)
  have g14 : ¬((0 ≤ r.val ∧ r.val < 128) ∧ (256 ≤ q.val ∧ q.val < 512)) := fun hh => h14 (mem_row 0 256 _ r q hh.1 hh.2)
  have g15 : ¬((0 ≤ r.val ∧ r.val < 128) ∧ (0 ≤ q.val ∧ q.val < 256)) := fun hh => h15 (mem_row 0 0 _ r q hh.1 hh.2)
  clear h0 h1 h2 h3 h4 h5 h6 h7 h8 h9 h10 h11 h12 h13 h14 h15
  have := r.isLt
  have := q.isLt
  omega

theorem piecesB_val (I : ℕ → In) (hI : ∀ j, Good 1 (I j)) (s0 s1 : V32 S1x1x128x256) (r : Fin 1024) (q : Fin 512) :
    View.canon (piecesB I s0 s1) (ix3 0 r q) = block 1 I s0 s1 r q := by
  refine View.canon_apply_of_pieces (fun i : S1x1024x512.Idx => block 1 I s0 s1 (i 1) (i 2)) (piecesB I s0 s1) (View.PiecesOf.mem (Val := Elt Ideal) (e := .bf16) (G := fun i : S1x1024x512.Idx => block 1 I s0 s1 (i 1) (i 2)) (L := piecesB I s0 s1) ⟨piece_row (fun i : S1x1024x512.Idx => block 1 I s0 s1 (i 1) (i 2)) 0 256 Gen.inb_S1x1024x512_S1x128x256_0_0_256 _ (by decide) (by decide) fun l q =>
      (ybB1_val I hI s1 7 l q).trans (block_at 1 I s0 s1 0 0 256 7 1 s1 (by decide) rfl rfl rfl rfl l q),
    piece_row (fun i : S1x1024x512.Idx => block 1 I s0 s1 (i 1) (i 2)) 0 0 Gen.inb_S1x1024x512_S1x128x256_0_0_0 _ (by decide) (by decide) fun l q =>
      (ybB0_val I hI s0 7 l q).trans (block_at 1 I s0 s1 0 0 0 7 0 s0 (by decide) rfl rfl rfl rfl l q),
    piece_row (fun i : S1x1024x512.Idx => block 1 I s0 s1 (i 1) (i 2)) 128 256 Gen.inb_S1x1024x512_S1x128x256_0_128_256 _ (by decide) (by decide) fun l q =>
      (ybB1_val I hI s1 6 l q).trans (block_at 1 I s0 s1 1 128 256 6 1 s1 (by decide) rfl rfl rfl rfl l q),
    piece_row (fun i : S1x1024x512.Idx => block 1 I s0 s1 (i 1) (i 2)) 128 0 Gen.inb_S1x1024x512_S1x128x256_0_128_0 _ (by decide) (by decide) fun l q =>
      (ybB0_val I hI s0 6 l q).trans (block_at 1 I s0 s1 1 128 0 6 0 s0 (by decide) rfl rfl rfl rfl l q),
    piece_row (fun i : S1x1024x512.Idx => block 1 I s0 s1 (i 1) (i 2)) 256 256 Gen.inb_S1x1024x512_S1x128x256_0_256_256 _ (by decide) (by decide) fun l q =>
      (ybB1_val I hI s1 5 l q).trans (block_at 1 I s0 s1 2 256 256 5 1 s1 (by decide) rfl rfl rfl rfl l q),
    piece_row (fun i : S1x1024x512.Idx => block 1 I s0 s1 (i 1) (i 2)) 256 0 Gen.inb_S1x1024x512_S1x128x256_0_256_0 _ (by decide) (by decide) fun l q =>
      (ybB0_val I hI s0 5 l q).trans (block_at 1 I s0 s1 2 256 0 5 0 s0 (by decide) rfl rfl rfl rfl l q),
    piece_row (fun i : S1x1024x512.Idx => block 1 I s0 s1 (i 1) (i 2)) 384 256 Gen.inb_S1x1024x512_S1x128x256_0_384_256 _ (by decide) (by decide) fun l q =>
      (ybB1_val I hI s1 4 l q).trans (block_at 1 I s0 s1 3 384 256 4 1 s1 (by decide) rfl rfl rfl rfl l q),
    piece_row (fun i : S1x1024x512.Idx => block 1 I s0 s1 (i 1) (i 2)) 384 0 Gen.inb_S1x1024x512_S1x128x256_0_384_0 _ (by decide) (by decide) fun l q =>
      (ybB0_val I hI s0 4 l q).trans (block_at 1 I s0 s1 3 384 0 4 0 s0 (by decide) rfl rfl rfl rfl l q),
    piece_row (fun i : S1x1024x512.Idx => block 1 I s0 s1 (i 1) (i 2)) 512 256 Gen.inb_S1x1024x512_S1x128x256_0_512_256 _ (by decide) (by decide) fun l q =>
      (ybB1_val I hI s1 3 l q).trans (block_at 1 I s0 s1 4 512 256 3 1 s1 (by decide) rfl rfl rfl rfl l q),
    piece_row (fun i : S1x1024x512.Idx => block 1 I s0 s1 (i 1) (i 2)) 512 0 Gen.inb_S1x1024x512_S1x128x256_0_512_0 _ (by decide) (by decide) fun l q =>
      (ybB0_val I hI s0 3 l q).trans (block_at 1 I s0 s1 4 512 0 3 0 s0 (by decide) rfl rfl rfl rfl l q),
    piece_row (fun i : S1x1024x512.Idx => block 1 I s0 s1 (i 1) (i 2)) 640 256 Gen.inb_S1x1024x512_S1x128x256_0_640_256 _ (by decide) (by decide) fun l q =>
      (ybB1_val I hI s1 2 l q).trans (block_at 1 I s0 s1 5 640 256 2 1 s1 (by decide) rfl rfl rfl rfl l q),
    piece_row (fun i : S1x1024x512.Idx => block 1 I s0 s1 (i 1) (i 2)) 640 0 Gen.inb_S1x1024x512_S1x128x256_0_640_0 _ (by decide) (by decide) fun l q =>
      (ybB0_val I hI s0 2 l q).trans (block_at 1 I s0 s1 5 640 0 2 0 s0 (by decide) rfl rfl rfl rfl l q),
    piece_row (fun i : S1x1024x512.Idx => block 1 I s0 s1 (i 1) (i 2)) 768 256 Gen.inb_S1x1024x512_S1x128x256_0_768_256 _ (by decide) (by decide) fun l q =>
      (ybB1_val I hI s1 1 l q).trans (block_at 1 I s0 s1 6 768 256 1 1 s1 (by decide) rfl rfl rfl rfl l q),
    piece_row (fun i : S1x1024x512.Idx => block 1 I s0 s1 (i 1) (i 2)) 768 0 Gen.inb_S1x1024x512_S1x128x256_0_768_0 _ (by decide) (by decide) fun l q =>
      (ybB0_val I hI s0 1 l q).trans (block_at 1 I s0 s1 6 768 0 1 0 s0 (by decide) rfl rfl rfl rfl l q),
    piece_row (fun i : S1x1024x512.Idx => block 1 I s0 s1 (i 1) (i 2)) 896 256 Gen.inb_S1x1024x512_S1x128x256_0_896_256 _ (by decide) (by decide) fun l q =>
      (ybB1_val I hI s1 0 l q).trans (block_at 1 I s0 s1 7 896 256 0 1 s1 (by decide) rfl rfl rfl rfl l q),
    piece_row (fun i : S1x1024x512.Idx => block 1 I s0 s1 (i 1) (i 2)) 896 0 Gen.inb_S1x1024x512_S1x128x256_0_896_0 _ (by decide) (by decide) fun l q =>
      (ybB0_val I hI s0 0 l q).trans (block_at 1 I s0 s1 7 896 0 0 0 s0 (by decide) rfl rfl rfl rfl l q),
    trivial⟩) (ix3 0 r q) ?_
  by_contra hne
  have hno : ∀ p ∈ piecesB I s0 s1, (ix3 0 r q : S1x1024x512.Idx) ∉ p.1.set := fun p hp hm => hne ⟨p, hp, hm⟩
  simp only [piecesB, List.mem_cons, List.not_mem_nil, or_false, forall_eq_or_imp, forall_eq] at hno
  obtain ⟨h0, h1, h2, h3, h4, h5, h6, h7, h8, h9, h10, h11, h12, h13, h14, h15⟩ := hno
  have g0 : ¬((0 ≤ r.val ∧ r.val < 128) ∧ (256 ≤ q.val ∧ q.val < 512)) := fun hh => h0 (mem_row 0 256 _ r q hh.1 hh.2)
  have g1 : ¬((0 ≤ r.val ∧ r.val < 128) ∧ (0 ≤ q.val ∧ q.val < 256)) := fun hh => h1 (mem_row 0 0 _ r q hh.1 hh.2)
  have g2 : ¬((128 ≤ r.val ∧ r.val < 256) ∧ (256 ≤ q.val ∧ q.val < 512)) := fun hh => h2 (mem_row 128 256 _ r q hh.1 hh.2)
  have g3 : ¬((128 ≤ r.val ∧ r.val < 256) ∧ (0 ≤ q.val ∧ q.val < 256)) := fun hh => h3 (mem_row 128 0 _ r q hh.1 hh.2)
  have g4 : ¬((256 ≤ r.val ∧ r.val < 384) ∧ (256 ≤ q.val ∧ q.val < 512)) := fun hh => h4 (mem_row 256 256 _ r q hh.1 hh.2)
  have g5 : ¬((256 ≤ r.val ∧ r.val < 384) ∧ (0 ≤ q.val ∧ q.val < 256)) := fun hh => h5 (mem_row 256 0 _ r q hh.1 hh.2)
  have g6 : ¬((384 ≤ r.val ∧ r.val < 512) ∧ (256 ≤ q.val ∧ q.val < 512)) := fun hh => h6 (mem_row 384 256 _ r q hh.1 hh.2)
  have g7 : ¬((384 ≤ r.val ∧ r.val < 512) ∧ (0 ≤ q.val ∧ q.val < 256)) := fun hh => h7 (mem_row 384 0 _ r q hh.1 hh.2)
  have g8 : ¬((512 ≤ r.val ∧ r.val < 640) ∧ (256 ≤ q.val ∧ q.val < 512)) := fun hh => h8 (mem_row 512 256 _ r q hh.1 hh.2)
  have g9 : ¬((512 ≤ r.val ∧ r.val < 640) ∧ (0 ≤ q.val ∧ q.val < 256)) := fun hh => h9 (mem_row 512 0 _ r q hh.1 hh.2)
  have g10 : ¬((640 ≤ r.val ∧ r.val < 768) ∧ (256 ≤ q.val ∧ q.val < 512)) := fun hh => h10 (mem_row 640 256 _ r q hh.1 hh.2)
  have g11 : ¬((640 ≤ r.val ∧ r.val < 768) ∧ (0 ≤ q.val ∧ q.val < 256)) := fun hh => h11 (mem_row 640 0 _ r q hh.1 hh.2)
  have g12 : ¬((768 ≤ r.val ∧ r.val < 896) ∧ (256 ≤ q.val ∧ q.val < 512)) := fun hh => h12 (mem_row 768 256 _ r q hh.1 hh.2)
  have g13 : ¬((768 ≤ r.val ∧ r.val < 896) ∧ (0 ≤ q.val ∧ q.val < 256)) := fun hh => h13 (mem_row 768 0 _ r q hh.1 hh.2)
  have g14 : ¬((896 ≤ r.val ∧ r.val < 1024) ∧ (256 ≤ q.val ∧ q.val < 512)) := fun hh => h14 (mem_row 896 256 _ r q hh.1 hh.2)
  have g15 : ¬((896 ≤ r.val ∧ r.val < 1024) ∧ (0 ≤ q.val ∧ q.val < 256)) := fun hh => h15 (mem_row 896 0 _ r q hh.1 hh.2)
  clear h0 h1 h2 h3 h4 h5 h6 h7 h8 h9 h10 h11 h12 h13 h14 h15
  have := r.isLt
  have := q.isLt
  omega

theorem canon_hit (d o : Fin 2) (off : Fin 4 → ℕ) (h) (w : V32 S1x1x128x256) (L : List (View.Piece (Elt Ideal) S2x2x128x256 .f32)) (n : Fin 128) (q : Fin 256)
    (ho : off = ![d.val, o.val, 0, 0]) :
    View.canon ((⟨Rect.unit (s := S2x2x128x256) off ![1, 1, 128, 256] h, w⟩ : View.Piece (Elt Ideal) S2x2x128x256 .f32) :: L) (ix4 d o n q) = w (ix4 0 0 n q) := by
  subst ho
  rw [show (ix4 d o n q : S2x2x128x256.Idx) = (Rect.unit (s := S2x2x128x256) ![d.val, o.val, 0, 0] ![1, 1, 128, 256] h).emb (ix4 0 0 n q : S1x1x128x256.Idx) from ?_]
  · exact View.canon_cons_emb (Rect.unit (s := S2x2x128x256) ![d.val, o.val, 0, 0] ![1, 1, 128, 256] h) w L _
  · funext a
    refine Fin.ext ?_
    rw [ValueKit.rect_emb_unit_val]
    fin_cases a <;> simp

theorem canon_skip (d o : Fin 2) (off : Fin 4 → ℕ) (h) (w : V32 S1x1x128x256) (L : List (View.Piece (Elt Ideal) S2x2x128x256 .f32)) (n : Fin 128) (q : Fin 256)
    (ho : off 0 ≠ d.val ∨ off 1 ≠ o.val) :
    View.canon ((⟨Rect.unit (s := S2x2x128x256) off ![1, 1, 128, 256] h, w⟩ : View.Piece (Elt Ideal) S2x2x128x256 .f32) :: L) (ix4 d o n q) = View.canon L (ix4 d o n q) := by
  refine View.canon_cons_of_not_mem _ L fun hm => ?_
  rw [Rect.mem_set_unit] at hm
  have h0 := hm 0
  have h1 := hm 1
  simp at h0 h1
  omega

theorem piecesS_val00 (I J : ℕ → In) (hI : ∀ j, Good 0 (I j)) (s0 s1 u0 u1 : V32 S1x1x128x256) (L) (n : Fin 128) (q : Fin 256) :
    View.canon (piecesS I J s0 s1 u0 u1 L) (ix4 0 0 n q) = (loc 0 I 0 q s0).st 8 n := by
  unfold piecesS
  iterate 17 refine (canon_skip _ _ _ _ _ _ _ _ (by decide)).trans ?_
  refine (canon_hit 0 0 _ _ _ _ _ _ rfl).trans ?_
  exact stF0_val I hI s0 n q 8

theorem piecesS_val01 (I J : ℕ → In) (hI : ∀ j, Good 0 (I j)) (s0 s1 u0 u1 : V32 S1x1x128x256) (L) (n : Fin 128) (q : Fin 256) :
    View.canon (piecesS I J s0 s1 u0 u1 L) (ix4 0 1 n q) = (loc 0 I 1 q s1).st 8 n := by
  unfold piecesS
  iterate 16 refine (canon_skip _ _ _ _ _ _ _ _ (by decide)).trans ?_
  refine (canon_hit 0 1 _ _ _ _ _ _ rfl).trans ?_
  exact stF1_val I hI s1 n q 8

theorem piecesS_val10 (I J : ℕ → In) (hI : ∀ j, Good 1 (J j)) (s0 s1 u0 u1 : V32 S1x1x128x256) (L) (n : Fin 128) (q : Fin 256) :
    View.canon (piecesS I J s0 s1 u0 u1 L) (ix4 1 0 n q) = (loc 1 J 0 q u0).st 8 n := by
  unfold piecesS
  refine (canon_skip _ _ _ _ _ _ _ _ (by decide)).trans ?_
  refine (canon_hit 1 0 _ _ _ _ _ _ rfl).trans ?_
  exact stB0_val J hI u0 n q 8

theorem piecesS_val11 (I J : ℕ → In) (hI : ∀ j, Good 1 (J j)) (s0 s1 u0 u1 : V32 S1x1x128x256) (L) (n : Fin 128) (q : Fin 256) :
    View.canon (piecesS I J s0 s1 u0 u1 L) (ix4 1 1 n q) = (loc 1 J 1 q u1).st 8 n := by
  unfold piecesS
  refine (canon_hit 1 1 _ _ _ _ _ _ rfl).trans ?_
  exact stB1_val J hI u1 n q 8

end Cert.Body

end
-- ==== Proof.Chunk.lean ====
/- The chunks of a point of the grid: they satisfy what the value lemmas ask for, and their scans are the eight chunks of the whole scan that start
   with chunk `8 * (t % 8)`. -/
module

public import proofs.«01_k».proof.Proof.Entry
public import proofs.«01_k».proof.Proof.Point

@[expose] public section

set_option maxRecDepth 16384

noncomputable section

namespace Cert.Body

open Idealize.ShloMosaic Idealize.ShloMosaic.TcCoe Cert.KernelIdeal Cert.KernelIdeal.Gen Idealize.SL.Sem
open Cert.Scan (Job tok)

theorem visit_le0 (l k : Fin 128) : (visit 0 k ≤ visit 0 l) = (k.val ≤ l.val) := rfl

theorem visit_le1 (l k : Fin 128) : (visit 1 k ≤ visit 1 l) = (l.val ≤ k.val) := by
  apply propext
  show (Fin.rev k ≤ Fin.rev l) ↔ (l.val ≤ k.val)
  rw [Fin.rev_le_rev, Fin.le_def]

section Cut

variable (d r : ℕ) (T : V32 S2x128x128) (E : V16 S128x512) (X BC : V16 S1x1024x512) (D A : V32 S1x1x1024x128)

/-- The row of the block at position `l` of chunk `r`. -/
def rowIn (r : ℕ) (l : Fin 128) : Fin 1024 := ⟨r % 8 * 128 + l.val, by omega⟩

theorem inp_T (l k : Fin 128) : (inp d r T E X BC D A).T (ix3 0 l k) = T (ix3 ⟨d % 2, by omega⟩ l k) := by
  refine congrArg T (funext fun a => Fin.ext ?_)
  refine (ValueKit.rect_emb_unit_val _ _ _ _ _).trans ?_
  fin_cases a <;> simp [ix3]

theorem inp_X (l : Fin 128) (q : Fin 512) : (inp d r T E X BC D A).X (ix3 0 l q) = X (ix3 0 (rowIn r l) q) := by
  refine congrArg X (funext fun a => Fin.ext ?_)
  refine (ValueKit.rect_emb_unit_val _ _ _ _ _).trans ?_
  fin_cases a <;> simp [ix3, rowIn]

theorem inp_BC (l : Fin 128) (q : Fin 512) : (inp d r T E X BC D A).BC (ix3 0 l q) = BC (ix3 0 (rowIn r l) q) := by
  refine congrArg BC (funext fun a => Fin.ext ?_)
  refine (ValueKit.rect_emb_unit_val _ _ _ _ _).trans ?_
  fin_cases a <;> simp [ix3, rowIn]

theorem inp_D (l h : Fin 128) : (inp d r T E X BC D A).D (ix4 0 0 l h) = D (ix4 0 0 (rowIn r l) h) := by
  refine congrArg D (funext fun a => Fin.ext ?_)
  refine (ValueKit.rect_emb_unit_val _ _ _ _ _).trans ?_
  fin_cases a <;> simp [ix4, rowIn]

theorem inp_A (l h : Fin 128) : (inp d r T E X BC D A).A (ix4 0 0 l h) = A (ix4 0 0 (rowIn r l) h) := by
  refine congrArg A (funext fun a => Fin.ext ?_)
  refine (ValueKit.rect_emb_unit_val _ _ _ _ _).trans ?_
  fin_cases a <;> simp [ix4, rowIn]

theorem pick_val (d o : Fin 2) (S : V32 S2x2x128x256) (n : Fin 128) (q : Fin 256) : pick d.val o.val S (ix4 0 0 n q) = S (ix4 d o n q) := by
  refine congrArg S (funext fun a => Fin.ext ?_)
  refine (ValueKit.rect_emb_unit_val _ _ _ _ _).trans ?_
  have h1 : d.val % 2 = d.val := by omega
  have h2 : o.val % 2 = o.val := by omega
  fin_cases a <;> simp [ix4, h1, h2]

end Cut

variable (m : (ℓ : Loc nD τ sig) → Buf (Elt Ideal) ℓ) (c : Dev nD)

/-- The chunks of the forward direction at point `t`. -/
def inF (t : Fin cfg0.N) (j : ℕ) : In := inp 0 j (iblk m c 8 t) (iblk m c 9 t) (iblk m c 0 t) (iblk m c 1 t) (iblk m c 2 t) (iblk m c 3 t)

/-- The chunks of the backward direction at point `t`. -/
def inB (t : Fin cfg0.N) (j : ℕ) : In := inp 1 (7 - j) (iblk m c 8 t) (iblk m c 9 t) (iblk m c 4 t) (iblk m c 5 t) (iblk m c 6 t) (iblk m c 7 t)

theorem triF (t : Fin cfg0.N) (j : ℕ) (l k : Fin 128) : (inF m c t j).T (ix3 0 l k) = (V m c main_cst : V32 S2x128x128) (ix3 0 l k) := by
  unfold inF
  exact (inp_T _ _ _ _ _ _ _ _ l k).trans (win_tri m c t 0 l k)

theorem spreadF (t : Fin cfg0.N) (j : ℕ) (k : Fin 128) (q : Fin 512) : (inF m c t j).E (ix2 k q) = (if q.val / 64 = k.val then 1 else 0 : EReal) :=
  win_spread m c t k q

theorem goodF (h : (kargs m c).Fine) (t : Fin cfg0.N) (j : ℕ) : Good 0 (inF m c t j) where
  E := spreadF m c t j
  T l k := by
    simp only [visit_le0]
    exact (triF m c t j l k).trans (entry_triF m c l k)
  D l k := by unfold inF; rw [inp_D, win_dtF]; exact h.dt _ _ _ _
  A l k := by unfold inF; rw [inp_A, win_dAF]; exact h.dA _ _ _ _
  N l k := by unfold inF; rw [inp_A, win_dAF]; exact h.neg _ _ _ _

theorem tokF (t : Fin cfg0.N) (j : ℕ) (hj : j < 8) (k : Fin 128) : place 0 t (rowIn j (visit 0 k)) = tok 0 (8 * (t.val % 8) + j) k := by
  apply Fin.ext
  have := k.isLt
  simp [place, tok, rowIn, visit]
  omega

theorem partF (t : Fin cfg0.N) (o : Fin 2) (q : Fin 256) (S : V32 S1x1x128x256)
    (hS : ∀ n, S (ix4 0 0 n q) = ((kargs m c).job 0 (row t) (lane o q)).st (8 * (t.val % 8)) n) :
    (loc 0 (inF m c t) o q S).Part ((kargs m c).job 0 (row t) (lane o q)) (8 * (t.val % 8)) where
  a j hj := by
    funext k
    show (inF m c t j).A (ix4 0 0 (visit 0 k) ((head8 (lane o q)).castLE _)) = (kargs m c).dA (row t) (tok 0 _ k) 0 (head8 (lane o q))
    unfold inF
    rw [inp_A, win_dAF, tokF t j hj k]
  X j hj := by
    funext k
    show (inF m c t j).X (ix3 0 (visit 0 k) (lane o q)) * (inF m c t j).D (ix4 0 0 (visit 0 k) ((head8 (lane o q)).castLE _))
      = (kargs m c).xs (row t) (tok 0 _ k) (lane o q) * (kargs m c).dt (row t) (tok 0 _ k) 0 (head8 (lane o q))
    unfold inF
    rw [inp_X, inp_D, win_dtF, win_xsF, tokF t j hj k]
  B j hj := by
    funext k n
    show (inF m c t j).BC (ix3 0 (visit 0 k) ⟨o.val * 128 + n.val, _⟩) = (kargs m c).bm (row t) (tok 0 _ k) ⟨(lane o q).val / 256 * 128 + n.val, _⟩
    unfold inF
    rw [inp_BC, win_bcF, tokF t j hj k, dif_pos (by show o.val * 128 + n.val < 256; omega)]
    congr 1
    exact Fin.ext (by show o.val * 128 + n.val = (o.val * 256 + q.val) / 256 * 128 + n.val; omega)
  C j hj := by
    funext k n
    show (inF m c t j).BC (ix3 0 (visit 0 k) ⟨256 + o.val * 128 + n.val, _⟩) = (kargs m c).cm (row t) (tok 0 _ k) ⟨(lane o q).val / 256 * 128 + n.val, _⟩
    unfold inF
    rw [inp_BC, win_bcF, tokF t j hj k, dif_neg (by show ¬256 + o.val * 128 + n.val < 256; omega)]
    congr 1
    exact Fin.ext (by show 256 + o.val * 128 + n.val - 256 = (o.val * 256 + q.val) / 256 * 128 + n.val; omega)
  S0 := funext hS

theorem triB (t : Fin cfg0.N) (j : ℕ) (l k : Fin 128) : (inB m c t j).T (ix3 0 l k) = (V m c main_cst : V32 S2x128x128) (ix3 1 l k) := by
  unfold inB
  exact (inp_T _ _ _ _ _ _ _ _ l k).trans (win_tri m c t 1 l k)

theorem spreadB (t : Fin cfg0.N) (j : ℕ) (k : Fin 128) (q : Fin 512) : (inB m c t j).E (ix2 k q) = (if q.val / 64 = k.val then 1 else 0 : EReal) :=
  win_spread m c t k q

theorem goodB (h : (kargs m c).Fine) (t : Fin cfg0.N) (j : ℕ) : Good 1 (inB m c t j) where
  E := spreadB m c t j
  T l k := by
    simp only [visit_le1]
    exact (triB m c t j l k).trans (entry_triB m c l k)
  D l k := by unfold inB; rw [inp_D, win_dtB]; exact h.dt _ _ _ _
  A l k := by unfold inB; rw [inp_A, win_dAB]; exact h.dA _ _ _ _
  N l k := by unfold inB; rw [inp_A, win_dAB]; exact h.neg _ _ _ _

theorem tokB (t : Fin cfg0.N) (j : ℕ) (hj : j < 8) (k : Fin 128) : place 1 t (rowIn (7 - j) (visit 1 k)) = tok 1 (8 * (t.val % 8) + j) k := by
  apply Fin.ext
  have := k.isLt
  simp [place, tok, rowIn, visit]
  omega

theorem partB (t : Fin cfg0.N) (o : Fin 2) (q : Fin 256) (S : V32 S1x1x128x256)
    (hS : ∀ n, S (ix4 0 0 n q) = ((kargs m c).job 1 (row t) (lane o q)).st (8 * (t.val % 8)) n) :
    (loc 1 (inB m c t) o q S).Part ((kargs m c).job 1 (row t) (lane o q)) (8 * (t.val % 8)) where
  a j hj := by
    funext k
    show (inB m c t j).A (ix4 0 0 (visit 1 k) ((head8 (lane o q)).castLE _)) = (kargs m c).dA (row t) (tok 1 _ k) 1 (head8 (lane o q))
    unfold inB
    rw [inp_A, win_dAB, tokB t j hj k]
  X j hj := by
    funext k
    show (inB m c t j).X (ix3 0 (visit 1 k) (lane o q)) * (inB m c t j).D (ix4 0 0 (visit 1 k) ((head8 (lane o q)).castLE _))
      = (kargs m c).xs (row t) (tok 1 _ k) (lane o q) * (kargs m c).dt (row t) (tok 1 _ k) 1 (head8 (lane o q))
    unfold inB
    rw [inp_X, inp_D, win_dtB, win_xsB, tokB t j hj k]
  B j hj := by
    funext k n
    show (inB m c t j).BC (ix3 0 (visit 1 k) ⟨o.val * 128 + n.val, _⟩) = (kargs m c).bm (row t) (tok 1 _ k) ⟨(lane o q).val / 256 * 128 + n.val, _⟩
    unfold inB
    rw [inp_BC, win_bcB, tokB t j hj k, dif_pos (by show o.val * 128 + n.val < 256; omega)]
    congr 1
    exact Fin.ext (by show o.val * 128 + n.val = (o.val * 256 + q.val) / 256 * 128 + n.val; omega)
  C j hj := by
    funext k n
    show (inB m c t j).BC (ix3 0 (visit 1 k) ⟨256 + o.val * 128 + n.val, _⟩) = (kargs m c).cm (row t) (tok 1 _ k) ⟨(lane o q).val / 256 * 128 + n.val, _⟩
    unfold inB
    rw [inp_BC, win_bcB, tokB t j hj k, dif_neg (by show ¬256 + o.val * 128 + n.val < 256; omega)]
    congr 1
    exact Fin.ext (by show 256 + o.val * 128 + n.val - 256 = (o.val * 256 + q.val) / 256 * 128 + n.val; omega)
  S0 := funext hS

end Cert.Body

end
-- ==== Proof.PiecesA.lean ====
/- The pieces found at the first point of a sweep, which starts from the initial states. -/
module

public import proofs.«01_k».proof.Proof.Gen.KernelIdeal.Frame
public import proofs.«01_k».proof.Proof.Pieces
public import Idealize.ShloMosaic.Lib.Pipeline.ReadBack

@[expose] public section

set_option maxRecDepth 16384

noncomputable section

namespace Cert.Body

open Idealize.ShloMosaic Idealize.ShloMosaic.TcCoe Cert.KernelIdeal Cert.KernelIdeal.Gen

set_option maxHeartbeats 4000000 in
/-- The forward output of a first point of a sweep. -/
theorem pieces_A_11 (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : cond0_0 i) (hc1 : ¬cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10).1 =
      piecesF (fun j => inp 0 j x8 x9 x0 x1 x2 x3) (pick 0 0 (k0_pay2 (F := Ideal) x10)) (pick 0 1 (k0_pay2 (F := Ideal) x10)) := by
  unfold kernelRun0_A
  frame_open
  simp (disch := decide) only [↓ View.readCov_skip, ↓ View.readCov_cons_toLoadRect, ↓ View.readCov_fill, View.readAt_eq_ld, Memref.IsWhole.read_unread, View.ld_unit_lit']
  rfl

set_option maxHeartbeats 4000000 in
/-- The backward output of a first point of a sweep. -/
theorem pieces_A_12 (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : cond0_0 i) (hc1 : ¬cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10).2.1 =
      piecesB (fun j => inp 1 (7 - j) x8 x9 x4 x5 x6 x7) (pick 1 0 (k0_pay2 (F := Ideal) x10)) (pick 1 1 (k0_pay2 (F := Ideal) x10)) := by
  unfold kernelRun0_A
  frame_open
  simp (disch := decide) only [↓ View.readCov_skip, ↓ View.readCov_cons_toLoadRect, ↓ View.readCov_fill, View.readAt_eq_ld, Memref.IsWhole.read_unread, View.ld_unit_lit']
  rfl

set_option maxHeartbeats 4000000 in
/-- The states of a first point of a sweep. -/
theorem pieces_A_S (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : cond0_0 i) (hc1 : ¬cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10).2.2.2.1 =
      piecesS (fun j => inp 0 j x8 x9 x0 x1 x2 x3) (fun j => inp 1 (7 - j) x8 x9 x4 x5 x6 x7) (pick 0 0 (k0_pay2 (F := Ideal) x10)) (pick 0 1 (k0_pay2 (F := Ideal) x10)) (pick 1 0 (k0_pay2 (F := Ideal) x10)) (pick 1 1 (k0_pay2 (F := Ideal) x10)) [⟨Rect.unit ![0, 0, 0, 0] S2x2x128x256.size inb_S2x2x128x256_S2x2x128x256_0_0_0_0, k0_pay2 (F := Ideal) x10⟩] := by
  unfold kernelRun0_A
  frame_open
  simp (disch := decide) only [↓ View.readCov_skip, ↓ View.readCov_cons_toLoadRect, ↓ View.readCov_fill, View.readAt_eq_ld, Memref.IsWhole.read_unread, View.ld_unit_lit']
  rfl

end Cert.Body

end
-- ==== Proof.PiecesB.lean ====
/- The pieces found at a middle point of a sweep. -/
module

public import proofs.«01_k».proof.Proof.Gen.KernelIdeal.Frame
public import proofs.«01_k».proof.Proof.Pieces
public import Idealize.ShloMosaic.Lib.Pipeline.ReadBack

@[expose] public section

set_option maxRecDepth 16384

noncomputable section

namespace Cert.Body

open Idealize.ShloMosaic Idealize.ShloMosaic.TcCoe Cert.KernelIdeal Cert.KernelIdeal.Gen

set_option maxHeartbeats 4000000 in
/-- The forward output of a middle point of a sweep. -/
theorem pieces_B_11 (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : ¬cond0_0 i) (hc1 : ¬cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) (xs0 : V32 S2x2x128x256) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10 xs0).1 =
      piecesF (fun j => inp 0 j x8 x9 x0 x1 x2 x3) (pick 0 0 xs0) (pick 0 1 xs0) := by
  unfold kernelRun0_B
  frame_open
  simp (disch := decide) only [↓ View.readCov_skip, ↓ View.readCov_cons_toLoadRect, ↓ View.readCov_fill, View.readAt_eq_ld, Memref.IsWhole.read_unread, View.ld_unit_lit']
  rfl

set_option maxHeartbeats 4000000 in
/-- The backward output of a middle point of a sweep. -/
theorem pieces_B_12 (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : ¬cond0_0 i) (hc1 : ¬cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) (xs0 : V32 S2x2x128x256) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10 xs0).2.1 =
      piecesB (fun j => inp 1 (7 - j) x8 x9 x4 x5 x6 x7) (pick 1 0 xs0) (pick 1 1 xs0) := by
  unfold kernelRun0_B
  frame_open
  simp (disch := decide) only [↓ View.readCov_skip, ↓ View.readCov_cons_toLoadRect, ↓ View.readCov_fill, View.readAt_eq_ld, Memref.IsWhole.read_unread, View.ld_unit_lit']
  rfl

set_option maxHeartbeats 4000000 in
/-- The states of a middle point of a sweep. -/
theorem pieces_B_S (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : ¬cond0_0 i) (hc1 : ¬cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) (xs0 : V32 S2x2x128x256) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10 xs0).2.2.2.1 =
      piecesS (fun j => inp 0 j x8 x9 x0 x1 x2 x3) (fun j => inp 1 (7 - j) x8 x9 x4 x5 x6 x7) (pick 0 0 xs0) (pick 0 1 xs0) (pick 1 0 xs0) (pick 1 1 xs0) [] := by
  unfold kernelRun0_B
  frame_open
  simp (disch := decide) only [↓ View.readCov_skip, ↓ View.readCov_cons_toLoadRect, ↓ View.readCov_fill, View.readAt_eq_ld, Memref.IsWhole.read_unread, View.ld_unit_lit']
  rfl

end Cert.Body

end
-- ==== Proof.PiecesC.lean ====
/- The pieces found at the last point of a sweep, which copies the final states out. -/
module

public import proofs.«01_k».proof.Proof.Gen.KernelIdeal.Frame
public import proofs.«01_k».proof.Proof.Pieces
public import Idealize.ShloMosaic.Lib.Pipeline.ReadBack

@[expose] public section

set_option maxRecDepth 16384

noncomputable section

namespace Cert.Body

open Idealize.ShloMosaic Idealize.ShloMosaic.TcCoe Cert.KernelIdeal Cert.KernelIdeal.Gen

set_option maxHeartbeats 4000000 in
/-- The forward output of a last point of a sweep. -/
theorem pieces_C_11 (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : ¬cond0_0 i) (hc1 : cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) (xs0 : V32 S2x2x128x256) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10 xs0).1 =
      piecesF (fun j => inp 0 j x8 x9 x0 x1 x2 x3) (pick 0 0 xs0) (pick 0 1 xs0) := by
  unfold kernelRun0_C
  frame_open
  simp (disch := decide) only [↓ View.readCov_skip, ↓ View.readCov_cons_toLoadRect, ↓ View.readCov_fill, View.readAt_eq_ld, Memref.IsWhole.read_unread, View.ld_unit_lit']
  rfl

set_option maxHeartbeats 4000000 in
/-- The backward output of a last point of a sweep. -/
theorem pieces_C_12 (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : ¬cond0_0 i) (hc1 : cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) (xs0 : V32 S2x2x128x256) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10 xs0).2.1 =
      piecesB (fun j => inp 1 (7 - j) x8 x9 x4 x5 x6 x7) (pick 1 0 xs0) (pick 1 1 xs0) := by
  unfold kernelRun0_C
  frame_open
  simp (disch := decide) only [↓ View.readCov_skip, ↓ View.readCov_cons_toLoadRect, ↓ View.readCov_fill, View.readAt_eq_ld, Memref.IsWhole.read_unread, View.ld_unit_lit']
  rfl

set_option maxHeartbeats 4000000 in
/-- The states of a last point of a sweep. -/
theorem pieces_C_S (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : ¬cond0_0 i) (hc1 : cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) (xs0 : V32 S2x2x128x256) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10 xs0).2.2.2.1 =
      piecesS (fun j => inp 0 j x8 x9 x0 x1 x2 x3) (fun j => inp 1 (7 - j) x8 x9 x4 x5 x6 x7) (pick 0 0 xs0) (pick 0 1 xs0) (pick 1 0 xs0) (pick 1 1 xs0) [] := by
  unfold kernelRun0_C
  frame_open
  simp (disch := decide) only [↓ View.readCov_skip, ↓ View.readCov_cons_toLoadRect, ↓ View.readCov_fill, View.readAt_eq_ld, Memref.IsWhole.read_unread, View.ld_unit_lit']
  rfl

set_option maxHeartbeats 4000000 in
/-- The copy of the final states at the last point. -/
theorem pieces_C_13 (c : Dev nD) (i : grid0.Coords) (arg2 : Memref sig .tc .vmem S1x1024x512 .bf16) (harg2 : arg2.IsWhole) (arg3 : Memref sig .tc .vmem S1x1024x512 .bf16) (harg3 : arg3.IsWhole) (arg4 : Memref sig .tc .vmem S1x1x1024x128 .f32) (harg4 : arg4.IsWhole) (arg5 : Memref sig .tc .vmem S1x1x1024x128 .f32) (harg5 : arg5.IsWhole)
    (arg6 : Memref sig .tc .vmem S1x1024x512 .bf16) (harg6 : arg6.IsWhole) (arg7 : Memref sig .tc .vmem S1x1024x512 .bf16) (harg7 : arg7.IsWhole) (arg8 : Memref sig .tc .vmem S1x1x1024x128 .f32) (harg8 : arg8.IsWhole) (arg9 : Memref sig .tc .vmem S1x1x1024x128 .f32) (harg9 : arg9.IsWhole)
    (arg10 : Memref sig .tc .vmem S2x128x128 .f32) (harg10 : arg10.IsWhole) (arg11 : Memref sig .tc .vmem S128x512 .bf16) (harg11 : arg11.IsWhole) (arg12 : Memref sig .tc .vmem S1x2x2x128x256 .f32) (harg12 : arg12.IsWhole) (arg13 : Memref sig .tc .vmem S1x1024x512 .bf16) (harg13 : arg13.IsWhole)
    (arg14 : Memref sig .tc .vmem S1x1024x512 .bf16) (harg14 : arg14.IsWhole) (arg15 : Memref sig .tc .vmem S1x2x2x128x256 .f32) (harg15 : arg15.IsWhole) (arg16 : Memref sig .tc .vmem S2x2x128x256 .f32) (harg16 : arg16.IsWhole)
    (hc0 : ¬cond0_0 i) (hc1 : cond0_1 i) (x0 x1 : V16 S1x1024x512) (x2 x3 : V32 S1x1x1024x128) (x4 x5 : V16 S1x1024x512) (x6 x7 : V32 S1x1x1024x128) (x8 : V32 S2x128x128) (x9 : V16 S128x512) (x10 : V32 S1x2x2x128x256) (xs0 : V32 S2x2x128x256) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1
      x0 x1 x2 x3 x4 x5 x6 x7 x8 x9 x10 xs0).2.2.1 =
      [⟨Rect.unit ![0, 0, 0, 0, 0] S1x2x2x128x256.size inb_S1x2x2x128x256_S1x2x2x128x256_0_0_0_0_0, k0_pay1 (F := Ideal) (View.readCov arg16.view (piecesS (fun j => inp 0 j x8 x9 x0 x1 x2 x3) (fun j => inp 1 (7 - j) x8 x9 x4 x5 x6 x7) (pick 0 0 xs0) (pick 0 1 xs0) (pick 1 0 xs0) (pick 1 1 xs0) []) (Rect.unit ![0, 0, 0, 0] S2x2x128x256.size inb_S2x2x128x256_S2x2x128x256_0_0_0_0).toLoadRect)⟩] := by
  unfold kernelRun0_C
  frame_open
  simp (disch := decide) only [↓ View.readCov_skip, ↓ View.readCov_cons_toLoadRect, ↓ View.readCov_fill, View.readAt_eq_ld, Memref.IsWhole.read_unread, View.ld_unit_lit']
  rfl

end Cert.Body

end
-- ==== Proof.Sweep.lean ====
/- The sweep of the grid over a batch row: what every point leaves, and that the states it carries are the states of the whole scan. -/
module

public import proofs.«01_k».proof.Proof.Chunk
public import proofs.«01_k».proof.Proof.PiecesA
public import proofs.«01_k».proof.Proof.PiecesB
public import proofs.«01_k».proof.Proof.PiecesC

@[expose] public section

set_option maxRecDepth 16384

noncomputable section

namespace Cert.Body

open Idealize.ShloMosaic Idealize.ShloMosaic.TcCoe Cert.KernelIdeal Cert.KernelIdeal.Gen Idealize.SL.Sem
open Cert.Scan (Job tok)

variable (m : (ℓ : Loc nD τ sig) → Buf (Elt Ideal) ℓ) (c : Dev nD)

/-- What point `t` leaves when it starts from the states `S`. -/
structure Step (S : V32 S2x2x128x256) (t : Fin cfg0.N) : Prop where
  yf : (outsAt0 m c t.val t.isLt).1 = View.canon (piecesF (inF m c t) (pick 0 0 S) (pick 0 1 S))
  yb : (outsAt0 m c t.val t.isLt).2.1 = View.canon (piecesB (inB m c t) (pick 1 0 S) (pick 1 1 S))
  st : ∃ L, (outsAt0 m c t.val t.isLt).2.2.2 = View.canon (piecesS (inF m c t) (inB m c t) (pick 0 0 S) (pick 0 1 S) (pick 1 0 S) (pick 1 1 S) L)

/-- The states that the point before left. -/
def prev (t : Fin cfg0.N) : V32 S2x2x128x256 := (outsAt0 m c (t.val - 1) (Nat.lt_of_le_of_lt (Nat.sub_le _ _) t.isLt)).2.2.2

theorem step_A (t : Fin cfg0.N) (h0 : t.val % 8 = 0) : Step m c (k0_pay2 (F := Ideal) (iblk m c 10 t)) t := by
  have h1 : ¬t.val % 8 = 7 := by omega
  constructor
  · rw [outsAt0_A m c t h0 h1]
    dsimp only
    unfold out0_A_11
    rw [View.read_writes_junk_eq_canon, pieces_A_11]
    rfl
  · rw [outsAt0_A m c t h0 h1]
    dsimp only
    unfold out0_A_12
    rw [View.read_writes_junk_eq_canon, pieces_A_12]
    rfl
  · rw [outsAt0_A m c t h0 h1]
    dsimp only
    unfold sout0_A_0
    rw [View.read_writes_junk_eq_canon, pieces_A_S]
    exact ⟨_, rfl⟩

theorem step_B (t : Fin cfg0.N) (h0 : ¬t.val % 8 = 0) (h1 : ¬t.val % 8 = 7) : Step m c (prev m c t) t := by
  constructor
  · rw [outsAt0_B m c t h0 h1]
    dsimp only
    unfold out0_B_11
    rw [View.read_writes_junk_eq_canon, pieces_B_11]
    rfl
  · rw [outsAt0_B m c t h0 h1]
    dsimp only
    unfold out0_B_12
    rw [View.read_writes_junk_eq_canon, pieces_B_12]
    rfl
  · rw [outsAt0_B m c t h0 h1]
    dsimp only
    unfold sout0_B_0
    rw [View.read_writes_junk_eq_canon, pieces_B_S]
    exact ⟨_, rfl⟩

theorem step_C (t : Fin cfg0.N) (h0 : ¬t.val % 8 = 0) (h1 : t.val % 8 = 7) : Step m c (prev m c t) t := by
  constructor
  · rw [outsAt0_C m c t h0 h1]
    dsimp only
    unfold out0_C_11
    rw [View.read_writes_junk_eq_canon, pieces_C_11]
    rfl
  · rw [outsAt0_C m c t h0 h1]
    dsimp only
    unfold out0_C_12
    rw [View.read_writes_junk_eq_canon, pieces_C_12]
    rfl
  · rw [outsAt0_C m c t h0 h1]
    dsimp only
    unfold sout0_C_0
    rw [View.read_writes_junk_eq_canon, pieces_C_S]
    exact ⟨_, rfl⟩

theorem copied (a : Memref sig .tc .vmem S2x2x128x256 .f32) (L : List (View.Piece (Elt Ideal) S2x2x128x256 .f32)) (d o : Fin 2) (n : Fin 128) (q : Fin 256) :
    View.canon (Val := Elt Ideal) (e := .f32) [⟨Rect.unit (s := S1x2x2x128x256) ![0, 0, 0, 0, 0] S1x2x2x128x256.size inb_S1x2x2x128x256_S1x2x2x128x256_0_0_0_0_0,
      k0_pay1 (F := Ideal) (View.readCov a.view L (Rect.unit ![0, 0, 0, 0] S2x2x128x256.size inb_S2x2x128x256_S2x2x128x256_0_0_0_0).toLoadRect)⟩] (ix5 0 d o n q)
      = View.canon L (ix4 d o n q) := by
  have e : (ix5 0 d o n q : S1x2x2x128x256.Idx) = (Rect.unit (s := S1x2x2x128x256) ![0, 0, 0, 0, 0] S1x2x2x128x256.size inb_S1x2x2x128x256_S1x2x2x128x256_0_0_0_0_0).emb (ix5 0 d o n q) := by
    refine funext fun a => Fin.ext ?_
    refine Eq.trans ?_ (ValueKit.rect_emb_unit_val _ _ _ _ _).symm
    fin_cases a <;> simp [ix5]
  refine (congrArg _ e).trans ?_
  refine (View.canon_cons_emb (Rect.unit (s := S1x2x2x128x256) ![0, 0, 0, 0, 0] S1x2x2x128x256.size inb_S1x2x2x128x256_S1x2x2x128x256_0_0_0_0_0) _ _ _).trans ?_
  rw [View.readCov_eq_canon']
  generalize View.canon L = S
  have e' : ∀ (T : V32 S2x2x128x256), k0_pay1 (F := Ideal) T (ix5 0 d o n q) = T (ix4 d o n q) := by
    intro T
    unfold k0_pay1
    pointwise
  refine (e' _).trans ?_
  refine congrArg S (funext fun a => Fin.ext ?_)
  refine (ValueKit.rect_emb_unit_val _ _ _ _ _).trans ?_
  fin_cases a <;> simp [ix4]

/-- The block that the last point of a batch row copies out holds the states `canon L`. -/
def copyOf (a : Memref sig .tc .vmem S2x2x128x256 .f32) (L : List (View.Piece (Elt Ideal) S2x2x128x256 .f32)) : V32 S1x2x2x128x256 :=
  View.canon (Val := Elt Ideal) (e := .f32) [⟨Rect.unit (s := S1x2x2x128x256) ![0, 0, 0, 0, 0] S1x2x2x128x256.size inb_S1x2x2x128x256_S1x2x2x128x256_0_0_0_0_0,
      k0_pay1 (F := Ideal) (View.readCov a.view L (Rect.unit ![0, 0, 0, 0] S2x2x128x256.size inb_S2x2x128x256_S2x2x128x256_0_0_0_0).toLoadRect)⟩]

theorem copied_C (t : Fin cfg0.N) (h0 : ¬t.val % 8 = 0) (h1 : t.val % 8 = 7) :
    (outsAt0 m c t.val t.isLt).2.2.1 = copyOf scM0_0 (piecesS (inF m c t) (inB m c t) (pick 0 0 (prev m c t)) (pick 0 1 (prev m c t)) (pick 1 0 (prev m c t)) (pick 1 1 (prev m c t)) []) := by
  rw [outsAt0_C m c t h0 h1]
  dsimp only
  unfold out0_C_13
  rw [View.read_writes_junk_eq_canon, pieces_C_13]
  rfl

theorem states_C (t : Fin cfg0.N) (h0 : ¬t.val % 8 = 0) (h1 : t.val % 8 = 7) :
    (outsAt0 m c t.val t.isLt).2.2.2 = View.canon (piecesS (inF m c t) (inB m c t) (pick 0 0 (prev m c t)) (pick 0 1 (prev m c t)) (pick 1 0 (prev m c t)) (pick 1 1 (prev m c t)) []) := by
  rw [outsAt0_C m c t h0 h1]
  dsimp only
  unfold sout0_C_0
  rw [View.read_writes_junk_eq_canon, pieces_C_S]
  rfl

/-- The last point of a batch row copies the states out. -/
theorem copy_C (t : Fin cfg0.N) (h0 : ¬t.val % 8 = 0) (h1 : t.val % 8 = 7) (d o : Fin 2) (n : Fin 128) (q : Fin 256) :
    (outsAt0 m c t.val t.isLt).2.2.1 (ix5 0 d o n q) = (outsAt0 m c t.val t.isLt).2.2.2 (ix4 d o n q) := by
  rw [copied_C m c t h0 h1, states_C m c t h0 h1]
  generalize piecesS _ _ _ _ _ _ _ = L
  exact copied _ L d o n q

/-- The states at the start of a batch row are the initial states. -/
theorem first_states (t : Fin cfg0.N) (d o : Fin 2) (n : Fin 128) (q : Fin 256) :
    k0_pay2 (F := Ideal) (iblk m c 10 t) (ix4 d o n q) = ((kargs m c).job d (row t) (lane o q)).st 0 n := by
  have e' : ∀ (T : V32 S1x2x2x128x256), k0_pay2 (F := Ideal) T (ix4 d o n q) = T (ix5 0 d o n q) := by
    intro T
    unfold k0_pay2
    pointwise
  refine (e' _).trans ((win_ini m c t d o n q).trans ?_)
  show (kargs m c).ini d (row t) _ _ n = (kargs m c).ini d (row t) _ _ n
  congr 1 <;> exact Fin.ext (by simp only [lane]; omega)

variable {m c} in
/-- What the states after a point are, if the states before it are those of the whole scan. -/
theorem Step.next (h : (kargs m c).Fine) {t : Fin cfg0.N} {S : V32 S2x2x128x256} (p : Step m c S t)
    (hS : ∀ d o n q, S (ix4 d o n q) = ((kargs m c).job d (row t) (lane o q)).st (8 * (t.val % 8)) n) (d o : Fin 2) (n : Fin 128) (q : Fin 256) :
    (outsAt0 m c t.val t.isLt).2.2.2 (ix4 d o n q) = ((kargs m c).job d (row t) (lane o q)).st (8 * (t.val % 8) + 8) n := by
  obtain ⟨L, e⟩ := p.st
  rw [e]
  match d, o with
  | 0, 0 =>
    refine (piecesS_val00 _ _ (goodF m c h t) _ _ _ _ _ n q).trans ?_
    exact congrFun ((partF m c t 0 q (pick 0 0 S) fun n => (pick_val 0 0 S n q).trans (hS 0 0 n q)).st 8 le_rfl) n
  | 0, 1 =>
    refine (piecesS_val01 _ _ (goodF m c h t) _ _ _ _ _ n q).trans ?_
    exact congrFun ((partF m c t 1 q (pick 0 1 S) fun n => (pick_val 0 1 S n q).trans (hS 0 1 n q)).st 8 le_rfl) n
  | 1, 0 =>
    refine (piecesS_val10 _ _ (goodB m c h t) _ _ _ _ _ n q).trans ?_
    exact congrFun ((partB m c t 0 q (pick 1 0 S) fun n => (pick_val 1 0 S n q).trans (hS 1 0 n q)).st 8 le_rfl) n
  | 1, 1 =>
    refine (piecesS_val11 _ _ (goodB m c h t) _ _ _ _ _ n q).trans ?_
    exact congrFun ((partB m c t 1 q (pick 1 1 S) fun n => (pick_val 1 1 S n q).trans (hS 1 1 n q)).st 8 le_rfl) n

/-- Every point starts from the states of the whole scan. -/
theorem sweep (h : (kargs m c).Fine) : ∀ (k : ℕ) (hk : k < cfg0.N), ∃ S : V32 S2x2x128x256, Step m c S ⟨k, hk⟩ ∧
    ∀ d o n q, S (ix4 d o n q) = ((kargs m c).job d (row ⟨k, hk⟩) (lane o q)).st (8 * (k % 8)) n := by
  intro k
  induction k with
  | zero => exact fun hk => ⟨_, step_A m c ⟨0, hk⟩ rfl, fun d o n q => first_states m c ⟨0, hk⟩ d o n q⟩
  | succ k ih =>
    intro hk
    by_cases h0 : (k + 1) % 8 = 0
    · refine ⟨_, step_A m c ⟨k + 1, hk⟩ h0, fun d o n q => ?_⟩
      rw [h0]
      exact first_states m c ⟨k + 1, hk⟩ d o n q
    · have hp : Step m c (prev m c ⟨k + 1, hk⟩) ⟨k + 1, hk⟩ := by
        by_cases h1 : (k + 1) % 8 = 7
        · exact step_C m c ⟨k + 1, hk⟩ h0 h1
        · exact step_B m c ⟨k + 1, hk⟩ h0 h1
      refine ⟨_, hp, fun d o n q => ?_⟩
      obtain ⟨S, p, hS⟩ := ih (by omega)
      have e := p.next h hS d o n q
      have er : row ⟨k + 1, hk⟩ = row ⟨k, by omega⟩ := Fin.ext (by show (k + 1) / 8 = k / 8; omega)
      have ez : 8 * ((k + 1) % 8) = 8 * (k % 8) + 8 := by omega
      rw [er, ez]
      exact e

end Cert.Body

end
-- ==== Proof.Outputs.lean ====
/- The three results of the call: both outputs and the final states, as the scans of their lanes. -/
module

public import proofs.«01_k».proof.Proof.Sweep
public import proofs.«01_k».proof.Proof.Gen.KernelIdeal.Value

@[expose] public section

set_option maxRecDepth 16384

noncomputable section

namespace Cert.Scan

open Idealize.ShloMosaic

/-- The forward output. -/
def Args.yf (g : Args) (b : Fin 4) (t : Fin 8192) (q : Fin 512) : EReal := (g.job 0 b q).y (t.val / 128) ⟨t.val % 128, by omega⟩

/-- The backward output. -/
def Args.yb (g : Args) (b : Fin 4) (t : Fin 8192) (q : Fin 512) : EReal := (g.job 1 b q).y (63 - t.val / 128) ⟨127 - t.val % 128, by omega⟩

end Cert.Scan

namespace Cert.Body

open Idealize.ShloMosaic Idealize.ShloMosaic.TcCoe Cert.KernelIdeal Cert.KernelIdeal.Gen Idealize.SL.Sem
open Cert.Scan (Job tok)

variable {m : (ℓ : Loc nD τ sig) → Buf (Elt Ideal) ℓ} {c : Dev nD}

theorem lane_split (q : Fin 512) : lane ⟨q.val / 256, by omega⟩ ⟨q.val % 256, by omega⟩ = q := Fin.ext (by simp only [lane]; omega)

theorem point_yf (h : (kargs m c).Fine) (t : Fin cfg0.N) (r : Fin 1024) (q : Fin 512) :
    (outsAt0 m c t.val t.isLt).1 (ix3 0 r q) = ((kargs m c).job 0 (row t) q).y (8 * (t.val % 8) + r.val / 128) ⟨r.val % 128, by omega⟩ := by
  obtain ⟨S, p, hS⟩ := sweep m c h t.val t.isLt
  have p' : Step m c S t := p
  rw [p'.yf]
  refine (piecesF_val _ (goodF m c h t) _ _ r q).trans ?_
  unfold block
  have k := partF m c t ⟨q.val / 256, by omega⟩ ⟨q.val % 256, by omega⟩ (if q.val / 256 = 0 then pick 0 0 S else pick 0 1 S) fun n => by
    refine Eq.trans ?_ (hS 0 ⟨q.val / 256, by omega⟩ n ⟨q.val % 256, by omega⟩)
    split
    · next e =>
      rw [show (⟨q.val / 256, by omega⟩ : Fin 2) = 0 from Fin.ext e]
      exact pick_val 0 0 S n _
    · next e =>
      rw [show (⟨q.val / 256, by omega⟩ : Fin 2) = 1 from Fin.ext (by show q.val / 256 = 1; omega)]
      exact pick_val 0 1 S n _
  refine (k.y (r.val / 128) (by omega) _).trans ?_
  rw [lane_split]
  rfl

theorem point_yb (h : (kargs m c).Fine) (t : Fin cfg0.N) (r : Fin 1024) (q : Fin 512) :
    (outsAt0 m c t.val t.isLt).2.1 (ix3 0 r q) = ((kargs m c).job 1 (row t) q).y (8 * (t.val % 8) + (7 - r.val / 128)) ⟨127 - r.val % 128, by omega⟩ := by
  obtain ⟨S, p, hS⟩ := sweep m c h t.val t.isLt
  have p' : Step m c S t := p
  rw [p'.yb]
  refine (piecesB_val _ (goodB m c h t) _ _ r q).trans ?_
  unfold block
  have k := partB m c t ⟨q.val / 256, by omega⟩ ⟨q.val % 256, by omega⟩ (if q.val / 256 = 0 then pick 1 0 S else pick 1 1 S) fun n => by
    refine Eq.trans ?_ (hS 1 ⟨q.val / 256, by omega⟩ n ⟨q.val % 256, by omega⟩)
    split
    · next e =>
      rw [show (⟨q.val / 256, by omega⟩ : Fin 2) = 0 from Fin.ext e]
      exact pick_val 1 0 S n _
    · next e =>
      rw [show (⟨q.val / 256, by omega⟩ : Fin 2) = 1 from Fin.ext (by show q.val / 256 = 1; omega)]
      exact pick_val 1 1 S n _
  refine (k.y (7 - r.val / 128) (by omega) _).trans ?_
  rw [lane_split]
  congr 1
  exact Fin.ext (by show 128 - (r.val % 128 + 1) = 127 - r.val % 128; omega)

theorem point_fin (h : (kargs m c).Fine) (t : Fin cfg0.N) (h1 : t.val % 8 = 7) (d o : Fin 2) (n : Fin 128) (q : Fin 256) :
    (outsAt0 m c t.val t.isLt).2.2.1 (ix5 0 d o n q) = ((kargs m c).job d (row t) (lane o q)).st 64 n := by
  obtain ⟨S, p, hS⟩ := sweep m c h t.val t.isLt
  have p' : Step m c S t := p
  rw [copy_C m c t (by omega) h1 d o n q, p'.next h hS d o n q, h1]

/-- The forward output array. -/
def arrF (g : Scan.Args) : V16 S4x8192x512 := fun i => g.yf (i 0) (i 1) (i 2)

/-- The backward output array. -/
def arrB (g : Scan.Args) : V16 S4x8192x512 := fun i => g.yb (i 0) (i 1) (i 2)

/-- The array of final states. -/
def arrS (g : Scan.Args) : V32 S4x2x2x128x256 := fun i => (g.job (i 1) (i 0) (lane (i 2) (i 4))).st 64 (i 3)

theorem at11 (f : V16 S4x8192x512) (t : Fin cfg0.N) (r : Fin 1024) (q : Fin 512) :
    f (((win0 11).blk t).view.emb (ix3 0 r q)) = f (ix3 (row t) (place 0 t r) q) := by
  blk_ext [idx11 t, row, place] <;> simp

theorem at12 (f : V16 S4x8192x512) (t : Fin cfg0.N) (r : Fin 1024) (q : Fin 512) :
    f (((win0 12).blk t).view.emb (ix3 0 r q)) = f (ix3 (row t) (place 1 t r) q) := by
  blk_ext [idx12 t, row, place] <;> simp

theorem at13 (f : V32 S4x2x2x128x256) (t : Fin cfg0.N) (d o : Fin 2) (n : Fin 128) (q : Fin 256) :
    f (((win0 13).blk t).view.emb (ix5 0 d o n q)) = f (ix5 (row t) d o n q) := by
  blk_ext [idx13 t, row]

theorem array11 (h : (kargs m c).Fine) : (dats m 0 c).arrAt 11 cfg0.N = arrF (kargs m c) := by
  refine (dats m 0 c).arrAt_eq_of_covers 11 _ (by decide +kernel) fun t hf y => ?_
  blk_simp
  rw [after0_11]
  idx_vars y
  obtain rfl : y0 = 0 := Subsingleton.elim _ _
  refine (point_yf h t y1 y2).trans (Eq.trans ?_ (at11 (arrF (kargs m c)) t y1 y2).symm)
  show _ = ((kargs m c).job 0 (row t) y2).y ((place 0 t y1).val / 128) ⟨(place 0 t y1).val % 128, _⟩
  have e : (place 0 t y1).val = t.val % 8 * 1024 + y1.val := by simp [place]
  have e1 : (place 0 t y1).val / 128 = 8 * (t.val % 8) + y1.val / 128 := by omega
  rw [e1]
  congr 1
  exact Fin.ext (by show y1.val % 128 = (place 0 t y1).val % 128; omega)

theorem array12 (h : (kargs m c).Fine) : (dats m 0 c).arrAt 12 cfg0.N = arrB (kargs m c) := by
  refine (dats m 0 c).arrAt_eq_of_covers 12 _ (by decide +kernel) fun t hf y => ?_
  blk_simp
  rw [after0_12]
  idx_vars y
  obtain rfl : y0 = 0 := Subsingleton.elim _ _
  refine (point_yb h t y1 y2).trans (Eq.trans ?_ (at12 (arrB (kargs m c)) t y1 y2).symm)
  show _ = ((kargs m c).job 1 (row t) y2).y (63 - (place 1 t y1).val / 128) ⟨127 - (place 1 t y1).val % 128, _⟩
  have e : (place 1 t y1).val = (7 - t.val % 8) * 1024 + y1.val := by simp [place]
  have e1 : 63 - (place 1 t y1).val / 128 = 8 * (t.val % 8) + (7 - y1.val / 128) := by omega
  rw [e1]
  congr 1
  exact Fin.ext (by show 127 - y1.val % 128 = 127 - (place 1 t y1).val % 128; omega)

theorem last13 : ∀ t : Fin cfg0.N, (cfg0.win 13).flush t = true → t.val % 8 = 7 := by decide +kernel

theorem array13 (h : (kargs m c).Fine) : (dats m 0 c).arrAt 13 cfg0.N = arrS (kargs m c) := by
  refine (dats m 0 c).arrAt_eq_of_covers 13 _ (by decide +kernel) fun t hf y => ?_
  have h1 := last13 t hf
  blk_simp
  rw [after0_13]
  have hy : ∃ d o n q, y = (ix5 0 d o n q : S1x2x2x128x256.Idx) := by
    refine ⟨y 1, y 2, y 3, y 4, funext fun a => ?_⟩
    fin_cases a
    · exact Subsingleton.elim (α := Fin 1) _ _
    all_goals rfl
  obtain ⟨d, o, n, q, rfl⟩ := hy
  exact (point_fin h t h1 d o n q).trans (at13 (arrS (kargs m c)) t d o n q).symm

end Cert.Body

end
-- ==== Proof.RefRun.lean ====
/- The plain program's three results as the scans of their lanes. -/
module

public import proofs.«01_k».proof.Proof.RefArgs
public import proofs.«01_k».proof.Proof.RefScan
public import proofs.«01_k».proof.Proof.Outputs

@[expose] public section

set_option maxRecDepth 16384

noncomputable section

namespace Cert.Ref

open Idealize.ShloMosaic Idealize.ShloMosaic.TcCoe Cert.ReferenceIdeal Cert.ReferenceIdeal.Gen Idealize.SL.Sem Idealize.ShloMosaic.StableHlo
open Cert.Scan (Job tok)

/-- The seven arguments. -/
structure Ins where
  x : V16 S4x8192x512
  bm : V16 S4x8192x256
  cm : V16 S4x8192x256
  dt : V32 S4x8192x2x8
  dA : V32 S4x8192x2x8
  f : V32 S4x8x64x128
  g : V32 S4x8x64x128

/-- The arguments by coordinates. -/
def Ins.args (i : Ins) : Scan.Args where
  xs b t q := i.x (ix3 b t q)
  bm b t n := i.bm (ix3 b t n)
  cm b t n := i.cm (ix3 b t n)
  dt b t d h := i.dt (ix4 b t d h)
  dA b t d h := i.dA (ix4 b t d h)
  ini d b h p n := if d = 0 then i.f (ix4 b h p n) else i.g (ix4 b h p n)

def Ins.XF (i : Ins) : V32 S4x64x128x8x64 := chunkX (scaled (vals i.x) (sideF i.dt))
def Ins.XB (i : Ins) : V32 S4x64x128x8x64 := chunkX (Host.reverse [1] (scaled (vals i.x) (sideB i.dt)))
def Ins.BF (i : Ins) : V32 S4x64x128x8x128 := chunkB (heads i.bm)
def Ins.BB (i : Ins) : V32 S4x64x128x8x128 := chunkB (Host.reverse [1] (heads i.bm))
def Ins.CF (i : Ins) : V32 S4x64x128x8x128 := chunkB (heads i.cm)
def Ins.CB (i : Ins) : V32 S4x64x128x8x128 := chunkB (Host.reverse [1] (heads i.cm))
def Ins.AF (i : Ins) : V32 S4x8x64x128 := chunkA (sideF i.dA)
def Ins.AB (i : Ins) : V32 S4x8x64x128 := chunkA (Host.reverse [1] (sideB i.dA))

theorem tokF (z : Fin 64) (k : Fin 128) : tok 0 z.val k = ⟨z.val * 128 + k.val, by omega⟩ := by
  unfold tok
  rw [if_pos rfl]
  exact Fin.ext (by show z.val % 64 * 128 + k.val = z.val * 128 + k.val; omega)

theorem tokB (z : Fin 64) (k : Fin 128) : tok 1 z.val k = ⟨8191 - (z.val * 128 + k.val), by omega⟩ := by
  unfold tok
  rw [if_neg (by decide)]
  exact Fin.ext (by show 8191 - (z.val % 64 * 128 + k.val) = 8191 - (z.val * 128 + k.val); omega)

theorem head_lane (h : Fin 8) (p : Fin 64) : (⟨(lane h p).val / 64, by omega⟩ : Fin 8) = h := Fin.ext (by simp only [lane]; omega)

theorem chan_lane (h : Fin 8) (p : Fin 64) : (⟨(lane h p).val % 64, by omega⟩ : Fin 64) = p := Fin.ext (by simp only [lane]; omega)

theorem group_lane (h : Fin 8) (p : Fin 64) (n : Fin 128) :
    (⟨(lane h p).val / 256 * 128 + n.val, by omega⟩ : Fin 256) = ⟨h.val / 4 * 128 + n.val, by omega⟩ := Fin.ext (by simp only [lane]; omega)

theorem seesF (i : Ins) (k : i.args.Fine) (b : Fin 4) (h : Fin 8) (p : Fin 64) :
    Sees (i.args.job 0 b (lane h p)) b h p i.XF i.BF i.CF i.AF i.f where
  X z l := by
    unfold Ins.XF
    rw [chunkX_val, scaled_val, vals_val, sideF_val, ← tokF]
    show _ = i.args.xs _ _ _ * i.args.dt _ _ _ _
    rw [head_lane]
    rfl
  B z l n := by
    unfold Ins.BF
    rw [chunkB_val, heads_val, ← tokF]
    show _ = i.args.bm _ _ _
    rw [group_lane]
    rfl
  C z l n := by
    unfold Ins.CF
    rw [chunkB_val, heads_val, ← tokF]
    show _ = i.args.cm _ _ _
    rw [group_lane]
    rfl
  A z l := by
    unfold Ins.AF
    rw [chunkA_val, sideF_val, ← tokF]
    show _ = i.args.dA _ _ _ _
    rw [head_lane]
    rfl
  S0 n := by
    show _ = i.args.ini 0 b ⟨(lane h p).val / 64, by omega⟩ ⟨(lane h p).val % 64, by omega⟩ n
    rw [head_lane, chan_lane]
    rfl
  fine z l := k.dA _ _ _ _

theorem seesB (i : Ins) (k : i.args.Fine) (b : Fin 4) (h : Fin 8) (p : Fin 64) :
    Sees (i.args.job 1 b (lane h p)) b h p i.XB i.BB i.CB i.AB i.g where
  X z l := by
    unfold Ins.XB
    rw [chunkX_val, revX_val, scaled_val, vals_val, sideB_val, ← tokB]
    show _ = i.args.xs _ _ _ * i.args.dt _ _ _ _
    rw [head_lane]
    rfl
  B z l n := by
    unfold Ins.BB
    rw [chunkB_val, revB_val, heads_val, ← tokB]
    show _ = i.args.bm _ _ _
    rw [group_lane]
    rfl
  C z l n := by
    unfold Ins.CB
    rw [chunkB_val, revB_val, heads_val, ← tokB]
    show _ = i.args.cm _ _ _
    rw [group_lane]
    rfl
  A z l := by
    unfold Ins.AB
    rw [chunkA_val, revA_val, sideB_val, ← tokB]
    show _ = i.args.dA _ _ _ _
    rw [head_lane]
    rfl
  S0 n := by
    show _ = i.args.ini 1 b ⟨(lane h p).val / 64, by omega⟩ ⟨(lane h p).val % 64, by omega⟩ n
    rw [head_lane, chan_lane]
    rfl
  fine z l := k.dA _ _ _ _

/-- Chunks back to tokens. -/
def flatF (y : V32 S4x64x128x8x64) : V16 S4x8192x512 :=
  truncf .bf16 (shapeCast S4x8192x512 (shapeCast S4x8192x8x64 y shapeCasts_S4x64x128x8x64_S4x8192x8x64) shapeCasts_S4x8192x8x64_S4x8192x512) bitsLt_bf16_f32

def flatB (y : V32 S4x64x128x8x64) : V16 S4x8192x512 :=
  truncf .bf16 (shapeCast S4x8192x512 (Host.reverse [1] (shapeCast S4x8192x8x64 y shapeCasts_S4x64x128x8x64_S4x8192x8x64)) shapeCasts_S4x8192x8x64_S4x8192x512) bitsLt_bf16_f32

theorem flatF_val (y : V32 S4x64x128x8x64) (b : Fin 4) (t : Fin 8192) (q : Fin 512) :
    flatF y (ix3 b t q) = y (ix5 b ⟨t.val / 128, by omega⟩ ⟨t.val % 128, by omega⟩ ⟨q.val / 64, by omega⟩ ⟨q.val % 64, by omega⟩) := by
  pointwise [flatF]

theorem flatB_val (y : V32 S4x64x128x8x64) (b : Fin 4) (t : Fin 8192) (q : Fin 512) :
    flatB y (ix3 b t q) = y (ix5 b ⟨63 - t.val / 128, by omega⟩ ⟨127 - t.val % 128, by omega⟩ ⟨q.val / 64, by omega⟩ ⟨q.val % 64, by omega⟩) := by
  pointwise [flatB]
  show y (ix5 b ⟨t.rev.val / 128, by omega⟩ ⟨t.rev.val % 128, by omega⟩ ⟨q.val / 64, by omega⟩ ⟨q.val % 64, by omega⟩) = _
  have e1 : (⟨t.rev.val / 128, by omega⟩ : Fin 64) = ⟨63 - t.val / 128, by omega⟩ := Fin.ext (by show t.rev.val / 128 = 63 - t.val / 128; rw [Fin.val_rev]; omega)
  have e2 : (⟨t.rev.val % 128, by omega⟩ : Fin 128) = ⟨127 - t.val % 128, by omega⟩ := Fin.ext (by show t.rev.val % 128 = 127 - t.val % 128; rw [Fin.val_rev]; omega)
  rw [e1, e2]

/-- Both directions' last states, laid out by group. -/
def lastOf (S T : V32 S4x65x8x64x128) : V32 S4x2x2x128x256 :=
  shapeCast _ (transpose S4x2x2x128x4x64 [0, 1, 2, 5, 3, 4] (shapeCast _ (concatenate S4x2x8x64x128 1 [⟨S4x1x8x64x128, (broadcastInDim S4x1x8x64x128 ![0, 2, 3, 4] bcast_S4x8x64x128_S4x1x8x64x128_0_2_3_4 (shapeCast _ (extractStridedSlice S4x1x8x64x128 ![0, 64, 0, 0, 0] S slices_S4x65x8x64x128_S4x1x8x64x128_0_64_0_0_0) shapeCasts_S4x1x8x64x128_S4x8x64x128))⟩, ⟨S4x1x8x64x128, (broadcastInDim S4x1x8x64x128 ![0, 2, 3, 4] bcast_S4x8x64x128_S4x1x8x64x128_0_2_3_4 (shapeCast _ (extractStridedSlice S4x1x8x64x128 ![0, 64, 0, 0, 0] T slices_S4x65x8x64x128_S4x1x8x64x128_0_64_0_0_0) shapeCasts_S4x1x8x64x128_S4x8x64x128))⟩] concatenates_S4x1x8x64x128_S4x1x8x64x128_S4x2x8x64x128_d1) shapeCasts_S4x2x8x64x128_S4x2x2x4x64x128) transposes_S4x2x2x4x64x128_S4x2x2x128x4x64_0_1_2_5_3_4) shapeCasts_S4x2x2x128x4x64_S4x2x2x128x256

theorem lastOf_val (S T : V32 S4x65x8x64x128) (b : Fin 4) (d o : Fin 2) (n : Fin 128) (q : Fin 256) :
    lastOf S T (ix5 b d o n q) = if h : d.val < 1 then S (ix5 b 64 ⟨o.val * 4 + q.val / 64, by omega⟩ ⟨q.val % 64, by omega⟩ n)
      else T (ix5 b 64 ⟨o.val * 4 + q.val / 64, by omega⟩ ⟨q.val % 64, by omega⟩ n) := by
  pointwise [lastOf]

theorem lane_div_mod (q : Fin 512) : lane ⟨q.val / 64, by omega⟩ ⟨q.val % 64, by omega⟩ = q := Fin.ext (by simp only [lane]; omega)

theorem outF (i : Ins) (k : i.args.Fine) : flatF (outsOf i.XF i.BF i.CF i.AF i.f) = Body.arrF i.args := by
  funext j
  obtain ⟨b, t, q, rfl⟩ : ∃ b t q, j = ix3 b t q := ⟨j 0, j 1, j 2, eq_ix3 j⟩
  rw [flatF_val, (seesF i k b _ _).out, lane_div_mod]
  rfl

theorem outB (i : Ins) (k : i.args.Fine) : flatB (outsOf i.XB i.BB i.CB i.AB i.g) = Body.arrB i.args := by
  funext j
  obtain ⟨b, t, q, rfl⟩ : ∃ b t q, j = ix3 b t q := ⟨j 0, j 1, j 2, eq_ix3 j⟩
  rw [flatB_val, (seesB i k b _ _).out, lane_div_mod]
  rfl

theorem lane_group (o : Fin 2) (q : Fin 256) : lane ⟨o.val * 4 + q.val / 64, by omega⟩ ⟨q.val % 64, by omega⟩ = Body.lane o q :=
  Fin.ext (by simp only [lane, Body.lane]; omega)

theorem outS (i : Ins) (k : i.args.Fine) : lastOf (statesOf i.XF i.BF i.AF i.f) (statesOf i.XB i.BB i.AB i.g) = Body.arrS i.args := by
  funext j
  obtain ⟨b, d, o, n, q, rfl⟩ : ∃ b d o n q, j = ix5 b d o n q := ⟨j 0, j 1, j 2, j 3, j 4, eq_ix5 j⟩
  rw [lastOf_val]
  show _ = (i.args.job d b (Body.lane o q)).st 64 n
  by_cases hd : d.val < 1
  · have e : d = 0 := Fin.ext (by show d.val = 0; omega)
    subst e
    refine (dif_pos (by decide)).trans ?_
    rw [(seesF i k b _ _).state, lane_group]
    rfl
  · have e : d = 1 := Fin.ext (by show d.val = 1; omega)
    subst e
    refine (dif_neg (by decide)).trans ?_
    rw [(seesB i k b _ _).state, lane_group]
    rfl

/-- The arguments in a memory. -/
def insOf (V : Valuation τ sig (Elt Ideal)) : Ins where
  x := V (Proc.devRef .tc main_arg0)
  bm := V (Proc.devRef .tc main_arg1)
  cm := V (Proc.devRef .tc main_arg2)
  dt := V (Proc.devRef .tc main_arg3)
  dA := V (Proc.devRef .tc main_arg4)
  f := V (Proc.devRef .tc main_arg5)
  g := V (Proc.devRef .tc main_arg6)

open Cert.ReferenceIdeal.Value

variable (V : Valuation τ sig (Elt Ideal))

theorem v17 : res_main_v17 V = (insOf V).XF := rfl
theorem v18 : res_main_v18 V = (insOf V).BF := rfl
theorem v19 : res_main_v19 V = (insOf V).CF := rfl
theorem v22 : res_main_v22 V = cum4 (insOf V).AF := rfl
theorem v23 : res_main_v23 V = cum4 (insOf V).AF := rfl
theorem v62 : res_main_v62 V = statesOf (insOf V).XF (insOf V).BF (insOf V).AF (insOf V).f := rfl
theorem v86 : res_main_v86 V = (insOf V).XB := rfl
theorem v87 : res_main_v87 V = (insOf V).BB := rfl
theorem v88 : res_main_v88 V = (insOf V).CB := rfl
theorem v91 : res_main_v91 V = cum4 (insOf V).AB := rfl
theorem v92 : res_main_v92 V = cum4 (insOf V).AB := rfl
theorem v131 : res_main_v131 V = statesOf (insOf V).XB (insOf V).BB (insOf V).AB (insOf V).g := rfl

theorem run (m : (ℓ : Loc nD τ sig) → Buf (Elt Ideal) ℓ) (ρ : Dev nD → PrngReg) (k : ∀ c, (insOf (launchContents m c)).args.Fine) :
    θ_run defs (onTc (τ := τ) (main (F := Ideal))) ⟨m, fun _ => 0, ρ⟩ fun r => ∀ c : Dev nD,
      r.2.mem ((c.tc : Thread nD τ).loc main_v150) = Body.arrF (insOf (launchContents m c)).args
      ∧ r.2.mem ((c.tc : Thread nD τ).loc main_v153) = Body.arrB (insOf (launchContents m c)).args
      ∧ r.2.mem ((c.tc : Thread nD τ).loc main_v154) = Body.arrS (insOf (launchContents m c)).args := by
  refine (θ_run defs _ _).mono (fun r h c => ?_) (Cert.ReferenceIdeal.Value.run m ρ)
  obtain ⟨h1, h2, h3, -⟩ := h c
  refine ⟨h1.trans ?_, h2.trans ?_, h3.trans ?_⟩
  · rw [v17, v18, v19, v22, v23, v62]
    exact outF _ (k c)
  · rw [v86, v87, v88, v91, v92, v131]
    exact outB _ (k c)
  · rw [v62, v131]
    exact outS _ (k c)

end Cert.Ref

end
-- ==== Proof.Fine.lean ====
/- What the precondition says of the arguments: finite steps, finite decays, no decay above zero. -/
module

public import proofs.«01_k».proof.Proof.RefRun
public import proofs.«01_k».proof.Proof.Gen.Pre_steps_finite_decays_nonpositive
public import Idealize.ShloMosaic.Lib.Affine

@[expose] public section

set_option maxRecDepth 16384

noncomputable section

namespace Cert.Ref

open Idealize.ShloMosaic

theorem pos_inf : Ideal.ofBits .f32 0x7F800000#32 = (⊤ : EReal) := by
  simp [Ideal.ofBits, Ideal.ieee]

theorem and_one {a b : BitVec 1} (h : IntOp.andi a b = 1#1) : a = 1#1 ∧ b = 1#1 := by
  revert a b; decide

theorem of_one {p : Prop} [Decidable p] (h : BitVec.ofBool (decide p) = 1#1) : p := by
  by_contra hp
  rw [decide_eq_false hp] at h
  exact absurd h (by decide)

theorem fine_of (i : Ins) (h : Cert.Pre_steps_finite_decays_nonpositive.fn (F := Ideal) i.x i.bm i.cm i.dt i.dA i.f i.g = fun _ => 1#1) : i.args.Fine := by
  have k : ∀ j, (⊥ < i.dt j ∧ i.dt j < ⊤) ∧ ⊥ < i.dA j ∧ i.dA j ≤ 0 := fun j => by
    have e := congrFun h j
    obtain ⟨e1, e4⟩ := and_one e
    obtain ⟨e2, e3⟩ := and_one e1
    obtain ⟨e5, e6⟩ := and_one e2
    have a1 : Ideal.ofBits .f32 0xFF800000#32 < i.dt j := of_one e5
    have a2 : i.dt j < Ideal.ofBits .f32 0x7F800000#32 := of_one e6
    have a3 : Ideal.ofBits .f32 0xFF800000#32 < i.dA j := of_one e3
    have a4 : i.dA j ≤ Ideal.ofBits .f32 0x00000000#32 := of_one e4
    rw [neg_inf] at a1 a3
    rw [pos_inf] at a2
    rw [Ideal.ofBits_zero_f32] at a4
    exact ⟨⟨a1, a2⟩, a3, a4⟩
  exact {
    dt := fun b t d h => ⟨ne_of_gt (k (ix4 b t d h)).1.1, ne_of_lt (k (ix4 b t d h)).1.2⟩
    dA := fun b t d h => ⟨ne_of_gt (k (ix4 b t d h)).2.1, ne_of_lt (lt_of_le_of_lt (k (ix4 b t d h)).2.2 EReal.zero_lt_top)⟩
    neg := fun b t d h => (k (ix4 b t d h)).2.2 }

end Cert.Ref

end
-- ==== Proof.FfSpec.lean ====
/- The feed-forward part over the extended reals, by coordinates: the first product, the convolution of three by three taps on the grid of 128 rows of
   64 tokens with zeros around it, the gate, the second product, the residual and the layer norm. -/
module

public import proofs.«01_k».proof.Proof.Gen.Kernel2Ideal.Frame
public import proofs.«01_k».proof.Proof.Reading
public import Idealize.ShloMosaic.Lib.Pointwise

@[expose] public section

set_option maxRecDepth 16384

noncomputable section

namespace Cert.Ffn

open Idealize.ShloMosaic Idealize.ShloMosaic.TcCoe

/-- The constants of the gate. -/
def root : EReal := ((6693141 / 8388608 : ℝ) : EReal)
def cube : EReal := ((12003091 / 268435456 : ℝ) : EReal)
def half : EReal := Ideal.ofBits .f32 0x3F000000#32

theorem named_root : Named.named (F := Ideal) (φ := .bf16) Cert.Kernel2Ideal.κ "root" 16204#16 = root := IdealRules.named_const.ideal_named_scalar _ _ _ _ rfl
theorem named_cube : Named.named (F := Ideal) (φ := .bf16) Cert.Kernel2Ideal.κ "cube" 15671#16 = cube := IdealRules.named_const.ideal_named_scalar _ _ _ _ rfl
theorem half_narrow : Ideal.ofBits .bf16 16128#16 = half := by
  simp [half, Ideal.ofBits, Ideal.ieee, -EReal.coe_mul]; norm_num
theorem root_wide : Ideal.ofBits .f32 0x3F4C422A#32 = root := by
  simp [root, Ideal.ofBits, Ideal.ieee, -EReal.coe_mul]; norm_num
theorem cube_wide : Ideal.ofBits .f32 0x3D372713#32 = cube := by
  simp [cube, Ideal.ofBits, Ideal.ieee, -EReal.coe_mul]; norm_num

/-- The gate's curve. -/
def gelu (x : EReal) : EReal := x * (half * (1 + Ideal.tanh (root * (x + cube * (x * (x * x))))))

/-- The scaled residual with the gated result. -/
def mix (x g y : EReal) : EReal := Ideal.ofBits .f32 0x3FB504F3#32 * x + g * y

/-- The arguments by coordinates; the nine taps of a channel are numbered along the rows of the stencil. -/
structure Args where
  h : Fin 4 → Fin 8192 → Fin 1024 → EReal
  wu : Fin 1024 → Fin 5632 → EReal
  cw : Fin 9 → Fin 5632 → EReal
  cb : Fin 5632 → EReal
  wd : Fin 2816 → Fin 1024 → EReal
  x : Fin 4 → Fin 8192 → Fin 1024 → EReal
  g : Fin 4 → Fin 1024 → EReal
  lg : Fin 1024 → EReal
  lb : Fin 1024 → EReal

/-- The arguments as arrays. -/
def argsOf (h : FVec Ideal ⟨3, ![4, 8192, 1024]⟩ .bf16) (wu : FVec Ideal ⟨2, ![1024, 5632]⟩ .f32) (cw : FVec Ideal ⟨3, ![3, 3, 5632]⟩ .f32) (cb : FVec Ideal ⟨1, ![5632]⟩ .f32)
    (wd : FVec Ideal ⟨2, ![2816, 1024]⟩ .f32) (x : FVec Ideal ⟨3, ![4, 8192, 1024]⟩ .f32) (g : FVec Ideal ⟨3, ![4, 1, 1024]⟩ .f32) (lg lb : FVec Ideal ⟨1, ![1024]⟩ .f32) : Args where
  h b r k := h (ix3 b r k)
  wu k n := wu (ix2 k n)
  cw t n := cw (ix3 ⟨t.val / 3, by omega⟩ ⟨t.val % 3, by omega⟩ n)
  cb n := cb (ix1 n)
  wd k n := wd (ix2 k n)
  x b r e := x (ix3 b r e)
  g b e := g (ix3 b 0 e)
  lg e := lg (ix1 e)
  lb e := lb (ix1 e)

namespace Args

variable (A : Args)

/-- The first product. -/
def up (b : Fin 4) (r : Fin 8192) (n : Fin 5632) : EReal := ∑ k : Fin 1024, A.h b r k * A.wu k n

/-- The first product on the grid with a frame of zeros. -/
def pad (b : Fin 4) (y x : ℕ) (n : Fin 5632) : EReal :=
  if h : (1 ≤ y ∧ y - 1 < 128) ∧ (1 ≤ x ∧ x - 1 < 64) then A.up b ⟨64 * (y - 1) + (x - 1), by omega⟩ n else 0

/-- The three taps of a column of the stencil. -/
def col (b : Fin 4) (r : Fin 8192) (d : ℕ) (w0 w1 w2 : Fin 9) (n : Fin 5632) : EReal :=
  A.pad b (r.val / 64) (r.val % 64 + d) n * A.cw w0 n + A.pad b (r.val / 64 + 1) (r.val % 64 + d) n * A.cw w1 n
    + A.pad b (r.val / 64 + 2) (r.val % 64 + d) n * A.cw w2 n

/-- The convolution with its bias. -/
def conv (b : Fin 4) (r : Fin 8192) (n : Fin 5632) : EReal :=
  A.col b r 1 1 4 7 n + (A.col b r 0 0 3 6 n + A.col b r 2 2 5 8 n) + A.cb n

/-- The gated hidden channels. -/
def hidden (b : Fin 4) (r : Fin 8192) (j : Fin 2816) : EReal :=
  gelu (A.conv b r ⟨2816 + j.val, by omega⟩) * A.conv b r ⟨j.val, by omega⟩

/-- The second product. -/
def y (b : Fin 4) (r : Fin 8192) (e : Fin 1024) : EReal := ∑ j : Fin 2816, A.hidden b r j * A.wd j e

def z (b : Fin 4) (r : Fin 8192) (e : Fin 1024) : EReal := mix (A.x b r e) (A.g b e) (A.y b r e)

end Args

/-- A row's mean, and its layer norm. -/
def mean (z : Fin 1024 → EReal) : EReal := Ideal.div (∑ e, z e) (Ideal.ofBits .f32 0x44800000#32)
def norm (z : Fin 1024 → EReal) (lg lb : EReal) (e : Fin 1024) : EReal :=
  (z e - mean z) * Ideal.rsqrt (mean (fun k => (z k - mean z) * (z k - mean z)) + Ideal.ofBits .f32 0x358637BD#32) * lg + lb

/-- The result. -/
def Args.out (A : Args) (b : Fin 4) (r : Fin 8192) (e : Fin 1024) : EReal := norm (A.z b r) (A.lg e) (A.lb e) e

def Args.arr (A : Args) : FVec Ideal ⟨3, ![4, 8192, 1024]⟩ .f32 := fun i => A.out (i 0) (i 1) (i 2)

end Cert.Ffn

end
-- ==== Proof.FfBody.lean ====
/- What one grid point of the feed-forward call computes, block of 256 hidden channels after block: the buffer of activations with its halo, the
   products with the columns of the first weight matrix, the nine taps of the convolution with the gate, and the three products with rows of the
   second weight matrix that are added up before the layer norm. -/
module

public import proofs.«01_k».proof.Proof.Gen.Kernel2Ideal.Frame
public import Idealize.ShloMosaic.Lib.Pipeline.ReadBack

@[expose] public section

set_option maxRecDepth 16384

noncomputable section

namespace Cert.Ffn

open Idealize.ShloMosaic Idealize.ShloMosaic.TcCoe Cert.Kernel2Ideal Cert.Kernel2Ideal.Gen

/-- A vector of single precision numbers, over the extended reals. -/
abbrev V32 (s : Shape) := FVec Ideal s .f32

/-- A vector of half-width numbers, over the extended reals. -/
abbrev V16 (s : Shape) := FVec Ideal s .bf16

/-- The blocks that a point reads. -/
structure In where
  i : grid0.Coords
  h : V16 S1x1024x1024
  hp : V16 S1x64x1024
  hn : V16 S1x64x1024
  wu : V16 S1024x5632
  cw : V32 S9x5632
  cb : V32 S1x5632
  wd : V16 S2816x1024
  x : V32 S1x1024x1024
  g : V32 S1x1x1024
  lg : V32 S1x1024
  lb : V32 S1x1024

namespace In

variable (I : In)

/-- The activations with 64 rows before and after: last stored first. -/
def rows : List (View.Piece (Elt Ideal) S1152x1024 .bf16) := [
  ⟨Rect.unit ![1088, 0] ![64, 1024] (by intro a; fin_cases a <;> simp), k0_pay4 (F := Ideal) I.i I.hn⟩,
  ⟨Rect.unit ![64, 0] ![1024, 1024] (by intro a; fin_cases a <;> simp), k0_pay3 (F := Ideal) I.h⟩,
  ⟨Rect.unit ![0, 0] ![64, 1024] (by intro a; fin_cases a <;> simp), k0_pay2 (F := Ideal) I.i I.hp⟩]

/-- The buffer of activations. -/
def buf : V16 S1152x1024 := fun y =>
  View.canon I.rows ((Rect.unit (s := S1152x1024) ![0, 0] ![1152, 1024] (by intro a; fin_cases a <;> simp)).toLoadRect.idx y)

/-- Columns of the first weight matrix: block `j` of the values or of the gates. -/
def wuV (j : ℕ) : V16 S1024x256 :=
  View.ld (Val := Elt Ideal) (e' := .bf16) I.wu (Rect.unit (s := S1024x5632) ![0, 256 * (j % 11)] ![1024, 256] (by intro a; fin_cases a <;> simp <;> omega))
def wuG (j : ℕ) : V16 S1024x256 :=
  View.ld (Val := Elt Ideal) (e' := .bf16) I.wu (Rect.unit (s := S1024x5632) ![0, 2816 + 256 * (j % 11)] ![1024, 256] (by intro a; fin_cases a <;> simp <;> omega))
def cwV (j : ℕ) : V32 S9x256 :=
  View.ld (Val := Elt Ideal) (e' := .f32) I.cw (Rect.unit (s := S9x5632) ![0, 256 * (j % 11)] ![9, 256] (by intro a; fin_cases a <;> simp <;> omega))
def cwG (j : ℕ) : V32 S9x256 :=
  View.ld (Val := Elt Ideal) (e' := .f32) I.cw (Rect.unit (s := S9x5632) ![0, 2816 + 256 * (j % 11)] ![9, 256] (by intro a; fin_cases a <;> simp <;> omega))
def cbV (j : ℕ) : V32 S1x256 :=
  View.ld (Val := Elt Ideal) (e' := .f32) I.cb (Rect.unit (s := S1x5632) ![0, 256 * (j % 11)] ![1, 256] (by intro a; fin_cases a <;> simp <;> omega))
def cbG (j : ℕ) : V32 S1x256 :=
  View.ld (Val := Elt Ideal) (e' := .f32) I.cb (Rect.unit (s := S1x5632) ![0, 2816 + 256 * (j % 11)] ![1, 256] (by intro a; fin_cases a <;> simp <;> omega))

/-- The products of block `j`. -/
def upV (j : ℕ) : V16 S1152x256 := k0_pay9 (F := Ideal) I.buf (I.wuV j)
def upG (j : ℕ) : V16 S1152x256 := k0_pay9 (F := Ideal) I.buf (I.wuG j)

/-- A slot of products with its two strips of zeros, after the blocks `s`, `s + 2`, …, `s + 2 k` were stored into it. -/
def slot (s : ℕ) : ℕ → List (View.Piece (Elt Ideal) S1184x512 .bf16)
  | 0 => [
    ⟨Rect.unit ![16, 256] ![1152, 256] (by intro a; fin_cases a <;> simp), I.upG s⟩,
    ⟨Rect.unit ![16, 0] ![1152, 256] (by intro a; fin_cases a <;> simp), I.upV s⟩,
    ⟨Rect.unit ![1168, 0] ![16, 512] (by intro a; fin_cases a <;> simp), k0_pay5 (F := Ideal)⟩,
    ⟨Rect.unit ![0, 0] ![16, 512] (by intro a; fin_cases a <;> simp), k0_pay5 (F := Ideal)⟩]
  | k + 1 =>
    ⟨Rect.unit ![16, 256] ![1152, 256] (by intro a; fin_cases a <;> simp), I.upG (s + 2 * (k + 1))⟩ ::
    ⟨Rect.unit ![16, 0] ![1152, 256] (by intro a; fin_cases a <;> simp), I.upV (s + 2 * (k + 1))⟩ :: slot s k

/-- The rows of a slot from row `64 d` on. -/
def tap (s k d : ℕ) : V16 S1056x512 := fun y =>
  View.canon (I.slot s k) ((Rect.unit (s := S1184x512) ![64 * (d % 3), 0] ![1056, 512] (by intro a; fin_cases a <;> simp <;> omega)).toLoadRect.idx y)

end In

/-- The convolution of a block, with its bias: values left, gates right. -/
def conv (w w' : V32 S9x256) (b b' : V32 S1x256) (t0 t1 t2 : V16 S1056x512) : V16 S1024x512 :=
  k0_pay19 (F := Ideal) (k0_pay14 (F := Ideal) w w') k0_pay15 t0 t1 t2 (k0_pay16 (F := Ideal) w w' t0 t1 t2) (k0_pay17 (F := Ideal) w w' t0 t1) (k0_pay18 (F := Ideal) w w') b b'

/-- The gated hidden channels of a block. -/
def gated (w w' : V32 S9x256) (b b' : V32 S1x256) (t0 t1 t2 : V16 S1056x512) : V16 S1024x256 :=
  k0_pay22 (F := Ideal) (conv w w' b b' t0 t1 t2)
    (k0_pay20 (F := Ideal) (k0_pay14 (F := Ideal) w w') k0_pay15 t0 t1 t2 (k0_pay16 (F := Ideal) w w' t0 t1 t2) (k0_pay17 (F := Ideal) w w' t0 t1) (k0_pay18 (F := Ideal) w w') b b')
    (k0_pay21 (F := Ideal) (k0_pay14 (F := Ideal) w w') k0_pay15 t0 t1 t2 (k0_pay16 (F := Ideal) w w' t0 t1 t2) (k0_pay17 (F := Ideal) w w' t0 t1) (k0_pay18 (F := Ideal) w w') b b')

namespace In

variable (I : In)

/-- The hidden channels of block `j = s + 2 k`. -/
def hid (s k : ℕ) : V16 S1024x256 :=
  gated (I.cwV (s + 2 * k)) (I.cwG (s + 2 * k)) (I.cbV (s + 2 * k)) (I.cbG (s + 2 * k)) (I.tap s k 0) (I.tap s k 1) (I.tap s k 2)

/-- The hidden buffer after each group of blocks. -/
def hidA : List (View.Piece (Elt Ideal) S1024x1024 .bf16) := [
  ⟨Rect.unit ![0, 768] ![1024, 256] (by intro a; fin_cases a <;> simp), I.hid 1 1⟩,
  ⟨Rect.unit ![0, 512] ![1024, 256] (by intro a; fin_cases a <;> simp), I.hid 0 1⟩,
  ⟨Rect.unit ![0, 256] ![1024, 256] (by intro a; fin_cases a <;> simp), I.hid 1 0⟩,
  ⟨Rect.unit ![0, 0] ![1024, 256] (by intro a; fin_cases a <;> simp), I.hid 0 0⟩]
def hidB : List (View.Piece (Elt Ideal) S1024x1024 .bf16) :=
  ⟨Rect.unit ![0, 768] ![1024, 256] (by intro a; fin_cases a <;> simp), I.hid 1 3⟩ ::
  ⟨Rect.unit ![0, 512] ![1024, 256] (by intro a; fin_cases a <;> simp), I.hid 0 3⟩ ::
  ⟨Rect.unit ![0, 256] ![1024, 256] (by intro a; fin_cases a <;> simp), I.hid 1 2⟩ ::
  ⟨Rect.unit ![0, 0] ![1024, 256] (by intro a; fin_cases a <;> simp), I.hid 0 2⟩ :: I.hidA
def hidC : List (View.Piece (Elt Ideal) S1024x1024 .bf16) :=
  ⟨Rect.unit ![0, 512] ![1024, 256] (by intro a; fin_cases a <;> simp), I.hid 0 5⟩ ::
  ⟨Rect.unit ![0, 256] ![1024, 256] (by intro a; fin_cases a <;> simp), I.hid 1 4⟩ ::
  ⟨Rect.unit ![0, 0] ![1024, 256] (by intro a; fin_cases a <;> simp), I.hid 0 4⟩ :: I.hidB

/-- A buffer of hidden channels, whole or its first three blocks. -/
def whole (L : List (View.Piece (Elt Ideal) S1024x1024 .bf16)) : V16 S1024x1024 := fun y =>
  View.canon L ((Rect.unit (s := S1024x1024) ![0, 0] ![1024, 1024] (by intro a; fin_cases a <;> simp)).toLoadRect.idx y)
def part (L : List (View.Piece (Elt Ideal) S1024x1024 .bf16)) : V16 S1024x768 := fun y =>
  View.canon L ((Rect.unit (s := S1024x1024) ![0, 0] ![1024, 768] (by intro a; fin_cases a <;> simp)).toLoadRect.idx y)

def wdA : V16 S1024x1024 :=
  View.ld (Val := Elt Ideal) (e' := .bf16) I.wd (Rect.unit (s := S2816x1024) ![0, 0] ![1024, 1024] (by intro a; fin_cases a <;> simp))
def wdB : V16 S1024x1024 :=
  View.ld (Val := Elt Ideal) (e' := .bf16) I.wd (Rect.unit (s := S2816x1024) ![1024, 0] ![1024, 1024] (by intro a; fin_cases a <;> simp))
def wdC : V16 S768x1024 :=
  View.ld (Val := Elt Ideal) (e' := .bf16) I.wd (Rect.unit (s := S2816x1024) ![2048, 0] ![768, 1024] (by intro a; fin_cases a <;> simp))

/-- The second product, in three parts. -/
def sumA : V32 S1024x1024 := k0_pay52 (F := Ideal) (whole I.hidA) I.wdA
def sumB : V32 S1024x1024 := k0_pay87 (F := Ideal) (whole I.hidB) (k0_pay86 (F := Ideal) I.wdB) I.sumA
def sumC : V32 S1024x1024 := k0_pay119 (F := Ideal) (part I.hidC) I.wdC I.sumB

/-- The block that the point leaves. -/
def out : V32 S1x1024x1024 := k0_pay1 (F := Ideal) (k0_pay120 (F := Ideal) I.x I.g I.sumC) (k0_pay121 (F := Ideal) I.x I.g I.sumC) I.lg I.lb

end In

end Cert.Ffn

end
-- ==== Proof.FfRead.lean ====
/- The buffers of a grid point of the feed-forward call, read at an index. -/
module

public import proofs.«01_k».proof.Proof.FfBody
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe Cert.Kernel2Ideal Cert.Kernel2Ideal.Facts₀ Cert.Kernel2Ideal.Facts Cert.Kernel2Ideal.Gen

/-- The last piece of a matrix, where it lies; elsewhere the pieces before it. -/
theorem canon_at {e : EltTy} {H W : ℕ} (r c R C : ℕ) (inb : ∀ a, (![r, c] : Fin 2 → ℕ) a + (![R, C] : Fin 2 → ℕ) a ≤ (⟨2, ![H, W]⟩ : Shape).size a)
    (w : (⟨2, ![R, C]⟩ : Shape).Idx → Elt Ideal e) (L : List (View.Piece (Elt Ideal) ⟨2, ![H, W]⟩ e)) (p : Fin H) (n : Fin W) :
    View.canon (⟨Rect.unit (s := ⟨2, ![H, W]⟩) ![r, c] ![R, C] inb, w⟩ :: L) (ix2 p n)
      = if h : (r ≤ p.val ∧ p.val - r < R) ∧ (c ≤ n.val ∧ n.val - c < C) then w (ix2 ⟨p.val - r, h.1.2⟩ ⟨n.val - c, h.2.2⟩) else View.canon L (ix2 p n) := by
  have key : ∀ x : (⟨2, ![R, C]⟩ : Shape).Idx, (Rect.unit (s := ⟨2, ![H, W]⟩) ![r, c] ![R, C] inb).emb x = (ix2 p n : (⟨2, ![H, W]⟩ : Shape).Idx)
      → p.val = r + (x 0).val ∧ n.val = c + (x 1).val := by
    intro x hx
    have h0 := congrArg Fin.val (congrFun hx 0)
    have h1 := congrArg Fin.val (congrFun hx 1)
    rw [ValueKit.rect_emb_unit_val] at h0 h1
    exact ⟨h0.symm, h1.symm⟩
  split
  · next h =>
    obtain ⟨⟨h1, h2⟩, h3, h4⟩ := h
    have e : (ix2 p n : (⟨2, ![H, W]⟩ : Shape).Idx) = (Rect.unit (s := ⟨2, ![H, W]⟩) ![r, c] ![R, C] inb).emb (ix2 ⟨p.val - r, h2⟩ ⟨n.val - c, h4⟩) := by
      refine funext fun a => Fin.ext ?_
      refine Eq.trans ?_ (ValueKit.rect_emb_unit_val _ _ _ _ _).symm
      fin_cases a
      · show p.val = r + (p.val - r); omega
      · show n.val = c + (n.val - c); omega
    rw [e]
    exact View.canon_cons_emb _ _ _ _
  · next h =>
    refine View.canon_cons_of_not_mem _ _ fun hm => h ?_
    obtain ⟨x, hx⟩ := LoadRect.exists_idx_of_mem _ hm
    obtain ⟨h0, h1⟩ := key x hx
    have hx0 : (x 0).val < R := (x 0).isLt
    have hx1 : (x 1).val < C := (x 1).isLt
    omega

/-- A unit box's index. -/
theorem box_idx {H W : ℕ} (r c R C : ℕ) (inb : ∀ a, (![r, c] : Fin 2 → ℕ) a + (![R, C] : Fin 2 → ℕ) a ≤ (⟨2, ![H, W]⟩ : Shape).size a)
    (p : Fin R) (n : Fin C) (hp : r + p.val < H) (hn : c + n.val < W) :
    (Rect.unit (s := ⟨2, ![H, W]⟩) ![r, c] ![R, C] inb).toLoadRect.idx (ix2 p n) = (ix2 ⟨r + p.val, hp⟩ ⟨c + n.val, hn⟩ : (⟨2, ![H, W]⟩ : Shape).Idx) := by
  refine funext fun a => Fin.ext ?_
  refine Eq.trans (ValueKit.rect_emb_unit_val _ _ _ _ _) ?_
  fin_cases a <;> rfl

theorem sel_true {α : Type} {c : BitVec 1} (h : c = 1#1) (a b : α) : Scalar.select c a b = a := by subst h; rfl
theorem sel_false {α : Type} {c : BitVec 1} (h : c = 0#1) (a b : α) : Scalar.select c a b = b := by subst h; rfl

namespace In

variable (I : In)

theorem wuV_apply (j : ℕ) (hj : j < 11) (k : Fin 1024) (n : Fin 256) : I.wuV j (ix2 k n) = I.wu (ix2 k ⟨256 * j + n.val, by omega⟩) := by
  refine (congrArg I.wu (box_idx 0 (256 * (j % 11)) 1024 256 _ k n (by omega) (by omega))).trans (congrArg I.wu ?_)
  congr 1 <;> apply Fin.ext <;> simp [Nat.mod_eq_of_lt hj]
theorem wuG_apply (j : ℕ) (hj : j < 11) (k : Fin 1024) (n : Fin 256) : I.wuG j (ix2 k n) = I.wu (ix2 k ⟨2816 + 256 * j + n.val, by omega⟩) := by
  refine (congrArg I.wu (box_idx 0 (2816 + 256 * (j % 11)) 1024 256 _ k n (by omega) (by omega))).trans (congrArg I.wu ?_)
  congr 1 <;> apply Fin.ext <;> simp [Nat.mod_eq_of_lt hj]
theorem cwV_apply (j : ℕ) (hj : j < 11) (k : Fin 9) (n : Fin 256) : I.cwV j (ix2 k n) = I.cw (ix2 k ⟨256 * j + n.val, by omega⟩) := by
  refine (congrArg I.cw (box_idx 0 (256 * (j % 11)) 9 256 _ k n (by omega) (by omega))).trans (congrArg I.cw ?_)
  congr 1 <;> apply Fin.ext <;> simp [Nat.mod_eq_of_lt hj]
theorem cwG_apply (j : ℕ) (hj : j < 11) (k : Fin 9) (n : Fin 256) : I.cwG j (ix2 k n) = I.cw (ix2 k ⟨2816 + 256 * j + n.val, by omega⟩) := by
  refine (congrArg I.cw (box_idx 0 (2816 + 256 * (j % 11)) 9 256 _ k n (by omega) (by omega))).trans (congrArg I.cw ?_)
  congr 1 <;> apply Fin.ext <;> simp [Nat.mod_eq_of_lt hj]
theorem cbV_apply (j : ℕ) (hj : j < 11) (n : Fin 256) : I.cbV j (ix2 0 n) = I.cb (ix2 0 ⟨256 * j + n.val, by omega⟩) := by
  refine (congrArg I.cb (box_idx 0 (256 * (j % 11)) 1 256 _ 0 n (by simp) (by omega))).trans (congrArg I.cb ?_)
  congr 1 <;> apply Fin.ext <;> simp [Nat.mod_eq_of_lt hj]
theorem cbG_apply (j : ℕ) (hj : j < 11) (n : Fin 256) : I.cbG j (ix2 0 n) = I.cb (ix2 0 ⟨2816 + 256 * j + n.val, by omega⟩) := by
  refine (congrArg I.cb (box_idx 0 (2816 + 256 * (j % 11)) 1 256 _ 0 n (by simp) (by omega))).trans (congrArg I.cb ?_)
  congr 1 <;> apply Fin.ext <;> simp [Nat.mod_eq_of_lt hj]
theorem wdA_apply (k n : Fin 1024) : I.wdA (ix2 k n) = I.wd (ix2 ⟨k.val, by omega⟩ n) := by
  refine (congrArg I.wd (box_idx 0 0 1024 1024 _ k n (by omega) (by omega))).trans (congrArg I.wd ?_)
  congr 1 <;> apply Fin.ext <;> simp
theorem wdB_apply (k n : Fin 1024) : I.wdB (ix2 k n) = I.wd (ix2 ⟨1024 + k.val, by omega⟩ n) := by
  refine (congrArg I.wd (box_idx 1024 0 1024 1024 _ k n (by omega) (by omega))).trans (congrArg I.wd ?_)
  congr 1 <;> apply Fin.ext <;> simp
theorem wdC_apply (k : Fin 768) (n : Fin 1024) : I.wdC (ix2 k n) = I.wd (ix2 ⟨2048 + k.val, by omega⟩ n) := by
  refine (congrArg I.wd (box_idx 2048 0 768 1024 _ k n (by omega) (by omega))).trans (congrArg I.wd ?_)
  congr 1 <;> apply Fin.ext <;> simp
theorem whole_apply (L : List (View.Piece (Elt Ideal) S1024x1024 .bf16)) (k n : Fin 1024) : whole L (ix2 k n) = View.canon L (ix2 k n) := by
  refine (congrArg (View.canon L) (box_idx 0 0 1024 1024 _ k n (by omega) (by omega))).trans (congrArg _ ?_)
  congr 1 <;> apply Fin.ext <;> simp
theorem part_apply (L : List (View.Piece (Elt Ideal) S1024x1024 .bf16)) (k : Fin 1024) (n : Fin 768) : part L (ix2 k n) = View.canon L (ix2 k ⟨n.val, by omega⟩) := by
  refine (congrArg (View.canon L) (box_idx 0 0 1024 768 _ k n (by omega) (by omega))).trans (congrArg _ ?_)
  congr 1 <;> apply Fin.ext <;> simp

/-- A point's step along the tokens. -/
def step : ℕ := (I.i 1).val

theorem step_lt : I.step < 8 := (I.i 1).isLt

/-- The activations at row `q` of the buffer. -/
theorem buf_apply (q : Fin 1152) (k : Fin 1024) : I.buf (ix2 q k)
    = if h : q.val < 64 then (if 0 < I.step then I.hp (ix3 0 ⟨q.val, h⟩ k) else 0)
      else if h' : q.val < 1088 then I.h (ix3 0 ⟨q.val - 64, by omega⟩ k)
      else (if I.step < 7 then I.hn (ix3 0 ⟨q.val - 1088, by omega⟩ k) else 0) := by
  refine (congrArg (View.canon I.rows) (box_idx 0 0 1152 1024 _ q k (by omega) (by omega))).trans ?_
  have e : (ix2 ⟨0 + q.val, by omega⟩ ⟨0 + k.val, by omega⟩ : S1152x1024.Idx) = ix2 q k := by congr 1 <;> apply Fin.ext <;> simp
  refine (congrArg (View.canon I.rows) e).trans ?_
  unfold rows
  refine (canon_at (e := .bf16) (H := 1152) (W := 1024) 1088 0 64 1024 _ _ _ q k).trans ?_
  have lt := I.step_lt
  by_cases h1 : 1088 ≤ q.val
  · rw [dif_pos ⟨⟨h1, by omega⟩, Nat.zero_le _, by omega⟩, dif_neg (by omega), dif_neg (by omega)]
    pointwise [k0_pay4]
    have e2 : (BitVec.ofNat 32 (I.i 1).val).slt 7#32 = decide (I.step < 7) := by
      show (BitVec.ofNat 32 I.step).slt 7#32 = _
      generalize I.step = s at lt
      interval_cases s <;> rfl
    show Scalar.select (BitVec.ofBool ((BitVec.ofNat 32 (I.i 1).val).slt 7#32)) _ _ = _
    rw [e2]
    by_cases h : I.step < 7
    · rw [if_pos h, sel_true (by simp [h])]
    · rw [if_neg h, sel_false (by simp [h])]
  rw [dif_neg (by omega)]
  refine (canon_at (e := .bf16) (H := 1152) (W := 1024) 64 0 1024 1024 _ _ _ q k).trans ?_
  by_cases h2 : 64 ≤ q.val
  · rw [dif_pos ⟨⟨h2, by omega⟩, Nat.zero_le _, by omega⟩, dif_neg (by omega), dif_pos (by omega)]
    pointwise [k0_pay3]
  rw [dif_neg (by omega)]
  refine (canon_at (e := .bf16) (H := 1152) (W := 1024) 0 0 64 1024 _ _ _ q k).trans ?_
  rw [dif_pos ⟨⟨Nat.zero_le _, by omega⟩, Nat.zero_le _, by omega⟩, dif_pos (by omega)]
  pointwise [k0_pay2]
  have e2 : (0#32).slt (BitVec.ofNat 32 (I.i 1).val) = decide (0 < I.step) := by
    show (0#32).slt (BitVec.ofNat 32 I.step) = _
    generalize I.step = s at lt
    interval_cases s <;> rfl
  show Scalar.select (BitVec.ofBool ((0#32).slt (BitVec.ofNat 32 (I.i 1).val))) _ _ = _
  rw [e2]
  by_cases h : 0 < I.step
  · rw [if_pos h, sel_true (by simp [h])]
  · rw [if_neg h, sel_false (by simp [h])]

theorem up_apply (w : V16 S1024x256) (q : Fin 1152) (n : Fin 256) :
    k0_pay9 (F := Ideal) I.buf w (ix2 q n) = ∑ k : Fin 1024, I.buf (ix2 q k) * w (ix2 k n) := by
  pointwise [k0_pay9]

/-- A slot at an index: zeros in the first and the last sixteen rows, between them the products of the last block stored. -/
theorem slot_apply (s : ℕ) (p : Fin 1184) (n : Fin 512) : ∀ k, View.canon (I.slot s k) (ix2 p n)
    = if h : 16 ≤ p.val ∧ p.val - 16 < 1152 then (if h' : n.val < 256 then I.upV (s + 2 * k) (ix2 ⟨p.val - 16, h.2⟩ ⟨n.val, h'⟩)
        else I.upG (s + 2 * k) (ix2 ⟨p.val - 16, h.2⟩ ⟨n.val - 256, by omega⟩)) else 0
  | 0 => by
    unfold slot
    refine (canon_at (e := .bf16) (H := 1184) (W := 512) 16 256 1152 256 _ _ _ p n).trans ?_
    by_cases h : 16 ≤ p.val ∧ p.val - 16 < 1152
    · rw [dif_pos h]
      by_cases h' : n.val < 256
      · rw [dif_pos h', dif_neg (by omega)]
        refine (canon_at (e := .bf16) (H := 1184) (W := 512) 16 0 1152 256 _ _ _ p n).trans ?_
        rw [dif_pos ⟨h, by omega, by omega⟩]; rfl
      · rw [dif_neg h', dif_pos ⟨h, by omega, by omega⟩]; rfl
    · rw [dif_neg h, dif_neg (by omega)]
      refine (canon_at (e := .bf16) (H := 1184) (W := 512) 16 0 1152 256 _ _ _ p n).trans ?_
      rw [dif_neg (by omega)]
      refine (canon_at (e := .bf16) (H := 1184) (W := 512) 1168 0 16 512 _ _ _ p n).trans ?_
      by_cases h1 : 1168 ≤ p.val
      · rw [dif_pos ⟨⟨h1, by omega⟩, by omega, by omega⟩]
        pointwise [k0_pay5]
      rw [dif_neg (by omega)]
      refine (canon_at (e := .bf16) (H := 1184) (W := 512) 0 0 16 512 _ _ _ p n).trans ?_
      rw [dif_pos ⟨⟨by omega, by omega⟩, by omega, by omega⟩]
      pointwise [k0_pay5]
  | k + 1 => by
    unfold slot
    refine (canon_at (e := .bf16) (H := 1184) (W := 512) 16 256 1152 256 _ _ _ p n).trans ?_
    by_cases h : 16 ≤ p.val ∧ p.val - 16 < 1152
    · rw [dif_pos h]
      by_cases h' : n.val < 256
      · rw [dif_pos h', dif_neg (by omega)]
        refine (canon_at (e := .bf16) (H := 1184) (W := 512) 16 0 1152 256 _ _ _ p n).trans ?_
        rw [dif_pos ⟨h, by omega, by omega⟩]; rfl
      · rw [dif_neg h', dif_pos ⟨h, by omega, by omega⟩]
    · rw [dif_neg h, dif_neg (by omega)]
      refine (canon_at (e := .bf16) (H := 1184) (W := 512) 16 0 1152 256 _ _ _ p n).trans ?_
      rw [dif_neg (by omega), slot_apply s p n k, dif_neg h]

theorem tap_apply (s k d : ℕ) (hd : d < 3) (q : Fin 1056) (n : Fin 512) :
    I.tap s k d (ix2 q n) = View.canon (I.slot s k) (ix2 ⟨64 * d + q.val, by omega⟩ n) := by
  refine (congrArg (View.canon (I.slot s k)) (box_idx (64 * (d % 3)) 0 1056 512 _ q n (by omega) (by omega))).trans (congrArg _ ?_)
  congr 1 <;> apply Fin.ext <;> simp [Nat.mod_eq_of_lt hd]

end In

end Cert.Ffn

end
-- ==== Proof.FfConv.lean ====
/- The convolution of a block of hidden channels and its gate, at an index: nine taps of the rows before, at and after a token's row of the grid,
   those of the left and the right neighbour dropped at the ends of a row. -/
module

public import proofs.«01_k».proof.Proof.FfSpec
public import Idealize.ShloMosaic.Lib.Pointwise
public import proofs.«01_k».proof.Proof.FfRead

@[expose] public section

set_option maxRecDepth 16384

noncomputable section

namespace Cert.Ffn

open Idealize.ShloMosaic Idealize.ShloMosaic.TcCoe Cert.Kernel2Ideal Cert.Kernel2Ideal.Facts₀ Cert.Kernel2Ideal.Facts Cert.Kernel2Ideal.Gen

/-- The weights of a block: values left, gates right. -/
theorem weights_apply (w w' : V32 S9x256) (k : Fin 9) (n : Fin 512) :
    k0_pay14 (F := Ideal) w w' (ix2 k n) = if h : n.val < 256 then w (ix2 k ⟨n.val, h⟩) else w' (ix2 k ⟨n.val - 256, by omega⟩) := by
  pointwise [k0_pay14]

theorem left_mask : ∀ r : Fin 1024, IntOp.cmpi .eq (IntOp.andi (IntOp.addi (BitVec.ofNat 32 (17 + r.val - 2)) 4294967280#32) 63#32) 63#32
    = if r.val % 64 = 0 then 1#1 else 0#1 := by decide +kernel

theorem right_mask : ∀ r : Fin 1024, IntOp.cmpi .eq (IntOp.andi (IntOp.addi (BitVec.ofNat 32 (17 + r.val)) 4294967280#32) 63#32) 0#32
    = if r.val % 64 = 63 then 1#1 else 0#1 := by decide +kernel

theorem sel_if {α : Type} (p : Prop) [Decidable p] (a b : α) : Scalar.select (if p then 1#1 else 0#1) a b = if p then a else b := by
  split
  · exact sel_true rfl _ _
  · exact sel_false rfl _ _

/-- The convolution of a block at a token and a channel. -/
theorem conv_apply (w w' : V32 S9x256) (b b' : V32 S1x256) (t0 t1 t2 : V16 S1056x512) (r : Fin 1024) (n : Fin 512) :
    conv w w' b b' t0 t1 t2 (ix2 r n)
      = t0 (ix2 ⟨16 + r.val, by omega⟩ n) * k0_pay14 (F := Ideal) w w' (ix2 1 n) + t1 (ix2 ⟨16 + r.val, by omega⟩ n) * k0_pay14 (F := Ideal) w w' (ix2 4 n)
          + t2 (ix2 ⟨16 + r.val, by omega⟩ n) * k0_pay14 (F := Ideal) w w' (ix2 7 n)
        + ((if r.val % 64 = 0 then 0 else t0 (ix2 ⟨17 + r.val - 2, by omega⟩ n) * k0_pay14 (F := Ideal) w w' (ix2 0 n)
              + t1 (ix2 ⟨17 + r.val - 2, by omega⟩ n) * k0_pay14 (F := Ideal) w w' (ix2 3 n) + t2 (ix2 ⟨17 + r.val - 2, by omega⟩ n) * k0_pay14 (F := Ideal) w w' (ix2 6 n))
          + (if r.val % 64 = 63 then 0 else t0 (ix2 ⟨17 + r.val, by omega⟩ n) * k0_pay14 (F := Ideal) w w' (ix2 2 n)
              + t1 (ix2 ⟨17 + r.val, by omega⟩ n) * k0_pay14 (F := Ideal) w w' (ix2 5 n) + t2 (ix2 ⟨17 + r.val, by omega⟩ n) * k0_pay14 (F := Ideal) w w' (ix2 8 n)))
        + (if h : n.val < 256 then b (ix2 0 ⟨n.val, h⟩) else b' (ix2 0 ⟨n.val - 256, by omega⟩)) := by
  unfold conv
  pointwise [k0_pay19, k0_pay15, k0_pay16, k0_pay17, k0_pay18]
  rw [dif_neg (by omega), left_mask r, right_mask r, sel_if, sel_if]

/-- The gated channels of a block at a token. -/
theorem gated_apply (w w' : V32 S9x256) (b b' : V32 S1x256) (t0 t1 t2 : V16 S1056x512) (r : Fin 1024) (n : Fin 256) :
    gated w w' b b' t0 t1 t2 (ix2 r n) = gelu (conv w w' b b' t0 t1 t2 (ix2 r ⟨256 + n.val, by omega⟩)) * conv w w' b b' t0 t1 t2 (ix2 r ⟨n.val, by omega⟩) := by
  have h20 : k0_pay20 (F := Ideal) (k0_pay14 (F := Ideal) w w') k0_pay15 t0 t1 t2 (k0_pay16 (F := Ideal) w w' t0 t1 t2) (k0_pay17 (F := Ideal) w w' t0 t1) (k0_pay18 (F := Ideal) w w') b b' (ix2 r n)
      = conv w w' b b' t0 t1 t2 (ix2 r ⟨256 + n.val, by omega⟩) := by
    pointwise [k0_pay20]
    rfl
  unfold gated
  pointwise [k0_pay22, k0_pay21]
  rw [h20, named_root, named_cube, half_narrow]
  rfl

/-- The layer norm of a row. -/
theorem out_apply (x : V32 S1x1024x1024) (g : V32 S1x1x1024) (s : V32 S1024x1024) (lg lb : V32 S1x1024) (r e : Fin 1024) :
    k0_pay1 (F := Ideal) (k0_pay120 (F := Ideal) x g s) (k0_pay121 (F := Ideal) x g s) lg lb (ix3 0 r e)
      = norm (fun k => mix (x (ix3 0 r k)) (g (ix3 0 0 k)) (s (ix2 r k))) (lg (ix2 0 e)) (lb (ix2 0 e)) e := by
  pointwise [k0_pay1, k0_pay120, k0_pay121]
  rfl

end Cert.Ffn

end
-- ==== Proof.FfPoint.lean ====
/- A grid point's block is the feed-forward part of the point's 1024 tokens. -/
module

public import proofs.«01_k».proof.Proof.FfConv

@[expose] public section

set_option maxRecDepth 16384

noncomputable section

namespace Cert.Ffn

open Idealize.ShloMosaic Idealize.ShloMosaic.TcCoe Cert.Kernel2Ideal Cert.Kernel2Ideal.Facts₀ Cert.Kernel2Ideal.Facts Cert.Kernel2Ideal.Gen

/-- A sum over the hidden channels in the three parts in which a point takes it. -/
theorem sum_parts (f : Fin 2816 → EReal) : ∑ j, f j
    = ∑ k : Fin 1024, f ⟨k.val, by omega⟩ + ∑ k : Fin 1024, f ⟨1024 + k.val, by omega⟩ + ∑ k : Fin 768, f ⟨2048 + k.val, by omega⟩ := by
  refine (Fin.sum_univ_add (a := 2048) (b := 768) f).trans ?_
  congr 1
  exact Fin.sum_univ_add (a := 1024) (b := 1024) fun i : Fin 2048 => f (Fin.castAdd 768 i)

theorem pay87_apply (h w : V16 S1024x1024) (s : V32 S1024x1024) (r e : Fin 1024) :
    k0_pay87 (F := Ideal) h (k0_pay86 (F := Ideal) w) s (ix2 r e) = s (ix2 r e) + ∑ k : Fin 1024, h (ix2 r k) * w (ix2 k e) := by
  pointwise [k0_pay87, k0_pay86]

theorem pay119_apply (h : V16 S1024x768) (w : V16 S768x1024) (s : V32 S1024x1024) (r e : Fin 1024) :
    k0_pay119 (F := Ideal) h w s (ix2 r e) = s (ix2 r e) + ∑ k : Fin 768, h (ix2 r k) * w (ix2 k e) := by
  pointwise [k0_pay119]

/-- The column of a block's channel: values left, gates right. -/
def column (j : ℕ) (hj : j < 11) (n : Fin 512) : Fin 5632 :=
  ⟨if n.val < 256 then 256 * j + n.val else 2816 + 256 * j + (n.val - 256), by split <;> omega⟩

/-- The blocks that a point reads, as entries of the arguments of batch `b`. -/
structure Reads (I : In) (A : Args) (b : Fin 4) : Prop where
  h : ∀ r k, I.h (ix3 0 r k) = A.h b ⟨1024 * I.step + r.val, by have := I.step_lt; omega⟩ k
  hp : ∀ (s : 0 < I.step) q k, I.hp (ix3 0 q k) = A.h b ⟨1024 * I.step + q.val - 64, by have := I.step_lt; omega⟩ k
  hn : ∀ (s : I.step < 7) q k, I.hn (ix3 0 q k) = A.h b ⟨1024 * I.step + 1024 + q.val, by omega⟩ k
  wu : ∀ k n, I.wu (ix2 k n) = A.wu k n
  cw : ∀ k n, I.cw (ix2 k n) = A.cw k n
  cb : ∀ n, I.cb (ix2 0 n) = A.cb n
  wd : ∀ k n, I.wd (ix2 k n) = A.wd k n
  x : ∀ r e, I.x (ix3 0 r e) = A.x b ⟨1024 * I.step + r.val, by have := I.step_lt; omega⟩ e
  g : ∀ e, I.g (ix3 0 0 e) = A.g b e
  lg : ∀ e, I.lg (ix2 0 e) = A.lg e
  lb : ∀ e, I.lb (ix2 0 e) = A.lb e

namespace Reads

variable {I : In} {A : Args} {b : Fin 4} (H : Reads I A b)

/-- The token of a point's row. -/
def row (I : In) (r : Fin 1024) : Fin 8192 := ⟨1024 * I.step + r.val, by have := I.step_lt; omega⟩

include H

theorem buf (q : Fin 1152) (k : Fin 1024) : I.buf (ix2 q k)
    = if h : 64 ≤ 1024 * I.step + q.val ∧ 1024 * I.step + q.val - 64 < 8192 then A.h b ⟨1024 * I.step + q.val - 64, h.2⟩ k else 0 := by
  have lt := I.step_lt
  rw [In.buf_apply]
  split
  · next h =>
    split
    · next s => rw [dif_pos (by omega), H.hp s]
    · next s => rw [dif_neg (by omega)]
  · next h =>
    split
    · next h' =>
      rw [dif_pos (by omega), H.h]
      congr 1; apply Fin.ext; show 1024 * I.step + (q.val - 64) = 1024 * I.step + q.val - 64; omega
    · next h' =>
      split
      · next s =>
        rw [dif_pos (by omega), H.hn s]
        congr 1; apply Fin.ext; show 1024 * I.step + 1024 + (q.val - 1088) = 1024 * I.step + q.val - 64; omega
      · next s => rw [dif_neg (by omega)]

theorem up (w : V16 S1024x256) (c : Fin 256 → Fin 5632) (hw : ∀ k n, w (ix2 k n) = A.wu k (c n)) (q : Fin 1152) (n : Fin 256) :
    k0_pay9 (F := Ideal) I.buf w (ix2 q n)
      = if h : 64 ≤ 1024 * I.step + q.val ∧ 1024 * I.step + q.val - 64 < 8192 then A.up b ⟨1024 * I.step + q.val - 64, h.2⟩ (c n) else 0 := by
  rw [In.up_apply]
  split
  · next h => exact Finset.sum_congr rfl fun k _ => by rw [H.buf, dif_pos h, hw]
  · next h => exact Finset.sum_eq_zero fun k _ => by rw [H.buf, dif_neg h, zero_mul]

theorem slot (s k : ℕ) (hj : s + 2 * k < 11) (p : Fin 1184) (n : Fin 512) (hp : 16 ≤ p.val ∧ p.val - 16 < 1152) :
    View.canon (I.slot s k) (ix2 p n)
      = if h : 64 ≤ 1024 * I.step + (p.val - 16) ∧ 1024 * I.step + (p.val - 16) - 64 < 8192
        then A.up b ⟨1024 * I.step + (p.val - 16) - 64, h.2⟩ (column (s + 2 * k) hj n) else 0 := by
  rw [In.slot_apply, dif_pos hp]
  split
  · next h' =>
    refine (H.up _ (fun n => ⟨256 * (s + 2 * k) + n.val, by omega⟩) (fun k' n => by rw [I.wuV_apply _ hj, H.wu]) _ _).trans ?_
    have e : (⟨256 * (s + 2 * k) + n.val, by omega⟩ : Fin 5632) = column (s + 2 * k) hj n := Fin.ext (by simp [column, h'])
    rw [e]
  · next h' =>
    refine (H.up _ (fun n => ⟨2816 + 256 * (s + 2 * k) + n.val, by omega⟩) (fun k' n => by rw [I.wuG_apply _ hj, H.wu]) _ _).trans ?_
    have e : (⟨2816 + 256 * (s + 2 * k) + (n.val - 256), by omega⟩ : Fin 5632) = column (s + 2 * k) hj n := Fin.ext (by simp [column, h'])
    rw [e]

theorem tap (s k : ℕ) (hj : s + 2 * k < 11) (d c : ℕ) (hd : d < 3) (r : Fin 1024) (n : Fin 512) (hr : 1 ≤ r.val % 64 + c ∧ r.val % 64 + c - 1 < 64)
    (q : Fin 1056) (hq : q.val = 15 + r.val + c) :
    I.tap s k d (ix2 q n) = A.pad b ((row I r).val / 64 + d) ((row I r).val % 64 + c) (column (s + 2 * k) hj n) := by
  have lt := I.step_lt
  have e1 : (row I r).val / 64 = 16 * I.step + r.val / 64 := by show (1024 * I.step + r.val) / 64 = _; omega
  have e2 : (row I r).val % 64 = r.val % 64 := by show (1024 * I.step + r.val) % 64 = _; omega
  rw [I.tap_apply s k d hd, H.slot s k hj _ _ ⟨by show 16 ≤ 64 * d + q.val; omega, by show 64 * d + q.val - 16 < 1152; omega⟩, Args.pad, e1, e2]
  by_cases h : 64 ≤ 1024 * I.step + (64 * d + q.val - 16) ∧ 1024 * I.step + (64 * d + q.val - 16) - 64 < 8192
  · rw [dif_pos h, dif_pos ⟨by omega, hr⟩]
    congr 1; apply Fin.ext
    show 1024 * I.step + (64 * d + q.val - 16) - 64 = 64 * (16 * I.step + r.val / 64 + d - 1) + (r.val % 64 + c - 1)
    omega
  · rw [dif_neg h, dif_neg fun h' => h (by omega)]

omit H in
theorem weights {w w' : V32 S9x256} {f : Fin 9 → Fin 5632 → EReal} {j : ℕ} (hj : j < 11) (hw : ∀ t n, w (ix2 t n) = f t ⟨256 * j + n.val, by omega⟩)
    (hw' : ∀ t n, w' (ix2 t n) = f t ⟨2816 + 256 * j + n.val, by omega⟩) (t : Fin 9) (n : Fin 512) :
    k0_pay14 (F := Ideal) w w' (ix2 t n) = f t (column j hj n) := by
  rw [weights_apply]
  split
  · next h => rw [hw]; congr 1; exact Fin.ext (by simp [column, h])
  · next h => rw [hw']; congr 1; exact Fin.ext (by simp [column, h])

/-- A block's convolution. -/
theorem conv (s k : ℕ) (hj : s + 2 * k < 11) (r : Fin 1024) (n : Fin 512) :
    Ffn.conv (I.cwV (s + 2 * k)) (I.cwG (s + 2 * k)) (I.cbV (s + 2 * k)) (I.cbG (s + 2 * k)) (I.tap s k 0) (I.tap s k 1) (I.tap s k 2) (ix2 r n)
      = A.conv b (row I r) (column (s + 2 * k) hj n) := by
  have hw : ∀ t n, k0_pay14 (F := Ideal) (I.cwV (s + 2 * k)) (I.cwG (s + 2 * k)) (ix2 t n) = A.cw t (column (s + 2 * k) hj n) :=
    weights hj (fun t n => by rw [I.cwV_apply _ hj, H.cw]) (fun t n => by rw [I.cwG_apply _ hj, H.cw])
  have hb : (if h : n.val < 256 then I.cbV (s + 2 * k) (ix2 0 ⟨n.val, h⟩) else I.cbG (s + 2 * k) (ix2 0 ⟨n.val - 256, by omega⟩)) = A.cb (column (s + 2 * k) hj n) := by
    split
    · next h => rw [I.cbV_apply _ hj, H.cb]; congr 1; exact Fin.ext (by simp [column, h])
    · next h => rw [I.cbG_apply _ hj, H.cb]; congr 1; exact Fin.ext (by simp [column, h])
  have e2 : (row I r).val % 64 = r.val % 64 := by show (1024 * I.step + r.val) % 64 = _; omega
  have zero : ∀ (c : ℕ), ¬(1 ≤ r.val % 64 + c ∧ r.val % 64 + c - 1 < 64) → ∀ y n, A.pad b y ((row I r).val % 64 + c) n = 0 := by
    intro c hc y n
    rw [Args.pad, e2, dif_neg fun h => hc h.2]
  rw [conv_apply, hb]
  simp only [hw]
  unfold Args.conv Args.col
  congr 1
  congr 1
  · rw [H.tap s k hj 0 1 (by omega) r n (by omega) _ (by show 16 + r.val = _; omega), H.tap s k hj 1 1 (by omega) r n (by omega) _ (by show 16 + r.val = _; omega),
      H.tap s k hj 2 1 (by omega) r n (by omega) _ (by show 16 + r.val = _; omega)]
    rfl
  congr 1
  · split
    · next h => rw [zero 0 (by omega), zero 0 (by omega), zero 0 (by omega)]; simp only [zero_mul, add_zero]
    · next h =>
      rw [H.tap s k hj 0 0 (by omega) r n (by omega) _ (by show 17 + r.val - 2 = _; omega), H.tap s k hj 1 0 (by omega) r n (by omega) _ (by show 17 + r.val - 2 = _; omega),
        H.tap s k hj 2 0 (by omega) r n (by omega) _ (by show 17 + r.val - 2 = _; omega)]
      rfl
  · split
    · next h => rw [zero 2 (by omega), zero 2 (by omega), zero 2 (by omega)]; simp only [zero_mul, add_zero]
    · next h =>
      rw [H.tap s k hj 0 2 (by omega) r n (by omega) _ (by show 17 + r.val = _; omega), H.tap s k hj 1 2 (by omega) r n (by omega) _ (by show 17 + r.val = _; omega),
        H.tap s k hj 2 2 (by omega) r n (by omega) _ (by show 17 + r.val = _; omega)]
      rfl

/-- A block's gated channels. -/
theorem hid (s k : ℕ) (hj : s + 2 * k < 11) (r : Fin 1024) (n : Fin 256) :
    I.hid s k (ix2 r n) = A.hidden b (row I r) ⟨256 * (s + 2 * k) + n.val, by omega⟩ := by
  unfold In.hid
  rw [gated_apply, H.conv s k hj, H.conv s k hj, Args.hidden]
  congr 3 <;> apply Fin.ext
  · show (if 256 + n.val < 256 then _ else 2816 + 256 * (s + 2 * k) + (256 + n.val - 256)) = 2816 + (256 * (s + 2 * k) + n.val)
    rw [if_neg (by omega)]; omega
  · show (if n.val < 256 then 256 * (s + 2 * k) + n.val else _) = 256 * (s + 2 * k) + n.val
    rw [if_pos n.isLt]

/-- One block stored into the hidden buffer. -/
theorem store (s k c : ℕ) (hj : s + 2 * k < 11) (inb : ∀ a, (![0, c] : Fin 2 → ℕ) a + (![1024, 256] : Fin 2 → ℕ) a ≤ S1024x1024.size a)
    (L : List (View.Piece (Elt Ideal) S1024x1024 .bf16)) (r n : Fin 1024) :
    View.canon (⟨Rect.unit (s := S1024x1024) ![0, c] ![1024, 256] inb, I.hid s k⟩ :: L) (ix2 r n)
      = if h : c ≤ n.val ∧ n.val - c < 256 then A.hidden b (row I r) ⟨256 * (s + 2 * k) + (n.val - c), by omega⟩ else View.canon L (ix2 r n) := by
  refine (canon_at (e := .bf16) (H := 1024) (W := 1024) 0 c 1024 256 inb (I.hid s k) L r n).trans ?_
  by_cases h : c ≤ n.val ∧ n.val - c < 256
  · rw [dif_pos ⟨⟨Nat.zero_le _, by omega⟩, h⟩, dif_pos h]
    exact H.hid s k hj _ _
  · rw [dif_neg fun h' => h h'.2, dif_neg h]

theorem hidA (r k : Fin 1024) : View.canon I.hidA (ix2 r k) = A.hidden b (row I r) ⟨k.val, by omega⟩ := by
  unfold In.hidA
  rw [H.store 1 1 768 (by omega), H.store 0 1 512 (by omega), H.store 1 0 256 (by omega), H.store 0 0 0 (by omega)]
  split
  · exact congrArg _ (Fin.ext (by dsimp only; omega))
  split
  · exact congrArg _ (Fin.ext (by dsimp only; omega))
  split
  · exact congrArg _ (Fin.ext (by dsimp only; omega))
  rw [dif_pos (by omega)]
  exact congrArg _ (Fin.ext (by dsimp only; omega))

theorem hidB (r k : Fin 1024) : View.canon I.hidB (ix2 r k) = A.hidden b (row I r) ⟨1024 + k.val, by omega⟩ := by
  unfold In.hidB
  rw [H.store 1 3 768 (by omega), H.store 0 3 512 (by omega), H.store 1 2 256 (by omega), H.store 0 2 0 (by omega)]
  split
  · exact congrArg _ (Fin.ext (by dsimp only; omega))
  split
  · exact congrArg _ (Fin.ext (by dsimp only; omega))
  split
  · exact congrArg _ (Fin.ext (by dsimp only; omega))
  rw [dif_pos (by omega)]
  exact congrArg _ (Fin.ext (by dsimp only; omega))

theorem hidC (r k : Fin 1024) (hk : k.val < 768) : View.canon I.hidC (ix2 r k) = A.hidden b (row I r) ⟨2048 + k.val, by omega⟩ := by
  unfold In.hidC
  rw [H.store 0 5 512 (by omega), H.store 1 4 256 (by omega), H.store 0 4 0 (by omega)]
  split
  · exact congrArg _ (Fin.ext (by dsimp only; omega))
  split
  · exact congrArg _ (Fin.ext (by dsimp only; omega))
  rw [dif_pos (by omega)]
  exact congrArg _ (Fin.ext (by dsimp only; omega))

theorem sumA (r e : Fin 1024) : I.sumA (ix2 r e) = ∑ k : Fin 1024, A.hidden b (row I r) ⟨k.val, by omega⟩ * A.wd ⟨k.val, by omega⟩ e := by
  unfold In.sumA
  pointwise [k0_pay52]
  exact Finset.sum_congr rfl fun k _ => by rw [In.whole_apply, H.hidA, In.wdA_apply, H.wd]

theorem sumB (r e : Fin 1024) : I.sumB (ix2 r e)
    = I.sumA (ix2 r e) + ∑ k : Fin 1024, A.hidden b (row I r) ⟨1024 + k.val, by omega⟩ * A.wd ⟨1024 + k.val, by omega⟩ e := by
  refine (pay87_apply (In.whole I.hidB) I.wdB I.sumA r e).trans ?_
  refine congrArg (fun z => I.sumA (ix2 r e) + z) ?_
  exact Finset.sum_congr rfl fun k _ => by rw [In.whole_apply, H.hidB, In.wdB_apply, H.wd]

theorem sumC (r e : Fin 1024) : I.sumC (ix2 r e)
    = I.sumB (ix2 r e) + ∑ k : Fin 768, A.hidden b (row I r) ⟨2048 + k.val, by omega⟩ * A.wd ⟨2048 + k.val, by omega⟩ e := by
  refine (pay119_apply (In.part I.hidC) I.wdC I.sumB r e).trans ?_
  refine congrArg (fun z => I.sumB (ix2 r e) + z) ?_
  exact Finset.sum_congr rfl fun k _ => by rw [In.part_apply, H.hidC _ _ k.isLt, In.wdC_apply, H.wd]

theorem y (r e : Fin 1024) : I.sumC (ix2 r e) = A.y b (row I r) e := by
  rw [H.sumC, H.sumB, H.sumA]
  exact (sum_parts fun j => A.hidden b (row I r) j * A.wd j e).symm

/-- The block that a point leaves. -/
theorem out (r e : Fin 1024) : I.out (ix3 0 r e) = A.out b (row I r) e := by
  unfold In.out
  rw [out_apply, Args.out, H.lg, H.lb]
  congr 1
  funext k
  rw [H.x, H.g, H.y]
  rfl

end Reads

end Cert.Ffn

end
-- ==== Proof.FfPieces.lean ====
/- The block that a grid point's stores leave, found in the run of the body. -/
module

public import proofs.«01_k».proof.Proof.FfBody
public import Idealize.ShloMosaic.Lib.Pipeline.ValueKit

@[expose] public section

set_option maxRecDepth 16384

noncomputable section

namespace Cert.Ffn

open Idealize.ShloMosaic Idealize.ShloMosaic.TcCoe Cert.Kernel2Ideal Cert.Kernel2Ideal.Gen

set_option maxHeartbeats 8000000 in
/-- The pieces of the output are one, the whole block. -/
theorem pieces (c : Dev nD) (i : grid0.Coords) (arg2 : Memref sig .tc .vmem S1x1024x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1024x5632 .bf16) (harg5 : arg5.IsWhole) (arg6 : Memref sig .tc .vmem S9x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024x1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .f32) (harg13 : arg13.IsWhole) (arg14 : Memref sig .tc .vmem S1152x1024 .bf16) (harg14 : arg14.IsWhole) (arg15 : Memref sig .tc .vmem S1184x512 .bf16) (harg15 : arg15.IsWhole) (arg16 : Memref sig .tc .vmem S1184x512 .bf16) (harg16 : arg16.IsWhole) (arg17 : Memref sig .tc .vmem S1024x1024 .bf16) (harg17 : arg17.IsWhole) (arg18 : Memref sig .tc .vmem S1024x1024 .f32) (harg18 : arg18.IsWhole)
    (x0 : V16 S1x1024x1024) (x1 x2 : V16 S1x64x1024) (x3 : V16 S1024x5632) (x4 : V32 S9x5632) (x5 : V32 S1x5632) (x6 : V16 S2816x1024)
    (x7 : V32 S1x1024x1024) (x8 : V32 S1x1x1024) (x9 x10 : V32 S1x1024) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).1 =
      [⟨Rect.unit ![0, 0, 0] ![1, 1024, 1024] (by intro a; fin_cases a <;> simp), (In.mk i x0 x1 x2 x3 x4 x5 x6 x7 x8 x9 x10).out⟩] := by
  unfold kernelRun0_A
  frame_open
  simp (disch := decide) only [↓ View.readCov_skip, ↓ View.readCov_cons_toLoadRect, ↓ View.readCov_fill, View.readAt_eq_ld, Memref.IsWhole.read_unread,
    View.ld_unit_lit', View.readCov_eq_canon']
  rfl

end Cert.Ffn

end
-- ==== Proof.FfEntry.lean ====
/- What the windows of the feed-forward call hold at a point of the grid, in terms of the arguments, and the whole result. -/
module

public import proofs.«01_k».proof.Proof.FfPoint
public import proofs.«01_k».proof.Proof.FfPieces
public import proofs.«01_k».proof.Proof.Gen.Kernel2Ideal.Value
public import Idealize.ShloMosaic.Lib.Claim
public import Idealize.ShloMosaic.Lib.IdealHost

@[expose] public section

set_option maxRecDepth 16384

noncomputable section

namespace Cert.Ffn

open Idealize.ShloMosaic Idealize.ShloMosaic.TcCoe Cert.Kernel2Ideal Cert.Kernel2Ideal.Facts₀ Cert.Kernel2Ideal.Facts Cert.Kernel2Ideal.Gen Idealize.SL.Sem

/-- A block stored whole. -/
theorem single {e : EltTy} {A B C : ℕ} (inb : ∀ a, (![0, 0, 0] : Fin 3 → ℕ) a + (![A, B, C] : Fin 3 → ℕ) a ≤ (⟨3, ![A, B, C]⟩ : Shape).size a)
    (w : (⟨3, ![A, B, C]⟩ : Shape).Idx → Elt Ideal e) :
    View.canon [⟨Rect.unit (s := ⟨3, ![A, B, C]⟩) ![0, 0, 0] ![A, B, C] inb, w⟩] = w := by
  funext y
  have h : (Rect.unit (s := ⟨3, ![A, B, C]⟩) ![0, 0, 0] ![A, B, C] inb).emb y = y := by
    refine funext fun a => Fin.ext ?_
    refine (ValueKit.rect_emb_unit_val _ _ _ _ _).trans ?_
    fin_cases a <;> exact Nat.zero_add _
  have k := View.canon_cons_emb (Rect.unit (s := ⟨3, ![A, B, C]⟩) ![0, 0, 0] ![A, B, C] inb) w [] y
  rw [h] at k
  exact k

variable (m : (ℓ : Loc nD τ sig) → Buf (Elt Ideal) ℓ) (c : Dev nD)

/-- The arguments as launched. -/
def kargs : Args := argsOf (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8))

theorem entry_h (b : Fin 4) (r : Fin 8192) (k : Fin 1024) : (V m c main_arg0 : V16 S4x8192x1024) (ix3 b r k) = (kargs m c).h b r k := by
  rw [V_main_arg0]; rfl

theorem entry_x (b : Fin 4) (r : Fin 8192) (k : Fin 1024) : (V m c main_arg5 : V32 S4x8192x1024) (ix3 b r k) = (kargs m c).x b r k := by
  rw [V_main_arg5]; rfl

theorem entry_g (b : Fin 4) (e : Fin 1024) : (V m c main_arg6 : V32 S4x1x1024) (ix3 b 0 e) = (kargs m c).g b e := by
  rw [V_main_arg6]; rfl

theorem entry_wu (k : Fin 1024) (n : Fin 5632) : (V m c main_v0 : V16 S1024x5632) (ix2 k n) = (kargs m c).wu k n := by
  simp only [V, hostOps0, List.flatten_cons, List.flatten_nil, List.append_nil, List.cons_append, List.nil_append]
  entry_read
  pointwise
  rfl

theorem entry_cw (t : Fin 9) (n : Fin 5632) : (V m c main_v1 : V32 S9x5632) (ix2 t n) = (kargs m c).cw t n := by
  simp only [V, hostOps0, List.flatten_cons, List.flatten_nil, List.append_nil, List.cons_append, List.nil_append]
  entry_read
  pointwise
  rfl

theorem entry_cb (n : Fin 5632) : (V m c main_v2 : V32 S1x5632) (ix2 0 n) = (kargs m c).cb n := by
  simp only [V, hostOps0, List.flatten_cons, List.flatten_nil, List.append_nil, List.cons_append, List.nil_append]
  entry_read
  pointwise
  rfl

theorem entry_wd (k : Fin 2816) (n : Fin 1024) : (V m c main_v3 : V16 S2816x1024) (ix2 k n) = (kargs m c).wd k n := by
  simp only [V, hostOps0, List.flatten_cons, List.flatten_nil, List.append_nil, List.cons_append, List.nil_append]
  entry_read
  pointwise
  rfl

theorem entry_lg (n : Fin 1024) : (V m c main_v4 : V32 S1x1024) (ix2 0 n) = (kargs m c).lg n := by
  simp only [V, hostOps0, List.flatten_cons, List.flatten_nil, List.append_nil, List.cons_append, List.nil_append]
  entry_read
  pointwise
  rfl

theorem entry_lb (n : Fin 1024) : (V m c main_v5 : V32 S1x1024) (ix2 0 n) = (kargs m c).lb n := by
  simp only [V, hostOps0, List.flatten_cons, List.flatten_nil, List.append_nil, List.cons_append, List.nil_append]
  entry_read
  pointwise
  rfl

/-! ### The windows -/

theorem count_points (t : Fin cfg0.N) : t.val < 32 := lt_of_lt_of_eq t.isLt N_0

/-- The batch of a point. -/
def batch (t : Fin cfg0.N) : Fin 4 := ⟨t.val / 8, by have := count_points t; omega⟩

theorem coord : ∀ t : Fin cfg0.N, (grid0.coords t 1).val = t.val % 8 := by decide +kernel

theorem idx0 : ∀ t : Fin cfg0.N, win0_0.index t = ![t.val / 8, t.val % 8, 0] := by decide +kernel
theorem idx1 : ∀ t : Fin cfg0.N, win0_1.index t = ![t.val / 8, 16 * (t.val % 8) - 1, 0] := by decide +kernel
theorem idx2 : ∀ t : Fin cfg0.N, win0_2.index t = ![t.val / 8, min (16 * (t.val % 8) + 16) 127, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val / 8, t.val % 8, 0] := by decide +kernel
theorem idx8 : ∀ t : Fin cfg0.N, win0_8.index t = ![t.val / 8, 0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![t.val / 8, t.val % 8, 0] := by decide +kernel

theorem win_h (t : Fin cfg0.N) (r k : Fin 1024) : (iblk m c 0 t : V16 S1x1024x1024) (ix3 0 r k) = (kargs m c).h (batch t) ⟨1024 * (t.val % 8) + r.val, by omega⟩ k := by
  rw [← entry_h]
  blk_ext [iblk, idx0 t, batch] <;> simp <;> omega

theorem win_hp (t : Fin cfg0.N) (s : 0 < t.val % 8) (q : Fin 64) (k : Fin 1024) :
    (iblk m c 1 t : V16 S1x64x1024) (ix3 0 q k) = (kargs m c).h (batch t) ⟨1024 * (t.val % 8) + q.val - 64, by omega⟩ k := by
  rw [← entry_h]
  blk_ext [iblk, idx1 t, batch] <;> simp <;> omega

theorem win_hn (t : Fin cfg0.N) (s : t.val % 8 < 7) (q : Fin 64) (k : Fin 1024) :
    (iblk m c 2 t : V16 S1x64x1024) (ix3 0 q k) = (kargs m c).h (batch t) ⟨1024 * (t.val % 8) + 1024 + q.val, by omega⟩ k := by
  rw [← entry_h]
  blk_ext [iblk, idx2 t, batch] <;> simp <;> omega

theorem win_wu (t : Fin cfg0.N) (k : Fin 1024) (n : Fin 5632) : (iblk m c 3 t : V16 S1024x5632) (ix2 k n) = (kargs m c).wu k n := by
  rw [← entry_wu]
  blk_ext [iblk, idx3 t] <;> simp

theorem win_cw (t : Fin cfg0.N) (k : Fin 9) (n : Fin 5632) : (iblk m c 4 t : V32 S9x5632) (ix2 k n) = (kargs m c).cw k n := by
  rw [← entry_cw]
  blk_ext [iblk, idx4 t] <;> simp

theorem win_cb (t : Fin cfg0.N) (n : Fin 5632) : (iblk m c 5 t : V32 S1x5632) (ix2 0 n) = (kargs m c).cb n := by
  rw [← entry_cb]
  blk_ext [iblk, idx5 t] <;> simp

theorem win_wd (t : Fin cfg0.N) (k : Fin 2816) (n : Fin 1024) : (iblk m c 6 t : V16 S2816x1024) (ix2 k n) = (kargs m c).wd k n := by
  rw [← entry_wd]
  blk_ext [iblk, idx6 t] <;> simp

theorem win_x (t : Fin cfg0.N) (r k : Fin 1024) : (iblk m c 7 t : V32 S1x1024x1024) (ix3 0 r k) = (kargs m c).x (batch t) ⟨1024 * (t.val % 8) + r.val, by omega⟩ k := by
  rw [← entry_x]
  blk_ext [iblk, idx7 t, batch] <;> simp <;> omega

theorem win_g (t : Fin cfg0.N) (k : Fin 1024) : (iblk m c 8 t : V32 S1x1x1024) (ix3 0 0 k) = (kargs m c).g (batch t) k := by
  rw [← entry_g]
  blk_ext [iblk, idx8 t, batch] <;> simp

theorem win_lg (t : Fin cfg0.N) (n : Fin 1024) : (iblk m c 9 t : V32 S1x1024) (ix2 0 n) = (kargs m c).lg n := by
  rw [← entry_lg]
  blk_ext [iblk, idx9 t] <;> simp

theorem win_lb (t : Fin cfg0.N) (n : Fin 1024) : (iblk m c 10 t : V32 S1x1024) (ix2 0 n) = (kargs m c).lb n := by
  rw [← entry_lb]
  blk_ext [iblk, idx10 t] <;> simp

/-- The blocks that a point reads. -/
def ins (t : Fin cfg0.N) : In :=
  In.mk (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem ins_step (t : Fin cfg0.N) : (ins m c t).step = t.val % 8 := coord t

theorem reads (t : Fin cfg0.N) : Reads (ins m c t) (kargs m c) (batch t) where
  h r k := (win_h m c t r k).trans (by congr 1; apply Fin.ext; show _ = 1024 * (ins m c t).step + _; rw [ins_step])
  hp s q k := (win_hp m c t (by rwa [ins_step] at s) q k).trans (by congr 1; apply Fin.ext; show 1024 * (t.val % 8) + q.val - 64 = 1024 * (ins m c t).step + q.val - 64; have := ins_step m c t; omega)
  hn s q k := (win_hn m c t (by rwa [ins_step] at s) q k).trans (by congr 1; apply Fin.ext; show 1024 * (t.val % 8) + 1024 + q.val = 1024 * (ins m c t).step + 1024 + q.val; have := ins_step m c t; omega)
  wu := win_wu m c t
  cw := win_cw m c t
  cb := win_cb m c t
  wd := win_wd m c t
  x r k := (win_x m c t r k).trans (by congr 1; apply Fin.ext; show _ = 1024 * (ins m c t).step + _; rw [ins_step])
  g := win_g m c t
  lg := win_lg m c t
  lb := win_lb m c t

theorem point (t : Fin cfg0.N) : outsAt0 m c t = (ins m c t).out := by
  unfold outsAt0 out0_A_11
  rw [View.read_writes_junk_eq_canon, pieces]
  unfold ins
  exact single _ _

theorem at11 (f : V32 S4x8192x1024) (t : Fin cfg0.N) (r e : Fin 1024) :
    f (((win0 11).blk t).view.emb (ix3 0 r e)) = f (ix3 (batch t) ⟨1024 * (t.val % 8) + r.val, by omega⟩ e) := by
  blk_ext [idx11 t, batch] <;> simp <;> omega

/-- The call's result. -/
theorem array11 : (dats m 0 c).arrAt 11 cfg0.N = (kargs m c).arr := by
  refine (dats m 0 c).arrAt_eq_of_covers 11 _ (by decide +kernel) fun t hf y => ?_
  blk_simp
  rw [after0_11]
  idx_vars y
  obtain rfl : y0 = 0 := Subsingleton.elim _ _
  rw [point]
  refine ((reads m c t).out y1 y2).trans (Eq.trans ?_ (at11 (kargs m c).arr t y1 y2).symm)
  show (kargs m c).out _ _ _ = (kargs m c).out (batch t) ⟨1024 * (t.val % 8) + y1.val, _⟩ y2
  congr 1
  apply Fin.ext
  show 1024 * (ins m c t).step + y1.val = _
  rw [ins_step]

end Cert.Ffn

end
-- ==== Proof.FfRefOps.lean ====
/- The plain feed-forward program's operations by coordinates. -/
module

public import proofs.«01_k».proof.Proof.FfSpec
public import proofs.«01_k».proof.Proof.Gen.Reference2Ideal
public import Idealize.ShloMosaic.Lib.Pointwise
public import Idealize.ShloMosaic.Lib.IdealHost
public import Idealize.ShloMosaic.Lib.Claim

@[expose] public section

set_option maxRecDepth 16384

noncomputable section

namespace Cert.Ffn.Ref

open Idealize.ShloMosaic Idealize.ShloMosaic.TcCoe Cert.Reference2Ideal Cert.Reference2Ideal.Gen Idealize.SL.Sem Idealize.ShloMosaic.StableHlo

abbrev V32 (s : Shape) := FVec Ideal s .f32

def tap00 (P : V32 S4x130x66x5632) (w : V32 S3x3x5632) : V32 S4x128x64x5632 :=
  mulf (extractStridedSlice S4x128x64x5632 ![0, 0, 0, 0] P slices_S4x130x66x5632_S4x128x64x5632_0_0_0_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![0, 0, 0] w slices_S3x3x5632_S1x1x5632_0_0_0) shapeCasts_S1x1x5632_S5632)))

theorem tap00_val (P : V32 S4x130x66x5632) (w : V32 S3x3x5632) (b : Fin 4) (y : Fin 128) (x : Fin 64) (n : Fin 5632) :
    tap00 P w (ix4 b y x n) = P (ix4 b ⟨y.val, by omega⟩ ⟨x.val, by omega⟩ n) * w (ix3 0 0 n) := by
  pointwise [tap00]

def tap01 (P : V32 S4x130x66x5632) (w : V32 S3x3x5632) : V32 S4x128x64x5632 :=
  mulf (extractStridedSlice S4x128x64x5632 ![0, 0, 1, 0] P slices_S4x130x66x5632_S4x128x64x5632_0_0_1_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![0, 1, 0] w slices_S3x3x5632_S1x1x5632_0_1_0) shapeCasts_S1x1x5632_S5632)))

theorem tap01_val (P : V32 S4x130x66x5632) (w : V32 S3x3x5632) (b : Fin 4) (y : Fin 128) (x : Fin 64) (n : Fin 5632) :
    tap01 P w (ix4 b y x n) = P (ix4 b ⟨y.val, by omega⟩ ⟨1 + x.val, by omega⟩ n) * w (ix3 0 1 n) := by
  pointwise [tap01]

def tap02 (P : V32 S4x130x66x5632) (w : V32 S3x3x5632) : V32 S4x128x64x5632 :=
  mulf (extractStridedSlice S4x128x64x5632 ![0, 0, 2, 0] P slices_S4x130x66x5632_S4x128x64x5632_0_0_2_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![0, 2, 0] w slices_S3x3x5632_S1x1x5632_0_2_0) shapeCasts_S1x1x5632_S5632)))

theorem tap02_val (P : V32 S4x130x66x5632) (w : V32 S3x3x5632) (b : Fin 4) (y : Fin 128) (x : Fin 64) (n : Fin 5632) :
    tap02 P w (ix4 b y x n) = P (ix4 b ⟨y.val, by omega⟩ ⟨2 + x.val, by omega⟩ n) * w (ix3 0 2 n) := by
  pointwise [tap02]

def tap10 (P : V32 S4x130x66x5632) (w : V32 S3x3x5632) : V32 S4x128x64x5632 :=
  mulf (extractStridedSlice S4x128x64x5632 ![0, 1, 0, 0] P slices_S4x130x66x5632_S4x128x64x5632_0_1_0_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![1, 0, 0] w slices_S3x3x5632_S1x1x5632_1_0_0) shapeCasts_S1x1x5632_S5632)))

theorem tap10_val (P : V32 S4x130x66x5632) (w : V32 S3x3x5632) (b : Fin 4) (y : Fin 128) (x : Fin 64) (n : Fin 5632) :
    tap10 P w (ix4 b y x n) = P (ix4 b ⟨1 + y.val, by omega⟩ ⟨x.val, by omega⟩ n) * w (ix3 1 0 n) := by
  pointwise [tap10]

def tap11 (P : V32 S4x130x66x5632) (w : V32 S3x3x5632) : V32 S4x128x64x5632 :=
  mulf (extractStridedSlice S4x128x64x5632 ![0, 1, 1, 0] P slices_S4x130x66x5632_S4x128x64x5632_0_1_1_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![1, 1, 0] w slices_S3x3x5632_S1x1x5632_1_1_0) shapeCasts_S1x1x5632_S5632)))

theorem tap11_val (P : V32 S4x130x66x5632) (w : V32 S3x3x5632) (b : Fin 4) (y : Fin 128) (x : Fin 64) (n : Fin 5632) :
    tap11 P w (ix4 b y x n) = P (ix4 b ⟨1 + y.val, by omega⟩ ⟨1 + x.val, by omega⟩ n) * w (ix3 1 1 n) := by
  pointwise [tap11]

def tap12 (P : V32 S4x130x66x5632) (w : V32 S3x3x5632) : V32 S4x128x64x5632 :=
  mulf (extractStridedSlice S4x128x64x5632 ![0, 1, 2, 0] P slices_S4x130x66x5632_S4x128x64x5632_0_1_2_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![1, 2, 0] w slices_S3x3x5632_S1x1x5632_1_2_0) shapeCasts_S1x1x5632_S5632)))

theorem tap12_val (P : V32 S4x130x66x5632) (w : V32 S3x3x5632) (b : Fin 4) (y : Fin 128) (x : Fin 64) (n : Fin 5632) :
    tap12 P w (ix4 b y x n) = P (ix4 b ⟨1 + y.val, by omega⟩ ⟨2 + x.val, by omega⟩ n) * w (ix3 1 2 n) := by
  pointwise [tap12]

def tap20 (P : V32 S4x130x66x5632) (w : V32 S3x3x5632) : V32 S4x128x64x5632 :=
  mulf (extractStridedSlice S4x128x64x5632 ![0, 2, 0, 0] P slices_S4x130x66x5632_S4x128x64x5632_0_2_0_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![2, 0, 0] w slices_S3x3x5632_S1x1x5632_2_0_0) shapeCasts_S1x1x5632_S5632)))

theorem tap20_val (P : V32 S4x130x66x5632) (w : V32 S3x3x5632) (b : Fin 4) (y : Fin 128) (x : Fin 64) (n : Fin 5632) :
    tap20 P w (ix4 b y x n) = P (ix4 b ⟨2 + y.val, by omega⟩ ⟨x.val, by omega⟩ n) * w (ix3 2 0 n) := by
  pointwise [tap20]

def tap21 (P : V32 S4x130x66x5632) (w : V32 S3x3x5632) : V32 S4x128x64x5632 :=
  mulf (extractStridedSlice S4x128x64x5632 ![0, 2, 1, 0] P slices_S4x130x66x5632_S4x128x64x5632_0_2_1_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![2, 1, 0] w slices_S3x3x5632_S1x1x5632_2_1_0) shapeCasts_S1x1x5632_S5632)))

theorem tap21_val (P : V32 S4x130x66x5632) (w : V32 S3x3x5632) (b : Fin 4) (y : Fin 128) (x : Fin 64) (n : Fin 5632) :
    tap21 P w (ix4 b y x n) = P (ix4 b ⟨2 + y.val, by omega⟩ ⟨1 + x.val, by omega⟩ n) * w (ix3 2 1 n) := by
  pointwise [tap21]

def tap22 (P : V32 S4x130x66x5632) (w : V32 S3x3x5632) : V32 S4x128x64x5632 :=
  mulf (extractStridedSlice S4x128x64x5632 ![0, 2, 2, 0] P slices_S4x130x66x5632_S4x128x64x5632_0_2_2_0) (broadcastInDim S4x128x64x5632 ![0, 1, 2, 3] bcast_S1x1x1x5632_S4x128x64x5632_0_1_2_3 (broadcastInDim S1x1x1x5632 ![3] bcast_S5632_S1x1x1x5632_3 (shapeCast _ (extractStridedSlice S1x1x5632 ![2, 2, 0] w slices_S3x3x5632_S1x1x5632_2_2_0) shapeCasts_S1x1x5632_S5632)))

theorem tap22_val (P : V32 S4x130x66x5632) (w : V32 S3x3x5632) (b : Fin 4) (y : Fin 128) (x : Fin 64) (n : Fin 5632) :
    tap22 P w (ix4 b y x n) = P (ix4 b ⟨2 + y.val, by omega⟩ ⟨2 + x.val, by omega⟩ n) * w (ix3 2 2 n) := by
  pointwise [tap22]

/-- The nine taps with the bias. -/
def convOf (P : V32 S4x130x66x5632) (w : V32 S3x3x5632) (c : V32 S5632) : V32 S4x8192x5632 :=
  addf (shapeCast _ (addf (addf (addf (addf (addf (addf (addf (addf (addf (broadcastInDim S4x128x64x5632 ![] bcast_S_S4x128x64x5632 (constant S_ .f32 0x00000000#32)) (tap00 P w)) (tap01 P w)) (tap02 P w)) (tap10 P w)) (tap11 P w)) (tap12 P w)) (tap20 P w)) (tap21 P w)) (tap22 P w)) shapeCasts_S4x128x64x5632_S4x8192x5632) (broadcastInDim S4x8192x5632 ![0, 1, 2] bcast_S1x1x5632_S4x8192x5632_0_1_2 (broadcastInDim S1x1x5632 ![2] bcast_S5632_S1x1x5632_2 c))

theorem convOf_val (A : Args) (P : V32 S4x130x66x5632) (w : V32 S3x3x5632) (c : V32 S5632)
    (hP : ∀ b (y : Fin 130) (x : Fin 66) n, P (ix4 b y x n) = A.pad b y.val x.val n) (hw : ∀ (y x : Fin 3) n, w (ix3 y x n) = A.cw ⟨3 * y.val + x.val, by omega⟩ n)
    (hc : ∀ n, c (ix1 n) = A.cb n) (b : Fin 4) (r : Fin 8192) (n : Fin 5632) : convOf P w c (ix3 b r n) = A.conv b r n := by
  have w00 : w (ix3 0 0 n) = A.cw 0 n := hw 0 0 n
  have w01 : w (ix3 0 1 n) = A.cw 1 n := hw 0 1 n
  have w02 : w (ix3 0 2 n) = A.cw 2 n := hw 0 2 n
  have w10 : w (ix3 1 0 n) = A.cw 3 n := hw 1 0 n
  have w11 : w (ix3 1 1 n) = A.cw 4 n := hw 1 1 n
  have w12 : w (ix3 1 2 n) = A.cw 5 n := hw 1 2 n
  have w20 : w (ix3 2 0 n) = A.cw 6 n := hw 2 0 n
  have w21 : w (ix3 2 1 n) = A.cw 7 n := hw 2 1 n
  have w22 : w (ix3 2 2 n) = A.cw 8 n := hw 2 2 n
  pointwise [convOf]
  simp only [tap00_val, tap01_val, tap02_val, tap10_val, tap11_val, tap12_val, tap20_val, tap21_val, tap22_val, hP, hc, w00, w01, w02, w10, w11, w12, w20, w21, w22]
  unfold Args.conv Args.col
  simp only [Nat.add_comm 1, Nat.add_comm 2, Nat.add_zero]
  abel

/-- The gated channels. -/
def gateOf (G V : V32 S4x8192x2816) : V32 S4x8192x2816 :=
  mulf (mulf G (mulf (broadcastInDim S4x8192x2816 ![] bcast_S_S4x8192x2816 (constant S_ .f32 0x3F000000#32)) (addf (broadcastInDim S4x8192x2816 ![] bcast_S_S4x8192x2816 (constant S_ .f32 0x3F800000#32)) (Host.tanh (mulf (broadcastInDim S4x8192x2816 ![] bcast_S_S4x8192x2816 (constant S_ .f32 0x3F4C422A#32)) (addf G (mulf (broadcastInDim S4x8192x2816 ![] bcast_S_S4x8192x2816 (constant S_ .f32 0x3D372713#32)) (mulf (mulf G G) G)))))))) V

theorem gateOf_val (G V : V32 S4x8192x2816) (b : Fin 4) (r : Fin 8192) (j : Fin 2816) : gateOf G V (ix3 b r j) = gelu (G (ix3 b r j)) * V (ix3 b r j) := by
  pointwise [gateOf]
  rw [root_wide, cube_wide, mul_assoc (G (ix3 b r j)) (G (ix3 b r j))]
  rfl

def gatesOf (C : V32 S4x8192x5632) : V32 S4x8192x2816 := extractStridedSlice S4x8192x2816 ![0, 0, 2816] C slices_S4x8192x5632_S4x8192x2816_0_0_2816
def valuesOf (C : V32 S4x8192x5632) : V32 S4x8192x2816 := extractStridedSlice S4x8192x2816 ![0, 0, 0] C slices_S4x8192x5632_S4x8192x2816_0_0_0

theorem gatesOf_val (C : V32 S4x8192x5632) (b : Fin 4) (r : Fin 8192) (j : Fin 2816) : gatesOf C (ix3 b r j) = C (ix3 b r ⟨2816 + j.val, by omega⟩) := by
  pointwise [gatesOf]
theorem valuesOf_val (C : V32 S4x8192x5632) (b : Fin 4) (r : Fin 8192) (j : Fin 2816) : valuesOf C (ix3 b r j) = C (ix3 b r ⟨j.val, by omega⟩) := by
  pointwise [valuesOf]

/-- The scaled residual with the gated second product. -/
def mixOf (x : V32 S4x8192x1024) (g : V32 S4x1x1024) (D : V32 S4x8192x2816) (wd : V32 S2816x1024) : V32 S4x8192x1024 :=
  addf (mulf (broadcastInDim S4x8192x1024 ![] bcast_S_S4x8192x1024 (constant S_ .f32 0x3FB504F3#32)) x) (mulf (broadcastInDim S4x8192x1024 ![0, 1, 2] bcast_S4x1x1024_S4x8192x1024_0_1_2 g) (Host.dotGeneral dot_S4x8192x2816_S2816x1024_S4x8192x1024_2_0_01_1_n_n none D wd))

theorem mixOf_val (x : V32 S4x8192x1024) (g : V32 S4x1x1024) (D : V32 S4x8192x2816) (wd : V32 S2816x1024) (b : Fin 4) (r : Fin 8192) (e : Fin 1024) :
    mixOf x g D wd (ix3 b r e) = mix (x (ix3 b r e)) (g (ix3 b 0 e)) (∑ j, D (ix3 b r j) * wd (ix2 j e)) := by
  pointwise [mixOf]
  rfl

/-- The mean of each row, as a column. -/
def meanOf (Z : V32 S4x8192x1024) : V32 S4x8192x1 :=
  Host.divf (broadcastInDim S4x8192x1 ![0, 1] bcast_S4x8192_S4x8192x1_0_1 (Host.reduceAdd Z (constant S_ .f32 0x00000000#32) reducesTo_S4x8192x1024_S4x8192_d2 h_S_)) (broadcastInDim S4x8192x1 ![] bcast_S_S4x8192x1 (constant S_ .f32 0x44800000#32))

theorem meanOf_val (Z : V32 S4x8192x1024) (b : Fin 4) (r : Fin 8192) : meanOf Z (ix3 b r 0) = mean fun k => Z (ix3 b r k) := by
  pointwise [meanOf]
  rfl

/-- The rows without their mean. -/
def centred (Z : V32 S4x8192x1024) : V32 S4x8192x1024 := subf Z (broadcastInDim S4x8192x1024 ![0, 1, 2] bcast_S4x8192x1_S4x8192x1024_0_1_2 (meanOf Z))

theorem centred_val (Z : V32 S4x8192x1024) (b : Fin 4) (r : Fin 8192) (e : Fin 1024) : centred Z (ix3 b r e) = Z (ix3 b r e) - mean fun k => Z (ix3 b r k) := by
  rw [← meanOf_val]
  pointwise [centred]

/-- The layer norm. -/
def normOf (Z : V32 S4x8192x1024) (lg lb : V32 S1024) : V32 S4x8192x1024 :=
  addf (mulf (mulf (centred Z) (broadcastInDim S4x8192x1024 ![0, 1, 2] bcast_S4x8192x1_S4x8192x1024_0_1_2 (Host.rsqrt (addf (meanOf (mulf (centred Z) (centred Z))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 lg))) (broadcastInDim S4x8192x1024 ![0, 1, 2] bcast_S1x1x1024_S4x8192x1024_0_1_2 (broadcastInDim S1x1x1024 ![2] bcast_S1024_S1x1x1024_2 lb))

theorem normOf_val (Z : V32 S4x8192x1024) (lg lb : V32 S1024) (b : Fin 4) (r : Fin 8192) (e : Fin 1024) :
    normOf Z lg lb (ix3 b r e) = norm (fun k => Z (ix3 b r k)) (lg (ix1 e)) (lb (ix1 e)) e := by
  have h : ∀ k, mulf (centred Z) (centred Z) (ix3 b r k) = (Z (ix3 b r k) - mean fun k => Z (ix3 b r k)) * (Z (ix3 b r k) - mean fun k => Z (ix3 b r k)) := fun k => by
    rw [← centred_val]
    rfl
  pointwise [normOf]
  rw [meanOf_val, centred_val]
  simp only [h]
  rfl

/-- The frame of zeros around the first product. -/
def padOf (h : FVec Ideal S4x8192x1024 .bf16) (wu : V32 S1024x5632) : V32 S4x130x66x5632 :=
  pad S4x130x66x5632 ![0, 1, 1, 0] ![0, 1, 1, 0] ![0, 0, 0, 0] (shapeCast _ (Host.dotGeneral (F := Ideal) dot_S4x8192x1024_S1024x5632_S4x8192x5632_2_0_01_1_n_n none (extf .f32 h bitsLt_bf16_f32) wu) shapeCasts_S4x8192x5632_S4x128x64x5632) (sitofp (F := Ideal) .f32 (constantI S_ 32 0#32)) pads_S4x128x64x5632_S4x130x66x5632_000_110_110_000 h_S_

theorem padOf_val (A : Args) (h : FVec Ideal S4x8192x1024 .bf16) (wu : V32 S1024x5632) (hh : ∀ b r k, h (ix3 b r k) = A.h b r k) (hwu : ∀ k n, wu (ix2 k n) = A.wu k n)
    (b : Fin 4) (y : Fin 130) (x : Fin 66) (n : Fin 5632) : padOf h wu (ix4 b y x n) = A.pad b y.val x.val n := by
  pointwise [padOf]
  have e : (FloatOps.sitofp (F := Ideal) FTy.f32 0#32 : EReal) = 0 := by
    show ((((0#32 : BitVec 32).toInt : ℝ)) : EReal) = 0
    simp
  rw [e]
  unfold Args.pad Args.up
  split
  · simp only [hh, hwu, Nat.mul_comm 64]
  · rfl

end Cert.Ffn.Ref

end
-- ==== Proof.FfRef.lean ====
/- The plain feed-forward program's result by coordinates. -/
module

public import proofs.«01_k».proof.Proof.FfRefOps
public import proofs.«01_k».proof.Proof.Gen.Reference2Ideal.Run

@[expose] public section

set_option maxRecDepth 16384

noncomputable section

namespace Cert.Ffn.Ref

open Idealize.ShloMosaic Idealize.ShloMosaic.TcCoe Cert.Reference2Ideal Cert.Reference2Ideal.Gen Cert.Reference2Ideal.Value Idealize.SL.Sem Idealize.ShloMosaic.StableHlo

/-- The nine arguments. -/
structure Ins where
  h : FVec Ideal S4x8192x1024 .bf16
  wu : V32 S1024x5632
  cw : V32 S3x3x5632
  cb : V32 S5632
  wd : V32 S2816x1024
  x : V32 S4x8192x1024
  g : V32 S4x1x1024
  lg : V32 S1024
  lb : V32 S1024

namespace Ins

variable (i : Ins)

def args : Args := argsOf i.h i.wu i.cw i.cb i.wd i.x i.g i.lg i.lb
def P : V32 S4x130x66x5632 := padOf i.h i.wu
def C : V32 S4x8192x5632 := convOf i.P i.cw i.cb
def D : V32 S4x8192x2816 := gateOf (gatesOf i.C) (valuesOf i.C)
def Z : V32 S4x8192x1024 := mixOf i.x i.g i.D i.wd
def R : V32 S4x8192x1024 := normOf i.Z i.lg i.lb

theorem P_val (b : Fin 4) (y : Fin 130) (x : Fin 66) (n : Fin 5632) : i.P (ix4 b y x n) = i.args.pad b y.val x.val n :=
  padOf_val i.args _ _ (fun _ _ _ => rfl) (fun _ _ => rfl) b y x n

theorem cw_val (y x : Fin 3) (n : Fin 5632) : i.cw (ix3 y x n) = i.args.cw ⟨3 * y.val + x.val, by omega⟩ n := by
  show _ = i.cw (ix3 ⟨(3 * y.val + x.val) / 3, _⟩ ⟨(3 * y.val + x.val) % 3, _⟩ n)
  congr 1
  have e1 : (⟨(3 * y.val + x.val) / 3, by omega⟩ : Fin 3) = y := Fin.ext (by show (3 * y.val + x.val) / 3 = y.val; omega)
  have e2 : (⟨(3 * y.val + x.val) % 3, by omega⟩ : Fin 3) = x := Fin.ext (by show (3 * y.val + x.val) % 3 = x.val; omega)
  rw [e1, e2]

theorem C_val (b : Fin 4) (r : Fin 8192) (n : Fin 5632) : i.C (ix3 b r n) = i.args.conv b r n :=
  convOf_val i.args _ _ _ i.P_val i.cw_val (fun _ => rfl) b r n

theorem D_val (b : Fin 4) (r : Fin 8192) (j : Fin 2816) : i.D (ix3 b r j) = i.args.hidden b r j := by
  unfold D Args.hidden
  rw [gateOf_val, gatesOf_val, valuesOf_val, C_val, C_val]

theorem Z_val (b : Fin 4) (r : Fin 8192) (e : Fin 1024) : i.Z (ix3 b r e) = i.args.z b r e := by
  unfold Z Args.z Args.y
  rw [mixOf_val]
  simp only [D_val]
  rfl

theorem R_val : i.R = i.args.arr := by
  funext j
  obtain ⟨b, r, e, rfl⟩ : ∃ b r e, j = ix3 b r e := ⟨j 0, j 1, j 2, eq_ix3 j⟩
  unfold R
  rw [normOf_val]
  simp only [Z_val]
  rfl

end Ins

/-- The arguments in a memory. -/
def insOf (W : Valuation τ sig (Elt Ideal)) : Ins where
  h := W (Proc.devRef .tc main_arg0)
  wu := W (Proc.devRef .tc main_arg1)
  cw := W (Proc.devRef .tc main_arg2)
  cb := W (Proc.devRef .tc main_arg3)
  wd := W (Proc.devRef .tc main_arg4)
  x := W (Proc.devRef .tc main_arg5)
  g := W (Proc.devRef .tc main_arg6)
  lg := W (Proc.devRef .tc main_arg7)
  lb := W (Proc.devRef .tc main_arg8)

variable (W : Valuation τ sig (Elt Ideal))

theorem v3 : res_main_v3 W = (insOf W).P := rfl
theorem v71 : res_main_v71 W = (insOf W).C := rfl
theorem v73 : res_main_v73 W = gatesOf (insOf W).C := rfl
theorem v93 : res_main_v93 W = (insOf W).Z := rfl
theorem v97 : res_main_v97 W = meanOf (insOf W).Z := rfl
theorem v99 : res_main_v99 W = centred (insOf W).Z := rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117) = (insOf (launchContents m c)).args.arr := by
  refine (θ_run defs _ _).mono (fun r h c => ?_) (Cert.Reference2Ideal.Value.run m ρ)
  refine (h c).1.trans ?_
  rw [v93, v97, v99]
  exact (insOf (launchContents m c)).R_val

end Cert.Ffn.Ref

end
-- ==== Proof.MixSpec.lean ====
/- The gated norm of the scan's outputs with the output projection, the residual, the layer norm and the modulation of the next part, over the extended
   reals, by coordinates. -/
module

public import proofs.«01_k».proof.Proof.FfSpec

@[expose] public section

set_option maxRecDepth 16384

noncomputable section

namespace Cert.Mix

open Idealize.ShloMosaic Idealize.ShloMosaic.TcCoe
open Cert.Ffn (mean norm mix)

/-- The arguments by coordinates. -/
structure Args where
  yf : Fin 4 → Fin 8192 → Fin 512 → EReal
  yb : Fin 4 → Fin 8192 → Fin 512 → EReal
  xs : Fin 4 → Fin 8192 → Fin 512 → EReal
  z : Fin 4 → Fin 8192 → Fin 512 → EReal
  fn : Fin 4 → Fin 8192 → Fin 256 → EReal
  pl : Fin 4 → Fin 8192 → Fin 256 → EReal
  x : Fin 4 → Fin 8192 → Fin 1024 → EReal
  d : Fin 8 → EReal
  nw : Fin 512 → EReal
  wo : Fin 1024 → Fin 1024 → EReal
  g : Fin 4 → Fin 1024 → EReal
  lg : Fin 1024 → EReal
  lb : Fin 1024 → EReal
  sh : Fin 4 → Fin 1024 → EReal
  sc : Fin 4 → Fin 1024 → EReal

/-- The arguments as arrays. -/
def argsOf (yf yb xs z : FVec Ideal ⟨3, ![4, 8192, 512]⟩ .bf16) (fn pl : FVec Ideal ⟨3, ![4, 8192, 256]⟩ .bf16) (x : FVec Ideal ⟨3, ![4, 8192, 1024]⟩ .f32)
    (d : FVec Ideal ⟨1, ![8]⟩ .f32) (nw : FVec Ideal ⟨1, ![512]⟩ .f32) (wo : FVec Ideal ⟨2, ![1024, 1024]⟩ .f32) (g : FVec Ideal ⟨3, ![4, 1, 1024]⟩ .f32)
    (lg lb : FVec Ideal ⟨1, ![1024]⟩ .f32) (sh sc : FVec Ideal ⟨3, ![4, 1, 1024]⟩ .f32) : Args where
  yf b r n := yf (ix3 b r n)
  yb b r n := yb (ix3 b r n)
  xs b r n := xs (ix3 b r n)
  z b r n := z (ix3 b r n)
  fn b r n := fn (ix3 b r n)
  pl b r n := pl (ix3 b r n)
  x b r e := x (ix3 b r e)
  d h := d (ix1 h)
  nw n := nw (ix1 n)
  wo k e := wo (ix2 k e)
  g b e := g (ix3 b 0 e)
  lg e := lg (ix1 e)
  lb e := lb (ix1 e)
  sh b e := sh (ix3 b 0 e)
  sc b e := sc (ix3 b 0 e)

/-- One channel of the two scans' sum with the skip, gated. -/
def gate (yf yb xs d z : EReal) : EReal := (yf + yb + xs * d) * (z * Ideal.logistic z)

/-- What a group of 256 channels is scaled by. -/
def scale (u : Fin 256 → EReal) : EReal := Ideal.rsqrt (Ideal.div (∑ k, u k * u k) (Ideal.ofBits .f32 0x43800000#32) + Ideal.ofBits .f32 0x358637BD#32)

namespace Args

variable (A : Args)

/-- The gated channels. -/
def u (b : Fin 4) (r : Fin 8192) (n : Fin 512) : EReal := gate (A.yf b r n) (A.yb b r n) (A.xs b r n) (A.d ⟨n.val / 64, by omega⟩) (A.z b r n)

/-- The gated norm, in two groups of channels. -/
def yn (b : Fin 4) (r : Fin 8192) (n : Fin 512) : EReal :=
  A.u b r n * scale (fun k => A.u b r ⟨256 * (n.val / 256) + k.val, by omega⟩) * A.nw n

/-- The output projection of the three mixers. -/
def y (b : Fin 4) (r : Fin 8192) (e : Fin 1024) : EReal :=
  ∑ k : Fin 512, A.yn b r k * A.wo ⟨k.val, by omega⟩ e + ∑ k : Fin 256, A.fn b r k * A.wo ⟨512 + k.val, by omega⟩ e
    + ∑ k : Fin 256, A.pl b r k * A.wo ⟨768 + k.val, by omega⟩ e

/-- The two results: the stream after the layer norm, and its modulated norm. -/
def x1 (b : Fin 4) (r : Fin 8192) (e : Fin 1024) : EReal := norm (fun k => mix (A.x b r k) (A.g b k) (A.y b r k)) (A.lg e) (A.lb e) e
def h2 (b : Fin 4) (r : Fin 8192) (e : Fin 1024) : EReal := norm (A.x1 b r) (1 + A.sc b e) (A.sh b e) e

def arrX : FVec Ideal ⟨3, ![4, 8192, 1024]⟩ .f32 := fun i => A.x1 (i 0) (i 1) (i 2)
def arrH : FVec Ideal ⟨3, ![4, 8192, 1024]⟩ .bf16 := fun i => A.h2 (i 0) (i 1) (i 2)

end Args

end Cert.Mix

end
-- ==== Proof.MixPoint.lean ====
/- What a grid point of the call computes from the blocks that it reads, by coordinates. -/
module

public import proofs.«01_k».proof.Proof.MixSpec
public import proofs.«01_k».proof.Proof.Gen.Kernel3Ideal.Frame
public import Idealize.ShloMosaic.Lib.Pipeline.ValueKit

@[expose] public section

set_option maxRecDepth 16384

noncomputable section

namespace Cert.Mix

open Idealize.ShloMosaic Idealize.ShloMosaic.TcCoe Cert.Kernel3Ideal Cert.Kernel3Ideal.Gen
open Cert.Ffn (mean norm mix)

abbrev V32 (s : Shape) := FVec Ideal s .f32
abbrev V16 (s : Shape) := FVec Ideal s .bf16

theorem gated_apply (yf yb xs : V16 S1x1024x512) (d : V32 S1x512) (z : V16 S1x1024x512) (r : Fin 1024) (n : Fin 512) :
    k0_pay2 (F := Ideal) yf yb xs d z (ix2 r n) = gate (yf (ix3 0 r n)) (yb (ix3 0 r n)) (xs (ix3 0 r n)) (d (ix2 0 n)) (z (ix3 0 r n)) := by
  pointwise [k0_pay2]
  rfl

theorem left_apply (yf yb xs : V16 S1x1024x512) (d : V32 S1x512) (z : V16 S1x1024x512) (r : Fin 1024) (n : Fin 256) :
    k0_pay3 (F := Ideal) yf yb xs d z (ix2 r n) = k0_pay2 (F := Ideal) yf yb xs d z (ix2 r ⟨n.val, by omega⟩)
      * scale (fun k => k0_pay2 (F := Ideal) yf yb xs d z (ix2 r ⟨k.val, by omega⟩)) := by
  unfold k0_pay3
  generalize k0_pay2 (F := Ideal) yf yb xs d z = u
  pointwise
  rfl

theorem right_apply (yf yb xs : V16 S1x1024x512) (d : V32 S1x512) (z : V16 S1x1024x512) (r : Fin 1024) (n : Fin 256) :
    k0_pay4 (F := Ideal) yf yb xs d z (ix2 r n) = k0_pay2 (F := Ideal) yf yb xs d z (ix2 r ⟨256 + n.val, by omega⟩) := by
  unfold k0_pay4
  generalize k0_pay2 (F := Ideal) yf yb xs d z = u
  pointwise

theorem square_apply (yf yb xs : V16 S1x1024x512) (d : V32 S1x512) (z : V16 S1x1024x512) (r : Fin 1024) :
    k0_pay5 (F := Ideal) yf yb xs d z (ix2 r 0) = Ideal.div (∑ k : Fin 256, k0_pay4 (F := Ideal) yf yb xs d z (ix2 r k) * k0_pay4 (F := Ideal) yf yb xs d z (ix2 r k)) (Ideal.ofBits .f32 0x43800000#32) := by
  unfold k0_pay5
  generalize k0_pay4 (F := Ideal) yf yb xs d z = u
  pointwise

/-- The output projection's four sums, from the norm's two halves and the other mixers. -/
def parts (a b : V32 S1024x256) (s : V32 S1024x1) (w : V32 S1x512) (w0 : V16 S512x1024) (f : V16 S1x1024x256) (w1 : V16 S256x1024) (p : V16 S1x1024x256)
    (w2 : V16 S256x1024) (r e : Fin 1024) : EReal :=
  ∑ k : Fin 256, a (ix2 r k) * w (ix2 0 ⟨k.val, by omega⟩) * w0 (ix2 ⟨k.val, by omega⟩ e)
    + ∑ k : Fin 256, b (ix2 r k) * Ideal.rsqrt (s (ix2 r 0) + Ideal.ofBits .f32 0x358637BD#32) * w (ix2 0 ⟨256 + k.val, by omega⟩) * w0 (ix2 ⟨256 + k.val, by omega⟩ e)
    + ∑ k : Fin 256, f (ix3 0 r k) * w1 (ix2 k e) + ∑ k : Fin 256, p (ix3 0 r k) * w2 (ix2 k e)

theorem mixed_apply (a b : V32 S1024x256) (s : V32 S1024x1) (w : V32 S1x512) (w0 : V16 S512x1024) (f : V16 S1x1024x256) (w1 : V16 S256x1024) (p : V16 S1x1024x256)
    (w2 : V16 S256x1024) (x : V32 S1x1024x1024) (g : V32 S1x1x1024) (r e : Fin 1024) :
    k0_pay6 (F := Ideal) a b s (Scalar.ofBits .f32 0x358637BD#32) w w0 f w1 p w2 x g (ix2 r e) = mix (x (ix3 0 r e)) (g (ix3 0 0 e)) (parts a b s w w0 f w1 p w2 r e) := by
  pointwise [k0_pay6]
  rfl

theorem norm_apply (v : V32 S1024x1024) (lg lb : V32 S1x1024) (r e : Fin 1024) :
    k0_pay7 (F := Ideal) v lg lb (ix2 r e) = norm (fun k => v (ix2 r k)) (lg (ix2 0 e)) (lb (ix2 0 e)) e := by
  pointwise [k0_pay7]
  rfl

theorem first_apply (v : V32 S1024x1024) (lg lb : V32 S1x1024) (r e : Fin 1024) :
    k0_pay8 (F := Ideal) v lg lb (ix3 0 r e) = k0_pay7 (F := Ideal) v lg lb (ix2 r e) := by
  unfold k0_pay8
  generalize k0_pay7 (F := Ideal) v lg lb = u
  pointwise

theorem second_apply (v : V32 S1024x1024) (lg lb : V32 S1x1024) (sc sh : V32 S1x1x1024) (r e : Fin 1024) :
    k0_pay1 (F := Ideal) (k0_pay9 (F := Ideal) v lg lb) sc sh (ix3 0 r e)
      = norm (fun k => k0_pay7 (F := Ideal) v lg lb (ix2 r k)) (1 + sc (ix3 0 0 e)) (sh (ix3 0 0 e)) e := by
  unfold k0_pay9
  generalize k0_pay7 (F := Ideal) v lg lb = u
  pointwise [k0_pay1]
  rfl

/-- The blocks of a grid point. -/
structure In where
  yf : V16 S1x1024x512
  yb : V16 S1x1024x512
  xs : V16 S1x1024x512
  z : V16 S1x1024x512
  fn : V16 S1x1024x256
  pl : V16 S1x1024x256
  x : V32 S1x1024x1024
  d : V32 S1x512
  nw : V32 S1x512
  wo : V16 S1024x1024
  g : V32 S1x1x1024
  lg : V32 S1x1024
  lb : V32 S1x1024
  sh : V32 S1x1x1024
  sc : V32 S1x1x1024

/-- The blocks that a point of batch `b` reads, as entries of the arguments: the point's first row is `o`. -/
structure Reads (I : In) (A : Args) (b : Fin 4) (o : ℕ) (ho : o + 1024 ≤ 8192) : Prop where
  yf : ∀ r n, I.yf (ix3 0 r n) = A.yf b ⟨o + r.val, by omega⟩ n
  yb : ∀ r n, I.yb (ix3 0 r n) = A.yb b ⟨o + r.val, by omega⟩ n
  xs : ∀ r n, I.xs (ix3 0 r n) = A.xs b ⟨o + r.val, by omega⟩ n
  z : ∀ r n, I.z (ix3 0 r n) = A.z b ⟨o + r.val, by omega⟩ n
  fn : ∀ r n, I.fn (ix3 0 r n) = A.fn b ⟨o + r.val, by omega⟩ n
  pl : ∀ r n, I.pl (ix3 0 r n) = A.pl b ⟨o + r.val, by omega⟩ n
  x : ∀ r n, I.x (ix3 0 r n) = A.x b ⟨o + r.val, by omega⟩ n
  d : ∀ n : Fin 512, I.d (ix2 0 n) = A.d ⟨n.val / 64, by omega⟩
  nw : ∀ n, I.nw (ix2 0 n) = A.nw n
  wo : ∀ k e, I.wo (ix2 k e) = A.wo k e
  g : ∀ e, I.g (ix3 0 0 e) = A.g b e
  lg : ∀ e, I.lg (ix2 0 e) = A.lg e
  lb : ∀ e, I.lb (ix2 0 e) = A.lb e
  sh : ∀ e, I.sh (ix3 0 0 e) = A.sh b e
  sc : ∀ e, I.sc (ix3 0 0 e) = A.sc b e

namespace In

variable (I : In)

/-- The three ranges of rows of the projection's weights. -/
def w0 : V16 S512x1024 := View.ld (Val := Elt Ideal) (e' := .bf16) I.wo r0_2
def w1 : V16 S256x1024 := View.ld (Val := Elt Ideal) (e' := .bf16) I.wo r0_4
def w2 : V16 S256x1024 := View.ld (Val := Elt Ideal) (e' := .bf16) I.wo r0_5

theorem w0_apply (k : Fin 512) (e : Fin 1024) : I.w0 (ix2 k e) = I.wo (ix2 ⟨k.val, by omega⟩ e) :=
  congrArg I.wo (by funext a; apply Fin.ext; refine (ValueKit.rect_emb_unit_val _ _ _ _ _).trans ?_; fin_cases a <;> simp [ix2])
theorem w1_apply (k : Fin 256) (e : Fin 1024) : I.w1 (ix2 k e) = I.wo (ix2 ⟨512 + k.val, by omega⟩ e) :=
  congrArg I.wo (by funext a; apply Fin.ext; refine (ValueKit.rect_emb_unit_val _ _ _ _ _).trans ?_; fin_cases a <;> simp [ix2])
theorem w2_apply (k : Fin 256) (e : Fin 1024) : I.w2 (ix2 k e) = I.wo (ix2 ⟨768 + k.val, by omega⟩ e) :=
  congrArg I.wo (by funext a; apply Fin.ext; refine (ValueKit.rect_emb_unit_val _ _ _ _ _).trans ?_; fin_cases a <;> simp [ix2])

/-- The scaled residual with the gated projection, and the two blocks that the point leaves. -/
def m : V32 S1024x1024 :=
  k0_pay6 (F := Ideal) (k0_pay3 (F := Ideal) I.yf I.yb I.xs I.d I.z) (k0_pay4 (F := Ideal) I.yf I.yb I.xs I.d I.z) (k0_pay5 (F := Ideal) I.yf I.yb I.xs I.d I.z)
    (Scalar.ofBits .f32 0x358637BD#32) I.nw I.w0 I.fn I.w1 I.pl I.w2 I.x I.g
def out1 : V32 S1x1024x1024 := k0_pay8 (F := Ideal) I.m I.lg I.lb
def out2 : V16 S1x1024x1024 := k0_pay1 (F := Ideal) (k0_pay9 (F := Ideal) I.m I.lg I.lb) I.sc I.sh

end In

theorem sum_halves (f : Fin 512 → EReal) : ∑ k, f k = ∑ k : Fin 256, f ⟨k.val, by omega⟩ + ∑ k : Fin 256, f ⟨256 + k.val, by omega⟩ :=
  Fin.sum_univ_add (a := 256) (b := 256) f

namespace Reads

variable {I : In} {A : Args} {b : Fin 4} {o : ℕ} {ho : o + 1024 ≤ 8192} (H : Reads I A b o ho)

include H

theorem u (r : Fin 1024) (n : Fin 512) : k0_pay2 (F := Ideal) I.yf I.yb I.xs I.d I.z (ix2 r n) = A.u b ⟨o + r.val, by omega⟩ n := by
  rw [gated_apply, H.yf, H.yb, H.xs, H.d, H.z]
  rfl

theorem left (r : Fin 1024) (k : Fin 256) :
    k0_pay3 (F := Ideal) I.yf I.yb I.xs I.d I.z (ix2 r k) * I.nw (ix2 0 ⟨k.val, by omega⟩) = A.yn b ⟨o + r.val, by omega⟩ ⟨k.val, by omega⟩ := by
  rw [left_apply, H.nw]
  simp only [H.u]
  unfold Args.yn
  have e : ∀ j : Fin 256, (⟨256 * (k.val / 256) + j.val, by omega⟩ : Fin 512) = ⟨j.val, by omega⟩ := fun j => Fin.ext (by dsimp only; omega)
  simp only [e]

theorem right (r : Fin 1024) (k : Fin 256) :
    k0_pay4 (F := Ideal) I.yf I.yb I.xs I.d I.z (ix2 r k) * Ideal.rsqrt (k0_pay5 (F := Ideal) I.yf I.yb I.xs I.d I.z (ix2 r 0) + Ideal.ofBits .f32 0x358637BD#32)
      * I.nw (ix2 0 ⟨256 + k.val, by omega⟩) = A.yn b ⟨o + r.val, by omega⟩ ⟨256 + k.val, by omega⟩ := by
  rw [square_apply, H.nw]
  simp only [right_apply, H.u]
  unfold Args.yn
  have e : ∀ j : Fin 256, (⟨256 * ((256 + k.val) / 256) + j.val, by omega⟩ : Fin 512) = ⟨256 + j.val, by omega⟩ := fun j => Fin.ext (by dsimp only; omega)
  simp only [e]
  rfl

theorem m (r e : Fin 1024) : I.m (ix2 r e) = mix (A.x b ⟨o + r.val, by omega⟩ e) (A.g b e) (A.y b ⟨o + r.val, by omega⟩ e) := by
  unfold In.m Args.y
  rw [mixed_apply, H.x, H.g, sum_halves]
  unfold parts
  simp only [H.left, H.right, H.fn, H.pl, In.w0_apply, In.w1_apply, In.w2_apply, H.wo]

theorem normed (r e : Fin 1024) : k0_pay7 (F := Ideal) I.m I.lg I.lb (ix2 r e) = A.x1 b ⟨o + r.val, by omega⟩ e := by
  rw [norm_apply, H.lg, H.lb]
  simp only [H.m]
  rfl

theorem out1 (r e : Fin 1024) : I.out1 (ix3 0 r e) = A.x1 b ⟨o + r.val, by omega⟩ e := by
  unfold In.out1
  rw [first_apply, H.normed]

theorem out2 (r e : Fin 1024) : I.out2 (ix3 0 r e) = A.h2 b ⟨o + r.val, by omega⟩ e := by
  unfold In.out2
  rw [second_apply, H.sc, H.sh]
  simp only [H.normed]
  rfl

end Reads

end Cert.Mix

end
-- ==== Proof.MixEntry.lean ====
/- What the windows of the call hold at a point of the grid, in terms of the arguments, and the two whole results. -/
module

public import proofs.«01_k».proof.Proof.MixPoint
public import proofs.«01_k».proof.Proof.Gen.Kernel3Ideal.Value
public import Idealize.ShloMosaic.Lib.Claim
public import Idealize.ShloMosaic.Lib.IdealHost
public import Idealize.ShloMosaic.Lib.Pointwise

@[expose] public section

set_option maxRecDepth 16384

noncomputable section

namespace Cert.Mix

open Idealize.ShloMosaic Idealize.ShloMosaic.TcCoe Cert.Kernel3Ideal Cert.Kernel3Ideal.Facts₀ Cert.Kernel3Ideal.Facts Cert.Kernel3Ideal.Gen Idealize.SL.Sem

variable (m : (ℓ : Loc nD τ sig) → Buf (Elt Ideal) ℓ) (c : Dev nD)

/-- The arguments as launched. -/
def kargs : Args := argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem entry_yf (b : Fin 4) (r : Fin 8192) (n : Fin 512) : (V m c main_arg0 : V16 S4x8192x512) (ix3 b r n) = (kargs m c).yf b r n := by
  rw [V_main_arg0]; rfl

theorem entry_yb (b : Fin 4) (r : Fin 8192) (n : Fin 512) : (V m c main_arg1 : V16 S4x8192x512) (ix3 b r n) = (kargs m c).yb b r n := by
  rw [V_main_arg1]; rfl

theorem entry_xs (b : Fin 4) (r : Fin 8192) (n : Fin 512) : (V m c main_arg2 : V16 S4x8192x512) (ix3 b r n) = (kargs m c).xs b r n := by
  rw [V_main_arg2]; rfl

theorem entry_z (b : Fin 4) (r : Fin 8192) (n : Fin 512) : (V m c main_arg3 : V16 S4x8192x512) (ix3 b r n) = (kargs m c).z b r n := by
  rw [V_main_arg3]; rfl

theorem entry_fn (b : Fin 4) (r : Fin 8192) (n : Fin 256) : (V m c main_arg4 : V16 S4x8192x256) (ix3 b r n) = (kargs m c).fn b r n := by
  rw [V_main_arg4]; rfl

theorem entry_pl (b : Fin 4) (r : Fin 8192) (n : Fin 256) : (V m c main_arg5 : V16 S4x8192x256) (ix3 b r n) = (kargs m c).pl b r n := by
  rw [V_main_arg5]; rfl

theorem entry_x (b : Fin 4) (r : Fin 8192) (n : Fin 1024) : (V m c main_arg6 : V32 S4x8192x1024) (ix3 b r n) = (kargs m c).x b r n := by
  rw [V_main_arg6]; rfl

theorem entry_g (b : Fin 4) (e : Fin 1024) : (V m c main_arg10 : V32 S4x1x1024) (ix3 b 0 e) = (kargs m c).g b e := by
  rw [V_main_arg10]; rfl

theorem entry_sh (b : Fin 4) (e : Fin 1024) : (V m c main_arg13 : V32 S4x1x1024) (ix3 b 0 e) = (kargs m c).sh b e := by
  rw [V_main_arg13]; rfl

theorem entry_sc (b : Fin 4) (e : Fin 1024) : (V m c main_arg14 : V32 S4x1x1024) (ix3 b 0 e) = (kargs m c).sc b e := by
  rw [V_main_arg14]; rfl

theorem entry_d (n : Fin 512) : (V m c main_v2 : V32 S1x512) (ix2 0 n) = (kargs m c).d ⟨n.val / 64, by omega⟩ := by
  simp only [V, hostOps0, List.flatten_cons, List.flatten_nil, List.append_nil, List.cons_append, List.nil_append]
  entry_read
  pointwise
  rfl

theorem entry_nw (n : Fin 512) : (V m c main_v3 : V32 S1x512) (ix2 0 n) = (kargs m c).nw n := by
  simp only [V, hostOps0, List.flatten_cons, List.flatten_nil, List.append_nil, List.cons_append, List.nil_append]
  entry_read
  pointwise
  rfl

theorem entry_wo (k e : Fin 1024) : (V m c main_v4 : V16 S1024x1024) (ix2 k e) = (kargs m c).wo k e := by
  simp only [V, hostOps0, List.flatten_cons, List.flatten_nil, List.append_nil, List.cons_append, List.nil_append]
  entry_read
  pointwise
  rfl

theorem entry_lg (e : Fin 1024) : (V m c main_v5 : V32 S1x1024) (ix2 0 e) = (kargs m c).lg e := by
  simp only [V, hostOps0, List.flatten_cons, List.flatten_nil, List.append_nil, List.cons_append, List.nil_append]
  entry_read
  pointwise
  rfl

theorem entry_lb (e : Fin 1024) : (V m c main_v6 : V32 S1x1024) (ix2 0 e) = (kargs m c).lb e := by
  simp only [V, hostOps0, List.flatten_cons, List.flatten_nil, List.append_nil, List.cons_append, List.nil_append]
  entry_read
  pointwise
  rfl

/-! ### The windows -/

theorem count_points (t : Fin cfg0.N) : t.val < 32 := lt_of_lt_of_eq t.isLt N_0

/-- The batch of a point. -/
def batch (t : Fin cfg0.N) : Fin 4 := ⟨t.val / 8, by have := count_points t; omega⟩

theorem idx0 : ∀ t : Fin cfg0.N, win0_0.index t = ![t.val / 8, t.val % 8, 0] := by decide +kernel
theorem idx1 : ∀ t : Fin cfg0.N, win0_1.index t = ![t.val / 8, t.val % 8, 0] := by decide +kernel
theorem idx2 : ∀ t : Fin cfg0.N, win0_2.index t = ![t.val / 8, t.val % 8, 0] := by decide +kernel
theorem idx3 : ∀ t : Fin cfg0.N, win0_3.index t = ![t.val / 8, t.val % 8, 0] := by decide +kernel
theorem idx4 : ∀ t : Fin cfg0.N, win0_4.index t = ![t.val / 8, t.val % 8, 0] := by decide +kernel
theorem idx5 : ∀ t : Fin cfg0.N, win0_5.index t = ![t.val / 8, t.val % 8, 0] := by decide +kernel
theorem idx6 : ∀ t : Fin cfg0.N, win0_6.index t = ![t.val / 8, t.val % 8, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![t.val / 8, 0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![t.val / 8, 0, 0] := by decide +kernel
theorem idx14 : ∀ t : Fin cfg0.N, win0_14.index t = ![t.val / 8, 0, 0] := by decide +kernel
theorem idx15 : ∀ t : Fin cfg0.N, win0_15.index t = ![t.val / 8, t.val % 8, 0] := by decide +kernel
theorem idx16 : ∀ t : Fin cfg0.N, win0_16.index t = ![t.val / 8, t.val % 8, 0] := by decide +kernel

theorem win_yf (t : Fin cfg0.N) (r : Fin 1024) (n : Fin 512) : (iblk m c 0 t : V16 S1x1024x512) (ix3 0 r n) = (kargs m c).yf (batch t) ⟨1024 * (t.val % 8) + r.val, by omega⟩ n := by
  rw [← entry_yf]
  blk_ext [iblk, idx0 t, batch] <;> simp <;> omega

theorem win_yb (t : Fin cfg0.N) (r : Fin 1024) (n : Fin 512) : (iblk m c 1 t : V16 S1x1024x512) (ix3 0 r n) = (kargs m c).yb (batch t) ⟨1024 * (t.val % 8) + r.val, by omega⟩ n := by
  rw [← entry_yb]
  blk_ext [iblk, idx1 t, batch] <;> simp <;> omega

theorem win_xs (t : Fin cfg0.N) (r : Fin 1024) (n : Fin 512) : (iblk m c 2 t : V16 S1x1024x512) (ix3 0 r n) = (kargs m c).xs (batch t) ⟨1024 * (t.val % 8) + r.val, by omega⟩ n := by
  rw [← entry_xs]
  blk_ext [iblk, idx2 t, batch] <;> simp <;> omega

theorem win_z (t : Fin cfg0.N) (r : Fin 1024) (n : Fin 512) : (iblk m c 3 t : V16 S1x1024x512) (ix3 0 r n) = (kargs m c).z (batch t) ⟨1024 * (t.val % 8) + r.val, by omega⟩ n := by
  rw [← entry_z]
  blk_ext [iblk, idx3 t, batch] <;> simp <;> omega

theorem win_fn (t : Fin cfg0.N) (r : Fin 1024) (n : Fin 256) : (iblk m c 4 t : V16 S1x1024x256) (ix3 0 r n) = (kargs m c).fn (batch t) ⟨1024 * (t.val % 8) + r.val, by omega⟩ n := by
  rw [← entry_fn]
  blk_ext [iblk, idx4 t, batch] <;> simp <;> omega

theorem win_pl (t : Fin cfg0.N) (r : Fin 1024) (n : Fin 256) : (iblk m c 5 t : V16 S1x1024x256) (ix3 0 r n) = (kargs m c).pl (batch t) ⟨1024 * (t.val % 8) + r.val, by omega⟩ n := by
  rw [← entry_pl]
  blk_ext [iblk, idx5 t, batch] <;> simp <;> omega

theorem win_x (t : Fin cfg0.N) (r : Fin 1024) (n : Fin 1024) : (iblk m c 6 t : V32 S1x1024x1024) (ix3 0 r n) = (kargs m c).x (batch t) ⟨1024 * (t.val % 8) + r.val, by omega⟩ n := by
  rw [← entry_x]
  blk_ext [iblk, idx6 t, batch] <;> simp <;> omega

theorem win_g (t : Fin cfg0.N) (e : Fin 1024) : (iblk m c 10 t : V32 S1x1x1024) (ix3 0 0 e) = (kargs m c).g (batch t) e := by
  rw [← entry_g]
  blk_ext [iblk, idx10 t, batch] <;> simp

theorem win_sh (t : Fin cfg0.N) (e : Fin 1024) : (iblk m c 13 t : V32 S1x1x1024) (ix3 0 0 e) = (kargs m c).sh (batch t) e := by
  rw [← entry_sh]
  blk_ext [iblk, idx13 t, batch] <;> simp

theorem win_sc (t : Fin cfg0.N) (e : Fin 1024) : (iblk m c 14 t : V32 S1x1x1024) (ix3 0 0 e) = (kargs m c).sc (batch t) e := by
  rw [← entry_sc]
  blk_ext [iblk, idx14 t, batch] <;> simp

theorem win_d (t : Fin cfg0.N) (n : Fin 512) : (iblk m c 7 t : V32 S1x512) (ix2 0 n) = (kargs m c).d ⟨n.val / 64, by omega⟩ := by
  rw [← entry_d]
  blk_ext [iblk, idx7 t] <;> simp

theorem win_nw (t : Fin cfg0.N) (n : Fin 512) : (iblk m c 8 t : V32 S1x512) (ix2 0 n) = (kargs m c).nw n := by
  rw [← entry_nw]
  blk_ext [iblk, idx8 t] <;> simp

theorem win_wo (t : Fin cfg0.N) (k e : Fin 1024) : (iblk m c 9 t : V16 S1024x1024) (ix2 k e) = (kargs m c).wo k e := by
  rw [← entry_wo]
  blk_ext [iblk, idx9 t] <;> simp

theorem win_lg (t : Fin cfg0.N) (e : Fin 1024) : (iblk m c 11 t : V32 S1x1024) (ix2 0 e) = (kargs m c).lg e := by
  rw [← entry_lg]
  blk_ext [iblk, idx11 t] <;> simp

theorem win_lb (t : Fin cfg0.N) (e : Fin 1024) : (iblk m c 12 t : V32 S1x1024) (ix2 0 e) = (kargs m c).lb e := by
  rw [← entry_lb]
  blk_ext [iblk, idx12 t] <;> simp

/-- The blocks that a point reads. -/
def ins (t : Fin cfg0.N) : In :=
  In.mk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

theorem reads (t : Fin cfg0.N) : Reads (ins m c t) (kargs m c) (batch t) (1024 * (t.val % 8)) (by omega) where
  yf := win_yf m c t
  yb := win_yb m c t
  xs := win_xs m c t
  z := win_z m c t
  fn := win_fn m c t
  pl := win_pl m c t
  x := win_x m c t
  d := win_d m c t
  nw := win_nw m c t
  wo := win_wo m c t
  g := win_g m c t
  lg := win_lg m c t
  lb := win_lb m c t
  sh := win_sh m c t
  sc := win_sc m c t

theorem mixed (x0 x1 x2 x3 : V16 S1x1024x512) (x4 x5 : V16 S1x1024x256) (x6 : V32 S1x1024x1024) (x7 x8 : V32 S1x512) (x9 : V16 S1024x1024)
    (x10 : V32 S1x1x1024) (x11 x12 : V32 S1x1024) (x13 x14 : V32 S1x1x1024) :
    k0_pay10 (F := Ideal) x0 x1 x2 x3 x4 x5 x6 x7 x8 x9 x10 x11 x12 x13 x14 = (In.mk x0 x1 x2 x3 x4 x5 x6 x7 x8 x9 x10 x11 x12 x13 x14).m := by
  have l0 : ∀ X : V16 S1x1024x512, View.ld (Val := Elt Ideal) (e' := .bf16) X r0_0 = X := fun X => View.ld_unit_lit (Val := Elt Ideal) (e := .bf16) (S := S1x1024x512) (off := ![0, 0, 0]) _ X (by decide)
  have l1 : ∀ X : V32 S1x512, View.ld (Val := Elt Ideal) (e' := .f32) X r0_1 = X := fun X => View.ld_unit_lit (Val := Elt Ideal) (e := .f32) (S := S1x512) (off := ![0, 0]) _ X (by decide)
  have l3 : ∀ X : V16 S1x1024x256, View.ld (Val := Elt Ideal) (e' := .bf16) X r0_3 = X := fun X => View.ld_unit_lit (Val := Elt Ideal) (e := .bf16) (S := S1x1024x256) (off := ![0, 0, 0]) _ X (by decide)
  have l6 : ∀ X : V32 S1x1024x1024, View.ld (Val := Elt Ideal) (e' := .f32) X r0_6 = X := fun X => View.ld_unit_lit (Val := Elt Ideal) (e := .f32) (S := S1x1024x1024) (off := ![0, 0, 0]) _ X (by decide)
  have l7 : ∀ X : V32 S1x1x1024, View.ld (Val := Elt Ideal) (e' := .f32) X r0_7 = X := fun X => View.ld_unit_lit (Val := Elt Ideal) (e := .f32) (S := S1x1x1024) (off := ![0, 0, 0]) _ X (by decide)
  unfold k0_pay10 In.m
  rw [l0, l0, l0, l0, l1, l1, l3, l3, l6, l7]
  rfl

theorem stored1 (w : V32 S1x1024x1024) : View.canon (Val := Elt Ideal) (e := .f32) [⟨r0_6, w⟩] = w :=
  View.canon_cons_unit_lit (Val := Elt Ideal) (e := .f32) (S := S1x1024x1024) (off := ![0, 0, 0]) _ w [] (by decide)

theorem stored2 (w : V16 S1x1024x1024) : View.canon (Val := Elt Ideal) (e := .bf16) [⟨r0_6, w⟩] = w :=
  View.canon_cons_unit_lit (Val := Elt Ideal) (e := .bf16) (S := S1x1024x1024) (off := ![0, 0, 0]) _ w [] (by decide)

theorem first (x0 x1 x2 x3 : V16 S1x1024x512) (x4 x5 : V16 S1x1024x256) (x6 : V32 S1x1024x1024) (x7 x8 : V32 S1x512) (x9 : V16 S1024x1024)
    (x10 : V32 S1x1x1024) (x11 x12 : V32 S1x1024) (x13 x14 : V32 S1x1x1024) :
    out0_15 (F := Ideal) x0 x1 x2 x3 x4 x5 x6 x7 x8 x9 x10 x11 x12 x13 x14 = (In.mk x0 x1 x2 x3 x4 x5 x6 x7 x8 x9 x10 x11 x12 x13 x14).out1 := by
  have l8 : ∀ X : V32 S1x1024, View.ld (Val := Elt Ideal) (e' := .f32) X r0_8 = X := fun X => View.ld_unit_lit (Val := Elt Ideal) (e := .f32) (S := S1x1024) (off := ![0, 0]) _ X (by decide)
  refine (stored1 _).trans ?_
  rw [mixed, l8, l8]
  rfl

theorem second (x0 x1 x2 x3 : V16 S1x1024x512) (x4 x5 : V16 S1x1024x256) (x6 : V32 S1x1024x1024) (x7 x8 : V32 S1x512) (x9 : V16 S1024x1024)
    (x10 : V32 S1x1x1024) (x11 x12 : V32 S1x1024) (x13 x14 : V32 S1x1x1024) :
    out0_16 (F := Ideal) x0 x1 x2 x3 x4 x5 x6 x7 x8 x9 x10 x11 x12 x13 x14 = (In.mk x0 x1 x2 x3 x4 x5 x6 x7 x8 x9 x10 x11 x12 x13 x14).out2 := by
  have l8 : ∀ X : V32 S1x1024, View.ld (Val := Elt Ideal) (e' := .f32) X r0_8 = X := fun X => View.ld_unit_lit (Val := Elt Ideal) (e := .f32) (S := S1x1024) (off := ![0, 0]) _ X (by decide)
  have l7 : ∀ X : V32 S1x1x1024, View.ld (Val := Elt Ideal) (e' := .f32) X r0_7 = X := fun X => View.ld_unit_lit (Val := Elt Ideal) (e := .f32) (S := S1x1x1024) (off := ![0, 0, 0]) _ X (by decide)
  refine (stored2 _).trans ?_
  rw [mixed, l8, l8, l7, l7]
  rfl

theorem at15 (f : V32 S4x8192x1024) (t : Fin cfg0.N) (r e : Fin 1024) :
    f (((win0 15).blk t).view.emb (ix3 0 r e)) = f (ix3 (batch t) ⟨1024 * (t.val % 8) + r.val, by omega⟩ e) := by
  blk_ext [idx15 t, batch] <;> simp <;> omega

theorem at16 (f : V16 S4x8192x1024) (t : Fin cfg0.N) (r e : Fin 1024) :
    f (((win0 16).blk t).view.emb (ix3 0 r e)) = f (ix3 (batch t) ⟨1024 * (t.val % 8) + r.val, by omega⟩ e) := by
  blk_ext [idx16 t, batch] <;> simp <;> omega

/-- The call's two results. -/
theorem array15 : (dats m 0 c).arrAt 15 cfg0.N = (kargs m c).arrX := by
  refine (dats m 0 c).arrAt_eq_of_covers 15 _ (by decide +kernel) fun t hf y => ?_
  blk_simp
  rw [after0_15]
  idx_vars y
  obtain rfl : y0 = 0 := Subsingleton.elim _ _
  rw [first]
  exact ((reads m c t).out1 y1 y2).trans (at15 (kargs m c).arrX t y1 y2).symm

theorem array16 : (dats m 0 c).arrAt 16 cfg0.N = (kargs m c).arrH := by
  refine (dats m 0 c).arrAt_eq_of_covers 16 _ (by decide +kernel) fun t hf y => ?_
  blk_simp
  rw [after0_16]
  idx_vars y
  obtain rfl : y0 = 0 := Subsingleton.elim _ _
  rw [second]
  exact ((reads m c t).out2 y1 y2).trans (at16 (kargs m c).arrH t y1 y2).symm

end Cert.Mix

end
-- ==== Proof.MixRef.lean ====
/- The plain program of the gated norm, the projection, the layer norm and the modulation: its operations and its two results by coordinates. -/
module

public import proofs.«01_k».proof.Proof.MixSpec
public import proofs.«01_k».proof.Proof.Gen.Reference3Ideal.Run
public import Idealize.ShloMosaic.Lib.Pointwise
public import Idealize.ShloMosaic.Lib.IdealHost
public import Idealize.ShloMosaic.Lib.Claim

@[expose] public section

set_option maxRecDepth 16384

noncomputable section

namespace Cert.Mix.Ref

open Idealize.ShloMosaic Idealize.ShloMosaic.TcCoe Cert.Reference3Ideal Cert.Reference3Ideal.Gen Cert.Reference3Ideal.Value Idealize.SL.Sem Idealize.ShloMosaic.StableHlo
open Cert.Ffn (mean norm mix)

abbrev V32 (s : Shape) := FVec Ideal s .f32
abbrev V16 (s : Shape) := FVec Ideal s .bf16

/-- The gated channels, in groups. -/
def gatedOf (yf yb xs z : V16 S4x8192x512) (d : V32 S8) : V32 S4x8192x2x256 :=
  shapeCast _ (mulf (shapeCast _ (addf (addf (shapeCast _ (extf .f32 yf bitsLt_bf16_f32) shapeCasts_S4x8192x512_S4x8192x8x64) (shapeCast _ (extf .f32 yb bitsLt_bf16_f32) shapeCasts_S4x8192x512_S4x8192x8x64)) (mulf (shapeCast _ (extf .f32 xs bitsLt_bf16_f32) shapeCasts_S4x8192x512_S4x8192x8x64) (broadcastInDim S4x8192x8x64 ![0, 1, 2, 3] bcast_S1x1x8x1_S4x8192x8x64_0_1_2_3 (broadcastInDim S1x1x8x1 ![2, 3] bcast_S8x1_S1x1x8x1_2_3 (broadcastInDim S8x1 ![0] bcast_S8_S8x1_0 d))))) shapeCasts_S4x8192x8x64_S4x8192x512) (mulf (extf .f32 z bitsLt_bf16_f32) (Host.divf (broadcastInDim S4x8192x512 ![] bcast_S_S4x8192x512 (constant S_ .f32 0x3F800000#32)) (addf (broadcastInDim S4x8192x512 ![] bcast_S_S4x8192x512 (constant S_ .f32 0x3F800000#32)) (Host.exp (Host.negf (extf .f32 z bitsLt_bf16_f32))))))) shapeCasts_S4x8192x512_S4x8192x2x256

theorem gatedOf_val (yf yb xs z : V16 S4x8192x512) (d : V32 S8) (b : Fin 4) (r : Fin 8192) (s : Fin 2) (k : Fin 256) :
    gatedOf yf yb xs z d (ix4 b r s k) = gate (yf (ix3 b r ⟨256 * s.val + k.val, by omega⟩)) (yb (ix3 b r ⟨256 * s.val + k.val, by omega⟩))
      (xs (ix3 b r ⟨256 * s.val + k.val, by omega⟩)) (d (ix1 ⟨(256 * s.val + k.val) / 64, by omega⟩)) (z (ix3 b r ⟨256 * s.val + k.val, by omega⟩)) := by
  pointwise [gatedOf]
  simp only [Nat.div_add_mod', Nat.mul_comm s.val 256]
  rfl

/-- The norm of the groups. -/
def normedOf (U : V32 S4x8192x2x256) (nw : V32 S512) : V32 S4x8192x512 :=
  mulf (shapeCast _ (mulf U (broadcastInDim S4x8192x2x256 ![0, 1, 2, 3] bcast_S4x8192x2x1_S4x8192x2x256_0_1_2_3 (Host.rsqrt (addf (Host.divf (broadcastInDim S4x8192x2x1 ![0, 1, 2] bcast_S4x8192x2_S4x8192x2x1_0_1_2 (Host.reduceAdd (mulf U U) (constant S_ .f32 0x00000000#32) reducesTo_S4x8192x2x256_S4x8192x2_d3 h_S_)) (broadcastInDim S4x8192x2x1 ![] bcast_S_S4x8192x2x1 (constant S_ .f32 0x43800000#32))) (broadcastInDim S4x8192x2x1 ![] bcast_S_S4x8192x2x1 (constant S_ .f32 0x358637BD#32)))))) shapeCasts_S4x8192x2x256_S4x8192x512) (broadcastInDim S4x8192x512 ![0, 1, 2] bcast_S1x1x512_S4x8192x512_0_1_2 (broadcastInDim S1x1x512 ![2] bcast_S512_S1x1x512_2 nw))

theorem normedOf_val (U : V32 S4x8192x2x256) (nw : V32 S512) (b : Fin 4) (r : Fin 8192) (n : Fin 512) :
    normedOf U nw (ix3 b r n) = U (ix4 b r ⟨n.val / 256, by omega⟩ ⟨n.val % 256, by omega⟩) * scale (fun k => U (ix4 b r ⟨n.val / 256, by omega⟩ k)) * nw (ix1 n) := by
  pointwise [normedOf]
  rfl

/-- The three mixers side by side. -/
def sideOf (Y : V32 S4x8192x512) (fn pl : V16 S4x8192x256) : V32 S4x8192x1024 :=
  (concatenate S4x8192x1024 2 [⟨S4x8192x512, (Y : (⟨S4x8192x512, .f32⟩ : BufTy).Contents (Elt Ideal))⟩, ⟨S4x8192x256, ((extf .f32 fn bitsLt_bf16_f32) : (⟨S4x8192x256, .f32⟩ : BufTy).Contents (Elt Ideal))⟩, ⟨S4x8192x256, ((extf .f32 pl bitsLt_bf16_f32) : (⟨S4x8192x256, .f32⟩ : BufTy).Contents (Elt Ideal))⟩] concatenates_S4x8192x512_S4x8192x256_S4x8192x256_S4x8192x1024_d2 : (⟨S4x8192x1024, .f32⟩ : BufTy).Contents (Elt Ideal))

theorem sideOf_left (Y : V32 S4x8192x512) (fn pl : V16 S4x8192x256) (b : Fin 4) (r : Fin 8192) (k : Fin 512) :
    sideOf Y fn pl (ix3 b r ⟨k.val, by omega⟩) = Y (ix3 b r k) := by
  pointwise [sideOf]

theorem sideOf_middle (Y : V32 S4x8192x512) (fn pl : V16 S4x8192x256) (b : Fin 4) (r : Fin 8192) (k : Fin 256) :
    sideOf Y fn pl (ix3 b r ⟨512 + k.val, by omega⟩) = fn (ix3 b r k) := by
  pointwise [sideOf]

theorem sideOf_right (Y : V32 S4x8192x512) (fn pl : V16 S4x8192x256) (b : Fin 4) (r : Fin 8192) (k : Fin 256) :
    sideOf Y fn pl (ix3 b r ⟨768 + k.val, by omega⟩) = pl (ix3 b r k) := by
  pointwise [sideOf]
  rw [dif_neg (by omega), dif_neg (by omega)]
  have e : (⟨768 + k.val - 512 - 256, by omega⟩ : Fin 256) = k := Fin.ext (by dsimp only; omega)
  rw [e]

/-- The scaled residual with the gated projection. -/
def mixOf (x : V32 S4x8192x1024) (g : V32 S4x1x1024) (D : V32 S4x8192x1024) (wo : V32 S1024x1024) : V32 S4x8192x1024 :=
  addf (mulf (broadcastInDim S4x8192x1024 ![] bcast_S_S4x8192x1024 (constant S_ .f32 0x3FB504F3#32)) x) (mulf (broadcastInDim S4x8192x1024 ![0, 1, 2] bcast_S4x1x1024_S4x8192x1024_0_1_2 g) (Host.dotGeneral dot_S4x8192x1024_S1024x1024_S4x8192x1024_2_0_01_1_n_n none D wo))

theorem mixOf_val (x : V32 S4x8192x1024) (g : V32 S4x1x1024) (D : V32 S4x8192x1024) (wo : V32 S1024x1024) (b : Fin 4) (r : Fin 8192) (e : Fin 1024) :
    mixOf x g D wo (ix3 b r e) = mix (x (ix3 b r e)) (g (ix3 b 0 e)) (∑ j, D (ix3 b r j) * wo (ix2 j e)) := by
  pointwise [mixOf]
  rfl

/-- The mean of each row, as a column. -/
def meanOf (Z : V32 S4x8192x1024) : V32 S4x8192x1 :=
  Host.divf (broadcastInDim S4x8192x1 ![0, 1] bcast_S4x8192_S4x8192x1_0_1 (Host.reduceAdd Z (constant S_ .f32 0x00000000#32) reducesTo_S4x8192x1024_S4x8192_d2 h_S_)) (broadcastInDim S4x8192x1 ![] bcast_S_S4x8192x1 (constant S_ .f32 0x44800000#32))

theorem meanOf_val (Z : V32 S4x8192x1024) (b : Fin 4) (r : Fin 8192) : meanOf Z (ix3 b r 0) = mean fun k => Z (ix3 b r k) := by
  pointwise [meanOf]
  rfl

/-- The rows without their mean. -/
def centred (Z : V32 S4x8192x1024) : V32 S4x8192x1024 := subf Z (broadcastInDim S4x8192x1024 ![0, 1, 2] bcast_S4x8192x1_S4x8192x1024_0_1_2 (meanOf Z))

theorem centred_val (Z : V32 S4x8192x1024) (b : Fin 4) (r : Fin 8192) (e : Fin 1024) : centred Z (ix3 b r e) = Z (ix3 b r e) - mean fun k => Z (ix3 b r k) := by
  rw [← meanOf_val]
  pointwise [centred]

/-- The layer norm. -/
def normOf (Z : V32 S4x8192x1024) (lg lb : V32 S1024) : V32 S4x8192x1024 :=
  addf (mulf (mulf (centred Z) (broadcastInDim S4x8192x1024 ![0, 1, 2] bcast_S4x8192x1_S4x8192x1024_0_1_2 (Host.rsqrt (addf (meanOf (mulf (centred Z) (centred Z))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 lg))) (broadcastInDim S4x8192x1024 ![0, 1, 2] bcast_S1x1x1024_S4x8192x1024_0_1_2 (broadcastInDim S1x1x1024 ![2] bcast_S1024_S1x1x1024_2 lb))

theorem normOf_val (Z : V32 S4x8192x1024) (lg lb : V32 S1024) (b : Fin 4) (r : Fin 8192) (e : Fin 1024) :
    normOf Z lg lb (ix3 b r e) = norm (fun k => Z (ix3 b r k)) (lg (ix1 e)) (lb (ix1 e)) e := by
  have h : ∀ k, mulf (centred Z) (centred Z) (ix3 b r k) = (Z (ix3 b r k) - mean fun k => Z (ix3 b r k)) * (Z (ix3 b r k) - mean fun k => Z (ix3 b r k)) := fun k => by
    rw [← centred_val]
    rfl
  pointwise [normOf]
  rw [meanOf_val, centred_val]
  simp only [h]
  rfl

/-- The modulated layer norm. -/
def modOf (Z : V32 S4x8192x1024) (sc sh : V32 S4x1x1024) : V16 S4x8192x1024 :=
  truncf .bf16 (addf (mulf (mulf (centred Z) (broadcastInDim S4x8192x1024 ![0, 1, 2] bcast_S4x8192x1_S4x8192x1024_0_1_2 (Host.rsqrt (addf (meanOf (mulf (centred Z) (centred Z))) (broadcastInDim S4x8192x1 ![] bcast_S_S4x8192x1 (constant S_ .f32 0x358637BD#32)))))) (broadcastInDim S4x8192x1024 ![0, 1, 2] bcast_S4x1x1024_S4x8192x1024_0_1_2 (addf (broadcastInDim S4x1x1024 ![] bcast_S_S4x1x1024 (constant S_ .f32 0x3F800000#32)) sc))) (broadcastInDim S4x8192x1024 ![0, 1, 2] bcast_S4x1x1024_S4x8192x1024_0_1_2 sh)) bitsLt_bf16_f32

theorem modOf_val (Z : V32 S4x8192x1024) (sc sh : V32 S4x1x1024) (b : Fin 4) (r : Fin 8192) (e : Fin 1024) :
    modOf Z sc sh (ix3 b r e) = norm (fun k => Z (ix3 b r k)) (1 + sc (ix3 b 0 e)) (sh (ix3 b 0 e)) e := by
  have h : ∀ k, mulf (centred Z) (centred Z) (ix3 b r k) = (Z (ix3 b r k) - mean fun k => Z (ix3 b r k)) * (Z (ix3 b r k) - mean fun k => Z (ix3 b r k)) := fun k => by
    rw [← centred_val]
    rfl
  pointwise [modOf]
  rw [meanOf_val, centred_val]
  simp only [h]
  rfl

theorem sum_parts (f : Fin 1024 → EReal) : ∑ j, f j
    = ∑ k : Fin 512, f ⟨k.val, by omega⟩ + ∑ k : Fin 256, f ⟨512 + k.val, by omega⟩ + ∑ k : Fin 256, f ⟨768 + k.val, by omega⟩ := by
  refine (Fin.sum_univ_add (a := 768) (b := 256) f).trans ?_
  congr 1
  exact Fin.sum_univ_add (a := 512) (b := 256) fun i : Fin 768 => f (Fin.castAdd 256 i)

/-- The fifteen arguments. -/
structure Ins where
  yf : V16 S4x8192x512
  yb : V16 S4x8192x512
  xs : V16 S4x8192x512
  z : V16 S4x8192x512
  fn : V16 S4x8192x256
  pl : V16 S4x8192x256
  x : V32 S4x8192x1024
  d : V32 S8
  nw : V32 S512
  wo : V32 S1024x1024
  g : V32 S4x1x1024
  lg : V32 S1024
  lb : V32 S1024
  sh : V32 S4x1x1024
  sc : V32 S4x1x1024

namespace Ins

variable (i : Ins)

def args : Args := argsOf i.yf i.yb i.xs i.z i.fn i.pl i.x i.d i.nw i.wo i.g i.lg i.lb i.sh i.sc
def U : V32 S4x8192x2x256 := gatedOf i.yf i.yb i.xs i.z i.d
def Y : V32 S4x8192x512 := normedOf i.U i.nw
def S : V32 S4x8192x1024 := sideOf i.Y i.fn i.pl
def Z : V32 S4x8192x1024 := mixOf i.x i.g i.S i.wo
def X : V32 S4x8192x1024 := normOf i.Z i.lg i.lb
def H : V16 S4x8192x1024 := modOf i.X i.sc i.sh

theorem U_val (b : Fin 4) (r : Fin 8192) (s : Fin 2) (k : Fin 256) : i.U (ix4 b r s k) = i.args.u b r ⟨256 * s.val + k.val, by omega⟩ :=
  gatedOf_val _ _ _ _ _ b r s k

theorem Y_val (b : Fin 4) (r : Fin 8192) (n : Fin 512) : i.Y (ix3 b r n) = i.args.yn b r n := by
  unfold Y Args.yn
  rw [normedOf_val]
  simp only [U_val]
  have e : (⟨256 * (n.val / 256) + n.val % 256, by omega⟩ : Fin 512) = n := Fin.ext (by dsimp only; omega)
  rw [e]
  rfl

theorem Z_val (b : Fin 4) (r : Fin 8192) (e : Fin 1024) : i.Z (ix3 b r e) = mix (i.args.x b r e) (i.args.g b e) (i.args.y b r e) := by
  unfold Z Args.y S
  rw [mixOf_val, sum_parts]
  simp only [sideOf_left, sideOf_middle, sideOf_right, Y_val]
  rfl

theorem X_val (b : Fin 4) (r : Fin 8192) (e : Fin 1024) : i.X (ix3 b r e) = i.args.x1 b r e := by
  unfold X
  rw [normOf_val]
  simp only [Z_val]
  rfl

theorem X_arr : i.X = i.args.arrX := by
  funext j
  obtain ⟨b, r, e, rfl⟩ : ∃ b r e, j = ix3 b r e := ⟨j 0, j 1, j 2, eq_ix3 j⟩
  exact i.X_val b r e

theorem H_arr : i.H = i.args.arrH := by
  funext j
  obtain ⟨b, r, e, rfl⟩ : ∃ b r e, j = ix3 b r e := ⟨j 0, j 1, j 2, eq_ix3 j⟩
  unfold H
  rw [modOf_val]
  simp only [X_val]
  rfl

end Ins

/-- The arguments in a memory. -/
def insOf (W : Valuation τ sig (Elt Ideal)) : Ins where
  yf := W (Proc.devRef .tc main_arg0)
  yb := W (Proc.devRef .tc main_arg1)
  xs := W (Proc.devRef .tc main_arg2)
  z := W (Proc.devRef .tc main_arg3)
  fn := W (Proc.devRef .tc main_arg4)
  pl := W (Proc.devRef .tc main_arg5)
  x := W (Proc.devRef .tc main_arg6)
  d := W (Proc.devRef .tc main_arg7)
  nw := W (Proc.devRef .tc main_arg8)
  wo := W (Proc.devRef .tc main_arg9)
  g := W (Proc.devRef .tc main_arg10)
  lg := W (Proc.devRef .tc main_arg11)
  lb := W (Proc.devRef .tc main_arg12)
  sh := W (Proc.devRef .tc main_arg13)
  sc := W (Proc.devRef .tc main_arg14)

variable (W : Valuation τ sig (Elt Ideal))

theorem v16 : res_main_v16 W = (insOf W).U := rfl
theorem v39 : res_main_v39 W = (insOf W).Z := rfl
theorem v43 : res_main_v43 W = meanOf (insOf W).Z := rfl
theorem v45 : res_main_v45 W = centred (insOf W).Z := rfl
theorem v63 : res_main_v63 W = (insOf W).X := rfl
theorem v67 : res_main_v67 W = meanOf (insOf W).X := rfl
theorem v69 : res_main_v69 W = centred (insOf W).X := rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = (insOf (launchContents m c)).args.arrX
      ∧ r.2.mem ((c.tc : Thread nD τ).loc main_v88) = (insOf (launchContents m c)).args.arrH := by
  refine (θ_run defs _ _).mono (fun r h c => ⟨?_, ?_⟩) (Cert.Reference3Ideal.Value.run m ρ)
  · refine (h c).1.trans ?_
    rw [v63]
    exact (insOf (launchContents m c)).X_arr
  · refine (h c).2.1.trans ?_
    rw [v63, v67, v69]
    exact (insOf (launchContents m c)).H_arr

end Cert.Mix.Ref

end
-- ==== Proof.InpSpec.lean ====
/- The input projection over the extended reals, by coordinates: the modulated layer norm, the product, the depthwise convolution of three taps along
   the tokens with zeros before and after them, its gate, and the step sizes and the decays of the two scans. -/
module

public import proofs.«01_k».proof.Proof.FfSpec

@[expose] public section

set_option maxRecDepth 16384

noncomputable section

namespace Cert.Inp

open Idealize.ShloMosaic Idealize.ShloMosaic.TcCoe
open Cert.Ffn (mean norm)

/-- The arguments by coordinates. -/
structure Args where
  x : Fin 4 → Fin 8192 → Fin 1024 → EReal
  sh : Fin 4 → Fin 1024 → EReal
  sc : Fin 4 → Fin 1024 → EReal
  w : Fin 1024 → Fin 2064 → EReal
  cw : Fin 3 → Fin 1024 → EReal
  cb : Fin 1024 → EReal
  db : Fin 2 → Fin 8 → EReal
  al : Fin 2 → Fin 8 → EReal

/-- The arguments as arrays. -/
def argsOf (x : FVec Ideal ⟨3, ![4, 8192, 1024]⟩ .f32) (sh sc : FVec Ideal ⟨3, ![4, 1, 1024]⟩ .f32) (w : FVec Ideal ⟨2, ![1024, 2064]⟩ .f32)
    (cw : FVec Ideal ⟨2, ![3, 1024]⟩ .f32) (cb : FVec Ideal ⟨1, ![1024]⟩ .f32) (db al : FVec Ideal ⟨2, ![2, 8]⟩ .f32) : Args where
  x b r k := x (ix3 b r k)
  sh b k := sh (ix3 b 0 k)
  sc b k := sc (ix3 b 0 k)
  w k n := w (ix2 k n)
  cw t n := cw (ix2 t n)
  cb n := cb (ix1 n)
  db d l := db (ix2 d l)
  al d l := al (ix2 d l)

/-- The sigmoid-weighted value. -/
def silu (x : EReal) : EReal := x * Ideal.logistic x

/-- The softplus. -/
def soft (x : EReal) : EReal := max x 0 + Ideal.log (1 + Ideal.exp (-max x (-x)))

/-- A row's modulated layer norm. -/
def modulate (x sc sh : Fin 1024 → EReal) (k : Fin 1024) : EReal := norm x (1 + sc k) (sh k) k

namespace Args

variable (A : Args)

def h (b : Fin 4) (r : Fin 8192) : Fin 1024 → EReal := modulate (A.x b r) (A.sc b) (A.sh b)

/-- The projection. -/
def u (b : Fin 4) (r : Fin 8192) (n : Fin 2064) : EReal := ∑ k, A.h b r k * A.w k n

/-- The convolved channels with a row of zeros before the tokens and one after them. -/
def pad (b : Fin 4) (y : ℕ) (n : Fin 1024) : EReal :=
  if h : 1 ≤ y ∧ y - 1 < 8192 then A.u b ⟨y - 1, h.2⟩ ⟨512 + n.val, by omega⟩ else 0

def conv (b : Fin 4) (r : Fin 8192) (n : Fin 1024) : EReal :=
  A.pad b r.val n * A.cw 0 n + A.pad b (r.val + 1) n * A.cw 1 n + A.pad b (r.val + 2) n * A.cw 2 n + A.cb n

/-- The gated convolution. -/
def act (b : Fin 4) (r : Fin 8192) (n : Fin 1024) : EReal := silu (A.conv b r n)

/-- The step size of a direction's head. -/
def step (b : Fin 4) (d : Fin 2) (r : Fin 8192) (l : Fin 8) : EReal := soft (A.u b r ⟨1536 + (8 * d.val + l.val), by omega⟩ + A.db d l)

/-- The step sizes and the decays, in planes of 128 lanes of which eight are heads. -/
def dt (b : Fin 4) (d : Fin 2) (r : Fin 8192) (l : Fin 128) : EReal := if h : l.val < 8 then A.step b d r ⟨l.val, h⟩ else 0
def da (b : Fin 4) (d : Fin 2) (r : Fin 8192) (l : Fin 128) : EReal := if h : l.val < 8 then A.step b d r ⟨l.val, h⟩ * -Ideal.exp (A.al d ⟨l.val, h⟩) else 0

/-- The results as arrays. -/
def arrZ : FVec Ideal ⟨3, ![4, 8192, 512]⟩ .bf16 := fun i => A.u (i 0) (i 1) ⟨(i 2).val, lt_of_lt_of_le (i 2).isLt (by decide)⟩
def arrX : FVec Ideal ⟨3, ![4, 8192, 512]⟩ .bf16 := fun i => A.act (i 0) (i 1) ⟨(i 2).val, lt_of_lt_of_le (i 2).isLt (by decide)⟩
def arrB : FVec Ideal ⟨3, ![4, 8192, 512]⟩ .bf16 := fun i => A.act (i 0) (i 1) ⟨512 + (i 2).val, Nat.add_lt_add_left (show (i 2).val < 512 from (i 2).isLt) 512⟩
def arrT : FVec Ideal ⟨4, ![4, 2, 8192, 128]⟩ .f32 := fun i => A.dt (i 0) (i 1) (i 2) (i 3)
def arrA : FVec Ideal ⟨4, ![4, 2, 8192, 128]⟩ .f32 := fun i => A.da (i 0) (i 1) (i 2) (i 3)

end Args

end Cert.Inp

end
-- ==== Proof.InpPoint.lean ====
/- What a grid point of the input projection's call computes from the blocks that it reads, by coordinates. -/
module

public import proofs.«01_k».proof.Proof.InpSpec
public import proofs.«01_k».proof.Proof.FfConv
public import proofs.«01_k».proof.Proof.Gen.Kernel4Ideal.Frame
public import Idealize.ShloMosaic.Lib.Pipeline.ValueKit

@[expose] public section

set_option maxRecDepth 16384

noncomputable section

namespace Cert.Inp

open Idealize.ShloMosaic Idealize.ShloMosaic.TcCoe Cert.Kernel4Ideal Cert.Kernel4Ideal.Gen
open Cert.Ffn (mean norm sel_if sel_true sel_false)

abbrev V32 (s : Shape) := FVec Ideal s .f32
abbrev V16 (s : Shape) := FVec Ideal s .bf16

/-- The point's rows between its eight neighbours on either side. -/
def rows (xp : V32 S1x8x1024) (x : V32 S1x1024x1024) (xn : V32 S1x8x1024) : V32 S1040x1024 :=
  concatenate S1040x1024 0 [⟨S8x1024, shapeCast S8x1024 xp shapeCasts_S1x8x1024_S8x1024⟩, ⟨S1024x1024, shapeCast S1024x1024 x shapeCasts_S1x1024x1024_S1024x1024⟩, ⟨S8x1024, shapeCast S8x1024 xn shapeCasts_S1x8x1024_S8x1024⟩] concatenates_S8x1024_S1024x1024_S8x1024_S1040x1024_d0

theorem rows_apply (xp : V32 S1x8x1024) (x : V32 S1x1024x1024) (xn : V32 S1x8x1024) (q : Fin 1040) (k : Fin 1024) :
    rows xp x xn (ix2 q k) = if h : q.val < 8 then xp (ix3 0 ⟨q.val, h⟩ k) else if h' : q.val - 8 < 1024 then x (ix3 0 ⟨q.val - 8, h'⟩ k)
      else xn (ix3 0 ⟨q.val - 8 - 1024, by omega⟩ k) := by
  pointwise [rows]

/-- The rows without their mean. -/
def centred (z : V32 S1040x1024) : V32 S1040x1024 :=
  subf z (broadcastTo S1040x1024 (divf (shapeCast S1040x1 (multiReduction .add [1] S1040 z 0x00000000#32 reduces_S1040x1024_S1040 (.inl rfl) rfl) shapeCasts_S1040_S1040x1) (broadcast S1040x1 (Scalar.ofBits .f32 0x44800000#32))) broadcasts_S1040x1_S1040x1024)

/-- The modulated norm of the rows. -/
def modded (sh sc : V32 S1x1x1024) (z : V32 S1040x1024) : V16 S1040x1024 :=
  truncf .bf16 (addf (mulf (mulf (centred z) (broadcastTo S1040x1024 (rsqrt (addf (divf (shapeCast S1040x1 (multiReduction .add [1] S1040 (mulf (centred z) (centred z)) 0x00000000#32 reduces_S1040x1024_S1040 (.inl rfl) rfl) shapeCasts_S1040_S1040x1) (broadcast S1040x1 (Scalar.ofBits .f32 0x44800000#32))) (broadcast S1040x1 (Scalar.ofBits .f32 0x358637BD#32)))) broadcasts_S1040x1_S1040x1024))
    (broadcastTo S1040x1024 (addf (broadcast S1x1024 (Scalar.ofBits .f32 0x3F800000#32)) (shapeCast S1x1024 sc shapeCasts_S1x1x1024_S1x1024)) broadcasts_S1x1024_S1040x1024))
    (broadcastTo S1040x1024 (shapeCast S1x1024 sh shapeCasts_S1x1x1024_S1x1024) broadcasts_S1x1024_S1040x1024)) bitsLt_bf16_f32

theorem modded_apply (sh sc : V32 S1x1x1024) (z : V32 S1040x1024) (q : Fin 1040) (k : Fin 1024) :
    modded sh sc z (ix2 q k) = modulate (fun k => z (ix2 q k)) (fun k => sc (ix3 0 0 k)) (fun k => sh (ix3 0 0 k)) k := by
  pointwise [modded, centred]
  rfl

theorem pay2_eq (sh sc : V32 S1x1x1024) (xp : V32 S1x8x1024) (x : V32 S1x1024x1024) (xn : V32 S1x8x1024) :
    k0_pay2 (F := Ideal) sh sc xp x xn = modded sh sc (rows xp x xn) := rfl

theorem u_apply (h : V16 S1040x1024) (w : V16 S1024x2304) (q : Fin 1040) (n : Fin 2304) :
    k0_pay3 (F := Ideal) h w (ix2 q n) = ∑ k : Fin 1024, h (ix2 q k) * w (ix2 k n) := by
  pointwise [k0_pay3]

theorem inner_apply (h : V16 S1040x1024) (w : V16 S1024x2304) (r : Fin 1024) (n : Fin 2304) :
    k0_pay4 (F := Ideal) h w (ix2 r n) = k0_pay3 (F := Ideal) h w (ix2 ⟨8 + r.val, by omega⟩ n) := by
  unfold k0_pay4
  generalize k0_pay3 (F := Ideal) h w = u
  pointwise

theorem z_apply (h : V16 S1040x1024) (w : V16 S1024x2304) (r : Fin 1024) (n : Fin 512) :
    k0_pay7 (F := Ideal) h w (ix3 0 r n) = k0_pay4 (F := Ideal) h w (ix2 r ⟨n.val, by omega⟩) := by
  unfold k0_pay7
  generalize k0_pay4 (F := Ideal) h w = u
  pointwise

theorem mid_apply (h : V16 S1040x1024) (w : V16 S1024x2304) (r n : Fin 1024) :
    k0_pay8 (F := Ideal) h w (ix2 r n) = k0_pay4 (F := Ideal) h w (ix2 r ⟨512 + n.val, by omega⟩) := by
  unfold k0_pay8
  generalize k0_pay4 (F := Ideal) h w = u
  pointwise

theorem before_apply (s : ℕ) (hs : s < 8) (h : V16 S1040x1024) (w : V16 S1024x2304) (q : Fin 8) (n : Fin 1536) :
    k0_pay5 (F := Ideal) (BitVec.ofNat 32 s) h w (ix2 q n) = if 0 < s then k0_pay3 (F := Ideal) h w (ix2 ⟨q.val, by omega⟩ ⟨512 + n.val, by omega⟩) else 0 := by
  unfold k0_pay5
  generalize k0_pay3 (F := Ideal) h w = u
  have e : (0#32).slt (BitVec.ofNat 32 s) = decide (0 < s) := by interval_cases s <;> rfl
  show Scalar.select (BitVec.ofBool ((0#32).slt (BitVec.ofNat 32 s))) (extractStridedSlice S8x1536 ![0, 512] u slices_S1040x2304_o0_512_S8x1536) (broadcast S8x1536 (Scalar.ofBits .f32 0x00000000#32)) (ix2 q n) = _
  rw [e]
  by_cases h : 0 < s
  · rw [if_pos h, sel_true (by simp [h])]
    pointwise
  · rw [if_neg h, sel_false (by simp [h])]
    pointwise

theorem after_apply (s : ℕ) (hs : s < 8) (h : V16 S1040x1024) (w : V16 S1024x2304) (q : Fin 8) (n : Fin 1536) :
    k0_pay6 (F := Ideal) (BitVec.ofNat 32 s) h w (ix2 q n) = if s < 7 then k0_pay3 (F := Ideal) h w (ix2 ⟨1032 + q.val, by omega⟩ ⟨512 + n.val, by omega⟩) else 0 := by
  unfold k0_pay6
  generalize k0_pay3 (F := Ideal) h w = u
  have e : (BitVec.ofNat 32 s).slt 7#32 = decide (s < 7) := by interval_cases s <;> rfl
  show Scalar.select (BitVec.ofBool ((BitVec.ofNat 32 s).slt 7#32)) (extractStridedSlice S8x1536 ![1032, 512] u slices_S1040x2304_o1032_512_S8x1536) (broadcast S8x1536 (Scalar.ofBits .f32 0x00000000#32)) (ix2 q n) = _
  rw [e]
  by_cases h : s < 7
  · rw [if_pos h, sel_true (by simp [h])]
    pointwise
  · rw [if_neg h, sel_false (by simp [h])]
    pointwise

theorem last_mask : ∀ r : Fin 1024, IntOp.cmpi .eq (BitVec.ofNat 32 r.val) 1023#32 = if r.val = 1023 then 1#1 else 0#1 := by decide +kernel
theorem first_mask : ∀ r : Fin 1024, IntOp.cmpi .eq (BitVec.ofNat 32 r.val) 0#32 = if r.val = 0 then 1#1 else 0#1 := by decide +kernel
theorem lane_mask : ∀ l : Fin 128, IntOp.cmpi .slt (BitVec.ofNat 32 l.val) 8#32 = if l.val < 8 then 1#1 else 0#1 := by decide +kernel

theorem next_apply (a : BitVec 32) (h : V16 S1040x1024) (w : V16 S1024x2304) (r n : Fin 1024) :
    k0_pay9 (F := Ideal) a h w (ix2 r n) = if r.val = 1023 then k0_pay6 (F := Ideal) a h w (ix2 0 ⟨n.val, by omega⟩)
      else k0_pay8 (F := Ideal) h w (ix2 ⟨(r.val + 1) % 1024, by omega⟩ n) := by
  unfold k0_pay9
  generalize k0_pay6 (F := Ideal) a h w = p
  generalize k0_pay8 (F := Ideal) h w = u
  pointwise
  rw [last_mask, sel_if]
  split
  · rfl
  · rfl

theorem pair_apply (a : BitVec 32) (h : V16 S1040x1024) (w : V16 S1024x2304) (cw : V32 S3x1024) (r n : Fin 1024) :
    k0_pay10 (F := Ideal) a h w cw (ix2 r n) = (if r.val = 0 then k0_pay5 (F := Ideal) a h w (ix2 7 ⟨n.val, by omega⟩)
      else k0_pay8 (F := Ideal) h w (ix2 ⟨(r.val + 1023) % 1024, by omega⟩ n)) * cw (ix2 0 n) + k0_pay8 (F := Ideal) h w (ix2 r n) * cw (ix2 1 n) := by
  unfold k0_pay10
  generalize k0_pay5 (F := Ideal) a h w = p
  generalize k0_pay8 (F := Ideal) h w = u
  pointwise
  rw [first_mask, sel_if]
  rfl

theorem act_apply (v70 v78 : V32 S1024x1024) (cw : V32 S3x1024) (cb : V32 S1x1024) (r n : Fin 1024) :
    k0_pay12 (F := Ideal) v70 v78 (k0_pay11 (F := Ideal) cw) cb (ix2 r n) = silu (v78 (ix2 r n) + v70 (ix2 r n) * cw (ix2 2 n) + cb (ix2 0 n)) := by
  pointwise [k0_pay12, k0_pay11]
  rfl

theorem xs_apply (v70 v78 : V32 S1024x1024) (v79 cb : V32 S1x1024) (r : Fin 1024) (n : Fin 512) :
    k0_pay13 (F := Ideal) v70 v78 v79 cb (ix3 0 r n) = k0_pay12 (F := Ideal) v70 v78 v79 cb (ix2 r ⟨n.val, by omega⟩) := by
  unfold k0_pay13
  generalize k0_pay12 (F := Ideal) v70 v78 v79 cb = u
  pointwise

theorem bc_apply (v70 v78 : V32 S1024x1024) (v79 cb : V32 S1x1024) (r : Fin 1024) (n : Fin 512) :
    k0_pay14 (F := Ideal) v70 v78 v79 cb (ix3 0 r n) = k0_pay12 (F := Ideal) v70 v78 v79 cb (ix2 r ⟨512 + n.val, by omega⟩) := by
  unfold k0_pay14
  generalize k0_pay12 (F := Ideal) v70 v78 v79 cb = u
  pointwise

theorem soft0_apply (u : V32 S1024x2304) (b : V32 S1x128) (r : Fin 1024) (l : Fin 128) :
    k0_pay15 (F := Ideal) u b (ix2 r l) = if l.val < 8 then soft (u (ix2 r ⟨2048 + l.val, by omega⟩) + b (ix2 0 l)) else 0 := by
  pointwise [k0_pay15]
  rw [lane_mask, sel_if, zero_sub]
  rfl

theorem soft1_apply (u : V32 S1024x2304) (b : V32 S1x128) (r : Fin 1024) (l : Fin 128) :
    k0_pay18 (F := Ideal) u (iota .tc S1x128 32 [1] iota_S1x128_d1_w32) b (ix2 r l) = if l.val < 8 then soft (u (ix2 r ⟨2176 + l.val, by omega⟩) + b (ix2 0 l)) else 0 := by
  pointwise [k0_pay18]
  rw [lane_mask, sel_if, zero_sub]
  rfl

theorem plane0_apply (v : V32 S1024x128) (r : Fin 1024) (l : Fin 128) : k0_pay16 (F := Ideal) v (ix4 0 0 r l) = v (ix2 r l) := by
  pointwise [k0_pay16]

theorem plane1_apply (u : V32 S1024x2304) (i : IVec S1x128 32) (b : V32 S1x128) (r : Fin 1024) (l : Fin 128) :
    k0_pay19 (F := Ideal) u i b (ix4 0 0 r l) = k0_pay18 (F := Ideal) u i b (ix2 r l) := by
  unfold k0_pay19
  generalize k0_pay18 (F := Ideal) u i b = v
  pointwise

theorem decay0_apply (v : V32 S1024x128) (a : V32 S1x128) (r : Fin 1024) (l : Fin 128) :
    k0_pay17 (F := Ideal) v a (ix4 0 0 r l) = v (ix2 r l) * -Ideal.exp (a (ix2 0 l)) := by
  pointwise [k0_pay17]
  rw [zero_sub]

theorem decay1_apply (v : V32 S1024x128) (a : V32 S1x128) (r : Fin 1024) (l : Fin 128) :
    k0_pay20 (F := Ideal) v a (ix4 0 0 r l) = v (ix2 r l) * -Ideal.exp (a (ix2 0 l)) := by
  pointwise [k0_pay20]
  rw [zero_sub]

end Cert.Inp

end
-- ==== Proof.InpBlock.lean ====
/- What a grid point of the input projection's call stores, in terms of the arguments. -/
module

public import proofs.«01_k».proof.Proof.InpPoint

@[expose] public section

set_option maxRecDepth 16384

noncomputable section

namespace Cert.Inp

open Idealize.ShloMosaic Idealize.ShloMosaic.TcCoe Cert.Kernel4Ideal Cert.Kernel4Ideal.Gen

/-- What a point computes with: its step along the tokens and the blocks that it reads, the rows of the two directions apart. -/
structure In where
  s : ℕ
  x : V32 S1x1024x1024
  xp : V32 S1x8x1024
  xn : V32 S1x8x1024
  sh : V32 S1x1x1024
  sc : V32 S1x1x1024
  w : V16 S1024x2304
  cw : V32 S3x1024
  cb : V32 S1x1024
  db0 : V32 S1x128
  db1 : V32 S1x128
  al0 : V32 S1x128
  al1 : V32 S1x128

namespace In

variable (I : In)

def h : V16 S1040x1024 := k0_pay2 (F := Ideal) I.sh I.sc I.xp I.x I.xn
def u : V32 S1024x2304 := k0_pay4 (F := Ideal) I.h I.w
def next : V32 S1024x1024 := k0_pay9 (F := Ideal) (BitVec.ofNat 32 I.s) I.h I.w
def pair : V32 S1024x1024 := k0_pay10 (F := Ideal) (BitVec.ofNat 32 I.s) I.h I.w I.cw
def outZ : V16 S1x1024x512 := k0_pay7 (F := Ideal) I.h I.w
def outX : V16 S1x1024x512 := k0_pay13 (F := Ideal) I.next I.pair (k0_pay11 (F := Ideal) I.cw) I.cb
def outB : V16 S1x1024x512 := k0_pay14 (F := Ideal) I.next I.pair (k0_pay11 (F := Ideal) I.cw) I.cb
def soft0 : V32 S1024x128 := k0_pay15 (F := Ideal) I.u I.db0
def soft1 : V32 S1024x128 := k0_pay18 (F := Ideal) I.u (iota .tc S1x128 32 [1] iota_S1x128_d1_w32) I.db1
def outT0 : V32 S1x1x1024x128 := k0_pay16 (F := Ideal) I.soft0
def outT1 : V32 S1x1x1024x128 := k0_pay19 (F := Ideal) I.u (iota .tc S1x128 32 [1] iota_S1x128_d1_w32) I.db1
def outA0 : V32 S1x1x1024x128 := k0_pay17 (F := Ideal) I.soft0 I.al0
def outA1 : V32 S1x1x1024x128 := k0_pay20 (F := Ideal) I.soft1 I.al1

end In

/-- The blocks hold what the arguments hold at the point's tokens. -/
structure Reads (I : In) (A : Args) (b : Fin 4) (hs : I.s < 8) : Prop where
  x (r k : Fin 1024) : I.x (ix3 0 r k) = A.x b ⟨1024 * I.s + r.val, by omega⟩ k
  xp (h : 0 < I.s) (q : Fin 8) (k : Fin 1024) : I.xp (ix3 0 q k) = A.x b ⟨1024 * I.s + q.val - 8, by omega⟩ k
  xn (h : I.s < 7) (q : Fin 8) (k : Fin 1024) : I.xn (ix3 0 q k) = A.x b ⟨1024 * I.s + 1024 + q.val, by omega⟩ k
  sh (k : Fin 1024) : I.sh (ix3 0 0 k) = A.sh b k
  sc (k : Fin 1024) : I.sc (ix3 0 0 k) = A.sc b k
  w (k : Fin 1024) (n : Fin 1536) : I.w (ix2 k ⟨n.val, by omega⟩) = A.w k ⟨n.val, by omega⟩
  w0 (k : Fin 1024) (l : Fin 8) : I.w (ix2 k ⟨2048 + l.val, by omega⟩) = A.w k ⟨1536 + l.val, by omega⟩
  w1 (k : Fin 1024) (l : Fin 8) : I.w (ix2 k ⟨2176 + l.val, by omega⟩) = A.w k ⟨1544 + l.val, by omega⟩
  cw (t : Fin 3) (n : Fin 1024) : I.cw (ix2 t n) = A.cw t n
  cb (n : Fin 1024) : I.cb (ix2 0 n) = A.cb n
  db0 (l : Fin 8) : I.db0 (ix2 0 ⟨l.val, by omega⟩) = A.db 0 l
  db1 (l : Fin 8) : I.db1 (ix2 0 ⟨l.val, by omega⟩) = A.db 1 l
  al0 (l : Fin 8) : I.al0 (ix2 0 ⟨l.val, by omega⟩) = A.al 0 l
  al1 (l : Fin 8) : I.al1 (ix2 0 ⟨l.val, by omega⟩) = A.al 1 l

namespace Reads

variable {I : In} {A : Args} {b : Fin 4} {hs : I.s < 8} (R : Reads I A b hs)

include R

theorem row (q : Fin 1040) (k : Fin 1024) (r : Fin 8192) (e : 1024 * I.s + q.val = r.val + 8) : rows I.xp I.x I.xn (ix2 q k) = A.x b r k := by
  rw [rows_apply]
  split
  · next h =>
    rw [R.xp (by omega)]
    congr 1
    exact Fin.ext (by dsimp only; omega)
  split
  · next h h' =>
    rw [R.x]
    congr 1
    exact Fin.ext (by dsimp only; omega)
  · next h h' =>
    rw [R.xn (by omega)]
    congr 1
    exact Fin.ext (by dsimp only; omega)

theorem h (q : Fin 1040) (k : Fin 1024) (r : Fin 8192) (e : 1024 * I.s + q.val = r.val + 8) : I.h (ix2 q k) = A.h b r k := by
  unfold In.h Args.h
  rw [pay2_eq, modded_apply]
  simp only [R.sh, R.sc, fun k => R.row q k r e]

theorem u3 (q : Fin 1040) (n : Fin 2304) (r : Fin 8192) (n' : Fin 2064) (e : 1024 * I.s + q.val = r.val + 8) (hw : ∀ k, I.w (ix2 k n) = A.w k n') :
    k0_pay3 (F := Ideal) I.h I.w (ix2 q n) = A.u b r n' := by
  rw [u_apply]
  exact Finset.sum_congr rfl fun k _ => by rw [R.h q k r e, hw]

theorem padded (q : Fin 1040) (n : Fin 1024) (y : ℕ) (e : 1024 * I.s + q.val = y + 7) (h1 : 1 ≤ y) (h2 : y - 1 < 8192) :
    k0_pay3 (F := Ideal) I.h I.w (ix2 q ⟨512 + n.val, by omega⟩) = A.pad b y n := by
  unfold Args.pad
  rw [dif_pos ⟨h1, h2⟩]
  exact R.u3 _ _ _ _ (by dsimp only; omega) fun k => R.w k ⟨512 + n.val, by omega⟩

theorem mid (r n : Fin 1024) : k0_pay8 (F := Ideal) I.h I.w (ix2 r n) = A.pad b (1024 * I.s + r.val + 1) n := by
  rw [mid_apply, inner_apply]
  exact R.padded ⟨8 + r.val, by omega⟩ n _ (by dsimp only; omega) (by omega) (by omega)

theorem next (r n : Fin 1024) : I.next (ix2 r n) = A.pad b (1024 * I.s + r.val + 2) n := by
  unfold In.next
  rw [next_apply]
  split
  · next h =>
    rw [after_apply _ hs]
    split
    · next h' => exact R.padded ⟨1032, by omega⟩ n _ (by dsimp only; omega) (by omega) (by omega)
    · next h' => unfold Args.pad; rw [dif_neg (by omega)]
  · next h =>
    rw [R.mid]
    congr 1
    dsimp only
    omega

theorem prev (r n : Fin 1024) : (if r.val = 0 then k0_pay5 (F := Ideal) (BitVec.ofNat 32 I.s) I.h I.w (ix2 7 ⟨n.val, by omega⟩)
      else k0_pay8 (F := Ideal) I.h I.w (ix2 ⟨(r.val + 1023) % 1024, by omega⟩ n)) = A.pad b (1024 * I.s + r.val) n := by
  split
  · next h =>
    rw [before_apply _ hs]
    split
    · next h' => exact R.padded ⟨7, by omega⟩ n _ (by dsimp only; omega) (by omega) (by omega)
    · next h' => unfold Args.pad; rw [dif_neg (by omega)]
  · next h =>
    rw [R.mid]
    congr 1
    dsimp only
    omega

theorem act (r n : Fin 1024) : k0_pay12 (F := Ideal) I.next I.pair (k0_pay11 (F := Ideal) I.cw) I.cb (ix2 r n) = A.act b ⟨1024 * I.s + r.val, by omega⟩ n := by
  rw [act_apply, R.next, R.cw, R.cb]
  unfold In.pair
  rw [pair_apply, R.prev, R.mid, R.cw, R.cw]
  rfl

theorem outZ (r : Fin 1024) (n : Fin 512) : I.outZ (ix3 0 r n) = A.arrZ (ix3 b ⟨1024 * I.s + r.val, by omega⟩ n) := by
  unfold In.outZ
  rw [z_apply, inner_apply]
  exact R.u3 _ _ _ _ (by show _ = 1024 * I.s + r.val + 8; dsimp only; omega) fun k => R.w k ⟨n.val, by omega⟩

theorem outX (r : Fin 1024) (n : Fin 512) : I.outX (ix3 0 r n) = A.arrX (ix3 b ⟨1024 * I.s + r.val, by omega⟩ n) := by
  unfold In.outX
  rw [xs_apply, R.act]
  rfl

theorem outB (r : Fin 1024) (n : Fin 512) : I.outB (ix3 0 r n) = A.arrB (ix3 b ⟨1024 * I.s + r.val, by omega⟩ n) := by
  unfold In.outB
  rw [bc_apply, R.act]
  rfl

theorem step0 (r : Fin 1024) (l : Fin 8) : soft (I.u (ix2 r ⟨2048 + l.val, by omega⟩) + I.db0 (ix2 0 ⟨l.val, by omega⟩)) = A.step b 0 ⟨1024 * I.s + r.val, by omega⟩ l := by
  unfold In.u Args.step
  rw [R.db0, inner_apply, R.u3 _ _ ⟨1024 * I.s + r.val, by omega⟩ ⟨1536 + l.val, by omega⟩ (by dsimp only; omega) fun k => R.w0 k l]
  congr 3
  exact Fin.ext (by simp)

theorem step1 (r : Fin 1024) (l : Fin 8) : soft (I.u (ix2 r ⟨2176 + l.val, by omega⟩) + I.db1 (ix2 0 ⟨l.val, by omega⟩)) = A.step b 1 ⟨1024 * I.s + r.val, by omega⟩ l := by
  unfold In.u Args.step
  rw [R.db1, inner_apply, R.u3 _ _ ⟨1024 * I.s + r.val, by omega⟩ ⟨1544 + l.val, by omega⟩ (by dsimp only; omega) fun k => R.w1 k l]
  congr 3
  exact Fin.ext (by simp; omega)

theorem soft0 (r : Fin 1024) (l : Fin 128) : I.soft0 (ix2 r l) = A.dt b 0 ⟨1024 * I.s + r.val, by omega⟩ l := by
  unfold In.soft0 Args.dt
  rw [soft0_apply]
  split
  · next h => exact R.step0 r ⟨l.val, h⟩
  · rfl

theorem soft1 (r : Fin 1024) (l : Fin 128) : I.soft1 (ix2 r l) = A.dt b 1 ⟨1024 * I.s + r.val, by omega⟩ l := by
  unfold In.soft1 Args.dt
  rw [soft1_apply]
  split
  · next h => exact R.step1 r ⟨l.val, h⟩
  · rfl

theorem outT0 (r : Fin 1024) (l : Fin 128) : I.outT0 (ix4 0 0 r l) = A.arrT (ix4 b 0 ⟨1024 * I.s + r.val, by omega⟩ l) := by
  unfold In.outT0
  rw [plane0_apply]
  exact R.soft0 r l

theorem outT1 (r : Fin 1024) (l : Fin 128) : I.outT1 (ix4 0 0 r l) = A.arrT (ix4 b 1 ⟨1024 * I.s + r.val, by omega⟩ l) := by
  unfold In.outT1
  rw [plane1_apply]
  exact R.soft1 r l

theorem outA0 (r : Fin 1024) (l : Fin 128) : I.outA0 (ix4 0 0 r l) = A.arrA (ix4 b 0 ⟨1024 * I.s + r.val, by omega⟩ l) := by
  unfold In.outA0
  rw [decay0_apply, R.soft0]
  show A.dt b 0 _ l * _ = A.da b 0 ⟨1024 * I.s + r.val, by omega⟩ l
  unfold Args.dt Args.da
  split
  · next h => rw [← R.al0]
  · exact zero_mul _

theorem outA1 (r : Fin 1024) (l : Fin 128) : I.outA1 (ix4 0 0 r l) = A.arrA (ix4 b 1 ⟨1024 * I.s + r.val, by omega⟩ l) := by
  unfold In.outA1
  rw [decay1_apply, R.soft1]
  show A.dt b 1 _ l * _ = A.da b 1 ⟨1024 * I.s + r.val, by omega⟩ l
  unfold Args.dt Args.da
  split
  · next h => rw [← R.al1]
  · exact zero_mul _

end Reads

end Cert.Inp

end
-- ==== Proof.InpHost.lean ====
/- What the input projection's call reads from memory, in terms of the arguments. -/
module

public import proofs.«01_k».proof.Proof.InpBlock
public import proofs.«01_k».proof.Proof.Gen.Kernel4Ideal.Value
public import Idealize.ShloMosaic.Lib.Claim
public import Idealize.ShloMosaic.Lib.IdealHost
public import Idealize.ShloMosaic.Lib.Pointwise

@[expose] public section

set_option maxRecDepth 16384

noncomputable section

namespace Cert.Inp

open Idealize.ShloMosaic Idealize.ShloMosaic.TcCoe Cert.Kernel4Ideal Cert.Kernel4Ideal.Gen Idealize.SL.Sem
open Cert.Ffn (box_idx)

variable (m : (ℓ : Loc nD τ sig) → Buf (Elt Ideal) ℓ) (c : Dev nD)

/-- The arguments as launched. -/
def kargs : Args := argsOf (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

theorem entry_x (b : Fin 4) (r : Fin 8192) (k : Fin 1024) : (V m c main_arg0 : V32 S4x8192x1024) (ix3 b r k) = (kargs m c).x b r k := by
  rw [V_main_arg0]; rfl

theorem entry_sh (b : Fin 4) (k : Fin 1024) : (V m c main_arg1 : V32 S4x1x1024) (ix3 b 0 k) = (kargs m c).sh b k := by
  rw [V_main_arg1]; rfl

theorem entry_sc (b : Fin 4) (k : Fin 1024) : (V m c main_arg2 : V32 S4x1x1024) (ix3 b 0 k) = (kargs m c).sc b k := by
  rw [V_main_arg2]; rfl

theorem entry_cw (t : Fin 3) (n : Fin 1024) : (V m c main_arg4 : V32 S3x1024) (ix2 t n) = (kargs m c).cw t n := by
  rw [V_main_arg4]; rfl

/-- The rows of the weight as the call takes them: its columns rearranged, with zeros between. -/
def catOf (w : V32 S1024x2064) : V16 S1024x2304 :=
  truncf .bf16 (concatenate S1024x2304 1 [⟨S1024x1536, extractStridedSlice S1024x1536 ![0, 0] w slices_S1024x2064_S1024x1536_0_0⟩, ⟨S1024x512, extractStridedSlice S1024x512 ![0, 1552] w slices_S1024x2064_S1024x512_0_1552⟩, ⟨S1024x8, extractStridedSlice S1024x8 ![0, 1536] w slices_S1024x2064_S1024x8_0_1536⟩,
    ⟨S1024x120, (broadcastInDim S1024x120 ![] bcast_S_S1024x120 (constant S_ .f32 0x00000000#32) : V32 S1024x120)⟩, ⟨S1024x8, extractStridedSlice S1024x8 ![0, 1544] w slices_S1024x2064_S1024x8_0_1544⟩, ⟨S1024x120, (broadcastInDim S1024x120 ![] bcast_S_S1024x120 (constant S_ .f32 0x00000000#32) : V32 S1024x120)⟩]
    concatenates_S1024x1536_S1024x512_S1024x8_S1024x120_S1024x8_S1024x120_S1024x2304_d1) bitsLt_bf16_f32

theorem entry_cat : (V m c main_v6 : V16 S1024x2304) = catOf (m ((c : Thread nD τ).loc main_arg3)) := rfl

theorem cat_low (w : V32 S1024x2064) (k : Fin 1024) (n : Fin 1536) : catOf w (ix2 k ⟨n.val, by omega⟩) = w (ix2 k ⟨n.val, by omega⟩) := by
  pointwise [catOf]

theorem cat_zero (w : V32 S1024x2064) (k : Fin 1024) (l : Fin 8) : catOf w (ix2 k ⟨2048 + l.val, by omega⟩) = w (ix2 k ⟨1536 + l.val, by omega⟩) := by
  pointwise [catOf]
  rw [dif_neg (by omega), dif_neg (by omega), dif_pos (by omega)]
  congr 2
  exact Fin.ext (by dsimp only; omega)

theorem cat_one (w : V32 S1024x2064) (k : Fin 1024) (l : Fin 8) : catOf w (ix2 k ⟨2176 + l.val, by omega⟩) = w (ix2 k ⟨1544 + l.val, by omega⟩) := by
  pointwise [catOf]
  rw [dif_neg (by omega), dif_neg (by omega), dif_neg (by omega), dif_neg (by omega), dif_pos (by omega)]
  congr 2
  exact Fin.ext (by dsimp only; omega)

theorem entry_w (k : Fin 1024) (n : Fin 1536) : (V m c main_v6 : V16 S1024x2304) (ix2 k ⟨n.val, by omega⟩) = (kargs m c).w k ⟨n.val, by omega⟩ := by
  rw [entry_cat, cat_low]
  rfl

theorem entry_w0 (k : Fin 1024) (l : Fin 8) : (V m c main_v6 : V16 S1024x2304) (ix2 k ⟨2048 + l.val, by omega⟩) = (kargs m c).w k ⟨1536 + l.val, by omega⟩ := by
  rw [entry_cat, cat_zero]
  rfl

theorem entry_w1 (k : Fin 1024) (l : Fin 8) : (V m c main_v6 : V16 S1024x2304) (ix2 k ⟨2176 + l.val, by omega⟩) = (kargs m c).w k ⟨1544 + l.val, by omega⟩ := by
  rw [entry_cat, cat_one]
  rfl

theorem entry_cb (n : Fin 1024) : (V m c main_v7 : V32 S1x1024) (ix2 0 n) = (kargs m c).cb n := by
  simp only [V, hostOps0, hostOps0_1, hostOps0_2, hostOps0_3, List.flatten_cons, List.flatten_nil, List.append_nil, List.cons_append, List.nil_append]
  entry_read
  pointwise
  rfl

theorem entry_db (d : Fin 2) (l : Fin 8) : (V m c main_v8 : V32 S2x128) (ix2 d ⟨l.val, by omega⟩) = (kargs m c).db d l := by
  simp only [V, hostOps0, hostOps0_1, hostOps0_2, hostOps0_3, List.flatten_cons, List.flatten_nil, List.append_nil, List.cons_append, List.nil_append]
  entry_read
  simp only [StableHlo.TRef.binary, StableHlo.TRef.nullary, StableHlo.TRef.ternary, StableHlo.TRef.unary, StableHlo.TRef.toBuf, StableHlo.TRef.ofBuf, cast_eq]
  pointwise
  rfl

theorem entry_al (d : Fin 2) (l : Fin 8) : (V m c main_v9 : V32 S2x128) (ix2 d ⟨l.val, by omega⟩) = (kargs m c).al d l := by
  simp only [V, hostOps0, hostOps0_1, hostOps0_2, hostOps0_3, List.flatten_cons, List.flatten_nil, List.append_nil, List.cons_append, List.nil_append]
  entry_read
  simp only [StableHlo.TRef.binary, StableHlo.TRef.nullary, StableHlo.TRef.ternary, StableHlo.TRef.unary, StableHlo.TRef.toBuf, StableHlo.TRef.ofBuf, cast_eq]
  pointwise
  rfl

end Cert.Inp

end
-- ==== Proof.InpEntry.lean ====
/- What the windows of the input projection's call hold at a point of the grid, in terms of the arguments, and the five whole results. -/
module

public import proofs.«01_k».proof.Proof.InpHost
public import proofs.«01_k».proof.Proof.Gen.Kernel4Ideal.Value
public import Idealize.ShloMosaic.Lib.Claim
public import Idealize.ShloMosaic.Lib.IdealHost
public import Idealize.ShloMosaic.Lib.Pointwise

@[expose] public section

set_option maxRecDepth 16384

noncomputable section

namespace Cert.Inp

open Idealize.ShloMosaic Idealize.ShloMosaic.TcCoe Cert.Kernel4Ideal Cert.Kernel4Ideal.Gen Idealize.SL.Sem
open Cert.Ffn (box_idx)

variable (m : (ℓ : Loc nD τ sig) → Buf (Elt Ideal) ℓ) (c : Dev nD)

/-! ### The windows -/

theorem count_points (t : Fin cfg0.N) : t.val < 32 := lt_of_lt_of_eq t.isLt N_0

/-- The batch of a point. -/
def batch (t : Fin cfg0.N) : Fin 4 := ⟨t.val / 8, by have := count_points t; omega⟩

theorem coord : ∀ t : Fin cfg0.N, (grid0.coords t 1).val = t.val % 8 := by decide +kernel

theorem idx0 : ∀ t : Fin cfg0.N, win0_0.index t = ![t.val / 8, t.val % 8, 0] := by decide +kernel
theorem idx1 : ∀ t : Fin cfg0.N, win0_1.index t = ![t.val / 8, 128 * (t.val % 8) - 1, 0] := by decide +kernel
theorem idx2 : ∀ t : Fin cfg0.N, win0_2.index t = ![t.val / 8, min (128 * (t.val % 8) + 128) 1023, 0] := by decide +kernel
theorem idx3 : ∀ t : Fin cfg0.N, win0_3.index t = ![t.val / 8, 0, 0] := by decide +kernel
theorem idx4 : ∀ t : Fin cfg0.N, win0_4.index t = ![t.val / 8, 0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx14 : ∀ t : Fin cfg0.N, win0_14.index t = ![t.val / 8, t.val % 8, 0] := by decide +kernel
theorem idx15 : ∀ t : Fin cfg0.N, win0_15.index t = ![t.val / 8, t.val % 8, 0] := by decide +kernel
theorem idx16 : ∀ t : Fin cfg0.N, win0_16.index t = ![t.val / 8, t.val % 8, 0] := by decide +kernel
theorem idx17 : ∀ t : Fin cfg0.N, win0_17.index t = ![t.val / 8, 0, t.val % 8, 0] := by decide +kernel
theorem idx18 : ∀ t : Fin cfg0.N, win0_18.index t = ![t.val / 8, 0, t.val % 8, 0] := by decide +kernel

theorem win_x (t : Fin cfg0.N) (r k : Fin 1024) : (iblk m c 0 t : V32 S1x1024x1024) (ix3 0 r k) = (kargs m c).x (batch t) ⟨1024 * (t.val % 8) + r.val, by omega⟩ k := by
  rw [← entry_x]
  blk_ext [iblk, idx0 t, batch] <;> simp <;> omega

theorem win_xp (t : Fin cfg0.N) (s : 0 < t.val % 8) (q : Fin 8) (k : Fin 1024) :
    (iblk m c 1 t : V32 S1x8x1024) (ix3 0 q k) = (kargs m c).x (batch t) ⟨1024 * (t.val % 8) + q.val - 8, by omega⟩ k := by
  rw [← entry_x]
  blk_ext [iblk, idx1 t, batch] <;> simp <;> omega

theorem win_xn (t : Fin cfg0.N) (s : t.val % 8 < 7) (q : Fin 8) (k : Fin 1024) :
    (iblk m c 2 t : V32 S1x8x1024) (ix3 0 q k) = (kargs m c).x (batch t) ⟨1024 * (t.val % 8) + 1024 + q.val, by omega⟩ k := by
  rw [← entry_x]
  blk_ext [iblk, idx2 t, batch] <;> simp <;> omega

theorem win_sh (t : Fin cfg0.N) (k : Fin 1024) : (iblk m c 3 t : V32 S1x1x1024) (ix3 0 0 k) = (kargs m c).sh (batch t) k := by
  rw [← entry_sh]
  blk_ext [iblk, idx3 t, batch] <;> simp

theorem win_sc (t : Fin cfg0.N) (k : Fin 1024) : (iblk m c 4 t : V32 S1x1x1024) (ix3 0 0 k) = (kargs m c).sc (batch t) k := by
  rw [← entry_sc]
  blk_ext [iblk, idx4 t, batch] <;> simp

theorem win_w (t : Fin cfg0.N) (k : Fin 1024) (n : Fin 1536) : (iblk m c 5 t : V16 S1024x2304) (ix2 k ⟨n.val, by omega⟩) = (kargs m c).w k ⟨n.val, by omega⟩ := by
  rw [← entry_w]
  blk_ext [iblk, idx5 t] <;> simp

theorem win_w0 (t : Fin cfg0.N) (k : Fin 1024) (l : Fin 8) : (iblk m c 5 t : V16 S1024x2304) (ix2 k ⟨2048 + l.val, by omega⟩) = (kargs m c).w k ⟨1536 + l.val, by omega⟩ := by
  rw [← entry_w0]
  blk_ext [iblk, idx5 t] <;> simp

theorem win_w1 (t : Fin cfg0.N) (k : Fin 1024) (l : Fin 8) : (iblk m c 5 t : V16 S1024x2304) (ix2 k ⟨2176 + l.val, by omega⟩) = (kargs m c).w k ⟨1544 + l.val, by omega⟩ := by
  rw [← entry_w1]
  blk_ext [iblk, idx5 t] <;> simp

theorem win_cw (t : Fin cfg0.N) (j : Fin 3) (n : Fin 1024) : (iblk m c 6 t : V32 S3x1024) (ix2 j n) = (kargs m c).cw j n := by
  rw [← entry_cw]
  blk_ext [iblk, idx6 t] <;> simp

theorem win_cb (t : Fin cfg0.N) (n : Fin 1024) : (iblk m c 7 t : V32 S1x1024) (ix2 0 n) = (kargs m c).cb n := by
  rw [← entry_cb]
  blk_ext [iblk, idx7 t] <;> simp

theorem win_db (t : Fin cfg0.N) (d : Fin 2) (l : Fin 8) : (iblk m c 8 t : V32 S2x128) (ix2 d ⟨l.val, by omega⟩) = (kargs m c).db d l := by
  rw [← entry_db]
  blk_ext [iblk, idx8 t] <;> simp

theorem win_al (t : Fin cfg0.N) (d : Fin 2) (l : Fin 8) : (iblk m c 9 t : V32 S2x128) (ix2 d ⟨l.val, by omega⟩) = (kargs m c).al d l := by
  rw [← entry_al]
  blk_ext [iblk, idx9 t] <;> simp

/-- A direction's row of the padded parameters. -/
def row0 (X : V32 S2x128) : V32 S1x128 := View.ld (Val := Elt Ideal) (e' := .f32) X r0_7
def row1 (X : V32 S2x128) : V32 S1x128 := View.ld (Val := Elt Ideal) (e' := .f32) X r0_9

theorem row0_apply (X : V32 S2x128) (l : Fin 128) : row0 X (ix2 0 l) = X (ix2 0 l) := by
  refine (congrArg X (box_idx 0 0 1 128 _ 0 l (by simp) (by omega))).trans (congrArg X ?_)
  congr 1 <;> apply Fin.ext <;> simp

theorem row1_apply (X : V32 S2x128) (l : Fin 128) : row1 X (ix2 0 l) = X (ix2 1 l) := by
  refine (congrArg X (box_idx 1 0 1 128 _ 0 l (by simp) (by omega))).trans (congrArg X ?_)
  congr 1 <;> apply Fin.ext <;> simp

/-- The blocks that a point reads. -/
def ins (t : Fin cfg0.N) : In :=
  In.mk (t.val % 8) (iblk m c 0 t) (iblk m c 1 t) (iblk m c 2 t) (iblk m c 3 t) (iblk m c 4 t) (iblk m c 5 t) (iblk m c 6 t) (iblk m c 7 t) (row0 (iblk m c 8 t)) (row1 (iblk m c 8 t)) (row0 (iblk m c 9 t)) (row1 (iblk m c 9 t))

theorem step_lt (t : Fin cfg0.N) : (ins m c t).s < 8 := Nat.mod_lt _ (by decide)

theorem win_db0 (t : Fin cfg0.N) (l : Fin 8) : row0 (iblk m c 8 t) (ix2 0 ⟨l.val, by omega⟩) = (kargs m c).db 0 l := by
  rw [row0_apply]; exact win_db m c t 0 l

theorem win_db1 (t : Fin cfg0.N) (l : Fin 8) : row1 (iblk m c 8 t) (ix2 0 ⟨l.val, by omega⟩) = (kargs m c).db 1 l := by
  rw [row1_apply]; exact win_db m c t 1 l

theorem win_al0 (t : Fin cfg0.N) (l : Fin 8) : row0 (iblk m c 9 t) (ix2 0 ⟨l.val, by omega⟩) = (kargs m c).al 0 l := by
  rw [row0_apply]; exact win_al m c t 0 l

theorem win_al1 (t : Fin cfg0.N) (l : Fin 8) : row1 (iblk m c 9 t) (ix2 0 ⟨l.val, by omega⟩) = (kargs m c).al 1 l := by
  rw [row1_apply]; exact win_al m c t 1 l

set_option maxHeartbeats 4000000 in
theorem reads (t : Fin cfg0.N) : Reads (ins m c t) (kargs m c) (batch t) (step_lt m c t) where
  x := win_x m c t
  xp := win_xp m c t
  xn := win_xn m c t
  sh := win_sh m c t
  sc := win_sc m c t
  w := win_w m c t
  w0 := win_w0 m c t
  w1 := win_w1 m c t
  cw := win_cw m c t
  cb := win_cb m c t
  db0 := win_db0 m c t
  db1 := win_db1 m c t
  al0 := win_al0 m c t
  al1 := win_al1 m c t

/-! ### The results -/

theorem stored (w : V16 S1x1024x512) : View.canon (Val := Elt Ideal) (e := .bf16) [⟨r0_4, w⟩] = w :=
  View.canon_cons_unit_lit (Val := Elt Ideal) (e := .bf16) (S := S1x1024x512) (off := ![0, 0, 0]) _ w [] (by decide)

theorem at_r8 (r : Fin 1024) (l : Fin 128) : r0_8.emb (ix4 0 0 r l) = (ix4 0 0 r l : S1x2x1024x128.Idx) := by
  refine funext fun a => Fin.ext ?_
  refine (ValueKit.rect_emb_unit_val _ _ _ _ _).trans ?_
  fin_cases a
  · rfl
  · rfl
  · exact Nat.zero_add _
  · exact Nat.zero_add _

theorem at_r10 (r : Fin 1024) (l : Fin 128) : r0_10.emb (ix4 0 0 r l) = (ix4 0 1 r l : S1x2x1024x128.Idx) := by
  refine funext fun a => Fin.ext ?_
  refine (ValueKit.rect_emb_unit_val _ _ _ _ _).trans ?_
  fin_cases a
  · rfl
  · rfl
  · exact Nat.zero_add _
  · exact Nat.zero_add _

theorem halves1 (w0 w1 : V32 S1x1x1024x128) (r : Fin 1024) (l : Fin 128) :
    View.canon (Val := Elt Ideal) (e := .f32) [⟨r0_10, w1⟩, ⟨r0_8, w0⟩] (ix4 0 1 r l) = w1 (ix4 0 0 r l) := by
  rw [← at_r10]
  exact View.canon_cons_emb _ _ _ _

theorem halves0 (w0 w1 : V32 S1x1x1024x128) (r : Fin 1024) (l : Fin 128) :
    View.canon (Val := Elt Ideal) (e := .f32) [⟨r0_10, w1⟩, ⟨r0_8, w0⟩] (ix4 0 0 r l) = w0 (ix4 0 0 r l) := by
  refine (View.canon_cons_of_not_mem _ _ fun hm => ?_).trans ?_
  · obtain ⟨x, hx⟩ := LoadRect.exists_idx_of_mem _ hm
    have h1 := congrArg Fin.val (congrFun hx 1)
    have h2 : 1 + (x 1).val = 0 := (ValueKit.rect_emb_unit_val (s := S1x2x1024x128) ![0, 1, 0, 0] S1x1x1024x128.size (by decide) x 1).symm.trans h1
    omega
  · have h := View.canon_cons_emb (Val := Elt Ideal) (e := .f32) r0_8 w0 [] (ix4 0 0 r l)
    rw [at_r8] at h
    exact h

theorem l0 (X : V32 S1x1x1024) : View.ld (Val := Elt Ideal) (e' := .f32) X r0_0 = X := View.ld_unit_lit (Val := Elt Ideal) (e := .f32) (S := S1x1x1024) (off := ![0, 0, 0]) _ X (by decide)
theorem l1 (X : V32 S1x8x1024) : View.ld (Val := Elt Ideal) (e' := .f32) X r0_1 = X := View.ld_unit_lit (Val := Elt Ideal) (e := .f32) (S := S1x8x1024) (off := ![0, 0, 0]) _ X (by decide)
theorem l2 (X : V32 S1x1024x1024) : View.ld (Val := Elt Ideal) (e' := .f32) X r0_2 = X := View.ld_unit_lit (Val := Elt Ideal) (e := .f32) (S := S1x1024x1024) (off := ![0, 0, 0]) _ X (by decide)
theorem l3 (X : V16 S1024x2304) : View.ld (Val := Elt Ideal) (e' := .bf16) X r0_3 = X := View.ld_unit_lit (Val := Elt Ideal) (e := .bf16) (S := S1024x2304) (off := ![0, 0]) _ X (by decide)
theorem l5 (X : V32 S3x1024) : View.ld (Val := Elt Ideal) (e' := .f32) X r0_5 = X := View.ld_unit_lit (Val := Elt Ideal) (e := .f32) (S := S3x1024) (off := ![0, 0]) _ X (by decide)
theorem l6 (X : V32 S1x1024) : View.ld (Val := Elt Ideal) (e' := .f32) X r0_6 = X := View.ld_unit_lit (Val := Elt Ideal) (e := .f32) (S := S1x1024) (off := ![0, 0]) _ X (by decide)

theorem p27 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) : k0_pay27 (F := Ideal) i x0 x1 x2 x3 x4 x5 x6 x7 x8 x9 x10 x11 x12 x13 = (In.mk (i 1).val x0 x1 x2 x3 x4 x5 x6 x7 (row0 x8) (row1 x8) (row0 x9) (row1 x9)).h := by
  unfold k0_pay27
  rw [l0, l0, l1, l2, l1]
  rfl

theorem p28 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) : k0_pay28 (F := Ideal) i x0 x1 x2 x3 x4 x5 x6 x7 x8 x9 x10 x11 x12 x13 = (In.mk (i 1).val x0 x1 x2 x3 x4 x5 x6 x7 (row0 x8) (row1 x8) (row0 x9) (row1 x9)).u := by
  unfold k0_pay28
  rw [p27, l3]
  rfl

theorem p31 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) : k0_pay31 (F := Ideal) i x0 x1 x2 x3 x4 x5 x6 x7 x8 x9 x10 x11 x12 x13 = (In.mk (i 1).val x0 x1 x2 x3 x4 x5 x6 x7 (row0 x8) (row1 x8) (row0 x9) (row1 x9)).next := by
  unfold k0_pay31
  rw [p27, l3]
  rfl

theorem p32 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) : k0_pay32 (F := Ideal) i x0 x1 x2 x3 x4 x5 x6 x7 x8 x9 x10 x11 x12 x13 = (In.mk (i 1).val x0 x1 x2 x3 x4 x5 x6 x7 (row0 x8) (row1 x8) (row0 x9) (row1 x9)).pair := by
  unfold k0_pay32
  rw [p27, l3, l5]
  rfl

theorem p35 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) : k0_pay35 (F := Ideal) i x0 x1 x2 x3 x4 x5 x6 x7 x8 x9 x10 x11 x12 x13 = (In.mk (i 1).val x0 x1 x2 x3 x4 x5 x6 x7 (row0 x8) (row1 x8) (row0 x9) (row1 x9)).soft0 := by
  unfold k0_pay35
  rw [p28]
  rfl

theorem block14 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) :
    out0_14 (F := Ideal) i x0 x1 x2 x3 x4 x5 x6 x7 x8 x9 x10 x11 x12 x13 = (In.mk (i 1).val x0 x1 x2 x3 x4 x5 x6 x7 (row0 x8) (row1 x8) (row0 x9) (row1 x9)).outZ := by
  refine (stored _).trans ?_
  rw [p27, l3]
  rfl

theorem block15 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) :
    out0_15 (F := Ideal) i x0 x1 x2 x3 x4 x5 x6 x7 x8 x9 x10 x11 x12 x13 = (In.mk (i 1).val x0 x1 x2 x3 x4 x5 x6 x7 (row0 x8) (row1 x8) (row0 x9) (row1 x9)).outX := by
  refine (stored _).trans ?_
  rw [p31, p32, k0_pay33, l5, l6]
  rfl

theorem block16 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) :
    out0_16 (F := Ideal) i x0 x1 x2 x3 x4 x5 x6 x7 x8 x9 x10 x11 x12 x13 = (In.mk (i 1).val x0 x1 x2 x3 x4 x5 x6 x7 (row0 x8) (row1 x8) (row0 x9) (row1 x9)).outB := by
  refine (stored _).trans ?_
  rw [p31, p32, k0_pay33, l5, l6]
  rfl

theorem block17_0 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) (r : Fin 1024) (l : Fin 128) :
    out0_17 (F := Ideal) i x0 x1 x2 x3 x4 x5 x6 x7 x8 x9 x10 x11 x12 x13 (ix4 0 0 r l) = (In.mk (i 1).val x0 x1 x2 x3 x4 x5 x6 x7 (row0 x8) (row1 x8) (row0 x9) (row1 x9)).outT0 (ix4 0 0 r l) := by
  refine (halves0 _ _ r l).trans ?_
  rw [p35]
  rfl

theorem block17_1 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) (r : Fin 1024) (l : Fin 128) :
    out0_17 (F := Ideal) i x0 x1 x2 x3 x4 x5 x6 x7 x8 x9 x10 x11 x12 x13 (ix4 0 1 r l) = (In.mk (i 1).val x0 x1 x2 x3 x4 x5 x6 x7 (row0 x8) (row1 x8) (row0 x9) (row1 x9)).outT1 (ix4 0 0 r l) := by
  refine (halves1 _ _ r l).trans ?_
  rw [p28, k0_pay34]
  rfl

theorem block18_0 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) (r : Fin 1024) (l : Fin 128) :
    out0_18 (F := Ideal) i x0 x1 x2 x3 x4 x5 x6 x7 x8 x9 x10 x11 x12 x13 (ix4 0 0 r l) = (In.mk (i 1).val x0 x1 x2 x3 x4 x5 x6 x7 (row0 x8) (row1 x8) (row0 x9) (row1 x9)).outA0 (ix4 0 0 r l) := by
  refine (halves0 _ _ r l).trans ?_
  rw [p35]
  rfl

theorem block18_1 (i : grid0.Coords) (x0 : V32 S1x1024x1024) (x1 x2 : V32 S1x8x1024) (x3 x4 : V32 S1x1x1024) (x5 : V16 S1024x2304) (x6 : V32 S3x1024) (x7 : V32 S1x1024) (x8 x9 : V32 S2x128)
    (x10 : V16 S2x256x256) (x11 : V16 S256x256) (x12 : V32 S1x256) (x13 : V32 S1024x256) (r : Fin 1024) (l : Fin 128) :
    out0_18 (F := Ideal) i x0 x1 x2 x3 x4 x5 x6 x7 x8 x9 x10 x11 x12 x13 (ix4 0 1 r l) = (In.mk (i 1).val x0 x1 x2 x3 x4 x5 x6 x7 (row0 x8) (row1 x8) (row0 x9) (row1 x9)).outA1 (ix4 0 0 r l) := by
  refine (halves1 _ _ r l).trans ?_
  rw [p28, k0_pay34]
  rfl

theorem at14 (f : V16 S4x8192x512) (t : Fin cfg0.N) (r : Fin 1024) (n : Fin 512) :
    f (((win0 14).blk t).view.emb (ix3 0 r n)) = f (ix3 (batch t) ⟨1024 * (t.val % 8) + r.val, by omega⟩ n) := by
  blk_ext [idx14 t, batch] <;> simp <;> omega

theorem at15 (f : V16 S4x8192x512) (t : Fin cfg0.N) (r : Fin 1024) (n : Fin 512) :
    f (((win0 15).blk t).view.emb (ix3 0 r n)) = f (ix3 (batch t) ⟨1024 * (t.val % 8) + r.val, by omega⟩ n) := by
  blk_ext [idx15 t, batch] <;> simp <;> omega

theorem at16 (f : V16 S4x8192x512) (t : Fin cfg0.N) (r : Fin 1024) (n : Fin 512) :
    f (((win0 16).blk t).view.emb (ix3 0 r n)) = f (ix3 (batch t) ⟨1024 * (t.val % 8) + r.val, by omega⟩ n) := by
  blk_ext [idx16 t, batch] <;> simp <;> omega

theorem at17 (f : V32 S4x2x8192x128) (t : Fin cfg0.N) (d : Fin 2) (r : Fin 1024) (l : Fin 128) :
    f (((win0 17).blk t).view.emb (ix4 0 d r l)) = f (ix4 (batch t) d ⟨1024 * (t.val % 8) + r.val, by omega⟩ l) := by
  blk_ext [idx17 t, batch] <;> simp <;> omega

theorem at18 (f : V32 S4x2x8192x128) (t : Fin cfg0.N) (d : Fin 2) (r : Fin 1024) (l : Fin 128) :
    f (((win0 18).blk t).view.emb (ix4 0 d r l)) = f (ix4 (batch t) d ⟨1024 * (t.val % 8) + r.val, by omega⟩ l) := by
  blk_ext [idx18 t, batch] <;> simp <;> omega

/-- The call's five results. -/
theorem array14 : (dats m 0 c).arrAt 14 cfg0.N = (kargs m c).arrZ := by
  refine (dats m 0 c).arrAt_eq_of_covers 14 _ (by decide +kernel) fun t hf y => ?_
  blk_simp
  rw [after0_14]
  idx_vars y
  obtain rfl : y0 = 0 := Subsingleton.elim _ _
  rw [block14, coord t]
  exact ((reads m c t).outZ y1 y2).trans (at14 (kargs m c).arrZ t y1 y2).symm

theorem array15 : (dats m 0 c).arrAt 15 cfg0.N = (kargs m c).arrX := by
  refine (dats m 0 c).arrAt_eq_of_covers 15 _ (by decide +kernel) fun t hf y => ?_
  blk_simp
  rw [after0_15]
  idx_vars y
  obtain rfl : y0 = 0 := Subsingleton.elim _ _
  rw [block15, coord t]
  exact ((reads m c t).outX y1 y2).trans (at15 (kargs m c).arrX t y1 y2).symm

theorem array16 : (dats m 0 c).arrAt 16 cfg0.N = (kargs m c).arrB := by
  refine (dats m 0 c).arrAt_eq_of_covers 16 _ (by decide +kernel) fun t hf y => ?_
  blk_simp
  rw [after0_16]
  idx_vars y
  obtain rfl : y0 = 0 := Subsingleton.elim _ _
  rw [block16, coord t]
  exact ((reads m c t).outB y1 y2).trans (at16 (kargs m c).arrB t y1 y2).symm

theorem array17 : (dats m 0 c).arrAt 17 cfg0.N = (kargs m c).arrT := by
  refine (dats m 0 c).arrAt_eq_of_covers 17 _ (by decide +kernel) fun t hf y => ?_
  blk_simp
  rw [after0_17]
  idx_vars y
  obtain rfl : y0 = 0 := Subsingleton.elim _ _
  obtain rfl | rfl : y1 = 0 ∨ y1 = 1 := by omega
  · rw [block17_0, coord t]
    exact ((reads m c t).outT0 y2 y3).trans (at17 (kargs m c).arrT t 0 y2 y3).symm
  · rw [block17_1, coord t]
    exact ((reads m c t).outT1 y2 y3).trans (at17 (kargs m c).arrT t 1 y2 y3).symm

theorem array18 : (dats m 0 c).arrAt 18 cfg0.N = (kargs m c).arrA := by
  refine (dats m 0 c).arrAt_eq_of_covers 18 _ (by decide +kernel) fun t hf y => ?_
  blk_simp
  rw [after0_18]
  idx_vars y
  obtain rfl : y0 = 0 := Subsingleton.elim _ _
  obtain rfl | rfl : y1 = 0 ∨ y1 = 1 := by omega
  · rw [block18_0, coord t]
    exact ((reads m c t).outA0 y2 y3).trans (at18 (kargs m c).arrA t 0 y2 y3).symm
  · rw [block18_1, coord t]
    exact ((reads m c t).outA1 y2 y3).trans (at18 (kargs m c).arrA t 1 y2 y3).symm

end Cert.Inp

end
-- ==== Proof.InpRef.lean ====
/- The plain program of the modulated norm, the projection, the convolution and the step sizes: its operations and its five results by coordinates. -/
module

public import proofs.«01_k».proof.Proof.InpSpec
public import proofs.«01_k».proof.Proof.Gen.Reference4Ideal.Run
public import Idealize.ShloMosaic.Lib.Pointwise
public import Idealize.ShloMosaic.Lib.IdealHost
public import Idealize.ShloMosaic.Lib.Claim

@[expose] public section

set_option maxRecDepth 16384

noncomputable section

namespace Cert.Inp.Ref

open Idealize.ShloMosaic Idealize.ShloMosaic.TcCoe Cert.Reference4Ideal Cert.Reference4Ideal.Gen Cert.Reference4Ideal.Value Idealize.SL.Sem Idealize.ShloMosaic.StableHlo
open Cert.Ffn (mean norm)

abbrev V32 (s : Shape) := FVec Ideal s .f32
abbrev V16 (s : Shape) := FVec Ideal s .bf16

/-- The mean of each row, as a column. -/
def meanOf (Z : V32 S4x8192x1024) : V32 S4x8192x1 :=
  Host.divf (broadcastInDim S4x8192x1 ![0, 1] bcast_S4x8192_S4x8192x1_0_1 (Host.reduceAdd Z (constant S_ .f32 0x00000000#32) reducesTo_S4x8192x1024_S4x8192_d2 h_S_)) (broadcastInDim S4x8192x1 ![] bcast_S_S4x8192x1 (constant S_ .f32 0x44800000#32))

theorem meanOf_val (Z : V32 S4x8192x1024) (b : Fin 4) (r : Fin 8192) : meanOf Z (ix3 b r 0) = mean fun k => Z (ix3 b r k) := by
  pointwise [meanOf]
  rfl

/-- The rows without their mean. -/
def centred (Z : V32 S4x8192x1024) : V32 S4x8192x1024 := subf Z (broadcastInDim S4x8192x1024 ![0, 1, 2] bcast_S4x8192x1_S4x8192x1024_0_1_2 (meanOf Z))

theorem centred_val (Z : V32 S4x8192x1024) (b : Fin 4) (r : Fin 8192) (e : Fin 1024) : centred Z (ix3 b r e) = Z (ix3 b r e) - mean fun k => Z (ix3 b r k) := by
  rw [← meanOf_val]
  pointwise [centred]

/-- The modulated layer norm. -/
def modOf (Z : V32 S4x8192x1024) (sc sh : V32 S4x1x1024) : V32 S4x8192x1024 :=
  addf (mulf (mulf (centred Z) (broadcastInDim S4x8192x1024 ![0, 1, 2] bcast_S4x8192x1_S4x8192x1024_0_1_2 (Host.rsqrt (addf (meanOf (mulf (centred Z) (centred Z))) (broadcastInDim S4x8192x1 ![] bcast_S_S4x8192x1 (constant S_ .f32 0x358637BD#32)))))) (broadcastInDim S4x8192x1024 ![0, 1, 2] bcast_S4x1x1024_S4x8192x1024_0_1_2 (addf (broadcastInDim S4x1x1024 ![] bcast_S_S4x1x1024 (constant S_ .f32 0x3F800000#32)) sc))) (broadcastInDim S4x8192x1024 ![0, 1, 2] bcast_S4x1x1024_S4x8192x1024_0_1_2 sh)

theorem modOf_val (Z : V32 S4x8192x1024) (sc sh : V32 S4x1x1024) (b : Fin 4) (r : Fin 8192) (e : Fin 1024) :
    modOf Z sc sh (ix3 b r e) = modulate (fun k => Z (ix3 b r k)) (fun k => sc (ix3 b 0 k)) (fun k => sh (ix3 b 0 k)) e := by
  have h : ∀ k, mulf (centred Z) (centred Z) (ix3 b r k) = (Z (ix3 b r k) - mean fun k => Z (ix3 b r k)) * (Z (ix3 b r k) - mean fun k => Z (ix3 b r k)) := fun k => by
    rw [← centred_val]
    rfl
  pointwise [modOf]
  rw [meanOf_val, centred_val]
  simp only [h]
  rfl

/-- The projection. -/
def projOf (H : V32 S4x8192x1024) (w : V32 S1024x2064) : V32 S4x8192x2064 := Host.dotGeneral dot_S4x8192x1024_S1024x2064_S4x8192x2064_2_0_01_1_n_n none H w

theorem projOf_val (H : V32 S4x8192x1024) (w : V32 S1024x2064) (b : Fin 4) (r : Fin 8192) (n : Fin 2064) :
    projOf H w (ix3 b r n) = ∑ k : Fin 1024, H (ix3 b r k) * w (ix2 k n) := by
  pointwise [projOf]

/-- The convolved channels between two rows of zeros. -/
def padOf (U : V32 S4x8192x2064) : V32 S4x8194x1024 :=
  pad S4x8194x1024 ![0, 1, 0] ![0, 1, 0] ![0, 0, 0] (extractStridedSlice S4x8192x1024 ![0, 0, 512] U slices_S4x8192x2064_S4x8192x1024_0_0_512) (sitofp .f32 (constantI S_ 32 0#32)) pads_S4x8192x1024_S4x8194x1024_000_110_000 h_S_

theorem zero_word : (FloatOps.sitofp (F := Ideal) .f32 (0#32) : EReal) = 0 := by
  show ((((0#32 : BitVec 32).toInt : ℝ)) : EReal) = 0
  simp

theorem padOf_val (U : V32 S4x8192x2064) (b : Fin 4) (y : Fin 8194) (n : Fin 1024) :
    padOf U (ix3 b y n) = if h : 1 ≤ y.val ∧ y.val - 1 < 8192 then U (ix3 b ⟨y.val - 1, h.2⟩ ⟨512 + n.val, by omega⟩) else 0 := by
  pointwise [padOf]
  rw [zero_word]

/-- The product of a tap. -/
def tapOf0 (P : V32 S4x8194x1024) (cw : V32 S3x1024) : V32 S4x8192x1024 :=
  mulf (extractStridedSlice S4x8192x1024 ![0, 0, 0] P slices_S4x8194x1024_S4x8192x1024_0_0_0) (broadcastInDim S4x8192x1024 ![0, 1, 2] bcast_S1x1x1024_S4x8192x1024_0_1_2 (broadcastInDim S1x1x1024 ![2] bcast_S1024_S1x1x1024_2 (shapeCast _ (extractStridedSlice S1x1024 ![0, 0] cw slices_S3x1024_S1x1024_0_0) shapeCasts_S1x1024_S1024)))

def tapOf1 (P : V32 S4x8194x1024) (cw : V32 S3x1024) : V32 S4x8192x1024 :=
  mulf (extractStridedSlice S4x8192x1024 ![0, 1, 0] P slices_S4x8194x1024_S4x8192x1024_0_1_0) (broadcastInDim S4x8192x1024 ![0, 1, 2] bcast_S1x1x1024_S4x8192x1024_0_1_2 (broadcastInDim S1x1x1024 ![2] bcast_S1024_S1x1x1024_2 (shapeCast _ (extractStridedSlice S1x1024 ![1, 0] cw slices_S3x1024_S1x1024_1_0) shapeCasts_S1x1024_S1024)))

def tapOf2 (P : V32 S4x8194x1024) (cw : V32 S3x1024) : V32 S4x8192x1024 :=
  mulf (extractStridedSlice S4x8192x1024 ![0, 2, 0] P slices_S4x8194x1024_S4x8192x1024_0_2_0) (broadcastInDim S4x8192x1024 ![0, 1, 2] bcast_S1x1x1024_S4x8192x1024_0_1_2 (broadcastInDim S1x1x1024 ![2] bcast_S1024_S1x1x1024_2 (shapeCast _ (extractStridedSlice S1x1024 ![2, 0] cw slices_S3x1024_S1x1024_2_0) shapeCasts_S1x1024_S1024)))

/-- The convolution. -/
def convOf (P : V32 S4x8194x1024) (cw : V32 S3x1024) (cb : V32 S1024) : V32 S4x8192x1024 :=
  addf (addf (addf (tapOf0 P cw) (tapOf1 P cw)) (tapOf2 P cw)) (broadcastInDim S4x8192x1024 ![0, 1, 2] bcast_S1x1x1024_S4x8192x1024_0_1_2 (broadcastInDim S1x1x1024 ![2] bcast_S1024_S1x1x1024_2 cb))

theorem convOf_val (P : V32 S4x8194x1024) (cw : V32 S3x1024) (cb : V32 S1024) (b : Fin 4) (r : Fin 8192) (n : Fin 1024) :
    convOf P cw cb (ix3 b r n) = P (ix3 b ⟨r.val, by omega⟩ n) * cw (ix2 0 n) + P (ix3 b ⟨r.val + 1, by omega⟩ n) * cw (ix2 1 n) + P (ix3 b ⟨r.val + 2, by omega⟩ n) * cw (ix2 2 n) + cb (ix1 n) := by
  pointwise [convOf, tapOf0, tapOf1, tapOf2]
  simp only [Nat.add_comm 1 r.val, Nat.add_comm 2 r.val]

/-- The gate. -/
def actOf (C : V32 S4x8192x1024) : V32 S4x8192x1024 :=
  mulf C (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf C))))

theorem actOf_val (C : V32 S4x8192x1024) (b : Fin 4) (r : Fin 8192) (n : Fin 1024) : actOf C (ix3 b r n) = silu (C (ix3 b r n)) := by
  pointwise [actOf]
  rfl

/-- The results of the channels. -/
def zOf (U : V32 S4x8192x2064) : V16 S4x8192x512 := truncf .bf16 (extractStridedSlice S4x8192x512 ![0, 0, 0] U slices_S4x8192x2064_S4x8192x512_0_0_0) bitsLt_bf16_f32
def xOf (C : V32 S4x8192x1024) : V16 S4x8192x512 := truncf .bf16 (extractStridedSlice S4x8192x512 ![0, 0, 0] C slices_S4x8192x1024_S4x8192x512_0_0_0) bitsLt_bf16_f32
def bOf (C : V32 S4x8192x1024) : V16 S4x8192x512 := truncf .bf16 (extractStridedSlice S4x8192x512 ![0, 0, 512] C slices_S4x8192x1024_S4x8192x512_0_0_512) bitsLt_bf16_f32

theorem zOf_val (U : V32 S4x8192x2064) (b : Fin 4) (r : Fin 8192) (n : Fin 512) : zOf U (ix3 b r n) = U (ix3 b r ⟨n.val, by omega⟩) := by
  pointwise [zOf]

theorem xOf_val (C : V32 S4x8192x1024) (b : Fin 4) (r : Fin 8192) (n : Fin 512) : xOf C (ix3 b r n) = C (ix3 b r ⟨n.val, by omega⟩) := by
  pointwise [xOf]

theorem bOf_val (C : V32 S4x8192x1024) (b : Fin 4) (r : Fin 8192) (n : Fin 512) : bOf C (ix3 b r n) = C (ix3 b r ⟨512 + n.val, by omega⟩) := by
  pointwise [bOf]

/-- The step sizes before the softplus. -/
def rawOf (U : V32 S4x8192x2064) (db : V32 S2x8) : V32 S4x8192x2x8 :=
  addf (shapeCast _ (extractStridedSlice S4x8192x16 ![0, 0, 1536] U slices_S4x8192x2064_S4x8192x16_0_0_1536) shapeCasts_S4x8192x16_S4x8192x2x8) (broadcastInDim S4x8192x2x8 ![0, 1, 2, 3] bcast_S1x1x2x8_S4x8192x2x8_0_1_2_3 (broadcastInDim S1x1x2x8 ![2, 3] bcast_S2x8_S1x1x2x8_2_3 db))

theorem rawOf_val (U : V32 S4x8192x2064) (db : V32 S2x8) (b : Fin 4) (r : Fin 8192) (d : Fin 2) (l : Fin 8) :
    rawOf U db (ix4 b r d l) = U (ix3 b r ⟨1536 + (8 * d.val + l.val), by omega⟩) + db (ix2 d l) := by
  pointwise [rawOf]
  simp only [Nat.mul_comm d.val 8]

/-- The softplus. -/
def softOf (W : V32 S4x8192x2x8) : V32 S4x8192x2x8 :=
  select (cmpf .une (subf W (broadcastInDim S4x8192x2x8 ![] bcast_S_S4x8192x2x8 (constant S_ .f32 0x00000000#32))) (subf W (broadcastInDim S4x8192x2x8 ![] bcast_S_S4x8192x2x8 (constant S_ .f32 0x00000000#32)))) (addf W (broadcastInDim S4x8192x2x8 ![] bcast_S_S4x8192x2x8 (constant S_ .f32 0x00000000#32))) (addf (maximumf W (broadcastInDim S4x8192x2x8 ![] bcast_S_S4x8192x2x8 (constant S_ .f32 0x00000000#32))) (Host.log1p (Host.exp (Host.negf (Host.absf (subf W (broadcastInDim S4x8192x2x8 ![] bcast_S_S4x8192x2x8 (constant S_ .f32 0x00000000#32))))))))

theorem softOf_val (W : V32 S4x8192x2x8) (b : Fin 4) (r : Fin 8192) (d : Fin 2) (l : Fin 8) : softOf W (ix4 b r d l) = soft (W (ix4 b r d l)) := by
  pointwise [softOf]
  rw [if_neg fun h => h rfl]
  rfl

/-- The decays. -/
def decayOf (D : V32 S4x8192x2x8) (al : V32 S2x8) : V32 S4x8192x2x8 :=
  mulf D (broadcastInDim S4x8192x2x8 ![0, 1, 2, 3] bcast_S1x1x2x8_S4x8192x2x8_0_1_2_3 (broadcastInDim S1x1x2x8 ![2, 3] bcast_S2x8_S1x1x2x8_2_3 (Host.negf (Host.exp al))))

theorem decayOf_val (D : V32 S4x8192x2x8) (al : V32 S2x8) (b : Fin 4) (r : Fin 8192) (d : Fin 2) (l : Fin 8) :
    decayOf D al (ix4 b r d l) = D (ix4 b r d l) * -Ideal.exp (al (ix2 d l)) := by
  pointwise [decayOf]

/-- The planes of 128 lanes. -/
def planeOf (D : V32 S4x8192x2x8) : V32 S4x2x8192x128 :=
  pad S4x2x8192x128 ![0, 0, 0, 0] ![0, 0, 0, 120] ![0, 0, 0, 0] (transpose S4x2x8192x8 [0, 2, 1, 3] D transposes_S4x8192x2x8_S4x2x8192x8_0_2_1_3) (sitofp .f32 (constantI S_ 32 0#32)) pads_S4x2x8192x8_S4x2x8192x128_000_000_000_01200 h_S_

theorem planeOf_val (D : V32 S4x8192x2x8) (b : Fin 4) (d : Fin 2) (r : Fin 8192) (l : Fin 128) :
    planeOf D (ix4 b d r l) = if h : l.val < 8 then D (ix4 b r d ⟨l.val, h⟩) else 0 := by
  pointwise [planeOf]
  rw [zero_word]

/-- The arguments. -/
structure Ins where
  x : V32 S4x8192x1024
  sh : V32 S4x1x1024
  sc : V32 S4x1x1024
  w : V32 S1024x2064
  cw : V32 S3x1024
  cb : V32 S1024
  db : V32 S2x8
  al : V32 S2x8

namespace Ins

variable (i : Ins)

def args : Args := argsOf i.x i.sh i.sc i.w i.cw i.cb i.db i.al
def H : V32 S4x8192x1024 := modOf i.x i.sc i.sh
def U : V32 S4x8192x2064 := projOf i.H i.w
def C : V32 S4x8192x1024 := actOf (convOf (padOf i.U) i.cw i.cb)
def D : V32 S4x8192x2x8 := softOf (rawOf i.U i.db)

theorem U_val (b : Fin 4) (r : Fin 8192) (n : Fin 2064) : i.U (ix3 b r n) = i.args.u b r n := by
  unfold U H
  rw [projOf_val]
  simp only [modOf_val]
  rfl

theorem C_val (b : Fin 4) (r : Fin 8192) (n : Fin 1024) : i.C (ix3 b r n) = i.args.act b r n := by
  unfold C
  rw [actOf_val, convOf_val]
  simp only [padOf_val, U_val]
  rfl

theorem D_val (b : Fin 4) (r : Fin 8192) (d : Fin 2) (l : Fin 8) : i.D (ix4 b r d l) = i.args.step b d r l := by
  unfold D
  rw [softOf_val, rawOf_val, U_val]
  rfl

theorem Z_arr : zOf i.U = i.args.arrZ := by
  funext j
  obtain ⟨b, r, n, rfl⟩ : ∃ b r n, j = ix3 b r n := ⟨j 0, j 1, j 2, eq_ix3 j⟩
  rw [zOf_val, U_val]
  rfl

theorem X_arr : xOf i.C = i.args.arrX := by
  funext j
  obtain ⟨b, r, n, rfl⟩ : ∃ b r n, j = ix3 b r n := ⟨j 0, j 1, j 2, eq_ix3 j⟩
  rw [xOf_val, C_val]
  rfl

theorem B_arr : bOf i.C = i.args.arrB := by
  funext j
  obtain ⟨b, r, n, rfl⟩ : ∃ b r n, j = ix3 b r n := ⟨j 0, j 1, j 2, eq_ix3 j⟩
  rw [bOf_val, C_val]
  rfl

theorem T_arr : planeOf i.D = i.args.arrT := by
  funext j
  obtain ⟨b, d, r, l, rfl⟩ : ∃ b d r l, j = ix4 b d r l := ⟨j 0, j 1, j 2, j 3, eq_ix4 j⟩
  rw [planeOf_val]
  simp only [D_val]
  rfl

theorem A_arr : planeOf (decayOf i.D i.al) = i.args.arrA := by
  funext j
  obtain ⟨b, d, r, l, rfl⟩ : ∃ b d r l, j = ix4 b d r l := ⟨j 0, j 1, j 2, j 3, eq_ix4 j⟩
  rw [planeOf_val]
  simp only [decayOf_val, D_val]
  rfl

end Ins

/-- The arguments in a memory. -/
def insOf (m : (ℓ : Loc nD τ sig) → Buf (Elt Ideal) ℓ) (c : Dev nD) : Ins where
  x := m ((c.tc : Thread nD τ).loc main_arg0)
  sh := m ((c.tc : Thread nD τ).loc main_arg1)
  sc := m ((c.tc : Thread nD τ).loc main_arg2)
  w := m ((c.tc : Thread nD τ).loc main_arg3)
  cw := m ((c.tc : Thread nD τ).loc main_arg4)
  cb := m ((c.tc : Thread nD τ).loc main_arg5)
  db := m ((c.tc : Thread nD τ).loc main_arg6)
  al := m ((c.tc : Thread nD τ).loc main_arg7)

variable (m : (ℓ : Loc nD τ sig) → Buf (Elt Ideal) ℓ) (c : Dev nD)

theorem v65 : res_main_v65 m c = xOf (insOf m c).C := rfl
theorem v67 : res_main_v67 m c = bOf (insOf m c).C := rfl
theorem v69 : res_main_v69 m c = planeOf (insOf m c).D := rfl
theorem v71 : res_main_v71 m c = planeOf (decayOf (insOf m c).D (insOf m c).al) := rfl

theorem run (ρ : Dev nD → PrngReg) :
    θ_run defs (onTc (τ := τ) (main (F := Ideal))) ⟨m, fun _ => 0, ρ⟩ fun r => ∀ c : Dev nD,
      r.2.mem ((c.tc : Thread nD τ).loc main_v63) = (insOf m c).args.arrZ
      ∧ r.2.mem ((c.tc : Thread nD τ).loc main_v65) = (insOf m c).args.arrX
      ∧ r.2.mem ((c.tc : Thread nD τ).loc main_v67) = (insOf m c).args.arrB
      ∧ r.2.mem ((c.tc : Thread nD τ).loc main_v69) = (insOf m c).args.arrT
      ∧ r.2.mem ((c.tc : Thread nD τ).loc main_v71) = (insOf m c).args.arrA := by
  refine (θ_run defs _ _).mono (fun r h c => ⟨?_, ?_, ?_, ?_, ?_⟩) (Cert.Reference4Ideal.Value.run m ρ)
  · exact (h c).1.trans (insOf m c).Z_arr
  · exact (h c).2.1.trans ((v65 m c).trans (insOf m c).X_arr)
  · exact (h c).2.2.1.trans ((v67 m c).trans (insOf m c).B_arr)
  · exact (h c).2.2.2.1.trans ((v69 m c).trans (insOf m c).T_arr)
  · exact (h c).2.2.2.2.1.trans ((v71 m c).trans (insOf m c).A_arr)

end Cert.Inp.Ref

end
-- ==== Proof.lean ====
/- The claims, proved: all programs run and leave their arguments and counters as they were, and over the extended reals each kernel
   and its plain program return the same arrays: the scan's three, the feed-forward part's one, the two of the gated norm with
   the output projection, and the five of the input projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_steps_finite_decays_nonpositive
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Fine
public import proofs.«01_k».proof.Proof.FfEntry
public import proofs.«01_k».proof.Proof.FfRef
public import proofs.«01_k».proof.Proof.MixEntry
public import proofs.«01_k».proof.Proof.MixRef
public import proofs.«01_k».proof.Proof.InpEntry
public import proofs.«01_k».proof.Proof.InpRef
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The plain program leaves its arguments and has no counters. -/
theorem frameR : Cert.quiescent_ReferenceIdeal := fun m g _ =>
  (θ_run _ _ _).mono (fun r h => ⟨fun c => (h c).2.2.2, sem_eq_zero_of_no_sems rfl r.2⟩) (Cert.ReferenceIdeal.Value.run m g)

theorem frameR' : Cert.quiescent_ReferenceIdeal_pre_steps_finite_decays_nonpositive := fun m g _ => frameR m g trivial

/-- The kernel and the plain program return the same arrays. -/
theorem same : Cert.algebraic_KernelIdeal_ReferenceIdeal_pre_steps_finite_decays_nonpositive := by
  intro m g m' g' hp he
  have ea : ∀ c, (Cert.Ref.insOf (launchContents m' c)).args = Cert.Body.kargs m c := fun c => by
    obtain ⟨e0, e1, e2, e3, e4, e5, e6⟩ := he c
    have i : Cert.Ref.insOf (launchContents m' c) = ⟨m ((c.tc : Thread Cert.KernelIdeal.nD Cert.KernelIdeal.τ).loc Cert.KernelIdeal.main_arg0), m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6)⟩ := by
      rw [← e0, ← e1, ← e2, ← e3, ← e4, ← e5, ← e6]
      rfl
    rw [i]
    rfl
  have hf : ∀ c, (Cert.Body.kargs m c).Fine := fun c =>
    Cert.Ref.fine_of ⟨m ((c.tc : Thread Cert.KernelIdeal.nD Cert.KernelIdeal.τ).loc Cert.KernelIdeal.main_arg0), m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6)⟩ (hp c)
  refine ⟨fun c => Cert.Body.arrF (Cert.Body.kargs m c), fun c => Cert.Body.arrB (Cert.Body.kargs m c), fun c => Cert.Body.arrS (Cert.Body.kargs m c), ?_, ?_⟩
  · refine (θ_run _ _ _).mono (fun r h c => ?_) (Cert.KernelIdeal.Value.run_blocks m g)
    obtain ⟨h0, h1, h2, hr⟩ := h c
    exact ⟨h0.trans (Cert.Body.array11 (hf c)), h1.trans (Cert.Body.array12 (hf c)), h2.trans (Cert.Body.array13 (hf c)), hr⟩
  · refine (θ_run _ _ _).mono (fun r h c => ?_) (θ_run_and (Cert.Ref.run m' g' fun c => by rw [ea c]; exact hf c) (Cert.ReferenceIdeal.Value.run m' g'))
    obtain ⟨h0, h1, h2⟩ := h.1 c
    rw [ea c] at h0 h1 h2
    exact ⟨h0, h1, h2, (h.2 c).2.2.2⟩

/-- The plain feed-forward program leaves its arguments and has no counters. -/
theorem frameR2 : Cert.quiescent_Reference2Ideal := fun m g _ =>
  (θ_run _ _ _).mono (fun r h => ⟨fun c => (h c).2, sem_eq_zero_of_no_sems rfl r.2⟩) (Cert.Reference2Ideal.Value.run m g)

/-- The feed-forward call and its plain program return the same array. -/
theorem same2 : Cert.algebraic_Kernel2Ideal_Reference2Ideal := by
  intro m g m' g' hp he
  have ea : ∀ c, (Cert.Ffn.Ref.insOf (launchContents m' c)).args = Cert.Ffn.kargs m c := fun c => by
    obtain ⟨e0, e1, e2, e3, e4, e5, e6, e7, e8⟩ := he c
    have i : Cert.Ffn.Ref.insOf (launchContents m' c) = ⟨m ((c.tc : Thread Cert.Kernel2Ideal.nD Cert.Kernel2Ideal.τ).loc Cert.Kernel2Ideal.main_arg0), m ((c.tc : Thread Cert.Kernel2Ideal.nD Cert.Kernel2Ideal.τ).loc Cert.Kernel2Ideal.main_arg1), m ((c.tc : Thread Cert.Kernel2Ideal.nD Cert.Kernel2Ideal.τ).loc Cert.Kernel2Ideal.main_arg2), m ((c.tc : Thread Cert.Kernel2Ideal.nD Cert.Kernel2Ideal.τ).loc Cert.Kernel2Ideal.main_arg3), m ((c.tc : Thread Cert.Kernel2Ideal.nD Cert.Kernel2Ideal.τ).loc Cert.Kernel2Ideal.main_arg4), m ((c.tc : Thread Cert.Kernel2Ideal.nD Cert.Kernel2Ideal.τ).loc Cert.Kernel2Ideal.main_arg5), m ((c.tc : Thread Cert.Kernel2Ideal.nD Cert.Kernel2Ideal.τ).loc Cert.Kernel2Ideal.main_arg6), m ((c.tc : Thread Cert.Kernel2Ideal.nD Cert.Kernel2Ideal.τ).loc Cert.Kernel2Ideal.main_arg7), m ((c.tc : Thread Cert.Kernel2Ideal.nD Cert.Kernel2Ideal.τ).loc Cert.Kernel2Ideal.main_arg8)⟩ := by
      rw [← e0, ← e1, ← e2, ← e3, ← e4, ← e5, ← e6, ← e7, ← e8]
      rfl
    rw [i]
    rfl
  refine ⟨fun c => (Cert.Ffn.kargs m c).arr, ?_, ?_⟩
  · refine (θ_run _ _ _).mono (fun r h c => ?_) (Cert.Kernel2Ideal.Value.run_blocks m g)
    exact ⟨(h c).1.trans (Cert.Ffn.array11 m c), (h c).2⟩
  · refine (θ_run _ _ _).mono (fun r h c => ?_) (θ_run_and (Cert.Ffn.Ref.run m' g') (Cert.Reference2Ideal.Value.run m' g'))
    have h0 := h.1 c
    rw [ea c] at h0
    exact ⟨h0, (h.2 c).2⟩

/-- The plain program of the gated norm and the projection leaves its arguments and has no counters. -/
theorem frameR3 : Cert.quiescent_Reference3Ideal := fun m g _ =>
  (θ_run _ _ _).mono (fun r h => ⟨fun c => (h c).2.2, sem_eq_zero_of_no_sems rfl r.2⟩) (Cert.Reference3Ideal.Value.run m g)

/-- The call with the gated norm and the projection, and its plain program, return the same arrays. -/
theorem same3 : Cert.algebraic_Kernel3Ideal_Reference3Ideal := by
  intro m g m' g' hp he
  have ea : ∀ c, (Cert.Mix.Ref.insOf (launchContents m' c)).args = Cert.Mix.kargs m c := fun c => by
    obtain ⟨e0, e1, e2, e3, e4, e5, e6, e7, e8, e9, e10, e11, e12, e13, e14⟩ := he c
    have i : Cert.Mix.Ref.insOf (launchContents m' c) = ⟨m ((c.tc : Thread Cert.Kernel3Ideal.nD Cert.Kernel3Ideal.τ).loc Cert.Kernel3Ideal.main_arg0), m ((c.tc : Thread Cert.Kernel3Ideal.nD Cert.Kernel3Ideal.τ).loc Cert.Kernel3Ideal.main_arg1), m ((c.tc : Thread Cert.Kernel3Ideal.nD Cert.Kernel3Ideal.τ).loc Cert.Kernel3Ideal.main_arg2), m ((c.tc : Thread Cert.Kernel3Ideal.nD Cert.Kernel3Ideal.τ).loc Cert.Kernel3Ideal.main_arg3), m ((c.tc : Thread Cert.Kernel3Ideal.nD Cert.Kernel3Ideal.τ).loc Cert.Kernel3Ideal.main_arg4), m ((c.tc : Thread Cert.Kernel3Ideal.nD Cert.Kernel3Ideal.τ).loc Cert.Kernel3Ideal.main_arg5), m ((c.tc : Thread Cert.Kernel3Ideal.nD Cert.Kernel3Ideal.τ).loc Cert.Kernel3Ideal.main_arg6), m ((c.tc : Thread Cert.Kernel3Ideal.nD Cert.Kernel3Ideal.τ).loc Cert.Kernel3Ideal.main_arg7), m ((c.tc : Thread Cert.Kernel3Ideal.nD Cert.Kernel3Ideal.τ).loc Cert.Kernel3Ideal.main_arg8), m ((c.tc : Thread Cert.Kernel3Ideal.nD Cert.Kernel3Ideal.τ).loc Cert.Kernel3Ideal.main_arg9), m ((c.tc : Thread Cert.Kernel3Ideal.nD Cert.Kernel3Ideal.τ).loc Cert.Kernel3Ideal.main_arg10), m ((c.tc : Thread Cert.Kernel3Ideal.nD Cert.Kernel3Ideal.τ).loc Cert.Kernel3Ideal.main_arg11), m ((c.tc : Thread Cert.Kernel3Ideal.nD Cert.Kernel3Ideal.τ).loc Cert.Kernel3Ideal.main_arg12), m ((c.tc : Thread Cert.Kernel3Ideal.nD Cert.Kernel3Ideal.τ).loc Cert.Kernel3Ideal.main_arg13), m ((c.tc : Thread Cert.Kernel3Ideal.nD Cert.Kernel3Ideal.τ).loc Cert.Kernel3Ideal.main_arg14)⟩ := by
      rw [← e0, ← e1, ← e2, ← e3, ← e4, ← e5, ← e6, ← e7, ← e8, ← e9, ← e10, ← e11, ← e12, ← e13, ← e14]
      rfl
    rw [i]
    rfl
  refine ⟨fun c => (Cert.Mix.kargs m c).arrX, fun c => (Cert.Mix.kargs m c).arrH, ?_, ?_⟩
  · refine (θ_run _ _ _).mono (fun r h c => ?_) (Cert.Kernel3Ideal.Value.run_blocks m g)
    obtain ⟨h0, h1, hr⟩ := h c
    exact ⟨h0.trans (Cert.Mix.array15 m c), h1.trans (Cert.Mix.array16 m c), hr⟩
  · refine (θ_run _ _ _).mono (fun r h c => ?_) (θ_run_and (Cert.Mix.Ref.run m' g') (Cert.Reference3Ideal.Value.run m' g'))
    obtain ⟨h0, h1⟩ := h.1 c
    rw [ea c] at h0 h1
    exact ⟨h0, h1, (h.2 c).2.2⟩

/-- The plain program of the input projection leaves its arguments and has no counters. -/
theorem frameR4 : Cert.quiescent_Reference4Ideal := fun m g _ =>
  (θ_run _ _ _).mono (fun r h => ⟨fun c => (h c).2.2.2.2.2, sem_eq_zero_of_no_sems rfl r.2⟩) (Cert.Reference4Ideal.Value.run m g)

/-- The input projection's call and its plain program return the same arrays. -/
theorem same4 : Cert.algebraic_Kernel4Ideal_Reference4Ideal := by
  intro m g m' g' hp he
  have ea : ∀ c, (Cert.Inp.Ref.insOf m' c).args = Cert.Inp.kargs m c := fun c => by
    obtain ⟨e0, e1, e2, e3, e4, e5, e6, e7, e8, e9, e10, e11⟩ := he c
    have i : Cert.Inp.Ref.insOf m' c = ⟨m ((c.tc : Thread Cert.Kernel4Ideal.nD Cert.Kernel4Ideal.τ).loc Cert.Kernel4Ideal.main_arg0), m ((c.tc : Thread Cert.Kernel4Ideal.nD Cert.Kernel4Ideal.τ).loc Cert.Kernel4Ideal.main_arg1), m ((c.tc : Thread Cert.Kernel4Ideal.nD Cert.Kernel4Ideal.τ).loc Cert.Kernel4Ideal.main_arg2), m ((c.tc : Thread Cert.Kernel4Ideal.nD Cert.Kernel4Ideal.τ).loc Cert.Kernel4Ideal.main_arg3), m ((c.tc : Thread Cert.Kernel4Ideal.nD Cert.Kernel4Ideal.τ).loc Cert.Kernel4Ideal.main_arg4), m ((c.tc : Thread Cert.Kernel4Ideal.nD Cert.Kernel4Ideal.τ).loc Cert.Kernel4Ideal.main_arg5), m ((c.tc : Thread Cert.Kernel4Ideal.nD Cert.Kernel4Ideal.τ).loc Cert.Kernel4Ideal.main_arg6), m ((c.tc : Thread Cert.Kernel4Ideal.nD Cert.Kernel4Ideal.τ).loc Cert.Kernel4Ideal.main_arg7)⟩ := by
      rw [← e0, ← e1, ← e2, ← e3, ← e4, ← e5, ← e6, ← e7]
      rfl
    rw [i]
    rfl
  refine ⟨fun c => (Cert.Inp.kargs m c).arrZ, fun c => (Cert.Inp.kargs m c).arrX, fun c => (Cert.Inp.kargs m c).arrB, fun c => (Cert.Inp.kargs m c).arrT, fun c => (Cert.Inp.kargs m c).arrA, ?_, ?_⟩
  · refine (θ_run _ _ _).mono (fun r h c => ?_) (Cert.Kernel4Ideal.Value.run_blocks m g)
    obtain ⟨h0, h1, h2, h3, h4, h5, h6, hr⟩ := h c
    exact ⟨h0.trans (Cert.Inp.array14 m c), h1.trans (Cert.Inp.array15 m c), h2.trans (Cert.Inp.array16 m c), h3.trans (Cert.Inp.array17 m c), h4.trans (Cert.Inp.array18 m c), hr⟩
  · refine (θ_run _ _ _).mono (fun r h c => ?_) (θ_run_and (Cert.Inp.Ref.run m' g') (Cert.Reference4Ideal.Value.run m' g'))
    obtain ⟨h0, h1, h2, h3, h4⟩ := h.1 c
    rw [ea c] at h0 h1 h2 h3 h4
    exact ⟨h0, h1, h2, h3, h4, (h.2 c).2.2.2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_steps_finite_decays_nonpositive.Gen.facts,
  fun m g _ => Cert.Kernel.Gen.frame m g, fun m g _ => Cert.KernelIdeal.Gen.frame m g, fun m g _ => Cert.KernelIdeal.Gen.frame m g, frameR, frameR',
  fun m g _ => Cert.Kernel2.Gen.frame m g, fun m g _ => Cert.Kernel2Ideal.Gen.frame m g, frameR2,
  fun m g _ => Cert.Kernel3.Gen.frame m g, fun m g _ => Cert.Kernel3Ideal.Gen.frame m g, frameR3,
  fun m g _ => Cert.Kernel4.Gen.frame m g, fun m g _ => Cert.Kernel4Ideal.Gen.frame m g, frameR4, trivial, same,
  ⟨IdealRules.named_const.statement Cert.Kernel2Ideal.κ "cube" .bf16 0x3D37#16 ((12003091 / 268435456 : ℝ) : EReal) rfl,
    IdealRules.named_const.statement Cert.Kernel2Ideal.κ "root" .bf16 0x3F4C#16 ((6693141 / 8388608 : ℝ) : EReal) rfl⟩, same2, trivial, same3, trivial, same4⟩

end Cert.Proof

end
